-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_NsaBranch (m : (ℓ : Loc Cert.NsaBranch.nD Cert.NsaBranch.τ Cert.NsaBranch.sig) → Buf (Elt Bits) ℓ) : Prop :=
  True

def Pre_NsaBranchIdeal (m : (ℓ : Loc Cert.NsaBranchIdeal.nD Cert.NsaBranchIdeal.τ Cert.NsaBranchIdeal.sig) → Buf (Elt Ideal) ℓ) : Prop :=
  True

def Pre_NsaBranchRefIdeal (m : (ℓ : Loc Cert.NsaBranchRefIdeal.nD Cert.NsaBranchRefIdeal.τ Cert.NsaBranchRefIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqRefIdeal (m : (ℓ : Loc Cert.MlaUqRefIdeal.nD Cert.MlaUqRefIdeal.τ Cert.MlaUqRefIdeal.sig) → Buf (Elt Ideal) ℓ) : Prop :=
  True

def Pre_MlaUk (m : (ℓ : Loc Cert.MlaUk.nD Cert.MlaUk.τ Cert.MlaUk.sig) → Buf (Elt Bits) ℓ) : Prop :=
  True

def Pre_MlaUkIdeal (m : (ℓ : Loc Cert.MlaUkIdeal.nD Cert.MlaUkIdeal.τ Cert.MlaUkIdeal.sig) → Buf (Elt Ideal) ℓ) : Prop :=
  True

def Pre_MlaUkRefIdeal (m : (ℓ : Loc Cert.MlaUkRefIdeal.nD Cert.MlaUkRefIdeal.τ Cert.MlaUkRefIdeal.sig) → Buf (Elt Ideal) ℓ) : Prop :=
  True

def Pre_MlaUv (m : (ℓ : Loc Cert.MlaUv.nD Cert.MlaUv.τ Cert.MlaUv.sig) → Buf (Elt Bits) ℓ) : Prop :=
  True

def Pre_MlaUvIdeal (m : (ℓ : Loc Cert.MlaUvIdeal.nD Cert.MlaUvIdeal.τ Cert.MlaUvIdeal.sig) → Buf (Elt Ideal) ℓ) : Prop :=
  True

def Pre_MlaUvRefIdeal (m : (ℓ : Loc Cert.MlaUvRefIdeal.nD Cert.MlaUvRefIdeal.τ Cert.MlaUvRefIdeal.sig) → Buf (Elt Ideal) ℓ) : Prop :=
  True

def Pre_NsaWin (m : (ℓ : Loc Cert.NsaWin.nD Cert.NsaWin.τ Cert.NsaWin.sig) → Buf (Elt Bits) ℓ) : Prop :=
  True

def Pre_NsaWinIdeal (m : (ℓ : Loc Cert.NsaWinIdeal.nD Cert.NsaWinIdeal.τ Cert.NsaWinIdeal.sig) → Buf (Elt Ideal) ℓ) : Prop :=
  True

def Pre_NsaWinIdeal_numbers [hPre_numbers : Cert.Pre_numbers.Facts] (m : (ℓ : Loc Cert.NsaWinIdeal.nD Cert.NsaWinIdeal.τ Cert.NsaWinIdeal.sig) → Buf (Elt Ideal) ℓ) : Prop :=
  ∀ c : Dev Cert.NsaWinIdeal.nD,
    (Cert.Pre_numbers.fn (F := Ideal) (m ((c.tc : Thread Cert.NsaWinIdeal.nD Cert.NsaWinIdeal.τ).loc Cert.NsaWinIdeal.main_arg0)) (m ((c.tc : Thread Cert.NsaWinIdeal.nD Cert.NsaWinIdeal.τ).loc Cert.NsaWinIdeal.main_arg1))) = (fun _ => 1#1)

def Pre_NsaWinRefIdeal (m : (ℓ : Loc Cert.NsaWinRefIdeal.nD Cert.NsaWinRefIdeal.τ Cert.NsaWinRefIdeal.sig) → Buf (Elt Ideal) ℓ) : Prop :=
  True

def Pre_NsaWinRefIdeal_numbers [hPre_numbers : Cert.Pre_numbers.Facts] (m : (ℓ : Loc Cert.NsaWinRefIdeal.nD Cert.NsaWinRefIdeal.τ Cert.NsaWinRefIdeal.sig) → Buf (Elt Ideal) ℓ) : Prop :=
  ∀ c : Dev Cert.NsaWinRefIdeal.nD,
    (Cert.Pre_numbers.fn (F := Ideal) (m ((c.tc : Thread Cert.NsaWinRefIdeal.nD Cert.NsaWinRefIdeal.τ).loc Cert.NsaWinRefIdeal.main_arg0)) (m ((c.tc : Thread Cert.NsaWinRefIdeal.nD Cert.NsaWinRefIdeal.τ).loc Cert.NsaWinRefIdeal.main_arg1))) = (fun _ => 1#1)

def Pre_NsaSel (m : (ℓ : Loc Cert.NsaSel.nD Cert.NsaSel.τ Cert.NsaSel.sig) → Buf (Elt Bits) ℓ) : Prop :=
  True

def Pre_NsaSelIdeal (m : (ℓ : Loc Cert.NsaSelIdeal.nD Cert.NsaSelIdeal.τ Cert.NsaSelIdeal.sig) → Buf (Elt Ideal) ℓ) : Prop :=
  True

def Pre_NsaSelIdeal_chosen [hPre_chosen : Cert.Pre_chosen.Facts] (m : (ℓ : Loc Cert.NsaSelIdeal.nD Cert.NsaSelIdeal.τ Cert.NsaSelIdeal.sig) → Buf (Elt Ideal) ℓ) : Prop :=
  ∀ c : Dev Cert.NsaSelIdeal.nD,
    (Cert.Pre_chosen.fn (F := Ideal) (m ((c.tc : Thread Cert.NsaSelIdeal.nD Cert.NsaSelIdeal.τ).loc Cert.NsaSelIdeal.main_arg0)) (m ((c.tc : Thread Cert.NsaSelIdeal.nD Cert.NsaSelIdeal.τ).loc Cert.NsaSelIdeal.main_arg1)) (m ((c.tc : Thread Cert.NsaSelIdeal.nD Cert.NsaSelIdeal.τ).loc Cert.NsaSelIdeal.main_arg2))) = (fun _ => 1#1)

def Pre_NsaSelRefIdeal (m : (ℓ : Loc Cert.NsaSelRefIdeal.nD Cert.NsaSelRefIdeal.τ Cert.NsaSelRefIdeal.sig) → Buf (Elt Ideal) ℓ) : Prop :=
  True

def Pre_NsaSelRefIdeal_chosen [hPre_chosen : Cert.Pre_chosen.Facts] (m : (ℓ : Loc Cert.NsaSelRefIdeal.nD Cert.NsaSelRefIdeal.τ Cert.NsaSelRefIdeal.sig) → Buf (Elt Ideal) ℓ) : Prop :=
  ∀ c : Dev Cert.NsaSelRefIdeal.nD,
    (Cert.Pre_chosen.fn (F := Ideal) (m ((c.tc : Thread Cert.NsaSelRefIdeal.nD Cert.NsaSelRefIdeal.τ).loc Cert.NsaSelRefIdeal.main_arg0)) (m ((c.tc : Thread Cert.NsaSelRefIdeal.nD Cert.NsaSelRefIdeal.τ).loc Cert.NsaSelRefIdeal.main_arg1)) (m ((c.tc : Thread Cert.NsaSelRefIdeal.nD Cert.NsaSelRefIdeal.τ).loc Cert.NsaSelRefIdeal.main_arg2))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_PhiOne (m : (ℓ : Loc Cert.PhiOne.nD Cert.PhiOne.τ Cert.PhiOne.sig) → Buf (Elt Bits) ℓ) : Prop :=
  True

def Pre_PhiOneIdeal (m : (ℓ : Loc Cert.PhiOneIdeal.nD Cert.PhiOneIdeal.τ Cert.PhiOneIdeal.sig) → Buf (Elt Ideal) ℓ) : Prop :=
  True

def Pre_PhiOneRefIdeal (m : (ℓ : Loc Cert.PhiOneRefIdeal.nD Cert.PhiOneRefIdeal.τ Cert.PhiOneRefIdeal.sig) → Buf (Elt Ideal) ℓ) : Prop :=
  True

def Pre_PhiTwo (m : (ℓ : Loc Cert.PhiTwo.nD Cert.PhiTwo.τ Cert.PhiTwo.sig) → Buf (Elt Bits) ℓ) : Prop :=
  True

def Pre_PhiTwoIdeal (m : (ℓ : Loc Cert.PhiTwoIdeal.nD Cert.PhiTwoIdeal.τ Cert.PhiTwoIdeal.sig) → Buf (Elt Ideal) ℓ) : Prop :=
  True

def Pre_PhiTwoRefIdeal (m : (ℓ : Loc Cert.PhiTwoRefIdeal.nD Cert.PhiTwoRefIdeal.τ Cert.PhiTwoRefIdeal.sig) → Buf (Elt Ideal) ℓ) : Prop :=
  True

def Pre_NsaCmp (m : (ℓ : Loc Cert.NsaCmp.nD Cert.NsaCmp.τ Cert.NsaCmp.sig) → Buf (Elt Bits) ℓ) : Prop :=
  True

def Pre_NsaCmpIdeal (m : (ℓ : Loc Cert.NsaCmpIdeal.nD Cert.NsaCmpIdeal.τ Cert.NsaCmpIdeal.sig) → Buf (Elt Ideal) ℓ) : Prop :=
  True

def Pre_NsaCmpIdeal_known [hPre_known : Cert.Pre_known.Facts] (m : (ℓ : Loc Cert.NsaCmpIdeal.nD Cert.NsaCmpIdeal.τ Cert.NsaCmpIdeal.sig) → Buf (Elt Ideal) ℓ) : Prop :=
  ∀ c : Dev Cert.NsaCmpIdeal.nD,
    (Cert.Pre_known.fn (F := Ideal) (m ((c.tc : Thread Cert.NsaCmpIdeal.nD Cert.NsaCmpIdeal.τ).loc Cert.NsaCmpIdeal.main_arg0)) (m ((c.tc : Thread Cert.NsaCmpIdeal.nD Cert.NsaCmpIdeal.τ).loc Cert.NsaCmpIdeal.main_arg1))) = (fun _ => 1#1)

def Pre_NsaCmpRefIdeal (m : (ℓ : Loc Cert.NsaCmpRefIdeal.nD Cert.NsaCmpRefIdeal.τ Cert.NsaCmpRefIdeal.sig) → Buf (Elt Ideal) ℓ) : Prop :=
  True

def Pre_NsaCmpRefIdeal_known [hPre_known : Cert.Pre_known.Facts] (m : (ℓ : Loc Cert.NsaCmpRefIdeal.nD Cert.NsaCmpRefIdeal.τ Cert.NsaCmpRefIdeal.sig) → Buf (Elt Ideal) ℓ) : Prop :=
  ∀ c : Dev Cert.NsaCmpRefIdeal.nD,
    (Cert.Pre_known.fn (F := Ideal) (m ((c.tc : Thread Cert.NsaCmpRefIdeal.nD Cert.NsaCmpRefIdeal.τ).loc Cert.NsaCmpRefIdeal.main_arg0)) (m ((c.tc : Thread Cert.NsaCmpRefIdeal.nD Cert.NsaCmpRefIdeal.τ).loc Cert.NsaCmpRefIdeal.main_arg1))) = (fun _ => 1#1)

def Pre_Moe [hPre_tables : Cert.Pre_tables.Facts] (m : (ℓ : Loc Cert.Moe.nD Cert.Moe.τ Cert.Moe.sig) → Buf (Elt Bits) ℓ) : Prop :=
  ∀ c : Dev Cert.Moe.nD,
    (Cert.Pre_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_tables : Cert.Pre_tables.Facts] (m : (ℓ : Loc Cert.MoeIdeal.nD Cert.MoeIdeal.τ Cert.MoeIdeal.sig) → Buf (Elt Ideal) ℓ) : Prop :=
  ∀ c : Dev Cert.MoeIdeal.nD,
    (Cert.Pre_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal [hPre_tables : Cert.Pre_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_NsaBranch [hNsaBranch : Cert.NsaBranch.Facts] : Prop :=
  ∀ (m : (ℓ : Loc Cert.NsaBranch.nD Cert.NsaBranch.τ Cert.NsaBranch.sig) → Buf (Elt Bits) ℓ) (g : Dev Cert.NsaBranch.nD → PrngReg), Pre_NsaBranch m →
    θ_run (Cert.NsaBranch.defs (F := Bits)) (onTc (τ := Cert.NsaBranch.τ) (Cert.NsaBranch.main (F := Bits))) ⟨m, fun _ => 0, g⟩ (fun r => (∀ c : Dev Cert.NsaBranch.nD,
      r.2.mem ((c.tc : Thread Cert.NsaBranch.nD Cert.NsaBranch.τ).loc Cert.NsaBranch.main_arg0) = m ((c.tc : Thread Cert.NsaBranch.nD Cert.NsaBranch.τ).loc Cert.NsaBranch.main_arg0)
      ∧ r.2.mem ((c.tc : Thread Cert.NsaBranch.nD Cert.NsaBranch.τ).loc Cert.NsaBranch.main_arg1) = m ((c.tc : Thread Cert.NsaBranch.nD Cert.NsaBranch.τ).loc Cert.NsaBranch.main_arg1))
      ∧ r.2.sem = fun _ => 0)

def quiescent_NsaBranchIdeal [hNsaBranchIdeal : Cert.NsaBranchIdeal.Facts] : Prop :=
  ∀ (m : (ℓ : Loc Cert.NsaBranchIdeal.nD Cert.NsaBranchIdeal.τ Cert.NsaBranchIdeal.sig) → Buf (Elt Ideal) ℓ) (g : Dev Cert.NsaBranchIdeal.nD → PrngReg), Pre_NsaBranchIdeal m →
    θ_run (Cert.NsaBranchIdeal.defs (F := Ideal)) (onTc (τ := Cert.NsaBranchIdeal.τ) (Cert.NsaBranchIdeal.main (F := Ideal))) ⟨m, fun _ => 0, g⟩ (fun r => (∀ c : Dev Cert.NsaBranchIdeal.nD,
      r.2.mem ((c.tc : Thread Cert.NsaBranchIdeal.nD Cert.NsaBranchIdeal.τ).loc Cert.NsaBranchIdeal.main_arg0) = m ((c.tc : Thread Cert.NsaBranchIdeal.nD Cert.NsaBranchIdeal.τ).loc Cert.NsaBranchIdeal.main_arg0)
      ∧ r.2.mem ((c.tc : Thread Cert.NsaBranchIdeal.nD Cert.NsaBranchIdeal.τ).loc Cert.NsaBranchIdeal.main_arg1) = m ((c.tc : Thread Cert.NsaBranchIdeal.nD Cert.NsaBranchIdeal.τ).loc Cert.NsaBranchIdeal.main_arg1))
      ∧ r.2.sem = fun _ => 0)

def quiescent_NsaBranchRefIdeal [hNsaBranchRefIdeal : Cert.NsaBranchRefIdeal.Facts] : Prop :=
  ∀ (m : (ℓ : Loc Cert.NsaBranchRefIdeal.nD Cert.NsaBranchRefIdeal.τ Cert.NsaBranchRefIdeal.sig) → Buf (Elt Ideal) ℓ) (g : Dev Cert.NsaBranchRefIdeal.nD → PrngReg), Pre_NsaBranchRefIdeal m →
    θ_run (Cert.NsaBranchRefIdeal.defs (F := Ideal)) (onTc (τ := Cert.NsaBranchRefIdeal.τ) (Cert.NsaBranchRefIdeal.main (F := Ideal))) ⟨m, fun _ => 0, g⟩ (fun r => (∀ c : Dev Cert.NsaBranchRefIdeal.nD,
      r.2.mem ((c.tc : Thread Cert.NsaBranchRefIdeal.nD Cert.NsaBranchRefIdeal.τ).loc Cert.NsaBranchRefIdeal.main_arg0) = m ((c.tc : Thread Cert.NsaBranchRefIdeal.nD Cert.NsaBranchRefIdeal.τ).loc Cert.NsaBranchRefIdeal.main_arg0)
      ∧ r.2.mem ((c.tc : Thread Cert.NsaBranchRefIdeal.nD Cert.NsaBranchRefIdeal.τ).loc Cert.NsaBranchRefIdeal.main_arg1) = m ((c.tc : Thread Cert.NsaBranchRefIdeal.nD Cert.NsaBranchRefIdeal.τ).loc Cert.NsaBranchRefIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqRefIdeal [hMlaUqRefIdeal : Cert.MlaUqRefIdeal.Facts] : Prop :=
  ∀ (m : (ℓ : Loc Cert.MlaUqRefIdeal.nD Cert.MlaUqRefIdeal.τ Cert.MlaUqRefIdeal.sig) → Buf (Elt Ideal) ℓ) (g : Dev Cert.MlaUqRefIdeal.nD → PrngReg), Pre_MlaUqRefIdeal m →
    θ_run (Cert.MlaUqRefIdeal.defs (F := Ideal)) (onTc (τ := Cert.MlaUqRefIdeal.τ) (Cert.MlaUqRefIdeal.main (F := Ideal))) ⟨m, fun _ => 0, g⟩ (fun r => (∀ c : Dev Cert.MlaUqRefIdeal.nD,
      r.2.mem ((c.tc : Thread Cert.MlaUqRefIdeal.nD Cert.MlaUqRefIdeal.τ).loc Cert.MlaUqRefIdeal.main_arg0) = m ((c.tc : Thread Cert.MlaUqRefIdeal.nD Cert.MlaUqRefIdeal.τ).loc Cert.MlaUqRefIdeal.main_arg0)
      ∧ r.2.mem ((c.tc : Thread Cert.MlaUqRefIdeal.nD Cert.MlaUqRefIdeal.τ).loc Cert.MlaUqRefIdeal.main_arg1) = m ((c.tc : Thread Cert.MlaUqRefIdeal.nD Cert.MlaUqRefIdeal.τ).loc Cert.MlaUqRefIdeal.main_arg1))
      ∧ r.2.sem = fun _ => 0)

def quiescent_MlaUk [hMlaUk : Cert.MlaUk.Facts] : Prop :=
  ∀ (m : (ℓ : Loc Cert.MlaUk.nD Cert.MlaUk.τ Cert.MlaUk.sig) → Buf (Elt Bits) ℓ) (g : Dev Cert.MlaUk.nD → PrngReg), Pre_MlaUk m →
    θ_run (Cert.MlaUk.defs (F := Bits)) (onTc (τ := Cert.MlaUk.τ) (Cert.MlaUk.main (F := Bits))) ⟨m, fun _ => 0, g⟩ (fun r => (∀ c : Dev Cert.MlaUk.nD,
      r.2.mem ((c.tc : Thread Cert.MlaUk.nD Cert.MlaUk.τ).loc Cert.MlaUk.main_arg0) = m ((c.tc : Thread Cert.MlaUk.nD Cert.MlaUk.τ).loc Cert.MlaUk.main_arg0)
      ∧ r.2.mem ((c.tc : Thread Cert.MlaUk.nD Cert.MlaUk.τ).loc Cert.MlaUk.main_arg1) = m ((c.tc : Thread Cert.MlaUk.nD Cert.MlaUk.τ).loc Cert.MlaUk.main_arg1))
      ∧ r.2.sem = fun _ => 0)

def quiescent_MlaUkIdeal [hMlaUkIdeal : Cert.MlaUkIdeal.Facts] : Prop :=
  ∀ (m : (ℓ : Loc Cert.MlaUkIdeal.nD Cert.MlaUkIdeal.τ Cert.MlaUkIdeal.sig) → Buf (Elt Ideal) ℓ) (g : Dev Cert.MlaUkIdeal.nD → PrngReg), Pre_MlaUkIdeal m →
    θ_run (Cert.MlaUkIdeal.defs (F := Ideal)) (onTc (τ := Cert.MlaUkIdeal.τ) (Cert.MlaUkIdeal.main (F := Ideal))) ⟨m, fun _ => 0, g⟩ (fun r => (∀ c : Dev Cert.MlaUkIdeal.nD,
      r.2.mem ((c.tc : Thread Cert.MlaUkIdeal.nD Cert.MlaUkIdeal.τ).loc Cert.MlaUkIdeal.main_arg0) = m ((c.tc : Thread Cert.MlaUkIdeal.nD Cert.MlaUkIdeal.τ).loc Cert.MlaUkIdeal.main_arg0)
      ∧ r.2.mem ((c.tc : Thread Cert.MlaUkIdeal.nD Cert.MlaUkIdeal.τ).loc Cert.MlaUkIdeal.main_arg1) = m ((c.tc : Thread Cert.MlaUkIdeal.nD Cert.MlaUkIdeal.τ).loc Cert.MlaUkIdeal.main_arg1))
      ∧ r.2.sem = fun _ => 0)

def quiescent_MlaUkRefIdeal [hMlaUkRefIdeal : Cert.MlaUkRefIdeal.Facts] : Prop :=
  ∀ (m : (ℓ : Loc Cert.MlaUkRefIdeal.nD Cert.MlaUkRefIdeal.τ Cert.MlaUkRefIdeal.sig) → Buf (Elt Ideal) ℓ) (g : Dev Cert.MlaUkRefIdeal.nD → PrngReg), Pre_MlaUkRefIdeal m →
    θ_run (Cert.MlaUkRefIdeal.defs (F := Ideal)) (onTc (τ := Cert.MlaUkRefIdeal.τ) (Cert.MlaUkRefIdeal.main (F := Ideal))) ⟨m, fun _ => 0, g⟩ (fun r => (∀ c : Dev Cert.MlaUkRefIdeal.nD,
      r.2.mem ((c.tc : Thread Cert.MlaUkRefIdeal.nD Cert.MlaUkRefIdeal.τ).loc Cert.MlaUkRefIdeal.main_arg0) = m ((c.tc : Thread Cert.MlaUkRefIdeal.nD Cert.MlaUkRefIdeal.τ).loc Cert.MlaUkRefIdeal.main_arg0)
      ∧ r.2.mem ((c.tc : Thread Cert.MlaUkRefIdeal.nD Cert.MlaUkRefIdeal.τ).loc Cert.MlaUkRefIdeal.main_arg1) = m ((c.tc : Thread Cert.MlaUkRefIdeal.nD Cert.MlaUkRefIdeal.τ).loc Cert.MlaUkRefIdeal.main_arg1))
      ∧ r.2.sem = fun _ => 0)

def quiescent_MlaUv [hMlaUv : Cert.MlaUv.Facts] : Prop :=
  ∀ (m : (ℓ : Loc Cert.MlaUv.nD Cert.MlaUv.τ Cert.MlaUv.sig) → Buf (Elt Bits) ℓ) (g : Dev Cert.MlaUv.nD → PrngReg), Pre_MlaUv m →
    θ_run (Cert.MlaUv.defs (F := Bits)) (onTc (τ := Cert.MlaUv.τ) (Cert.MlaUv.main (F := Bits))) ⟨m, fun _ => 0, g⟩ (fun r => (∀ c : Dev Cert.MlaUv.nD,
      r.2.mem ((c.tc : Thread Cert.MlaUv.nD Cert.MlaUv.τ).loc Cert.MlaUv.main_arg0) = m ((c.tc : Thread Cert.MlaUv.nD Cert.MlaUv.τ).loc Cert.MlaUv.main_arg0)
      ∧ r.2.mem ((c.tc : Thread Cert.MlaUv.nD Cert.MlaUv.τ).loc Cert.MlaUv.main_arg1) = m ((c.tc : Thread Cert.MlaUv.nD Cert.MlaUv.τ).loc Cert.MlaUv.main_arg1))
      ∧ r.2.sem = fun _ => 0)

def quiescent_MlaUvIdeal [hMlaUvIdeal : Cert.MlaUvIdeal.Facts] : Prop :=
  ∀ (m : (ℓ : Loc Cert.MlaUvIdeal.nD Cert.MlaUvIdeal.τ Cert.MlaUvIdeal.sig) → Buf (Elt Ideal) ℓ) (g : Dev Cert.MlaUvIdeal.nD → PrngReg), Pre_MlaUvIdeal m →
    θ_run (Cert.MlaUvIdeal.defs (F := Ideal)) (onTc (τ := Cert.MlaUvIdeal.τ) (Cert.MlaUvIdeal.main (F := Ideal))) ⟨m, fun _ => 0, g⟩ (fun r => (∀ c : Dev Cert.MlaUvIdeal.nD,
      r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
      ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1))
      ∧ r.2.sem = fun _ => 0)

def quiescent_MlaUvRefIdeal [hMlaUvRefIdeal : Cert.MlaUvRefIdeal.Facts] : Prop :=
  ∀ (m : (ℓ : Loc Cert.MlaUvRefIdeal.nD Cert.MlaUvRefIdeal.τ Cert.MlaUvRefIdeal.sig) → Buf (Elt Ideal) ℓ) (g : Dev Cert.MlaUvRefIdeal.nD → PrngReg), Pre_MlaUvRefIdeal m →
    θ_run (Cert.MlaUvRefIdeal.defs (F := Ideal)) (onTc (τ := Cert.MlaUvRefIdeal.τ) (Cert.MlaUvRefIdeal.main (F := Ideal))) ⟨m, fun _ => 0, g⟩ (fun r => (∀ c : Dev Cert.MlaUvRefIdeal.nD,
      r.2.mem ((c.tc : Thread Cert.MlaUvRefIdeal.nD Cert.MlaUvRefIdeal.τ).loc Cert.MlaUvRefIdeal.main_arg0) = m ((c.tc : Thread Cert.MlaUvRefIdeal.nD Cert.MlaUvRefIdeal.τ).loc Cert.MlaUvRefIdeal.main_arg0)
      ∧ r.2.mem ((c.tc : Thread Cert.MlaUvRefIdeal.nD Cert.MlaUvRefIdeal.τ).loc Cert.MlaUvRefIdeal.main_arg1) = m ((c.tc : Thread Cert.MlaUvRefIdeal.nD Cert.MlaUvRefIdeal.τ).loc Cert.MlaUvRefIdeal.main_arg1))
      ∧ r.2.sem = fun _ => 0)

def quiescent_NsaWin [hNsaWin : Cert.NsaWin.Facts] : Prop :=
  ∀ (m : (ℓ : Loc Cert.NsaWin.nD Cert.NsaWin.τ Cert.NsaWin.sig) → Buf (Elt Bits) ℓ) (g : Dev Cert.NsaWin.nD → PrngReg), Pre_NsaWin m →
    θ_run (Cert.NsaWin.defs (F := Bits)) (onTc (τ := Cert.NsaWin.τ) (Cert.NsaWin.main (F := Bits))) ⟨m, fun _ => 0, g⟩ (fun r => (∀ c : Dev Cert.NsaWin.nD,
      r.2.mem ((c.tc : Thread Cert.NsaWin.nD Cert.NsaWin.τ).loc Cert.NsaWin.main_arg0) = m ((c.tc : Thread Cert.NsaWin.nD Cert.NsaWin.τ).loc Cert.NsaWin.main_arg0)
      ∧ r.2.mem ((c.tc : Thread Cert.NsaWin.nD Cert.NsaWin.τ).loc Cert.NsaWin.main_arg1) = m ((c.tc : Thread Cert.NsaWin.nD Cert.NsaWin.τ).loc Cert.NsaWin.main_arg1))
      ∧ r.2.sem = fun _ => 0)

def quiescent_NsaWinIdeal [hNsaWinIdeal : Cert.NsaWinIdeal.Facts] : Prop :=
  ∀ (m : (ℓ : Loc Cert.NsaWinIdeal.nD Cert.NsaWinIdeal.τ Cert.NsaWinIdeal.sig) → Buf (Elt Ideal) ℓ) (g : Dev Cert.NsaWinIdeal.nD → PrngReg), Pre_NsaWinIdeal m →
    θ_run (Cert.NsaWinIdeal.defs (F := Ideal)) (onTc (τ := Cert.NsaWinIdeal.τ) (Cert.NsaWinIdeal.main (F := Ideal))) ⟨m, fun _ => 0, g⟩ (fun r => (∀ c : Dev Cert.NsaWinIdeal.nD,
      r.2.mem ((c.tc : Thread Cert.NsaWinIdeal.nD Cert.NsaWinIdeal.τ).loc Cert.NsaWinIdeal.main_arg0) = m ((c.tc : Thread Cert.NsaWinIdeal.nD Cert.NsaWinIdeal.τ).loc Cert.NsaWinIdeal.main_arg0)
      ∧ r.2.mem ((c.tc : Thread Cert.NsaWinIdeal.nD Cert.NsaWinIdeal.τ).loc Cert.NsaWinIdeal.main_arg1) = m ((c.tc : Thread Cert.NsaWinIdeal.nD Cert.NsaWinIdeal.τ).loc Cert.NsaWinIdeal.main_arg1))
      ∧ r.2.sem = fun _ => 0)

def quiescent_NsaWinIdeal_pre_numbers [hNsaWinIdeal : Cert.NsaWinIdeal.Facts] [hPre_numbers : Cert.Pre_numbers.Facts] : Prop :=
  ∀ (m : (ℓ : Loc Cert.NsaWinIdeal.nD Cert.NsaWinIdeal.τ Cert.NsaWinIdeal.sig) → Buf (Elt Ideal) ℓ) (g : Dev Cert.NsaWinIdeal.nD → PrngReg), Pre_NsaWinIdeal_numbers m →
    θ_run (Cert.NsaWinIdeal.defs (F := Ideal)) (onTc (τ := Cert.NsaWinIdeal.τ) (Cert.NsaWinIdeal.main (F := Ideal))) ⟨m, fun _ => 0, g⟩ (fun r => (∀ c : Dev Cert.NsaWinIdeal.nD,
      r.2.mem ((c.tc : Thread Cert.NsaWinIdeal.nD Cert.NsaWinIdeal.τ).loc Cert.NsaWinIdeal.main_arg0) = m ((c.tc : Thread Cert.NsaWinIdeal.nD Cert.NsaWinIdeal.τ).loc Cert.NsaWinIdeal.main_arg0)
      ∧ r.2.mem ((c.tc : Thread Cert.NsaWinIdeal.nD Cert.NsaWinIdeal.τ).loc Cert.NsaWinIdeal.main_arg1) = m ((c.tc : Thread Cert.NsaWinIdeal.nD Cert.NsaWinIdeal.τ).loc Cert.NsaWinIdeal.main_arg1))
      ∧ r.2.sem = fun _ => 0)

def quiescent_NsaWinRefIdeal [hNsaWinRefIdeal : Cert.NsaWinRefIdeal.Facts] : Prop :=
  ∀ (m : (ℓ : Loc Cert.NsaWinRefIdeal.nD Cert.NsaWinRefIdeal.τ Cert.NsaWinRefIdeal.sig) → Buf (Elt Ideal) ℓ) (g : Dev Cert.NsaWinRefIdeal.nD → PrngReg), Pre_NsaWinRefIdeal m →
    θ_run (Cert.NsaWinRefIdeal.defs (F := Ideal)) (onTc (τ := Cert.NsaWinRefIdeal.τ) (Cert.NsaWinRefIdeal.main (F := Ideal))) ⟨m, fun _ => 0, g⟩ (fun r => (∀ c : Dev Cert.NsaWinRefIdeal.nD,
      r.2.mem ((c.tc : Thread Cert.NsaWinRefIdeal.nD Cert.NsaWinRefIdeal.τ).loc Cert.NsaWinRefIdeal.main_arg0) = m ((c.tc : Thread Cert.NsaWinRefIdeal.nD Cert.NsaWinRefIdeal.τ).loc Cert.NsaWinRefIdeal.main_arg0)
      ∧ r.2.mem ((c.tc : Thread Cert.NsaWinRefIdeal.nD Cert.NsaWinRefIdeal.τ).loc Cert.NsaWinRefIdeal.main_arg1) = m ((c.tc : Thread Cert.NsaWinRefIdeal.nD Cert.NsaWinRefIdeal.τ).loc Cert.NsaWinRefIdeal.main_arg1))
      ∧ r.2.sem = fun _ => 0)

def quiescent_NsaWinRefIdeal_pre_numbers [hNsaWinRefIdeal : Cert.NsaWinRefIdeal.Facts] [hPre_numbers : Cert.Pre_numbers.Facts] : Prop :=
  ∀ (m : (ℓ : Loc Cert.NsaWinRefIdeal.nD Cert.NsaWinRefIdeal.τ Cert.NsaWinRefIdeal.sig) → Buf (Elt Ideal) ℓ) (g : Dev Cert.NsaWinRefIdeal.nD → PrngReg), Pre_NsaWinRefIdeal_numbers m →
    θ_run (Cert.NsaWinRefIdeal.defs (F := Ideal)) (onTc (τ := Cert.NsaWinRefIdeal.τ) (Cert.NsaWinRefIdeal.main (F := Ideal))) ⟨m, fun _ => 0, g⟩ (fun r => (∀ c : Dev Cert.NsaWinRefIdeal.nD,
      r.2.mem ((c.tc : Thread Cert.NsaWinRefIdeal.nD Cert.NsaWinRefIdeal.τ).loc Cert.NsaWinRefIdeal.main_arg0) = m ((c.tc : Thread Cert.NsaWinRefIdeal.nD Cert.NsaWinRefIdeal.τ).loc Cert.NsaWinRefIdeal.main_arg0)
      ∧ r.2.mem ((c.tc : Thread Cert.NsaWinRefIdeal.nD Cert.NsaWinRefIdeal.τ).loc Cert.NsaWinRefIdeal.main_arg1) = m ((c.tc : Thread Cert.NsaWinRefIdeal.nD Cert.NsaWinRefIdeal.τ).loc Cert.NsaWinRefIdeal.main_arg1))
      ∧ r.2.sem = fun _ => 0)

def quiescent_NsaSel [hNsaSel : Cert.NsaSel.Facts] : Prop :=
  ∀ (m : (ℓ : Loc Cert.NsaSel.nD Cert.NsaSel.τ Cert.NsaSel.sig) → Buf (Elt Bits) ℓ) (g : Dev Cert.NsaSel.nD → PrngReg), Pre_NsaSel m →
    θ_run (Cert.NsaSel.defs (F := Bits)) (onTc (τ := Cert.NsaSel.τ) (Cert.NsaSel.main (F := Bits))) ⟨m, fun _ => 0, g⟩ (fun r => (∀ c : Dev Cert.NsaSel.nD,
      r.2.mem ((c.tc : Thread Cert.NsaSel.nD Cert.NsaSel.τ).loc Cert.NsaSel.main_arg0) = m ((c.tc : Thread Cert.NsaSel.nD Cert.NsaSel.τ).loc Cert.NsaSel.main_arg0)
      ∧ r.2.mem ((c.tc : Thread Cert.NsaSel.nD Cert.NsaSel.τ).loc Cert.NsaSel.main_arg1) = m ((c.tc : Thread Cert.NsaSel.nD Cert.NsaSel.τ).loc Cert.NsaSel.main_arg1)
      ∧ r.2.mem ((c.tc : Thread Cert.NsaSel.nD Cert.NsaSel.τ).loc Cert.NsaSel.main_arg2) = m ((c.tc : Thread Cert.NsaSel.nD Cert.NsaSel.τ).loc Cert.NsaSel.main_arg2))
      ∧ r.2.sem = fun _ => 0)

def quiescent_NsaSelIdeal [hNsaSelIdeal : Cert.NsaSelIdeal.Facts] : Prop :=
  ∀ (m : (ℓ : Loc Cert.NsaSelIdeal.nD Cert.NsaSelIdeal.τ Cert.NsaSelIdeal.sig) → Buf (Elt Ideal) ℓ) (g : Dev Cert.NsaSelIdeal.nD → PrngReg), Pre_NsaSelIdeal m →
    θ_run (Cert.NsaSelIdeal.defs (F := Ideal)) (onTc (τ := Cert.NsaSelIdeal.τ) (Cert.NsaSelIdeal.main (F := Ideal))) ⟨m, fun _ => 0, g⟩ (fun r => (∀ c : Dev Cert.NsaSelIdeal.nD,
      r.2.mem ((c.tc : Thread Cert.NsaSelIdeal.nD Cert.NsaSelIdeal.τ).loc Cert.NsaSelIdeal.main_arg0) = m ((c.tc : Thread Cert.NsaSelIdeal.nD Cert.NsaSelIdeal.τ).loc Cert.NsaSelIdeal.main_arg0)
      ∧ r.2.mem ((c.tc : Thread Cert.NsaSelIdeal.nD Cert.NsaSelIdeal.τ).loc Cert.NsaSelIdeal.main_arg1) = m ((c.tc : Thread Cert.NsaSelIdeal.nD Cert.NsaSelIdeal.τ).loc Cert.NsaSelIdeal.main_arg1)
      ∧ r.2.mem ((c.tc : Thread Cert.NsaSelIdeal.nD Cert.NsaSelIdeal.τ).loc Cert.NsaSelIdeal.main_arg2) = m ((c.tc : Thread Cert.NsaSelIdeal.nD Cert.NsaSelIdeal.τ).loc Cert.NsaSelIdeal.main_arg2))
      ∧ r.2.sem = fun _ => 0)

def quiescent_NsaSelIdeal_pre_chosen [hNsaSelIdeal : Cert.NsaSelIdeal.Facts] [hPre_chosen : Cert.Pre_chosen.Facts] : Prop :=
  ∀ (m : (ℓ : Loc Cert.NsaSelIdeal.nD Cert.NsaSelIdeal.τ Cert.NsaSelIdeal.sig) → Buf (Elt Ideal) ℓ) (g : Dev Cert.NsaSelIdeal.nD → PrngReg), Pre_NsaSelIdeal_chosen m →
    θ_run (Cert.NsaSelIdeal.defs (F := Ideal)) (onTc (τ := Cert.NsaSelIdeal.τ) (Cert.NsaSelIdeal.main (F := Ideal))) ⟨m, fun _ => 0, g⟩ (fun r => (∀ c : Dev Cert.NsaSelIdeal.nD,
      r.2.mem ((c.tc : Thread Cert.NsaSelIdeal.nD Cert.NsaSelIdeal.τ).loc Cert.NsaSelIdeal.main_arg0) = m ((c.tc : Thread Cert.NsaSelIdeal.nD Cert.NsaSelIdeal.τ).loc Cert.NsaSelIdeal.main_arg0)
      ∧ r.2.mem ((c.tc : Thread Cert.NsaSelIdeal.nD Cert.NsaSelIdeal.τ).loc Cert.NsaSelIdeal.main_arg1) = m ((c.tc : Thread Cert.NsaSelIdeal.nD Cert.NsaSelIdeal.τ).loc Cert.NsaSelIdeal.main_arg1)
      ∧ r.2.mem ((c.tc : Thread Cert.NsaSelIdeal.nD Cert.NsaSelIdeal.τ).loc Cert.NsaSelIdeal.main_arg2) = m ((c.tc : Thread Cert.NsaSelIdeal.nD Cert.NsaSelIdeal.τ).loc Cert.NsaSelIdeal.main_arg2))
      ∧ r.2.sem = fun _ => 0)

def quiescent_NsaSelRefIdeal [hNsaSelRefIdeal : Cert.NsaSelRefIdeal.Facts] : Prop :=
  ∀ (m : (ℓ : Loc Cert.NsaSelRefIdeal.nD Cert.NsaSelRefIdeal.τ Cert.NsaSelRefIdeal.sig) → Buf (Elt Ideal) ℓ) (g : Dev Cert.NsaSelRefIdeal.nD → PrngReg), Pre_NsaSelRefIdeal m →
    θ_run (Cert.NsaSelRefIdeal.defs (F := Ideal)) (onTc (τ := Cert.NsaSelRefIdeal.τ) (Cert.NsaSelRefIdeal.main (F := Ideal))) ⟨m, fun _ => 0, g⟩ (fun r => (∀ c : Dev Cert.NsaSelRefIdeal.nD,
      r.2.mem ((c.tc : Thread Cert.NsaSelRefIdeal.nD Cert.NsaSelRefIdeal.τ).loc Cert.NsaSelRefIdeal.main_arg0) = m ((c.tc : Thread Cert.NsaSelRefIdeal.nD Cert.NsaSelRefIdeal.τ).loc Cert.NsaSelRefIdeal.main_arg0)
      ∧ r.2.mem ((c.tc : Thread Cert.NsaSelRefIdeal.nD Cert.NsaSelRefIdeal.τ).loc Cert.NsaSelRefIdeal.main_arg1) = m ((c.tc : Thread Cert.NsaSelRefIdeal.nD Cert.NsaSelRefIdeal.τ).loc Cert.NsaSelRefIdeal.main_arg1)
      ∧ r.2.mem ((c.tc : Thread Cert.NsaSelRefIdeal.nD Cert.NsaSelRefIdeal.τ).loc Cert.NsaSelRefIdeal.main_arg2) = m ((c.tc : Thread Cert.NsaSelRefIdeal.nD Cert.NsaSelRefIdeal.τ).loc Cert.NsaSelRefIdeal.main_arg2))
      ∧ r.2.sem = fun _ => 0)

def quiescent_NsaSelRefIdeal_pre_chosen [hNsaSelRefIdeal : Cert.NsaSelRefIdeal.Facts] [hPre_chosen : Cert.Pre_chosen.Facts] : Prop :=
  ∀ (m : (ℓ : Loc Cert.NsaSelRefIdeal.nD Cert.NsaSelRefIdeal.τ Cert.NsaSelRefIdeal.sig) → Buf (Elt Ideal) ℓ) (g : Dev Cert.NsaSelRefIdeal.nD → PrngReg), Pre_NsaSelRefIdeal_chosen m →
    θ_run (Cert.NsaSelRefIdeal.defs (F := Ideal)) (onTc (τ := Cert.NsaSelRefIdeal.τ) (Cert.NsaSelRefIdeal.main (F := Ideal))) ⟨m, fun _ => 0, g⟩ (fun r => (∀ c : Dev Cert.NsaSelRefIdeal.nD,
      r.2.mem ((c.tc : Thread Cert.NsaSelRefIdeal.nD Cert.NsaSelRefIdeal.τ).loc Cert.NsaSelRefIdeal.main_arg0) = m ((c.tc : Thread Cert.NsaSelRefIdeal.nD Cert.NsaSelRefIdeal.τ).loc Cert.NsaSelRefIdeal.main_arg0)
      ∧ r.2.mem ((c.tc : Thread Cert.NsaSelRefIdeal.nD Cert.NsaSelRefIdeal.τ).loc Cert.NsaSelRefIdeal.main_arg1) = m ((c.tc : Thread Cert.NsaSelRefIdeal.nD Cert.NsaSelRefIdeal.τ).loc Cert.NsaSelRefIdeal.main_arg1)
      ∧ r.2.mem ((c.tc : Thread Cert.NsaSelRefIdeal.nD Cert.NsaSelRefIdeal.τ).loc Cert.NsaSelRefIdeal.main_arg2) = m ((c.tc : Thread Cert.NsaSelRefIdeal.nD Cert.NsaSelRefIdeal.τ).loc Cert.NsaSelRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1))
      ∧ r.2.sem = fun _ => 0)

def quiescent_PhiOne [hPhiOne : Cert.PhiOne.Facts] : Prop :=
  ∀ (m : (ℓ : Loc Cert.PhiOne.nD Cert.PhiOne.τ Cert.PhiOne.sig) → Buf (Elt Bits) ℓ) (g : Dev Cert.PhiOne.nD → PrngReg), Pre_PhiOne m →
    θ_run (Cert.PhiOne.defs (F := Bits)) (onTc (τ := Cert.PhiOne.τ) (Cert.PhiOne.main (F := Bits))) ⟨m, fun _ => 0, g⟩ (fun r => (∀ c : Dev Cert.PhiOne.nD,
      r.2.mem ((c.tc : Thread Cert.PhiOne.nD Cert.PhiOne.τ).loc Cert.PhiOne.main_arg0) = m ((c.tc : Thread Cert.PhiOne.nD Cert.PhiOne.τ).loc Cert.PhiOne.main_arg0)
      ∧ r.2.mem ((c.tc : Thread Cert.PhiOne.nD Cert.PhiOne.τ).loc Cert.PhiOne.main_arg1) = m ((c.tc : Thread Cert.PhiOne.nD Cert.PhiOne.τ).loc Cert.PhiOne.main_arg1)
      ∧ r.2.mem ((c.tc : Thread Cert.PhiOne.nD Cert.PhiOne.τ).loc Cert.PhiOne.main_arg2) = m ((c.tc : Thread Cert.PhiOne.nD Cert.PhiOne.τ).loc Cert.PhiOne.main_arg2))
      ∧ r.2.sem = fun _ => 0)

def quiescent_PhiOneIdeal [hPhiOneIdeal : Cert.PhiOneIdeal.Facts] : Prop :=
  ∀ (m : (ℓ : Loc Cert.PhiOneIdeal.nD Cert.PhiOneIdeal.τ Cert.PhiOneIdeal.sig) → Buf (Elt Ideal) ℓ) (g : Dev Cert.PhiOneIdeal.nD → PrngReg), Pre_PhiOneIdeal m →
    θ_run (Cert.PhiOneIdeal.defs (F := Ideal)) (onTc (τ := Cert.PhiOneIdeal.τ) (Cert.PhiOneIdeal.main (F := Ideal))) ⟨m, fun _ => 0, g⟩ (fun r => (∀ c : Dev Cert.PhiOneIdeal.nD,
      r.2.mem ((c.tc : Thread Cert.PhiOneIdeal.nD Cert.PhiOneIdeal.τ).loc Cert.PhiOneIdeal.main_arg0) = m ((c.tc : Thread Cert.PhiOneIdeal.nD Cert.PhiOneIdeal.τ).loc Cert.PhiOneIdeal.main_arg0)
      ∧ r.2.mem ((c.tc : Thread Cert.PhiOneIdeal.nD Cert.PhiOneIdeal.τ).loc Cert.PhiOneIdeal.main_arg1) = m ((c.tc : Thread Cert.PhiOneIdeal.nD Cert.PhiOneIdeal.τ).loc Cert.PhiOneIdeal.main_arg1)
      ∧ r.2.mem ((c.tc : Thread Cert.PhiOneIdeal.nD Cert.PhiOneIdeal.τ).loc Cert.PhiOneIdeal.main_arg2) = m ((c.tc : Thread Cert.PhiOneIdeal.nD Cert.PhiOneIdeal.τ).loc Cert.PhiOneIdeal.main_arg2))
      ∧ r.2.sem = fun _ => 0)

def quiescent_PhiOneRefIdeal [hPhiOneRefIdeal : Cert.PhiOneRefIdeal.Facts] : Prop :=
  ∀ (m : (ℓ : Loc Cert.PhiOneRefIdeal.nD Cert.PhiOneRefIdeal.τ Cert.PhiOneRefIdeal.sig) → Buf (Elt Ideal) ℓ) (g : Dev Cert.PhiOneRefIdeal.nD → PrngReg), Pre_PhiOneRefIdeal m →
    θ_run (Cert.PhiOneRefIdeal.defs (F := Ideal)) (onTc (τ := Cert.PhiOneRefIdeal.τ) (Cert.PhiOneRefIdeal.main (F := Ideal))) ⟨m, fun _ => 0, g⟩ (fun r => (∀ c : Dev Cert.PhiOneRefIdeal.nD,
      r.2.mem ((c.tc : Thread Cert.PhiOneRefIdeal.nD Cert.PhiOneRefIdeal.τ).loc Cert.PhiOneRefIdeal.main_arg0) = m ((c.tc : Thread Cert.PhiOneRefIdeal.nD Cert.PhiOneRefIdeal.τ).loc Cert.PhiOneRefIdeal.main_arg0)
      ∧ r.2.mem ((c.tc : Thread Cert.PhiOneRefIdeal.nD Cert.PhiOneRefIdeal.τ).loc Cert.PhiOneRefIdeal.main_arg1) = m ((c.tc : Thread Cert.PhiOneRefIdeal.nD Cert.PhiOneRefIdeal.τ).loc Cert.PhiOneRefIdeal.main_arg1)
      ∧ r.2.mem ((c.tc : Thread Cert.PhiOneRefIdeal.nD Cert.PhiOneRefIdeal.τ).loc Cert.PhiOneRefIdeal.main_arg2) = m ((c.tc : Thread Cert.PhiOneRefIdeal.nD Cert.PhiOneRefIdeal.τ).loc Cert.PhiOneRefIdeal.main_arg2))
      ∧ r.2.sem = fun _ => 0)

def quiescent_PhiTwo [hPhiTwo : Cert.PhiTwo.Facts] : Prop :=
  ∀ (m : (ℓ : Loc Cert.PhiTwo.nD Cert.PhiTwo.τ Cert.PhiTwo.sig) → Buf (Elt Bits) ℓ) (g : Dev Cert.PhiTwo.nD → PrngReg), Pre_PhiTwo m →
    θ_run (Cert.PhiTwo.defs (F := Bits)) (onTc (τ := Cert.PhiTwo.τ) (Cert.PhiTwo.main (F := Bits))) ⟨m, fun _ => 0, g⟩ (fun r => (∀ c : Dev Cert.PhiTwo.nD,
      r.2.mem ((c.tc : Thread Cert.PhiTwo.nD Cert.PhiTwo.τ).loc Cert.PhiTwo.main_arg0) = m ((c.tc : Thread Cert.PhiTwo.nD Cert.PhiTwo.τ).loc Cert.PhiTwo.main_arg0)
      ∧ r.2.mem ((c.tc : Thread Cert.PhiTwo.nD Cert.PhiTwo.τ).loc Cert.PhiTwo.main_arg1) = m ((c.tc : Thread Cert.PhiTwo.nD Cert.PhiTwo.τ).loc Cert.PhiTwo.main_arg1))
      ∧ r.2.sem = fun _ => 0)

def quiescent_PhiTwoIdeal [hPhiTwoIdeal : Cert.PhiTwoIdeal.Facts] : Prop :=
  ∀ (m : (ℓ : Loc Cert.PhiTwoIdeal.nD Cert.PhiTwoIdeal.τ Cert.PhiTwoIdeal.sig) → Buf (Elt Ideal) ℓ) (g : Dev Cert.PhiTwoIdeal.nD → PrngReg), Pre_PhiTwoIdeal m →
    θ_run (Cert.PhiTwoIdeal.defs (F := Ideal)) (onTc (τ := Cert.PhiTwoIdeal.τ) (Cert.PhiTwoIdeal.main (F := Ideal))) ⟨m, fun _ => 0, g⟩ (fun r => (∀ c : Dev Cert.PhiTwoIdeal.nD,
      r.2.mem ((c.tc : Thread Cert.PhiTwoIdeal.nD Cert.PhiTwoIdeal.τ).loc Cert.PhiTwoIdeal.main_arg0) = m ((c.tc : Thread Cert.PhiTwoIdeal.nD Cert.PhiTwoIdeal.τ).loc Cert.PhiTwoIdeal.main_arg0)
      ∧ r.2.mem ((c.tc : Thread Cert.PhiTwoIdeal.nD Cert.PhiTwoIdeal.τ).loc Cert.PhiTwoIdeal.main_arg1) = m ((c.tc : Thread Cert.PhiTwoIdeal.nD Cert.PhiTwoIdeal.τ).loc Cert.PhiTwoIdeal.main_arg1))
      ∧ r.2.sem = fun _ => 0)

def quiescent_PhiTwoRefIdeal [hPhiTwoRefIdeal : Cert.PhiTwoRefIdeal.Facts] : Prop :=
  ∀ (m : (ℓ : Loc Cert.PhiTwoRefIdeal.nD Cert.PhiTwoRefIdeal.τ Cert.PhiTwoRefIdeal.sig) → Buf (Elt Ideal) ℓ) (g : Dev Cert.PhiTwoRefIdeal.nD → PrngReg), Pre_PhiTwoRefIdeal m →
    θ_run (Cert.PhiTwoRefIdeal.defs (F := Ideal)) (onTc (τ := Cert.PhiTwoRefIdeal.τ) (Cert.PhiTwoRefIdeal.main (F := Ideal))) ⟨m, fun _ => 0, g⟩ (fun r => (∀ c : Dev Cert.PhiTwoRefIdeal.nD,
      r.2.mem ((c.tc : Thread Cert.PhiTwoRefIdeal.nD Cert.PhiTwoRefIdeal.τ).loc Cert.PhiTwoRefIdeal.main_arg0) = m ((c.tc : Thread Cert.PhiTwoRefIdeal.nD Cert.PhiTwoRefIdeal.τ).loc Cert.PhiTwoRefIdeal.main_arg0)
      ∧ r.2.mem ((c.tc : Thread Cert.PhiTwoRefIdeal.nD Cert.PhiTwoRefIdeal.τ).loc Cert.PhiTwoRefIdeal.main_arg1) = m ((c.tc : Thread Cert.PhiTwoRefIdeal.nD Cert.PhiTwoRefIdeal.τ).loc Cert.PhiTwoRefIdeal.main_arg1))
      ∧ r.2.sem = fun _ => 0)

def quiescent_NsaCmp [hNsaCmp : Cert.NsaCmp.Facts] : Prop :=
  ∀ (m : (ℓ : Loc Cert.NsaCmp.nD Cert.NsaCmp.τ Cert.NsaCmp.sig) → Buf (Elt Bits) ℓ) (g : Dev Cert.NsaCmp.nD → PrngReg), Pre_NsaCmp m →
    θ_run (Cert.NsaCmp.defs (F := Bits)) (onTc (τ := Cert.NsaCmp.τ) (Cert.NsaCmp.main (F := Bits))) ⟨m, fun _ => 0, g⟩ (fun r => (∀ c : Dev Cert.NsaCmp.nD,
      r.2.mem ((c.tc : Thread Cert.NsaCmp.nD Cert.NsaCmp.τ).loc Cert.NsaCmp.main_arg0) = m ((c.tc : Thread Cert.NsaCmp.nD Cert.NsaCmp.τ).loc Cert.NsaCmp.main_arg0)
      ∧ r.2.mem ((c.tc : Thread Cert.NsaCmp.nD Cert.NsaCmp.τ).loc Cert.NsaCmp.main_arg1) = m ((c.tc : Thread Cert.NsaCmp.nD Cert.NsaCmp.τ).loc Cert.NsaCmp.main_arg1))
      ∧ r.2.sem = fun _ => 0)

def quiescent_NsaCmpIdeal [hNsaCmpIdeal : Cert.NsaCmpIdeal.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg), Pre_NsaCmpIdeal m →
    θ_run (Cert.NsaCmpIdeal.defs (F := Ideal)) (onTc (τ := Cert.NsaCmpIdeal.τ) (Cert.NsaCmpIdeal.main (F := Ideal))) ⟨m, fun _ => 0, g⟩ (fun r => (∀ c : Dev Cert.NsaCmpIdeal.nD,
      r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
      ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1))
      ∧ r.2.sem = fun _ => 0)

def quiescent_NsaCmpIdeal_pre_known [hNsaCmpIdeal : Cert.NsaCmpIdeal.Facts] [hPre_known : Cert.Pre_known.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg), Pre_NsaCmpIdeal_known m →
    θ_run (Cert.NsaCmpIdeal.defs (F := Ideal)) (onTc (τ := Cert.NsaCmpIdeal.τ) (Cert.NsaCmpIdeal.main (F := Ideal))) ⟨m, fun _ => 0, g⟩ (fun r => (∀ c : Dev Cert.NsaCmpIdeal.nD,
      r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
      ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1))
      ∧ r.2.sem = fun _ => 0)

def quiescent_NsaCmpRefIdeal [hNsaCmpRefIdeal : Cert.NsaCmpRefIdeal.Facts] : Prop :=
  ∀ (m : (ℓ : Loc Cert.NsaCmpRefIdeal.nD Cert.NsaCmpRefIdeal.τ Cert.NsaCmpRefIdeal.sig) → Buf (Elt Ideal) ℓ) (g : Dev Cert.NsaCmpRefIdeal.nD → PrngReg), Pre_NsaCmpRefIdeal m →
    θ_run (Cert.NsaCmpRefIdeal.defs (F := Ideal)) (onTc (τ := Cert.NsaCmpRefIdeal.τ) (Cert.NsaCmpRefIdeal.main (F := Ideal))) ⟨m, fun _ => 0, g⟩ (fun r => (∀ c : Dev Cert.NsaCmpRefIdeal.nD,
      r.2.mem ((c.tc : Thread Cert.NsaCmpRefIdeal.nD Cert.NsaCmpRefIdeal.τ).loc Cert.NsaCmpRefIdeal.main_arg0) = m ((c.tc : Thread Cert.NsaCmpRefIdeal.nD Cert.NsaCmpRefIdeal.τ).loc Cert.NsaCmpRefIdeal.main_arg0)
      ∧ r.2.mem ((c.tc : Thread Cert.NsaCmpRefIdeal.nD Cert.NsaCmpRefIdeal.τ).loc Cert.NsaCmpRefIdeal.main_arg1) = m ((c.tc : Thread Cert.NsaCmpRefIdeal.nD Cert.NsaCmpRefIdeal.τ).loc Cert.NsaCmpRefIdeal.main_arg1))
      ∧ r.2.sem = fun _ => 0)

def quiescent_NsaCmpRefIdeal_pre_known [hNsaCmpRefIdeal : Cert.NsaCmpRefIdeal.Facts] [hPre_known : Cert.Pre_known.Facts] : Prop :=
  ∀ (m : (ℓ : Loc Cert.NsaCmpRefIdeal.nD Cert.NsaCmpRefIdeal.τ Cert.NsaCmpRefIdeal.sig) → Buf (Elt Ideal) ℓ) (g : Dev Cert.NsaCmpRefIdeal.nD → PrngReg), Pre_NsaCmpRefIdeal_known m →
    θ_run (Cert.NsaCmpRefIdeal.defs (F := Ideal)) (onTc (τ := Cert.NsaCmpRefIdeal.τ) (Cert.NsaCmpRefIdeal.main (F := Ideal))) ⟨m, fun _ => 0, g⟩ (fun r => (∀ c : Dev Cert.NsaCmpRefIdeal.nD,
      r.2.mem ((c.tc : Thread Cert.NsaCmpRefIdeal.nD Cert.NsaCmpRefIdeal.τ).loc Cert.NsaCmpRefIdeal.main_arg0) = m ((c.tc : Thread Cert.NsaCmpRefIdeal.nD Cert.NsaCmpRefIdeal.τ).loc Cert.NsaCmpRefIdeal.main_arg0)
      ∧ r.2.mem ((c.tc : Thread Cert.NsaCmpRefIdeal.nD Cert.NsaCmpRefIdeal.τ).loc Cert.NsaCmpRefIdeal.main_arg1) = m ((c.tc : Thread Cert.NsaCmpRefIdeal.nD Cert.NsaCmpRefIdeal.τ).loc Cert.NsaCmpRefIdeal.main_arg1))
      ∧ r.2.sem = fun _ => 0)

def quiescent_Moe [hMoe : Cert.Moe.Facts] [hPre_tables : Cert.Pre_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] [hPre_tables : Cert.Pre_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v1)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v1) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v1) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_NsaBranch_NsaBranchIdeal : Prop :=
  True

def algebraic_NsaBranchIdeal_NsaBranchRefIdeal [hNsaBranchIdeal : Cert.NsaBranchIdeal.Facts] [hNsaBranchRefIdeal : Cert.NsaBranchRefIdeal.Facts] : Prop :=
  ∀ (m : (ℓ : Loc Cert.NsaBranchIdeal.nD Cert.NsaBranchIdeal.τ Cert.NsaBranchIdeal.sig) → Buf (Elt Ideal) ℓ) (g : Dev Cert.NsaBranchIdeal.nD → PrngReg)
    (m' : (ℓ : Loc Cert.NsaBranchRefIdeal.nD Cert.NsaBranchRefIdeal.τ Cert.NsaBranchRefIdeal.sig) → Buf (Elt Ideal) ℓ) (g' : Dev Cert.NsaBranchRefIdeal.nD → PrngReg), Pre_NsaBranchIdeal m →
    (∀ c : Dev Cert.NsaBranchIdeal.nD,
      m' ((c.tc : Thread Cert.NsaBranchRefIdeal.nD Cert.NsaBranchRefIdeal.τ).loc Cert.NsaBranchRefIdeal.main_arg0) = m ((c.tc : Thread Cert.NsaBranchIdeal.nD Cert.NsaBranchIdeal.τ).loc Cert.NsaBranchIdeal.main_arg0)
      ∧ m' ((c.tc : Thread Cert.NsaBranchRefIdeal.nD Cert.NsaBranchRefIdeal.τ).loc Cert.NsaBranchRefIdeal.main_arg1) = m ((c.tc : Thread Cert.NsaBranchIdeal.nD Cert.NsaBranchIdeal.τ).loc Cert.NsaBranchIdeal.main_arg1)) →
    ∃ (v0 : (c : Dev Cert.NsaBranchIdeal.nD) → Buf (Elt Ideal) ((c.tc : Thread Cert.NsaBranchIdeal.nD Cert.NsaBranchIdeal.τ).loc Cert.NsaBranchIdeal.main_v1)),
      θ_run (Cert.NsaBranchIdeal.defs (F := Ideal)) (onTc (τ := Cert.NsaBranchIdeal.τ) (Cert.NsaBranchIdeal.main (F := Ideal))) ⟨m, fun _ => 0, g⟩ (fun r => ∀ c : Dev Cert.NsaBranchIdeal.nD,
          r.2.mem ((c.tc : Thread Cert.NsaBranchIdeal.nD Cert.NsaBranchIdeal.τ).loc Cert.NsaBranchIdeal.main_v1) = v0 c
          ∧ r.2.mem ((c.tc : Thread Cert.NsaBranchIdeal.nD Cert.NsaBranchIdeal.τ).loc Cert.NsaBranchIdeal.main_arg0) = m ((c.tc : Thread Cert.NsaBranchIdeal.nD Cert.NsaBranchIdeal.τ).loc Cert.NsaBranchIdeal.main_arg0)
          ∧ r.2.mem ((c.tc : Thread Cert.NsaBranchIdeal.nD Cert.NsaBranchIdeal.τ).loc Cert.NsaBranchIdeal.main_arg1) = m ((c.tc : Thread Cert.NsaBranchIdeal.nD Cert.NsaBranchIdeal.τ).loc Cert.NsaBranchIdeal.main_arg1))
      ∧ θ_run (Cert.NsaBranchRefIdeal.defs (F := Ideal)) (onTc (τ := Cert.NsaBranchRefIdeal.τ) (Cert.NsaBranchRefIdeal.main (F := Ideal))) ⟨m', fun _ => 0, g'⟩ (fun r => ∀ c : Dev Cert.NsaBranchRefIdeal.nD,
          r.2.mem ((c.tc : Thread Cert.NsaBranchRefIdeal.nD Cert.NsaBranchRefIdeal.τ).loc Cert.NsaBranchRefIdeal.main_v0) = v0 c
          ∧ r.2.mem ((c.tc : Thread Cert.NsaBranchRefIdeal.nD Cert.NsaBranchRefIdeal.τ).loc Cert.NsaBranchRefIdeal.main_arg0) = m' ((c.tc : Thread Cert.NsaBranchRefIdeal.nD Cert.NsaBranchRefIdeal.τ).loc Cert.NsaBranchRefIdeal.main_arg0)
          ∧ r.2.mem ((c.tc : Thread Cert.NsaBranchRefIdeal.nD Cert.NsaBranchRefIdeal.τ).loc Cert.NsaBranchRefIdeal.main_arg1) = m' ((c.tc : Thread Cert.NsaBranchRefIdeal.nD Cert.NsaBranchRefIdeal.τ).loc Cert.NsaBranchRefIdeal.main_arg1))

def preserves_MlaUq_MlaUqIdeal : Prop :=
  True

def algebraic_MlaUqIdeal_MlaUqRefIdeal [hMlaUqIdeal : Cert.MlaUqIdeal.Facts] [hMlaUqRefIdeal : Cert.MlaUqRefIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqRefIdeal.nD Cert.MlaUqRefIdeal.τ Cert.MlaUqRefIdeal.sig) → Buf (Elt Ideal) ℓ) (g' : Dev Cert.MlaUqRefIdeal.nD → PrngReg), Pre_MlaUqIdeal m →
    (∀ c : Dev Cert.MlaUqIdeal.nD,
      m' ((c.tc : Thread Cert.MlaUqRefIdeal.nD Cert.MlaUqRefIdeal.τ).loc Cert.MlaUqRefIdeal.main_arg0) = m ((c.tc : Thread Cert.MlaUqIdeal.nD Cert.MlaUqIdeal.τ).loc Cert.MlaUqIdeal.main_arg0)
      ∧ m' ((c.tc : Thread Cert.MlaUqRefIdeal.nD Cert.MlaUqRefIdeal.τ).loc Cert.MlaUqRefIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v7)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v7) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqRefIdeal.defs (F := Ideal)) (onTc (τ := Cert.MlaUqRefIdeal.τ) (Cert.MlaUqRefIdeal.main (F := Ideal))) ⟨m', fun _ => 0, g'⟩ (fun r => ∀ c : Dev Cert.MlaUqRefIdeal.nD,
          r.2.mem ((c.tc : Thread Cert.MlaUqRefIdeal.nD Cert.MlaUqRefIdeal.τ).loc Cert.MlaUqRefIdeal.main_v6) = v0 c
          ∧ r.2.mem ((c.tc : Thread Cert.MlaUqRefIdeal.nD Cert.MlaUqRefIdeal.τ).loc Cert.MlaUqRefIdeal.main_arg0) = m' ((c.tc : Thread Cert.MlaUqRefIdeal.nD Cert.MlaUqRefIdeal.τ).loc Cert.MlaUqRefIdeal.main_arg0)
          ∧ r.2.mem ((c.tc : Thread Cert.MlaUqRefIdeal.nD Cert.MlaUqRefIdeal.τ).loc Cert.MlaUqRefIdeal.main_arg1) = m' ((c.tc : Thread Cert.MlaUqRefIdeal.nD Cert.MlaUqRefIdeal.τ).loc Cert.MlaUqRefIdeal.main_arg1))

def preserves_MlaUk_MlaUkIdeal : Prop :=
  True

def algebraic_MlaUkIdeal_MlaUkRefIdeal [hMlaUkIdeal : Cert.MlaUkIdeal.Facts] [hMlaUkRefIdeal : Cert.MlaUkRefIdeal.Facts] : Prop :=
  ∀ (m : (ℓ : Loc Cert.MlaUkIdeal.nD Cert.MlaUkIdeal.τ Cert.MlaUkIdeal.sig) → Buf (Elt Ideal) ℓ) (g : Dev Cert.MlaUkIdeal.nD → PrngReg)
    (m' : (ℓ : Loc Cert.MlaUkRefIdeal.nD Cert.MlaUkRefIdeal.τ Cert.MlaUkRefIdeal.sig) → Buf (Elt Ideal) ℓ) (g' : Dev Cert.MlaUkRefIdeal.nD → PrngReg), Pre_MlaUkIdeal m →
    (∀ c : Dev Cert.MlaUkIdeal.nD,
      m' ((c.tc : Thread Cert.MlaUkRefIdeal.nD Cert.MlaUkRefIdeal.τ).loc Cert.MlaUkRefIdeal.main_arg0) = m ((c.tc : Thread Cert.MlaUkIdeal.nD Cert.MlaUkIdeal.τ).loc Cert.MlaUkIdeal.main_arg0)
      ∧ m' ((c.tc : Thread Cert.MlaUkRefIdeal.nD Cert.MlaUkRefIdeal.τ).loc Cert.MlaUkRefIdeal.main_arg1) = m ((c.tc : Thread Cert.MlaUkIdeal.nD Cert.MlaUkIdeal.τ).loc Cert.MlaUkIdeal.main_arg1)) →
    ∃ (v0 : (c : Dev Cert.MlaUkIdeal.nD) → Buf (Elt Ideal) ((c.tc : Thread Cert.MlaUkIdeal.nD Cert.MlaUkIdeal.τ).loc Cert.MlaUkIdeal.main_v2)),
      θ_run (Cert.MlaUkIdeal.defs (F := Ideal)) (onTc (τ := Cert.MlaUkIdeal.τ) (Cert.MlaUkIdeal.main (F := Ideal))) ⟨m, fun _ => 0, g⟩ (fun r => ∀ c : Dev Cert.MlaUkIdeal.nD,
          r.2.mem ((c.tc : Thread Cert.MlaUkIdeal.nD Cert.MlaUkIdeal.τ).loc Cert.MlaUkIdeal.main_v2) = v0 c
          ∧ r.2.mem ((c.tc : Thread Cert.MlaUkIdeal.nD Cert.MlaUkIdeal.τ).loc Cert.MlaUkIdeal.main_arg0) = m ((c.tc : Thread Cert.MlaUkIdeal.nD Cert.MlaUkIdeal.τ).loc Cert.MlaUkIdeal.main_arg0)
          ∧ r.2.mem ((c.tc : Thread Cert.MlaUkIdeal.nD Cert.MlaUkIdeal.τ).loc Cert.MlaUkIdeal.main_arg1) = m ((c.tc : Thread Cert.MlaUkIdeal.nD Cert.MlaUkIdeal.τ).loc Cert.MlaUkIdeal.main_arg1))
      ∧ θ_run (Cert.MlaUkRefIdeal.defs (F := Ideal)) (onTc (τ := Cert.MlaUkRefIdeal.τ) (Cert.MlaUkRefIdeal.main (F := Ideal))) ⟨m', fun _ => 0, g'⟩ (fun r => ∀ c : Dev Cert.MlaUkRefIdeal.nD,
          r.2.mem ((c.tc : Thread Cert.MlaUkRefIdeal.nD Cert.MlaUkRefIdeal.τ).loc Cert.MlaUkRefIdeal.main_v2) = v0 c
          ∧ r.2.mem ((c.tc : Thread Cert.MlaUkRefIdeal.nD Cert.MlaUkRefIdeal.τ).loc Cert.MlaUkRefIdeal.main_arg0) = m' ((c.tc : Thread Cert.MlaUkRefIdeal.nD Cert.MlaUkRefIdeal.τ).loc Cert.MlaUkRefIdeal.main_arg0)
          ∧ r.2.mem ((c.tc : Thread Cert.MlaUkRefIdeal.nD Cert.MlaUkRefIdeal.τ).loc Cert.MlaUkRefIdeal.main_arg1) = m' ((c.tc : Thread Cert.MlaUkRefIdeal.nD Cert.MlaUkRefIdeal.τ).loc Cert.MlaUkRefIdeal.main_arg1))

def preserves_MlaUv_MlaUvIdeal : Prop :=
  True

def algebraic_MlaUvIdeal_MlaUvRefIdeal [hMlaUvIdeal : Cert.MlaUvIdeal.Facts] [hMlaUvRefIdeal : Cert.MlaUvRefIdeal.Facts] : Prop :=
  ∀ (m : (ℓ : Loc Cert.MlaUvIdeal.nD Cert.MlaUvIdeal.τ Cert.MlaUvIdeal.sig) → Buf (Elt Ideal) ℓ) (g : Dev Cert.MlaUvIdeal.nD → PrngReg)
    (m' : (ℓ : Loc Cert.MlaUvRefIdeal.nD Cert.MlaUvRefIdeal.τ Cert.MlaUvRefIdeal.sig) → Buf (Elt Ideal) ℓ) (g' : Dev Cert.MlaUvRefIdeal.nD → PrngReg), Pre_MlaUvIdeal m →
    (∀ c : Dev Cert.MlaUvIdeal.nD,
      m' ((c.tc : Thread Cert.MlaUvRefIdeal.nD Cert.MlaUvRefIdeal.τ).loc Cert.MlaUvRefIdeal.main_arg0) = m ((c.tc : Thread Cert.MlaUvIdeal.nD Cert.MlaUvIdeal.τ).loc Cert.MlaUvIdeal.main_arg0)
      ∧ m' ((c.tc : Thread Cert.MlaUvRefIdeal.nD Cert.MlaUvRefIdeal.τ).loc Cert.MlaUvRefIdeal.main_arg1) = m ((c.tc : Thread Cert.MlaUvIdeal.nD Cert.MlaUvIdeal.τ).loc Cert.MlaUvIdeal.main_arg1)) →
    ∃ (v0 : (c : Dev Cert.MlaUvIdeal.nD) → Buf (Elt Ideal) ((c.tc : Thread Cert.MlaUvIdeal.nD Cert.MlaUvIdeal.τ).loc Cert.MlaUvIdeal.main_v2)),
      θ_run (Cert.MlaUvIdeal.defs (F := Ideal)) (onTc (τ := Cert.MlaUvIdeal.τ) (Cert.MlaUvIdeal.main (F := Ideal))) ⟨m, fun _ => 0, g⟩ (fun r => ∀ c : Dev Cert.MlaUvIdeal.nD,
          r.2.mem ((c.tc : Thread Cert.MlaUvIdeal.nD Cert.MlaUvIdeal.τ).loc Cert.MlaUvIdeal.main_v2) = v0 c
          ∧ r.2.mem ((c.tc : Thread Cert.MlaUvIdeal.nD Cert.MlaUvIdeal.τ).loc Cert.MlaUvIdeal.main_arg0) = m ((c.tc : Thread Cert.MlaUvIdeal.nD Cert.MlaUvIdeal.τ).loc Cert.MlaUvIdeal.main_arg0)
          ∧ r.2.mem ((c.tc : Thread Cert.MlaUvIdeal.nD Cert.MlaUvIdeal.τ).loc Cert.MlaUvIdeal.main_arg1) = m ((c.tc : Thread Cert.MlaUvIdeal.nD Cert.MlaUvIdeal.τ).loc Cert.MlaUvIdeal.main_arg1))
      ∧ θ_run (Cert.MlaUvRefIdeal.defs (F := Ideal)) (onTc (τ := Cert.MlaUvRefIdeal.τ) (Cert.MlaUvRefIdeal.main (F := Ideal))) ⟨m', fun _ => 0, g'⟩ (fun r => ∀ c : Dev Cert.MlaUvRefIdeal.nD,
          r.2.mem ((c.tc : Thread Cert.MlaUvRefIdeal.nD Cert.MlaUvRefIdeal.τ).loc Cert.MlaUvRefIdeal.main_v4) = v0 c
          ∧ r.2.mem ((c.tc : Thread Cert.MlaUvRefIdeal.nD Cert.MlaUvRefIdeal.τ).loc Cert.MlaUvRefIdeal.main_arg0) = m' ((c.tc : Thread Cert.MlaUvRefIdeal.nD Cert.MlaUvRefIdeal.τ).loc Cert.MlaUvRefIdeal.main_arg0)
          ∧ r.2.mem ((c.tc : Thread Cert.MlaUvRefIdeal.nD Cert.MlaUvRefIdeal.τ).loc Cert.MlaUvRefIdeal.main_arg1) = m' ((c.tc : Thread Cert.MlaUvRefIdeal.nD Cert.MlaUvRefIdeal.τ).loc Cert.MlaUvRefIdeal.main_arg1))

def preserves_NsaWin_NsaWinIdeal : Prop :=
  IdealRules.named_const.Statement Cert.NsaWinIdeal.κ "mask" .f32 0xF149F2CA#32 ⊥

def algebraic_NsaWinIdeal_NsaWinRefIdeal_pre_numbers [hNsaWinIdeal : Cert.NsaWinIdeal.Facts] [hNsaWinRefIdeal : Cert.NsaWinRefIdeal.Facts] [hPre_numbers : Cert.Pre_numbers.Facts] : Prop :=
  ∀ (m : (ℓ : Loc Cert.NsaWinIdeal.nD Cert.NsaWinIdeal.τ Cert.NsaWinIdeal.sig) → Buf (Elt Ideal) ℓ) (g : Dev Cert.NsaWinIdeal.nD → PrngReg)
    (m' : (ℓ : Loc Cert.NsaWinRefIdeal.nD Cert.NsaWinRefIdeal.τ Cert.NsaWinRefIdeal.sig) → Buf (Elt Ideal) ℓ) (g' : Dev Cert.NsaWinRefIdeal.nD → PrngReg), Pre_NsaWinIdeal_numbers m →
    (∀ c : Dev Cert.NsaWinIdeal.nD,
      m' ((c.tc : Thread Cert.NsaWinRefIdeal.nD Cert.NsaWinRefIdeal.τ).loc Cert.NsaWinRefIdeal.main_arg0) = m ((c.tc : Thread Cert.NsaWinIdeal.nD Cert.NsaWinIdeal.τ).loc Cert.NsaWinIdeal.main_arg0)
      ∧ m' ((c.tc : Thread Cert.NsaWinRefIdeal.nD Cert.NsaWinRefIdeal.τ).loc Cert.NsaWinRefIdeal.main_arg1) = m ((c.tc : Thread Cert.NsaWinIdeal.nD Cert.NsaWinIdeal.τ).loc Cert.NsaWinIdeal.main_arg1)) →
    ∃ (v0 : (c : Dev Cert.NsaWinIdeal.nD) → Buf (Elt Ideal) ((c.tc : Thread Cert.NsaWinIdeal.nD Cert.NsaWinIdeal.τ).loc Cert.NsaWinIdeal.main_v0)),
      θ_run (Cert.NsaWinIdeal.defs (F := Ideal)) (onTc (τ := Cert.NsaWinIdeal.τ) (Cert.NsaWinIdeal.main (F := Ideal))) ⟨m, fun _ => 0, g⟩ (fun r => ∀ c : Dev Cert.NsaWinIdeal.nD,
          r.2.mem ((c.tc : Thread Cert.NsaWinIdeal.nD Cert.NsaWinIdeal.τ).loc Cert.NsaWinIdeal.main_v0) = v0 c
          ∧ r.2.mem ((c.tc : Thread Cert.NsaWinIdeal.nD Cert.NsaWinIdeal.τ).loc Cert.NsaWinIdeal.main_arg0) = m ((c.tc : Thread Cert.NsaWinIdeal.nD Cert.NsaWinIdeal.τ).loc Cert.NsaWinIdeal.main_arg0)
          ∧ r.2.mem ((c.tc : Thread Cert.NsaWinIdeal.nD Cert.NsaWinIdeal.τ).loc Cert.NsaWinIdeal.main_arg1) = m ((c.tc : Thread Cert.NsaWinIdeal.nD Cert.NsaWinIdeal.τ).loc Cert.NsaWinIdeal.main_arg1))
      ∧ θ_run (Cert.NsaWinRefIdeal.defs (F := Ideal)) (onTc (τ := Cert.NsaWinRefIdeal.τ) (Cert.NsaWinRefIdeal.main (F := Ideal))) ⟨m', fun _ => 0, g'⟩ (fun r => ∀ c : Dev Cert.NsaWinRefIdeal.nD,
          r.2.mem ((c.tc : Thread Cert.NsaWinRefIdeal.nD Cert.NsaWinRefIdeal.τ).loc Cert.NsaWinRefIdeal.main_v35) = v0 c
          ∧ r.2.mem ((c.tc : Thread Cert.NsaWinRefIdeal.nD Cert.NsaWinRefIdeal.τ).loc Cert.NsaWinRefIdeal.main_arg0) = m' ((c.tc : Thread Cert.NsaWinRefIdeal.nD Cert.NsaWinRefIdeal.τ).loc Cert.NsaWinRefIdeal.main_arg0)
          ∧ r.2.mem ((c.tc : Thread Cert.NsaWinRefIdeal.nD Cert.NsaWinRefIdeal.τ).loc Cert.NsaWinRefIdeal.main_arg1) = m' ((c.tc : Thread Cert.NsaWinRefIdeal.nD Cert.NsaWinRefIdeal.τ).loc Cert.NsaWinRefIdeal.main_arg1))

def preserves_NsaSel_NsaSelIdeal : Prop :=
  IdealRules.named_const.Statement Cert.NsaSelIdeal.κ "mask" .f32 0xF149F2CA#32 ⊥

def algebraic_NsaSelIdeal_NsaSelRefIdeal_pre_chosen [hNsaSelIdeal : Cert.NsaSelIdeal.Facts] [hNsaSelRefIdeal : Cert.NsaSelRefIdeal.Facts] [hPre_chosen : Cert.Pre_chosen.Facts] : Prop :=
  ∀ (m : (ℓ : Loc Cert.NsaSelIdeal.nD Cert.NsaSelIdeal.τ Cert.NsaSelIdeal.sig) → Buf (Elt Ideal) ℓ) (g : Dev Cert.NsaSelIdeal.nD → PrngReg)
    (m' : (ℓ : Loc Cert.NsaSelRefIdeal.nD Cert.NsaSelRefIdeal.τ Cert.NsaSelRefIdeal.sig) → Buf (Elt Ideal) ℓ) (g' : Dev Cert.NsaSelRefIdeal.nD → PrngReg), Pre_NsaSelIdeal_chosen m →
    (∀ c : Dev Cert.NsaSelIdeal.nD,
      m' ((c.tc : Thread Cert.NsaSelRefIdeal.nD Cert.NsaSelRefIdeal.τ).loc Cert.NsaSelRefIdeal.main_arg0) = m ((c.tc : Thread Cert.NsaSelIdeal.nD Cert.NsaSelIdeal.τ).loc Cert.NsaSelIdeal.main_arg0)
      ∧ m' ((c.tc : Thread Cert.NsaSelRefIdeal.nD Cert.NsaSelRefIdeal.τ).loc Cert.NsaSelRefIdeal.main_arg1) = m ((c.tc : Thread Cert.NsaSelIdeal.nD Cert.NsaSelIdeal.τ).loc Cert.NsaSelIdeal.main_arg1)
      ∧ m' ((c.tc : Thread Cert.NsaSelRefIdeal.nD Cert.NsaSelRefIdeal.τ).loc Cert.NsaSelRefIdeal.main_arg2) = m ((c.tc : Thread Cert.NsaSelIdeal.nD Cert.NsaSelIdeal.τ).loc Cert.NsaSelIdeal.main_arg2)) →
    ∃ (v0 : (c : Dev Cert.NsaSelIdeal.nD) → Buf (Elt Ideal) ((c.tc : Thread Cert.NsaSelIdeal.nD Cert.NsaSelIdeal.τ).loc Cert.NsaSelIdeal.main_v0)),
      θ_run (Cert.NsaSelIdeal.defs (F := Ideal)) (onTc (τ := Cert.NsaSelIdeal.τ) (Cert.NsaSelIdeal.main (F := Ideal))) ⟨m, fun _ => 0, g⟩ (fun r => ∀ c : Dev Cert.NsaSelIdeal.nD,
          r.2.mem ((c.tc : Thread Cert.NsaSelIdeal.nD Cert.NsaSelIdeal.τ).loc Cert.NsaSelIdeal.main_v0) = v0 c
          ∧ r.2.mem ((c.tc : Thread Cert.NsaSelIdeal.nD Cert.NsaSelIdeal.τ).loc Cert.NsaSelIdeal.main_arg0) = m ((c.tc : Thread Cert.NsaSelIdeal.nD Cert.NsaSelIdeal.τ).loc Cert.NsaSelIdeal.main_arg0)
          ∧ r.2.mem ((c.tc : Thread Cert.NsaSelIdeal.nD Cert.NsaSelIdeal.τ).loc Cert.NsaSelIdeal.main_arg1) = m ((c.tc : Thread Cert.NsaSelIdeal.nD Cert.NsaSelIdeal.τ).loc Cert.NsaSelIdeal.main_arg1)
          ∧ r.2.mem ((c.tc : Thread Cert.NsaSelIdeal.nD Cert.NsaSelIdeal.τ).loc Cert.NsaSelIdeal.main_arg2) = m ((c.tc : Thread Cert.NsaSelIdeal.nD Cert.NsaSelIdeal.τ).loc Cert.NsaSelIdeal.main_arg2))
      ∧ θ_run (Cert.NsaSelRefIdeal.defs (F := Ideal)) (onTc (τ := Cert.NsaSelRefIdeal.τ) (Cert.NsaSelRefIdeal.main (F := Ideal))) ⟨m', fun _ => 0, g'⟩ (fun r => ∀ c : Dev Cert.NsaSelRefIdeal.nD,
          r.2.mem ((c.tc : Thread Cert.NsaSelRefIdeal.nD Cert.NsaSelRefIdeal.τ).loc Cert.NsaSelRefIdeal.main_v34) = v0 c
          ∧ r.2.mem ((c.tc : Thread Cert.NsaSelRefIdeal.nD Cert.NsaSelRefIdeal.τ).loc Cert.NsaSelRefIdeal.main_arg0) = m' ((c.tc : Thread Cert.NsaSelRefIdeal.nD Cert.NsaSelRefIdeal.τ).loc Cert.NsaSelRefIdeal.main_arg0)
          ∧ r.2.mem ((c.tc : Thread Cert.NsaSelRefIdeal.nD Cert.NsaSelRefIdeal.τ).loc Cert.NsaSelRefIdeal.main_arg1) = m' ((c.tc : Thread Cert.NsaSelRefIdeal.nD Cert.NsaSelRefIdeal.τ).loc Cert.NsaSelRefIdeal.main_arg1)
          ∧ r.2.mem ((c.tc : Thread Cert.NsaSelRefIdeal.nD Cert.NsaSelRefIdeal.τ).loc Cert.NsaSelRefIdeal.main_arg2) = m' ((c.tc : Thread Cert.NsaSelRefIdeal.nD Cert.NsaSelRefIdeal.τ).loc Cert.NsaSelRefIdeal.main_arg2))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v0) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1))

def preserves_PhiOne_PhiOneIdeal : Prop :=
  True

def algebraic_PhiOneIdeal_PhiOneRefIdeal [hPhiOneIdeal : Cert.PhiOneIdeal.Facts] [hPhiOneRefIdeal : Cert.PhiOneRefIdeal.Facts] : Prop :=
  ∀ (m : (ℓ : Loc Cert.PhiOneIdeal.nD Cert.PhiOneIdeal.τ Cert.PhiOneIdeal.sig) → Buf (Elt Ideal) ℓ) (g : Dev Cert.PhiOneIdeal.nD → PrngReg)
    (m' : (ℓ : Loc Cert.PhiOneRefIdeal.nD Cert.PhiOneRefIdeal.τ Cert.PhiOneRefIdeal.sig) → Buf (Elt Ideal) ℓ) (g' : Dev Cert.PhiOneRefIdeal.nD → PrngReg), Pre_PhiOneIdeal m →
    (∀ c : Dev Cert.PhiOneIdeal.nD,
      m' ((c.tc : Thread Cert.PhiOneRefIdeal.nD Cert.PhiOneRefIdeal.τ).loc Cert.PhiOneRefIdeal.main_arg0) = m ((c.tc : Thread Cert.PhiOneIdeal.nD Cert.PhiOneIdeal.τ).loc Cert.PhiOneIdeal.main_arg0)
      ∧ m' ((c.tc : Thread Cert.PhiOneRefIdeal.nD Cert.PhiOneRefIdeal.τ).loc Cert.PhiOneRefIdeal.main_arg1) = m ((c.tc : Thread Cert.PhiOneIdeal.nD Cert.PhiOneIdeal.τ).loc Cert.PhiOneIdeal.main_arg1)
      ∧ m' ((c.tc : Thread Cert.PhiOneRefIdeal.nD Cert.PhiOneRefIdeal.τ).loc Cert.PhiOneRefIdeal.main_arg2) = m ((c.tc : Thread Cert.PhiOneIdeal.nD Cert.PhiOneIdeal.τ).loc Cert.PhiOneIdeal.main_arg2)) →
    ∃ (v0 : (c : Dev Cert.PhiOneIdeal.nD) → Buf (Elt Ideal) ((c.tc : Thread Cert.PhiOneIdeal.nD Cert.PhiOneIdeal.τ).loc Cert.PhiOneIdeal.main_v19)),
      θ_run (Cert.PhiOneIdeal.defs (F := Ideal)) (onTc (τ := Cert.PhiOneIdeal.τ) (Cert.PhiOneIdeal.main (F := Ideal))) ⟨m, fun _ => 0, g⟩ (fun r => ∀ c : Dev Cert.PhiOneIdeal.nD,
          r.2.mem ((c.tc : Thread Cert.PhiOneIdeal.nD Cert.PhiOneIdeal.τ).loc Cert.PhiOneIdeal.main_v19) = v0 c
          ∧ r.2.mem ((c.tc : Thread Cert.PhiOneIdeal.nD Cert.PhiOneIdeal.τ).loc Cert.PhiOneIdeal.main_arg0) = m ((c.tc : Thread Cert.PhiOneIdeal.nD Cert.PhiOneIdeal.τ).loc Cert.PhiOneIdeal.main_arg0)
          ∧ r.2.mem ((c.tc : Thread Cert.PhiOneIdeal.nD Cert.PhiOneIdeal.τ).loc Cert.PhiOneIdeal.main_arg1) = m ((c.tc : Thread Cert.PhiOneIdeal.nD Cert.PhiOneIdeal.τ).loc Cert.PhiOneIdeal.main_arg1)
          ∧ r.2.mem ((c.tc : Thread Cert.PhiOneIdeal.nD Cert.PhiOneIdeal.τ).loc Cert.PhiOneIdeal.main_arg2) = m ((c.tc : Thread Cert.PhiOneIdeal.nD Cert.PhiOneIdeal.τ).loc Cert.PhiOneIdeal.main_arg2))
      ∧ θ_run (Cert.PhiOneRefIdeal.defs (F := Ideal)) (onTc (τ := Cert.PhiOneRefIdeal.τ) (Cert.PhiOneRefIdeal.main (F := Ideal))) ⟨m', fun _ => 0, g'⟩ (fun r => ∀ c : Dev Cert.PhiOneRefIdeal.nD,
          r.2.mem ((c.tc : Thread Cert.PhiOneRefIdeal.nD Cert.PhiOneRefIdeal.τ).loc Cert.PhiOneRefIdeal.main_v8) = v0 c
          ∧ r.2.mem ((c.tc : Thread Cert.PhiOneRefIdeal.nD Cert.PhiOneRefIdeal.τ).loc Cert.PhiOneRefIdeal.main_arg0) = m' ((c.tc : Thread Cert.PhiOneRefIdeal.nD Cert.PhiOneRefIdeal.τ).loc Cert.PhiOneRefIdeal.main_arg0)
          ∧ r.2.mem ((c.tc : Thread Cert.PhiOneRefIdeal.nD Cert.PhiOneRefIdeal.τ).loc Cert.PhiOneRefIdeal.main_arg1) = m' ((c.tc : Thread Cert.PhiOneRefIdeal.nD Cert.PhiOneRefIdeal.τ).loc Cert.PhiOneRefIdeal.main_arg1)
          ∧ r.2.mem ((c.tc : Thread Cert.PhiOneRefIdeal.nD Cert.PhiOneRefIdeal.τ).loc Cert.PhiOneRefIdeal.main_arg2) = m' ((c.tc : Thread Cert.PhiOneRefIdeal.nD Cert.PhiOneRefIdeal.τ).loc Cert.PhiOneRefIdeal.main_arg2))

def preserves_PhiTwo_PhiTwoIdeal : Prop :=
  True

def algebraic_PhiTwoIdeal_PhiTwoRefIdeal [hPhiTwoIdeal : Cert.PhiTwoIdeal.Facts] [hPhiTwoRefIdeal : Cert.PhiTwoRefIdeal.Facts] : Prop :=
  ∀ (m : (ℓ : Loc Cert.PhiTwoIdeal.nD Cert.PhiTwoIdeal.τ Cert.PhiTwoIdeal.sig) → Buf (Elt Ideal) ℓ) (g : Dev Cert.PhiTwoIdeal.nD → PrngReg)
    (m' : (ℓ : Loc Cert.PhiTwoRefIdeal.nD Cert.PhiTwoRefIdeal.τ Cert.PhiTwoRefIdeal.sig) → Buf (Elt Ideal) ℓ) (g' : Dev Cert.PhiTwoRefIdeal.nD → PrngReg), Pre_PhiTwoIdeal m →
    (∀ c : Dev Cert.PhiTwoIdeal.nD,
      m' ((c.tc : Thread Cert.PhiTwoRefIdeal.nD Cert.PhiTwoRefIdeal.τ).loc Cert.PhiTwoRefIdeal.main_arg0) = m ((c.tc : Thread Cert.PhiTwoIdeal.nD Cert.PhiTwoIdeal.τ).loc Cert.PhiTwoIdeal.main_arg0)
      ∧ m' ((c.tc : Thread Cert.PhiTwoRefIdeal.nD Cert.PhiTwoRefIdeal.τ).loc Cert.PhiTwoRefIdeal.main_arg1) = m ((c.tc : Thread Cert.PhiTwoIdeal.nD Cert.PhiTwoIdeal.τ).loc Cert.PhiTwoIdeal.main_arg1)) →
    ∃ (v0 : (c : Dev Cert.PhiTwoIdeal.nD) → Buf (Elt Ideal) ((c.tc : Thread Cert.PhiTwoIdeal.nD Cert.PhiTwoIdeal.τ).loc Cert.PhiTwoIdeal.main_v9)),
      θ_run (Cert.PhiTwoIdeal.defs (F := Ideal)) (onTc (τ := Cert.PhiTwoIdeal.τ) (Cert.PhiTwoIdeal.main (F := Ideal))) ⟨m, fun _ => 0, g⟩ (fun r => ∀ c : Dev Cert.PhiTwoIdeal.nD,
          r.2.mem ((c.tc : Thread Cert.PhiTwoIdeal.nD Cert.PhiTwoIdeal.τ).loc Cert.PhiTwoIdeal.main_v9) = v0 c
          ∧ r.2.mem ((c.tc : Thread Cert.PhiTwoIdeal.nD Cert.PhiTwoIdeal.τ).loc Cert.PhiTwoIdeal.main_arg0) = m ((c.tc : Thread Cert.PhiTwoIdeal.nD Cert.PhiTwoIdeal.τ).loc Cert.PhiTwoIdeal.main_arg0)
          ∧ r.2.mem ((c.tc : Thread Cert.PhiTwoIdeal.nD Cert.PhiTwoIdeal.τ).loc Cert.PhiTwoIdeal.main_arg1) = m ((c.tc : Thread Cert.PhiTwoIdeal.nD Cert.PhiTwoIdeal.τ).loc Cert.PhiTwoIdeal.main_arg1))
      ∧ θ_run (Cert.PhiTwoRefIdeal.defs (F := Ideal)) (onTc (τ := Cert.PhiTwoRefIdeal.τ) (Cert.PhiTwoRefIdeal.main (F := Ideal))) ⟨m', fun _ => 0, g'⟩ (fun r => ∀ c : Dev Cert.PhiTwoRefIdeal.nD,
          r.2.mem ((c.tc : Thread Cert.PhiTwoRefIdeal.nD Cert.PhiTwoRefIdeal.τ).loc Cert.PhiTwoRefIdeal.main_v3) = v0 c
          ∧ r.2.mem ((c.tc : Thread Cert.PhiTwoRefIdeal.nD Cert.PhiTwoRefIdeal.τ).loc Cert.PhiTwoRefIdeal.main_arg0) = m' ((c.tc : Thread Cert.PhiTwoRefIdeal.nD Cert.PhiTwoRefIdeal.τ).loc Cert.PhiTwoRefIdeal.main_arg0)
          ∧ r.2.mem ((c.tc : Thread Cert.PhiTwoRefIdeal.nD Cert.PhiTwoRefIdeal.τ).loc Cert.PhiTwoRefIdeal.main_arg1) = m' ((c.tc : Thread Cert.PhiTwoRefIdeal.nD Cert.PhiTwoRefIdeal.τ).loc Cert.PhiTwoRefIdeal.main_arg1))

def preserves_NsaCmp_NsaCmpIdeal : Prop :=
  IdealRules.named_const.Statement Cert.NsaCmpIdeal.κ "mask" .f32 0xF149F2CA#32 ⊥

def algebraic_NsaCmpIdeal_NsaCmpRefIdeal_pre_known [hNsaCmpIdeal : Cert.NsaCmpIdeal.Facts] [hNsaCmpRefIdeal : Cert.NsaCmpRefIdeal.Facts] [hPre_known : Cert.Pre_known.Facts] : Prop :=
  ∀ (m : (ℓ : Loc Cert.NsaCmpIdeal.nD Cert.NsaCmpIdeal.τ Cert.NsaCmpIdeal.sig) → Buf (Elt Ideal) ℓ) (g : Dev Cert.NsaCmpIdeal.nD → PrngReg)
    (m' : (ℓ : Loc Cert.NsaCmpRefIdeal.nD Cert.NsaCmpRefIdeal.τ Cert.NsaCmpRefIdeal.sig) → Buf (Elt Ideal) ℓ) (g' : Dev Cert.NsaCmpRefIdeal.nD → PrngReg), Pre_NsaCmpIdeal_known m →
    (∀ c : Dev Cert.NsaCmpIdeal.nD,
      m' ((c.tc : Thread Cert.NsaCmpRefIdeal.nD Cert.NsaCmpRefIdeal.τ).loc Cert.NsaCmpRefIdeal.main_arg0) = m ((c.tc : Thread Cert.NsaCmpIdeal.nD Cert.NsaCmpIdeal.τ).loc Cert.NsaCmpIdeal.main_arg0)
      ∧ m' ((c.tc : Thread Cert.NsaCmpRefIdeal.nD Cert.NsaCmpRefIdeal.τ).loc Cert.NsaCmpRefIdeal.main_arg1) = m ((c.tc : Thread Cert.NsaCmpIdeal.nD Cert.NsaCmpIdeal.τ).loc Cert.NsaCmpIdeal.main_arg1)) →
    ∃ (v0 : (c : Dev Cert.NsaCmpIdeal.nD) → Buf (Elt Ideal) ((c.tc : Thread Cert.NsaCmpIdeal.nD Cert.NsaCmpIdeal.τ).loc Cert.NsaCmpIdeal.main_v0_0)) (v1 : (c : Dev Cert.NsaCmpIdeal.nD) → Buf (Elt Ideal) ((c.tc : Thread Cert.NsaCmpIdeal.nD Cert.NsaCmpIdeal.τ).loc Cert.NsaCmpIdeal.main_v0_1)),
      θ_run (Cert.NsaCmpIdeal.defs (F := Ideal)) (onTc (τ := Cert.NsaCmpIdeal.τ) (Cert.NsaCmpIdeal.main (F := Ideal))) ⟨m, fun _ => 0, g⟩ (fun r => ∀ c : Dev Cert.NsaCmpIdeal.nD,
          r.2.mem ((c.tc : Thread Cert.NsaCmpIdeal.nD Cert.NsaCmpIdeal.τ).loc Cert.NsaCmpIdeal.main_v0_0) = v0 c
          ∧ r.2.mem ((c.tc : Thread Cert.NsaCmpIdeal.nD Cert.NsaCmpIdeal.τ).loc Cert.NsaCmpIdeal.main_v0_1) = v1 c
          ∧ r.2.mem ((c.tc : Thread Cert.NsaCmpIdeal.nD Cert.NsaCmpIdeal.τ).loc Cert.NsaCmpIdeal.main_arg0) = m ((c.tc : Thread Cert.NsaCmpIdeal.nD Cert.NsaCmpIdeal.τ).loc Cert.NsaCmpIdeal.main_arg0)
          ∧ r.2.mem ((c.tc : Thread Cert.NsaCmpIdeal.nD Cert.NsaCmpIdeal.τ).loc Cert.NsaCmpIdeal.main_arg1) = m ((c.tc : Thread Cert.NsaCmpIdeal.nD Cert.NsaCmpIdeal.τ).loc Cert.NsaCmpIdeal.main_arg1))
      ∧ θ_run (Cert.NsaCmpRefIdeal.defs (F := Ideal)) (onTc (τ := Cert.NsaCmpRefIdeal.τ) (Cert.NsaCmpRefIdeal.main (F := Ideal))) ⟨m', fun _ => 0, g'⟩ (fun r => ∀ c : Dev Cert.NsaCmpRefIdeal.nD,
          r.2.mem ((c.tc : Thread Cert.NsaCmpRefIdeal.nD Cert.NsaCmpRefIdeal.τ).loc Cert.NsaCmpRefIdeal.main_v34) = v0 c
          ∧ r.2.mem ((c.tc : Thread Cert.NsaCmpRefIdeal.nD Cert.NsaCmpRefIdeal.τ).loc Cert.NsaCmpRefIdeal.main_v35) = v1 c
          ∧ r.2.mem ((c.tc : Thread Cert.NsaCmpRefIdeal.nD Cert.NsaCmpRefIdeal.τ).loc Cert.NsaCmpRefIdeal.main_arg0) = m' ((c.tc : Thread Cert.NsaCmpRefIdeal.nD Cert.NsaCmpRefIdeal.τ).loc Cert.NsaCmpRefIdeal.main_arg0)
          ∧ r.2.mem ((c.tc : Thread Cert.NsaCmpRefIdeal.nD Cert.NsaCmpRefIdeal.τ).loc Cert.NsaCmpRefIdeal.main_arg1) = m' ((c.tc : Thread Cert.NsaCmpRefIdeal.nD Cert.NsaCmpRefIdeal.τ).loc Cert.NsaCmpRefIdeal.main_arg1))

def preserves_Moe_MoeIdeal : Prop :=
  True

def algebraic_MoeIdeal_MoeRefIdeal [hMoeIdeal : Cert.MoeIdeal.Facts] [hMoeRefIdeal : Cert.MoeRefIdeal.Facts] [hPre_tables : Cert.Pre_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v63) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def Claim : Prop :=
  ∃ (hMla : Cert.Mla.Facts) (hMlaIdeal : Cert.MlaIdeal.Facts) (hMlaRefIdeal : Cert.MlaRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hBranch : Cert.Branch.Facts) (hBranchIdeal : Cert.BranchIdeal.Facts) (hBranchRefIdeal : Cert.BranchRefIdeal.Facts) (hNsaBranch : Cert.NsaBranch.Facts) (hNsaBranchIdeal : Cert.NsaBranchIdeal.Facts) (hNsaBranchRefIdeal : Cert.NsaBranchRefIdeal.Facts) (hMlaUq : Cert.MlaUq.Facts) (hMlaUqIdeal : Cert.MlaUqIdeal.Facts) (hMlaUqRefIdeal : Cert.MlaUqRefIdeal.Facts) (hMlaUk : Cert.MlaUk.Facts) (hMlaUkIdeal : Cert.MlaUkIdeal.Facts) (hMlaUkRefIdeal : Cert.MlaUkRefIdeal.Facts) (hMlaUv : Cert.MlaUv.Facts) (hMlaUvIdeal : Cert.MlaUvIdeal.Facts) (hMlaUvRefIdeal : Cert.MlaUvRefIdeal.Facts) (hNsaWin : Cert.NsaWin.Facts) (hNsaWinIdeal : Cert.NsaWinIdeal.Facts) (hNsaWinRefIdeal : Cert.NsaWinRefIdeal.Facts) (hNsaSel : Cert.NsaSel.Facts) (hNsaSelIdeal : Cert.NsaSelIdeal.Facts) (hNsaSelRefIdeal : Cert.NsaSelRefIdeal.Facts) (hRouter : Cert.Router.Facts) (hRouterIdeal : Cert.RouterIdeal.Facts) (hRouterRefIdeal : Cert.RouterRefIdeal.Facts) (hPhiOne : Cert.PhiOne.Facts) (hPhiOneIdeal : Cert.PhiOneIdeal.Facts) (hPhiOneRefIdeal : Cert.PhiOneRefIdeal.Facts) (hPhiTwo : Cert.PhiTwo.Facts) (hPhiTwoIdeal : Cert.PhiTwoIdeal.Facts) (hPhiTwoRefIdeal : Cert.PhiTwoRefIdeal.Facts) (hNsaCmp : Cert.NsaCmp.Facts) (hNsaCmpIdeal : Cert.NsaCmpIdeal.Facts) (hNsaCmpRefIdeal : Cert.NsaCmpRefIdeal.Facts) (hMoe : Cert.Moe.Facts) (hMoeIdeal : Cert.MoeIdeal.Facts) (hMoeRefIdeal : Cert.MoeRefIdeal.Facts) (hPre_finite : Cert.Pre_finite.Facts) (hPre_numbers : Cert.Pre_numbers.Facts) (hPre_chosen : Cert.Pre_chosen.Facts) (hPre_known : Cert.Pre_known.Facts) (hPre_tables : Cert.Pre_tables.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Branch (hBranch := hBranch)
    ∧ quiescent_BranchIdeal (hBranchIdeal := hBranchIdeal)
    ∧ quiescent_BranchRefIdeal (hBranchRefIdeal := hBranchRefIdeal)
    ∧ quiescent_NsaBranch (hNsaBranch := hNsaBranch)
    ∧ quiescent_NsaBranchIdeal (hNsaBranchIdeal := hNsaBranchIdeal)
    ∧ quiescent_NsaBranchRefIdeal (hNsaBranchRefIdeal := hNsaBranchRefIdeal)
    ∧ quiescent_MlaUq (hMlaUq := hMlaUq)
    ∧ quiescent_MlaUqIdeal (hMlaUqIdeal := hMlaUqIdeal)
    ∧ quiescent_MlaUqRefIdeal (hMlaUqRefIdeal := hMlaUqRefIdeal)
    ∧ quiescent_MlaUk (hMlaUk := hMlaUk)
    ∧ quiescent_MlaUkIdeal (hMlaUkIdeal := hMlaUkIdeal)
    ∧ quiescent_MlaUkRefIdeal (hMlaUkRefIdeal := hMlaUkRefIdeal)
    ∧ quiescent_MlaUv (hMlaUv := hMlaUv)
    ∧ quiescent_MlaUvIdeal (hMlaUvIdeal := hMlaUvIdeal)
    ∧ quiescent_MlaUvRefIdeal (hMlaUvRefIdeal := hMlaUvRefIdeal)
    ∧ quiescent_NsaWin (hNsaWin := hNsaWin)
    ∧ quiescent_NsaWinIdeal (hNsaWinIdeal := hNsaWinIdeal)
    ∧ quiescent_NsaWinIdeal_pre_numbers (hNsaWinIdeal := hNsaWinIdeal) (hPre_numbers := hPre_numbers)
    ∧ quiescent_NsaWinRefIdeal (hNsaWinRefIdeal := hNsaWinRefIdeal)
    ∧ quiescent_NsaWinRefIdeal_pre_numbers (hNsaWinRefIdeal := hNsaWinRefIdeal) (hPre_numbers := hPre_numbers)
    ∧ quiescent_NsaSel (hNsaSel := hNsaSel)
    ∧ quiescent_NsaSelIdeal (hNsaSelIdeal := hNsaSelIdeal)
    ∧ quiescent_NsaSelIdeal_pre_chosen (hNsaSelIdeal := hNsaSelIdeal) (hPre_chosen := hPre_chosen)
    ∧ quiescent_NsaSelRefIdeal (hNsaSelRefIdeal := hNsaSelRefIdeal)
    ∧ quiescent_NsaSelRefIdeal_pre_chosen (hNsaSelRefIdeal := hNsaSelRefIdeal) (hPre_chosen := hPre_chosen)
    ∧ quiescent_Router (hRouter := hRouter)
    ∧ quiescent_RouterIdeal (hRouterIdeal := hRouterIdeal)
    ∧ quiescent_RouterRefIdeal (hRouterRefIdeal := hRouterRefIdeal)
    ∧ quiescent_PhiOne (hPhiOne := hPhiOne)
    ∧ quiescent_PhiOneIdeal (hPhiOneIdeal := hPhiOneIdeal)
    ∧ quiescent_PhiOneRefIdeal (hPhiOneRefIdeal := hPhiOneRefIdeal)
    ∧ quiescent_PhiTwo (hPhiTwo := hPhiTwo)
    ∧ quiescent_PhiTwoIdeal (hPhiTwoIdeal := hPhiTwoIdeal)
    ∧ quiescent_PhiTwoRefIdeal (hPhiTwoRefIdeal := hPhiTwoRefIdeal)
    ∧ quiescent_NsaCmp (hNsaCmp := hNsaCmp)
    ∧ quiescent_NsaCmpIdeal (hNsaCmpIdeal := hNsaCmpIdeal)
    ∧ quiescent_NsaCmpIdeal_pre_known (hNsaCmpIdeal := hNsaCmpIdeal) (hPre_known := hPre_known)
    ∧ quiescent_NsaCmpRefIdeal (hNsaCmpRefIdeal := hNsaCmpRefIdeal)
    ∧ quiescent_NsaCmpRefIdeal_pre_known (hNsaCmpRefIdeal := hNsaCmpRefIdeal) (hPre_known := hPre_known)
    ∧ quiescent_Moe (hMoe := hMoe) (hPre_tables := hPre_tables)
    ∧ quiescent_MoeIdeal (hMoeIdeal := hMoeIdeal) (hPre_tables := hPre_tables)
    ∧ quiescent_MoeRefIdeal (hMoeRefIdeal := hMoeRefIdeal) (hPre_tables := hPre_tables)
    ∧ preserves_Mla_MlaIdeal
    ∧ algebraic_MlaIdeal_MlaRefIdeal_pre_finite (hMlaIdeal := hMlaIdeal) (hMlaRefIdeal := hMlaRefIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Branch_BranchIdeal
    ∧ algebraic_BranchIdeal_BranchRefIdeal (hBranchIdeal := hBranchIdeal) (hBranchRefIdeal := hBranchRefIdeal)
    ∧ preserves_NsaBranch_NsaBranchIdeal
    ∧ algebraic_NsaBranchIdeal_NsaBranchRefIdeal (hNsaBranchIdeal := hNsaBranchIdeal) (hNsaBranchRefIdeal := hNsaBranchRefIdeal)
    ∧ preserves_MlaUq_MlaUqIdeal
    ∧ algebraic_MlaUqIdeal_MlaUqRefIdeal (hMlaUqIdeal := hMlaUqIdeal) (hMlaUqRefIdeal := hMlaUqRefIdeal)
    ∧ preserves_MlaUk_MlaUkIdeal
    ∧ algebraic_MlaUkIdeal_MlaUkRefIdeal (hMlaUkIdeal := hMlaUkIdeal) (hMlaUkRefIdeal := hMlaUkRefIdeal)
    ∧ preserves_MlaUv_MlaUvIdeal
    ∧ algebraic_MlaUvIdeal_MlaUvRefIdeal (hMlaUvIdeal := hMlaUvIdeal) (hMlaUvRefIdeal := hMlaUvRefIdeal)
    ∧ preserves_NsaWin_NsaWinIdeal
    ∧ algebraic_NsaWinIdeal_NsaWinRefIdeal_pre_numbers (hNsaWinIdeal := hNsaWinIdeal) (hNsaWinRefIdeal := hNsaWinRefIdeal) (hPre_numbers := hPre_numbers)
    ∧ preserves_NsaSel_NsaSelIdeal
    ∧ algebraic_NsaSelIdeal_NsaSelRefIdeal_pre_chosen (hNsaSelIdeal := hNsaSelIdeal) (hNsaSelRefIdeal := hNsaSelRefIdeal) (hPre_chosen := hPre_chosen)
    ∧ preserves_Router_RouterIdeal
    ∧ algebraic_RouterIdeal_RouterRefIdeal (hRouterIdeal := hRouterIdeal) (hRouterRefIdeal := hRouterRefIdeal)
    ∧ preserves_PhiOne_PhiOneIdeal
    ∧ algebraic_PhiOneIdeal_PhiOneRefIdeal (hPhiOneIdeal := hPhiOneIdeal) (hPhiOneRefIdeal := hPhiOneRefIdeal)
    ∧ preserves_PhiTwo_PhiTwoIdeal
    ∧ algebraic_PhiTwoIdeal_PhiTwoRefIdeal (hPhiTwoIdeal := hPhiTwoIdeal) (hPhiTwoRefIdeal := hPhiTwoRefIdeal)
    ∧ preserves_NsaCmp_NsaCmpIdeal
    ∧ algebraic_NsaCmpIdeal_NsaCmpRefIdeal_pre_known (hNsaCmpIdeal := hNsaCmpIdeal) (hNsaCmpRefIdeal := hNsaCmpRefIdeal) (hPre_known := hPre_known)
    ∧ preserves_Moe_MoeIdeal
    ∧ algebraic_MoeIdeal_MoeRefIdeal (hMoeIdeal := hMoeIdeal) (hMoeRefIdeal := hMoeRefIdeal) (hPre_tables := hPre_tables)
-- ==== Pre_chosen.lean ====
abbrev S2x16x4096x64 : Shape := ⟨4, ![2, 16, 4096, 64]⟩
abbrev S2x4096x128 : Shape := ⟨3, ![2, 4096, 128]⟩
abbrev S2x4096x64 : Shape := ⟨3, ![2, 4096, 64]⟩
abbrev S64 : Shape := ⟨1, ![64]⟩
abbrev S1x64 : Shape := ⟨2, ![1, 64]⟩
abbrev S_ : Shape := ⟨0, ![]⟩
abbrev S4096 : Shape := ⟨1, ![4096]⟩
abbrev S4096x1 : Shape := ⟨2, ![4096, 1]⟩
abbrev S4096x64 : Shape := ⟨2, ![4096, 64]⟩
abbrev S1x4096x64 : Shape := ⟨3, ![1, 4096, 64]⟩
abbrev S2x4096 : Shape := ⟨2, ![2, 4096]⟩

class Facts : Prop where
  bcast_S64_S1x64_1 : S64.BroadcastsInDim S1x64 (![1] : Fin 1 → Fin S1x64.rank)
  bcast_S_S1x64 : S_.BroadcastsInDim S1x64 (![] : Fin 0 → Fin S1x64.rank)
  bcast_S4096_S4096x1_0 : S4096.BroadcastsInDim S4096x1 (![0] : Fin 1 → Fin S4096x1.rank)
  bcast_S1x64_S4096x64_0_1 : S1x64.BroadcastsInDim S4096x64 (![0, 1] : Fin 2 → Fin S4096x64.rank)
  bcast_S4096x1_S4096x64_0_1 : S4096x1.BroadcastsInDim S4096x64 (![0, 1] : Fin 2 → Fin S4096x64.rank)
  bcast_S4096x64_S1x4096x64_1_2 : S4096x64.BroadcastsInDim S1x4096x64 (![1, 2] : Fin 2 → Fin S1x4096x64.rank)
  bcast_S1x4096x64_S2x4096x64_0_1_2 : S1x4096x64.BroadcastsInDim S2x4096x64 (![0, 1, 2] : Fin 3 → Fin S2x4096x64.rank)
  bcast_S_S2x4096x64 : S_.BroadcastsInDim S2x4096x64 (![] : Fin 0 → Fin S2x4096x64.rank)
  reducesTo_S2x4096x64_S2x4096_d2 : S2x4096x64.ReducesTo [2] S2x4096
  h_S_ : 0 < S_.numel
  bitsLt_bf16_f32 : FTy.bits .bf16 < FTy.bits .f32
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  bcast_S_S2x4096x128 : S_.BroadcastsInDim S2x4096x128 (![] : Fin 0 → Fin S2x4096x128.rank)
  reducesTo_S2x4096x128_S_d0_1_2 : S2x4096x128.ReducesTo [0, 1, 2] S_
  bcast_S_S2x4096 : S_.BroadcastsInDim S2x4096 (![] : Fin 0 → Fin S2x4096.rank)
  reducesTo_S2x4096_S_d0_1 : S2x4096.ReducesTo [0, 1] S_

variable [Facts]

def fn_where {F : FTy → Type} [FloatOps F] (arg0 : IVec S1x4096x64 1) (arg1 : FVec F S2x4096x64 .f32) (arg2 : FVec F S_ .f32) : FVec F S2x4096x64 .f32 :=
  let v0 : FVec F S_ .f32 := id arg2
  let v1 : IVec S2x4096x64 1 := broadcastInDim S2x4096x64 ![0, 1, 2] bcast_S1x4096x64_S2x4096x64_0_1_2 arg0
  let v2 : FVec F S2x4096x64 .f32 := broadcastInDim S2x4096x64 ![] bcast_S_S2x4096x64 v0
  let v3 : FVec F S2x4096x64 .f32 := select v1 arg1 v2
  v3

def fn_part1 {F : FTy → Type} [FloatOps F] (main_v11 : FVec F S2x4096 .f32) (main_v16 : IVec S_ 1) (main_v17 : FVec F S2x4096x128 .f32) (main_cst_3 : FVec F S_ .f32) : IVec S_ 1 :=
  let main_v18 : FVec F S2x4096x128 .f32 := broadcastInDim S2x4096x128 ![] bcast_S_S2x4096x128 main_cst_3
  let main_v19 : IVec S2x4096x128 1 := cmpf .olt main_v17 main_v18
  let main_c_4 : IVec S_ 1 := constantI S_ 1 1#1
  let main_v20 : IVec S_ 1 := (fun x v => Host.reduce IntOp.andi x v reducesTo_S2x4096x128_S_d0_1_2 h_S_) main_v19 main_c_4
  let main_v21 : IVec S_ 1 := andi main_v16 main_v20
  let main_cst_5 : FVec F S_ .f32 := constant S_ .f32 0x3F000000#32
  let main_v22 : FVec F S2x4096 .f32 := broadcastInDim S2x4096 ![] bcast_S_S2x4096 main_cst_5
  let main_v23 : IVec S2x4096 1 := cmpf .ogt main_v11 main_v22
  let main_c_6 : IVec S_ 1 := constantI S_ 1 1#1
  let main_v24 : IVec S_ 1 := (fun x v => Host.reduce IntOp.andi x v reducesTo_S2x4096_S_d0_1 h_S_) main_v23 main_c_6
  let main_v25 : IVec S_ 1 := andi main_v21 main_v24
  main_v25

def fn {F : FTy → Type} [FloatOps F] (main_arg0 : FVec F S2x16x4096x64 .bf16) (main_arg1 : FVec F S2x4096x128 .f32) (main_arg2 : FVec F S2x4096x64 .f32) : IVec S_ 1 :=
  let main_v0 : IVec S64 32 := iotaInDim S64 32 0
  let main_v1 : IVec S1x64 32 := broadcastInDim S1x64 ![1] bcast_S64_S1x64_1 main_v0
  let main_c : IVec S_ 32 := constantI S_ 32 64#32
  let main_v2 : IVec S1x64 32 := broadcastInDim S1x64 ![] bcast_S_S1x64 main_c
  let main_v3 : IVec S1x64 32 := muli main_v1 main_v2
  let main_v4 : IVec S4096 32 := iotaInDim S4096 32 0
  let main_v5 : IVec S4096x1 32 := broadcastInDim S4096x1 ![0] bcast_S4096_S4096x1_0 main_v4
  let main_v6 : IVec S4096x64 32 := broadcastInDim S4096x64 ![0, 1] bcast_S1x64_S4096x64_0_1 main_v3
  let main_v7 : IVec S4096x64 32 := broadcastInDim S4096x64 ![0, 1] bcast_S4096x1_S4096x64_0_1 main_v5
  let main_v8 : IVec S4096x64 1 := cmpi .sle main_v6 main_v7
  let main_v9 : IVec S1x4096x64 1 := broadcastInDim S1x4096x64 ![1, 2] bcast_S4096x64_S1x4096x64_1_2 main_v8
  let main_cst : FVec F S_ .f32 := constant S_ .f32 0x00000000#32
  let main_v10 : FVec F S2x4096x64 .f32 := fn_where (F := F) main_v9 main_arg2 main_cst
  let main_cst_0 : FVec F S_ .f32 := constant S_ .f32 0xFF800000#32
  let main_v11 : FVec F S2x4096 .f32 := (fun x v => Host.reduce FloatOps.maximumf x v reducesTo_S2x4096x64_S2x4096_d2 h_S_) main_v10 main_cst_0
  let main_v12 : FVec F S2x16x4096x64 .f32 := (extf .f32 · bitsLt_bf16_f32) main_arg0
  let main_v13 : FVec F S2x16x4096x64 .f32 := Host.absf main_v12
  let main_cst_1 : FVec F S_ .f32 := constant S_ .f32 0x7F800000#32
  let main_v14 : FVec F S2x16x4096x64 .f32 := broadcastInDim S2x16x4096x64 ![] bcast_S_S2x16x4096x64 main_cst_1
  let main_v15 : IVec S2x16x4096x64 1 := cmpf .olt main_v13 main_v14
  let main_c_2 : IVec S_ 1 := constantI S_ 1 1#1
  let main_v16 : IVec S_ 1 := (fun x v => Host.reduce IntOp.andi x v reducesTo_S2x16x4096x64_S_d0_1_2_3 h_S_) main_v15 main_c_2
  let main_v17 : FVec F S2x4096x128 .f32 := Host.absf main_arg1
  let main_cst_3 : FVec F S_ .f32 := constant S_ .f32 0x7F800000#32
  fn_part1 (F := F) main_v11 main_v16 main_v17 main_cst_3
-- ==== Pre_finite.lean ====
abbrev S16x2x4096x256 : Shape := ⟨4, ![16, 2, 4096, 256]⟩
abbrev S16x2x4096x32 : Shape := ⟨4, ![16, 2, 4096, 32]⟩
abbrev S2x4096x288 : Shape := ⟨3, ![2, 4096, 288]⟩
abbrev S_ : Shape := ⟨0, ![]⟩

class Facts : Prop where
  bitsLt_bf16_f32 : FTy.bits .bf16 < FTy.bits .f32
  bcast_S_S16x2x4096x256 : S_.BroadcastsInDim S16x2x4096x256 (![] : Fin 0 → Fin S16x2x4096x256.rank)
  reducesTo_S16x2x4096x256_S_d0_1_2_3 : S16x2x4096x256.ReducesTo [0, 1, 2, 3] S_
  h_S_ : 0 < S_.numel
  bcast_S_S16x2x4096x32 : S_.BroadcastsInDim S16x2x4096x32 (![] : Fin 0 → Fin S16x2x4096x32.rank)
  reducesTo_S16x2x4096x32_S_d0_1_2_3 : S16x2x4096x32.ReducesTo [0, 1, 2, 3] S_
  bcast_S_S2x4096x288 : S_.BroadcastsInDim S2x4096x288 (![] : Fin 0 → Fin S2x4096x288.rank)
  reducesTo_S2x4096x288_S_d0_1_2 : S2x4096x288.ReducesTo [0, 1, 2] S_

variable [Facts]

def fn {F : FTy → Type} [FloatOps F] (main_arg0 : FVec F S16x2x4096x256 .bf16) (main_arg1 : FVec F S16x2x4096x32 .bf16) (main_arg2 : FVec F S2x4096x288 .f32) : IVec S_ 1 :=
  let main_v0 : FVec F S16x2x4096x256 .f32 := (extf .f32 · bitsLt_bf16_f32) main_arg0
  let main_v1 : FVec F S16x2x4096x256 .f32 := Host.absf main_v0
  let main_cst : FVec F S_ .f32 := constant S_ .f32 0x7F800000#32
  let main_v2 : FVec F S16x2x4096x256 .f32 := broadcastInDim S16x2x4096x256 ![] bcast_S_S16x2x4096x256 main_cst
  let main_v3 : IVec S16x2x4096x256 1 := cmpf .olt main_v1 main_v2
  let main_c : IVec S_ 1 := constantI S_ 1 1#1
  let main_v4 : IVec S_ 1 := (fun x v => Host.reduce IntOp.andi x v reducesTo_S16x2x4096x256_S_d0_1_2_3 h_S_) main_v3 main_c
  let main_v5 : FVec F S16x2x4096x32 .f32 := (extf .f32 · bitsLt_bf16_f32) main_arg1
  let main_v6 : FVec F S16x2x4096x32 .f32 := Host.absf main_v5
  let main_cst_0 : FVec F S_ .f32 := constant S_ .f32 0x7F800000#32
  let main_v7 : FVec F S16x2x4096x32 .f32 := broadcastInDim S16x2x4096x32 ![] bcast_S_S16x2x4096x32 main_cst_0
  let main_v8 : IVec S16x2x4096x32 1 := cmpf .olt main_v6 main_v7
  let main_c_1 : IVec S_ 1 := constantI S_ 1 1#1
  let main_v9 : IVec S_ 1 := (fun x v => Host.reduce IntOp.andi x v reducesTo_S16x2x4096x32_S_d0_1_2_3 h_S_) main_v8 main_c_1
  let main_v10 : IVec S_ 1 := andi main_v4 main_v9
  let main_v11 : FVec F S2x4096x288 .f32 := Host.absf main_arg2
  let main_cst_2 : FVec F S_ .f32 := constant S_ .f32 0x7F800000#32
  let main_v12 : FVec F S2x4096x288 .f32 := broadcastInDim S2x4096x288 ![] bcast_S_S2x4096x288 main_cst_2
  let main_v13 : IVec S2x4096x288 1 := cmpf .olt main_v11 main_v12
  let main_c_3 : IVec S_ 1 := constantI S_ 1 1#1
  let main_v14 : IVec S_ 1 := (fun x v => Host.reduce IntOp.andi x v reducesTo_S2x4096x288_S_d0_1_2 h_S_) main_v13 main_c_3
  let main_v15 : IVec S_ 1 := andi main_v10 main_v14
  main_v15
-- ==== Pre_known.lean ====
abbrev S2x4096x1024 : Shape := ⟨3, ![2, 4096, 1024]⟩
abbrev S2x64x128 : Shape := ⟨3, ![2, 64, 128]⟩
abbrev S_ : Shape := ⟨0, ![]⟩
abbrev S2x64x64 : Shape := ⟨3, ![2, 64, 64]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  slices_S2x64x128_S2x64x64_0_0_0 : S2x64x128.Slices ![0, 0, 0] S2x64x64
  bcast_S_S2x64x64 : S_.BroadcastsInDim S2x64x64 (![] : Fin 0 → Fin S2x64x64.rank)
  reducesTo_S2x64x64_S_d0_1_2 : S2x64x64.ReducesTo [0, 1, 2] S_

variable [Facts]

def fn {F : FTy → Type} [FloatOps F] (main_arg0 : FVec F S2x4096x1024 .f32) (main_arg1 : FVec F S2x64x128 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x64x64 .f32 := (extractStridedSlice S2x64x64 ![0, 0, 0] · slices_S2x64x128_S2x64x64_0_0_0) main_arg1
  let main_v5 : FVec F S2x64x64 .f32 := Host.absf main_v4
  let main_cst_0 : FVec F S_ .f32 := constant S_ .f32 0x7F800000#32
  let main_v6 : FVec F S2x64x64 .f32 := broadcastInDim S2x64x64 ![] bcast_S_S2x64x64 main_cst_0
  let main_v7 : IVec S2x64x64 1 := cmpf .olt main_v5 main_v6
  let main_c_1 : IVec S_ 1 := constantI S_ 1 1#1
  let main_v8 : IVec S_ 1 := (fun x v => Host.reduce IntOp.andi x v reducesTo_S2x64x64_S_d0_1_2 h_S_) main_v7 main_c_1
  let main_v9 : IVec S_ 1 := andi main_v3 main_v8
  main_v9
-- ==== Pre_numbers.lean ====
abbrev S2x16x4096x64 : Shape := ⟨4, ![2, 16, 4096, 64]⟩
abbrev S2x4096x128 : Shape := ⟨3, ![2, 4096, 128]⟩
abbrev S_ : Shape := ⟨0, ![]⟩

class Facts : Prop where
  bitsLt_bf16_f32 : FTy.bits .bf16 < FTy.bits .f32
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_

variable [Facts]

def fn {F : FTy → Type} [FloatOps F] (main_arg0 : FVec F S2x16x4096x64 .bf16) (main_arg1 : FVec F S2x4096x128 .f32) : IVec S_ 1 :=
  let main_v0 : FVec F S2x16x4096x64 .f32 := (extf .f32 · bitsLt_bf16_f32) main_arg0
  let main_v1 : FVec F S2x16x4096x64 .f32 := Host.absf main_v0
  let main_cst : FVec F S_ .f32 := constant S_ .f32 0x7F800000#32
  let main_v2 : FVec F S2x16x4096x64 .f32 := broadcastInDim S2x16x4096x64 ![] bcast_S_S2x16x4096x64 main_cst
  let main_v3 : IVec S2x16x4096x64 1 := cmpf .olt main_v1 main_v2
  let main_c : IVec S_ 1 := constantI S_ 1 1#1
  let main_v4 : IVec S_ 1 := (fun x v => Host.reduce IntOp.andi x v reducesTo_S2x16x4096x64_S_d0_1_2_3 h_S_) main_v3 main_c
  let main_v5 : FVec F S2x4096x128 .f32 := Host.absf main_arg1
  let main_cst_0 : FVec F S_ .f32 := constant S_ .f32 0x7F800000#32
  let main_v6 : FVec F S2x4096x128 .f32 := broadcastInDim S2x4096x128 ![] bcast_S_S2x4096x128 main_cst_0
  let main_v7 : IVec S2x4096x128 1 := cmpf .olt main_v5 main_v6
  let main_c_1 : IVec S_ 1 := constantI S_ 1 1#1
  let main_v8 : IVec S_ 1 := (fun x v => Host.reduce IntOp.andi x v reducesTo_S2x4096x128_S_d0_1_2 h_S_) main_v7 main_c_1
  let main_v9 : IVec S_ 1 := andi main_v4 main_v8
  main_v9
-- ==== Pre_tables.lean ====
abbrev S168 : Shape := ⟨1, ![168]⟩
abbrev S1 : Shape := ⟨1, ![1]⟩
abbrev S43008x2048 : Shape := ⟨2, ![43008, 2048]⟩
abbrev S43008x1 : Shape := ⟨2, ![43008, 1]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S_ : Shape := ⟨0, ![]⟩

class Facts : Prop where
  bcast_S_S168 : S_.BroadcastsInDim S168 (![] : Fin 0 → Fin S168.rank)
  reducesTo_S168_S_d0 : S168.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S168 32) (main_arg1 : IVec S1 32) (main_arg2 : FVec F S43008x2048 .bf16) (main_arg3 : FVec F S43008x1 .f32) (main_arg4 : FVec F S32x2048x1536 .bf16) (main_arg5 : FVec F S32x1x1536 .f32) (main_arg6 : FVec F S32x768x2048 .bf16) (main_arg7 : FVec F S32x1x2048 .f32) : IVec S_ 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 1 := constantI S_ 1 1#1
  let main_v5 : IVec S_ 1 := (fun x v => Host.reduce IntOp.andi x v reducesTo_S168_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 168#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Mla.lean ====
abbrev S16x2x4096x256 : Shape := ⟨4, ![16, 2, 4096, 256]⟩
abbrev S16x2x4096x32 : Shape := ⟨4, ![16, 2, 4096, 32]⟩
abbrev S2x4096x288 : Shape := ⟨3, ![2, 4096, 288]⟩
abbrev S16x1x128x256 : Shape := ⟨4, ![16, 1, 128, 256]⟩
abbrev S16x1x128x32 : Shape := ⟨4, ![16, 1, 128, 32]⟩
abbrev S1x512x288 : Shape := ⟨3, ![1, 512, 288]⟩
abbrev S2048x1 : Shape := ⟨2, ![2048, 1]⟩
abbrev S2048x256 : Shape := ⟨2, ![2048, 256]⟩
abbrev S16x128x256 : Shape := ⟨3, ![16, 128, 256]⟩
abbrev S16x128x32 : Shape := ⟨3, ![16, 128, 32]⟩
abbrev S2048x32 : Shape := ⟨2, ![2048, 32]⟩
abbrev S512x288 : Shape := ⟨2, ![512, 288]⟩
abbrev S512x256 : Shape := ⟨2, ![512, 256]⟩
abbrev S512x32 : Shape := ⟨2, ![512, 32]⟩
abbrev S2048x512 : Shape := ⟨2, ![2048, 512]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S16x2x4096x256, .bf16⟩
  | .hbm, ⟨1, _⟩ => ⟨S16x2x4096x32, .bf16⟩
  | .hbm, ⟨2, _⟩ => ⟨S2x4096x288, .f32⟩
  | .hbm, ⟨3, _⟩ => ⟨S16x2x4096x256, .bf16⟩
  | .local _ .vmem, ⟨0, _⟩ => ⟨S16x1x128x256, .bf16⟩
  | .local _ .vmem, ⟨1, _⟩ => ⟨S16x1x128x256, .bf16⟩
  | .local _ .vmem, ⟨2, _⟩ => ⟨S16x1x128x32, .bf16⟩
  | .local _ .vmem, ⟨3, _⟩ => ⟨S16x1x128x32, .bf16⟩
  | .local _ .vmem, ⟨4, _⟩ => ⟨S1x512x288, .f32⟩
  | .local _ .vmem, ⟨5, _⟩ => ⟨S1x512x288, .f32⟩
  | .local _ .vmem, ⟨6, _⟩ => ⟨S16x1x128x256, .bf16⟩
  | .local _ .vmem, ⟨7, _⟩ => ⟨S16x1x128x256, .bf16⟩
  | .local _ .vmem, ⟨8, _⟩ => ⟨S2048x1, .f32⟩
  | .local _ .vmem, ⟨9, _⟩ => ⟨S2048x1, .f32⟩
  | .local _ .vmem, ⟨10, _⟩ => ⟨S2048x256, .f32⟩
  | _, _ => ⟨S16x2x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 8], ![false, false, false]⟩

def k0_cond3 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_9 : BitVec 32 := 0#32
  let v28 : BitVec 1 := Scalar.cmpi .ne v27 c0_i32_9
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c128_i32 : BitVec 32 := 128#32
  let v1 : BitVec 32 := Scalar.muli v0 c128_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S16x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16x1x128x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlaIdeal.lean ====
variable {F : FTy → Type} [FloatOps F] [Named F]
def κ : String → Option EReal := fun
  | "mask" => some ⊥
  | _ => none
-- ==== MlaRefIdeal.lean ====
abbrev S16x2x4096x256 : Shape := ⟨4, ![16, 2, 4096, 256]⟩
abbrev S16x2x4096x32 : Shape := ⟨4, ![16, 2, 4096, 32]⟩
abbrev S2x4096x288 : Shape := ⟨3, ![2, 4096, 288]⟩
abbrev S2x4096x256 : Shape := ⟨3, ![2, 4096, 256]⟩
abbrev S2x4096x32 : Shape := ⟨3, ![2, 4096, 32]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x256x16x4096 : Shape := ⟨4, ![2, 256, 16, 4096]⟩

abbrev nBuf : Space → Nat
  | .hbm => 46
  | .vmem => 0
  | .smem => 0
  | _ => 0

abbrev bufTy : (tb : Table) → Fin (tcTables nBuf tb) → BufTy
  | .hbm, ⟨0, _⟩ => ⟨S16x2x4096x256, .bf16⟩
  | .hbm, ⟨1, _⟩ => ⟨S16x2x4096x32, .bf16⟩
  | .hbm, ⟨2, _⟩ => ⟨S2x4096x288, .f32⟩
  | .hbm, ⟨3, _⟩ => ⟨S16x2x4096x256, .f32⟩
  | .hbm, ⟨4, _⟩ => ⟨S16x2x4096x32, .f32⟩
  | .hbm, ⟨5, _⟩ => ⟨S2x4096x256, .f32⟩
  | .hbm, ⟨6, _⟩ => ⟨S2x4096x32, .f32⟩
  | .hbm, ⟨7, _⟩ => ⟨S2x16x4096x4096, .f32⟩
  | .hbm, ⟨8, _⟩ => ⟨S2x16x4096x4096, .f32⟩
  | .hbm, ⟨9, _⟩ => ⟨S2x16x4096x4096, .f32⟩
  | .hbm, ⟨10, _⟩ => ⟨S_, .f32⟩
  | .hbm, ⟨11, _⟩ => ⟨S2x16x4096x4096, .f32⟩
  | .hbm, ⟨12, _⟩ => ⟨S2x16x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S2x16x4096x4096, .i1⟩
  | .hbm, ⟨22, _⟩ => ⟨S2x16x4096x4096, .f32⟩
  | .hbm, ⟨23, _⟩ => ⟨S2x16x4096x4096, .f32⟩
  | .hbm, ⟨24, _⟩ => ⟨S_, .f32⟩
  | .hbm, ⟨25, _⟩ => ⟨S2x16x4096, .f32⟩
  | .hbm, ⟨26, _⟩ => ⟨S_, .f32⟩
  | .hbm, ⟨27, _⟩ => ⟨S2x16x4096, .f32⟩
  | .hbm, ⟨28, _⟩ => ⟨S2x16x4096, .f32⟩
  | .hbm, ⟨29, _⟩ => ⟨S2x16x4096x1, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S2x256x16x4096, .f32⟩
  | .hbm, ⟨44, _⟩ => ⟨S16x2x4096x256, .f32⟩
  | .hbm, ⟨45, _⟩ => ⟨S16x2x4096x256, .bf16⟩
  | _, _ => ⟨S16x2x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== InProj.lean ====
abbrev S8704x2048 : Shape := ⟨2, ![8704, 2048]⟩
abbrev S2048x10320 : Shape := ⟨2, ![2048, 10320]⟩
abbrev S2048x672 : Shape := ⟨2, ![2048, 672]⟩
abbrev S_ : Shape := ⟨0, ![]⟩
abbrev S2048x96 : Shape := ⟨2, ![2048, 96]⟩
abbrev S2048x3504 : Shape := ⟨2, ![2048, 3504]⟩
abbrev S2048x80 : Shape := ⟨2, ![2048, 80]⟩
abbrev S2048x6144 : Shape := ⟨2, ![2048, 6144]⟩
abbrev S2048x256 : Shape := ⟨2, ![2048, 256]⟩
abbrev S2048x10752 : Shape := ⟨2, ![2048, 10752]⟩
abbrev S8704x10752 : Shape := ⟨2, ![8704, 10752]⟩
abbrev S512x2048 : Shape := ⟨2, ![512, 2048]⟩
abbrev S2048x1536 : Shape := ⟨2, ![2048, 1536]⟩
abbrev S512x1536 : Shape := ⟨2, ![512, 1536]⟩

abbrev nBuf : Space → Nat
  | .hbm => 14
  | .vmem => 6
  | .smem => 0
  | _ => 0

abbrev bufTy : (tb : Table) → Fin (tcTables nBuf tb) → BufTy
  | .hbm, ⟨0, _⟩ => ⟨S8704x2048, .f32⟩
  | .hbm, ⟨1, _⟩ => ⟨S2048x10320, .f32⟩
  | .hbm, ⟨2, _⟩ => ⟨S2048x672, .f32⟩
  | .hbm, ⟨3, _⟩ => ⟨S_, .f32⟩
  | .hbm, ⟨4, _⟩ => ⟨S2048x96, .f32⟩
  | .hbm, ⟨5, _⟩ => ⟨S2048x3504, .f32⟩
  | .hbm, ⟨6, _⟩ => ⟨S_, .f32⟩
  | .hbm, ⟨7, _⟩ => ⟨S2048x80, .f32⟩
  | .hbm, ⟨8, _⟩ => ⟨S2048x6144, .f32⟩
  | .hbm, ⟨9, _⟩ => ⟨S_, .f32⟩
  | .hbm, ⟨10, _⟩ => ⟨S2048x256, .f32⟩
  | .hbm, ⟨11, _⟩ => ⟨S2048x10752, .f32⟩
  | .hbm, ⟨12, _⟩ => ⟨S2048x10752, .bf16⟩
  | .hbm, ⟨13, _⟩ => ⟨S8704x10752, .f32⟩
  | .local _ .vmem, ⟨0, _⟩ => ⟨S512x2048, .f32⟩
  | .local _ .vmem, ⟨1, _⟩ => ⟨S512x2048, .f32⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8704x2048 : Shape := ⟨2, ![8704, 2048]⟩
abbrev S2048x10320 : Shape := ⟨2, ![2048, 10320]⟩
abbrev S8704x10320 : Shape := ⟨2, ![8704, 10320]⟩
abbrev S8704x672 : Shape := ⟨2, ![8704, 672]⟩
abbrev S_ : Shape := ⟨0, ![]⟩
abbrev S8704x96 : Shape := ⟨2, ![8704, 96]⟩
abbrev S8704x3504 : Shape := ⟨2, ![8704, 3504]⟩
abbrev S8704x80 : Shape := ⟨2, ![8704, 80]⟩
abbrev S8704x6144 : Shape := ⟨2, ![8704, 6144]⟩
abbrev S8704x256 : Shape := ⟨2, ![8704, 256]⟩
abbrev S8704x10752 : Shape := ⟨2, ![8704, 10752]⟩

abbrev nBuf : Space → Nat
  | .hbm => 13
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x10320, .f32⟩
  | .hbm, ⟨2, _⟩ => ⟨S8704x10320, .f32⟩
  | .hbm, ⟨3, _⟩ => ⟨S8704x672, .f32⟩
  | .hbm, ⟨4, _⟩ => ⟨S_, .f32⟩
  | .hbm, ⟨5, _⟩ => ⟨S8704x96, .f32⟩
  | .hbm, ⟨6, _⟩ => ⟨S8704x3504, .f32⟩
  | .hbm, ⟨7, _⟩ => ⟨S_, .f32⟩
  | .hbm, ⟨8, _⟩ => ⟨S8704x80, .f32⟩
  | .hbm, ⟨9, _⟩ => ⟨S8704x6144, .f32⟩
  | .hbm, ⟨10, _⟩ => ⟨S_, .f32⟩
  | .hbm, ⟨11, _⟩ => ⟨S8704x256, .f32⟩
  | .hbm, ⟨12, _⟩ => ⟨S8704x10752, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== OutProj.lean ====
abbrev S8704x2048 : Shape := ⟨2, ![8704, 2048]⟩
abbrev S2048x2048 : Shape := ⟨2, ![2048, 2048]⟩
abbrev S1088x2048 : Shape := ⟨2, ![1088, 2048]⟩
abbrev S2048x1024 : Shape := ⟨2, ![2048, 1024]⟩
abbrev S1088x1024 : Shape := ⟨2, ![1088, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S2048x2048, .bf16⟩
  | .hbm, ⟨3, _⟩ => ⟨S8704x2048, .f32⟩
  | .local _ .vmem, ⟨0, _⟩ => ⟨S1088x2048, .f32⟩
  | .local _ .vmem, ⟨1, _⟩ => ⟨S1088x2048, .f32⟩
  | .local _ .vmem, ⟨2, _⟩ => ⟨S2048x1024, .bf16⟩
  | .local _ .vmem, ⟨3, _⟩ => ⟨S2048x1024, .bf16⟩
  | .local _ .vmem, ⟨4, _⟩ => ⟨S1088x1024, .f32⟩
  | .local _ .vmem, ⟨5, _⟩ => ⟨S1088x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8704x2048 : Shape := ⟨2, ![8704, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Branch.lean ====
abbrev S8704x1024 : Shape := ⟨2, ![8704, 1024]⟩
abbrev S1024x2048 : Shape := ⟨2, ![1024, 2048]⟩
abbrev S8704x2048 : Shape := ⟨2, ![8704, 2048]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x2048, .f32⟩
  | .hbm, ⟨2, _⟩ => ⟨S1024x2048, .bf16⟩
  | .hbm, ⟨3, _⟩ => ⟨S8704x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchRefIdeal.lean ====
abbrev S8704x1024 : Shape := ⟨2, ![8704, 1024]⟩
abbrev S1024x2048 : Shape := ⟨2, ![1024, 2048]⟩
abbrev S8704x2048 : Shape := ⟨2, ![8704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x2048, .f32⟩
  | .hbm, ⟨2, _⟩ => ⟨S8704x1024, .f32⟩
  | .hbm, ⟨3, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NsaBranch.lean ====
abbrev S8704x1024 : Shape := ⟨2, ![8704, 1024]⟩
abbrev S1024x2048 : Shape := ⟨2, ![1024, 2048]⟩
abbrev S8704x2048 : Shape := ⟨2, ![8704, 2048]⟩
abbrev S1088x1024 : Shape := ⟨2, ![1088, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x2048, .f32⟩
  | .hbm, ⟨2, _⟩ => ⟨S1024x2048, .bf16⟩
  | .hbm, ⟨3, _⟩ => ⟨S8704x2048, .f32⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaBranchRefIdeal.lean ====
abbrev S8704x1024 : Shape := ⟨2, ![8704, 1024]⟩
abbrev S1024x2048 : Shape := ⟨2, ![1024, 2048]⟩
abbrev S8704x2048 : Shape := ⟨2, ![8704, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x2048, .f32⟩
  | .hbm, ⟨2, _⟩ => ⟨S8704x2048, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlaUq.lean ====
abbrev S8704x384 : Shape := ⟨2, ![8704, 384]⟩
abbrev S384x1536 : Shape := ⟨2, ![384, 1536]⟩
abbrev S384x16x96 : Shape := ⟨3, ![384, 16, 96]⟩
abbrev S384x16x64 : Shape := ⟨3, ![384, 16, 64]⟩
abbrev S384x1024 : Shape := ⟨2, ![384, 1024]⟩
abbrev S384x16x32 : Shape := ⟨3, ![384, 16, 32]⟩
abbrev S384x512 : Shape := ⟨2, ![384, 512]⟩
abbrev S8704x1536 : Shape := ⟨2, ![8704, 1536]⟩
abbrev S1088x384 : Shape := ⟨2, ![1088, 384]⟩
abbrev S1088x1536 : Shape := ⟨2, ![1088, 1536]⟩

abbrev nBuf : Space → Nat
  | .hbm => 10
  | .vmem => 5
  | .smem => 0
  | _ => 0

abbrev bufTy : (tb : Table) → Fin (tcTables nBuf tb) → BufTy
  | .hbm, ⟨0, _⟩ => ⟨S8704x384, .f32⟩
  | .hbm, ⟨1, _⟩ => ⟨S384x1536, .f32⟩
  | .hbm, ⟨2, _⟩ => ⟨S384x16x96, .f32⟩
  | .hbm, ⟨3, _⟩ => ⟨S384x16x64, .f32⟩
  | .hbm, ⟨4, _⟩ => ⟨S384x1024, .f32⟩
  | .hbm, ⟨5, _⟩ => ⟨S384x16x32, .f32⟩
  | .hbm, ⟨6, _⟩ => ⟨S384x512, .f32⟩
  | .hbm, ⟨7, _⟩ => ⟨S384x1536, .f32⟩
  | .hbm, ⟨8, _⟩ => ⟨S384x1536, .bf16⟩
  | .hbm, ⟨9, _⟩ => ⟨S8704x1536, .f32⟩
  | .local _ .vmem, ⟨0, _⟩ => ⟨S1088x384, .f32⟩
  | .local _ .vmem, ⟨1, _⟩ => ⟨S1088x384, .f32⟩
  | .local _ .vmem, ⟨2, _⟩ => ⟨S384x1536, .bf16⟩
  | .local _ .vmem, ⟨3, _⟩ => ⟨S1088x1536, .f32⟩
  | .local _ .vmem, ⟨4, _⟩ => ⟨S1088x1536, .f32⟩
  | _, _ => ⟨S8704x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S384x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaUqRefIdeal.lean ====
abbrev S8704x384 : Shape := ⟨2, ![8704, 384]⟩
abbrev S384x1536 : Shape := ⟨2, ![384, 1536]⟩
abbrev S8704x1536 : Shape := ⟨2, ![8704, 1536]⟩
abbrev S8704x16x96 : Shape := ⟨3, ![8704, 16, 96]⟩
abbrev S8704x16x64 : Shape := ⟨3, ![8704, 16, 64]⟩
abbrev S8704x1024 : Shape := ⟨2, ![8704, 1024]⟩
abbrev S8704x16x32 : Shape := ⟨3, ![8704, 16, 32]⟩
abbrev S8704x512 : Shape := ⟨2, ![8704, 512]⟩

abbrev nBuf : Space → Nat
  | .hbm => 9
  | .vmem => 0
  | .smem => 0
  | _ => 0

abbrev bufTy : (tb : Table) → Fin (tcTables nBuf tb) → BufTy
  | .hbm, ⟨0, _⟩ => ⟨S8704x384, .f32⟩
  | .hbm, ⟨1, _⟩ => ⟨S384x1536, .f32⟩
  | .hbm, ⟨2, _⟩ => ⟨S8704x1536, .f32⟩
  | .hbm, ⟨3, _⟩ => ⟨S8704x16x96, .f32⟩
  | .hbm, ⟨4, _⟩ => ⟨S8704x16x64, .f32⟩
  | .hbm, ⟨5, _⟩ => ⟨S8704x1024, .f32⟩
  | .hbm, ⟨6, _⟩ => ⟨S8704x16x32, .f32⟩
  | .hbm, ⟨7, _⟩ => ⟨S8704x512, .f32⟩
  | .hbm, ⟨8, _⟩ => ⟨S8704x1536, .f32⟩
  | _, _ => ⟨S8704x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== MlaUk.lean ====
abbrev S8704x1024 : Shape := ⟨2, ![8704, 1024]⟩
abbrev S256x16x64 : Shape := ⟨3, ![256, 16, 64]⟩
abbrev S16x64x256 : Shape := ⟨3, ![16, 64, 256]⟩
abbrev S16x8704x256 : Shape := ⟨3, ![16, 8704, 256]⟩
abbrev S1088x128 : Shape := ⟨2, ![1088, 128]⟩
abbrev S2x64x256 : Shape := ⟨3, ![2, 64, 256]⟩
abbrev S2x1088x256 : Shape := ⟨3, ![2, 1088, 256]⟩
abbrev S1088x64 : Shape := ⟨2, ![1088, 64]⟩
abbrev S1x64x256 : Shape := ⟨3, ![1, 64, 256]⟩
abbrev S64x256 : Shape := ⟨2, ![64, 256]⟩
abbrev S1088x256 : Shape := ⟨2, ![1088, 256]⟩
abbrev S1x1088x256 : Shape := ⟨3, ![1, 1088, 256]⟩

abbrev nBuf : Space → Nat
  | .hbm => 5
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S256x16x64, .f32⟩
  | .hbm, ⟨2, _⟩ => ⟨S16x64x256, .f32⟩
  | .hbm, ⟨3, _⟩ => ⟨S16x64x256, .bf16⟩
  | .hbm, ⟨4, _⟩ => ⟨S16x8704x256, .bf16⟩
  | .local _ .vmem, ⟨0, _⟩ => ⟨S1088x128, .f32⟩
  | .local _ .vmem, ⟨1, _⟩ => ⟨S1088x128, .f32⟩
  | .local _ .vmem, ⟨2, _⟩ => ⟨S2x64x256, .bf16⟩
  | .local _ .vmem, ⟨3, _⟩ => ⟨S2x64x256, .bf16⟩
  | .local _ .vmem, ⟨4, _⟩ => ⟨S2x1088x256, .bf16⟩
  | .local _ .vmem, ⟨5, _⟩ => ⟨S2x1088x256, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1088x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaUkRefIdeal.lean ====
abbrev S8704x1024 : Shape := ⟨2, ![8704, 1024]⟩
abbrev S256x16x64 : Shape := ⟨3, ![256, 16, 64]⟩
abbrev S8704x16x64 : Shape := ⟨3, ![8704, 16, 64]⟩
abbrev S16x8704x256 : Shape := ⟨3, ![16, 8704, 256]⟩

abbrev nBuf : Space → Nat
  | .hbm => 5
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S256x16x64, .f32⟩
  | .hbm, ⟨2, _⟩ => ⟨S8704x16x64, .f32⟩
  | .hbm, ⟨3, _⟩ => ⟨S16x8704x256, .f32⟩
  | .hbm, ⟨4, _⟩ => ⟨S16x8704x256, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaUv.lean ====
abbrev S16x8704x256 : Shape := ⟨3, ![16, 8704, 256]⟩
abbrev S256x16x64 : Shape := ⟨3, ![256, 16, 64]⟩
abbrev S16x256x64 : Shape := ⟨3, ![16, 256, 64]⟩
abbrev S8704x1024 : Shape := ⟨2, ![8704, 1024]⟩
abbrev S2x1088x256 : Shape := ⟨3, ![2, 1088, 256]⟩
abbrev S2x256x64 : Shape := ⟨3, ![2, 256, 64]⟩
abbrev S1088x128 : Shape := ⟨2, ![1088, 128]⟩
abbrev S1x1088x256 : Shape := ⟨3, ![1, 1088, 256]⟩
abbrev S1088x256 : Shape := ⟨2, ![1088, 256]⟩
abbrev S1x256x64 : Shape := ⟨3, ![1, 256, 64]⟩
abbrev S256x64 : Shape := ⟨2, ![256, 64]⟩
abbrev S1088x64 : Shape := ⟨2, ![1088, 64]⟩

abbrev nBuf : Space → Nat
  | .hbm => 5
  | .vmem => 6
  | .smem => 0
  | _ => 0

abbrev bufTy : (tb : Table) → Fin (tcTables nBuf tb) → BufTy
  | .hbm, ⟨0, _⟩ => ⟨S16x8704x256, .bf16⟩
  | .hbm, ⟨1, _⟩ => ⟨S256x16x64, .f32⟩
  | .hbm, ⟨2, _⟩ => ⟨S16x256x64, .f32⟩
  | .hbm, ⟨3, _⟩ => ⟨S16x256x64, .bf16⟩
  | .hbm, ⟨4, _⟩ => ⟨S8704x1024, .bf16⟩
  | .local _ .vmem, ⟨0, _⟩ => ⟨S2x1088x256, .bf16⟩
  | .local _ .vmem, ⟨1, _⟩ => ⟨S2x1088x256, .bf16⟩
  | .local _ .vmem, ⟨2, _⟩ => ⟨S2x256x64, .bf16⟩
  | .local _ .vmem, ⟨3, _⟩ => ⟨S2x256x64, .bf16⟩
  | .local _ .vmem, ⟨4, _⟩ => ⟨S1088x128, .bf16⟩
  | .local _ .vmem, ⟨5, _⟩ => ⟨S1088x128, .bf16⟩
  | _, _ => ⟨S16x8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaUvRefIdeal.lean ====
abbrev S16x8704x256 : Shape := ⟨3, ![16, 8704, 256]⟩
abbrev S256x16x64 : Shape := ⟨3, ![256, 16, 64]⟩
abbrev S16x64x8704 : Shape := ⟨3, ![16, 64, 8704]⟩
abbrev S8704x16x64 : Shape := ⟨3, ![8704, 16, 64]⟩
abbrev S8704x1024 : Shape := ⟨2, ![8704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x8704x256, .bf16⟩
  | .hbm, ⟨1, _⟩ => ⟨S256x16x64, .f32⟩
  | .hbm, ⟨2, _⟩ => ⟨S16x8704x256, .f32⟩
  | .hbm, ⟨3, _⟩ => ⟨S16x64x8704, .f32⟩
  | .hbm, ⟨4, _⟩ => ⟨S8704x16x64, .f32⟩
  | .hbm, ⟨5, _⟩ => ⟨S8704x1024, .f32⟩
  | .hbm, ⟨6, _⟩ => ⟨S8704x1024, .bf16⟩
  | _, _ => ⟨S16x8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NsaWin.lean ====
abbrev S2x16x4096x64 : Shape := ⟨4, ![2, 16, 4096, 64]⟩
abbrev S2x4096x128 : Shape := ⟨3, ![2, 4096, 128]⟩
abbrev S1x16x128x64 : Shape := ⟨4, ![1, 16, 128, 64]⟩
abbrev S1x128x128 : Shape := ⟨3, ![1, 128, 128]⟩
abbrev S2048x1 : Shape := ⟨2, ![2048, 1]⟩
abbrev S2048x64 : Shape := ⟨2, ![2048, 64]⟩
abbrev S16x128x64 : Shape := ⟨3, ![16, 128, 64]⟩
abbrev S128x128 : Shape := ⟨2, ![128, 128]⟩
abbrev S128x64 : Shape := ⟨2, ![128, 64]⟩
abbrev S2048x128 : Shape := ⟨2, ![2048, 128]⟩
abbrev S16x128x128 : Shape := ⟨3, ![16, 128, 128]⟩
abbrev S2048 : Shape := ⟨1, ![2048]⟩

abbrev nBuf : Space → Nat
  | .hbm => 3
  | .vmem => 9
  | .smem => 0
  | _ => 0

abbrev bufTy : (tb : Table) → Fin (tcTables nBuf tb) → BufTy
  | .hbm, ⟨0, _⟩ => ⟨S2x16x4096x64, .bf16⟩
  | .hbm, ⟨1, _⟩ => ⟨S2x4096x128, .f32⟩
  | .hbm, ⟨2, _⟩ => ⟨S2x16x4096x64, .f32⟩
  | .local _ .vmem, ⟨0, _⟩ => ⟨S1x16x128x64, .bf16⟩
  | .local _ .vmem, ⟨1, _⟩ => ⟨S1x16x128x64, .bf16⟩
  | .local _ .vmem, ⟨2, _⟩ => ⟨S1x128x128, .f32⟩
  | .local _ .vmem, ⟨3, _⟩ => ⟨S1x128x128, .f32⟩
  | .local _ .vmem, ⟨4, _⟩ => ⟨S1x16x128x64, .f32⟩
  | .local _ .vmem, ⟨5, _⟩ => ⟨S1x16x128x64, .f32⟩
  | .local _ .vmem, ⟨6, _⟩ => ⟨S2048x1, .f32⟩
  | .local _ .vmem, ⟨7, _⟩ => ⟨S2048x1, .f32⟩
  | .local _ .vmem, ⟨8, _⟩ => ⟨S2048x64, .f32⟩
  | _, _ => ⟨S2x16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 32, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let v1 : BitVec 32 := Scalar.addi v0 arg2
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NsaWinIdeal.lean ====
variable {F : FTy → Type} [FloatOps F] [Named F]
def κ : String → Option EReal := fun
  | "mask" => some ⊥
  | _ => none
-- ==== NsaWinRefIdeal.lean ====
abbrev S2x16x4096x64 : Shape := ⟨4, ![2, 16, 4096, 64]⟩
abbrev S2x4096x128 : Shape := ⟨3, ![2, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x4096x4096 : Shape := ⟨3, ![1, 4096, 4096]⟩
abbrev S2x4096x64 : Shape := ⟨3, ![2, 4096, 64]⟩
abbrev S2x16x4096x4096 : Shape := ⟨4, ![2, 16, 4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x16x4096x64, .bf16⟩
  | .hbm, ⟨1, _⟩ => ⟨S2x4096x128, .f32⟩
  | .hbm, ⟨2, _⟩ => ⟨S4096, .i32⟩
  | .hbm, ⟨3, _⟩ => ⟨S1x4096, .i32⟩
  | .hbm, ⟨4, _⟩ => ⟨S4096x1, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S1x4096, .i32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .i1⟩
  | .hbm, ⟨17, _⟩ => ⟨S1x4096x4096, .i1⟩
  | .hbm, ⟨18, _⟩ => ⟨S2x16x4096x64, .f32⟩
  | .hbm, ⟨19, _⟩ => ⟨S2x4096x64, .f32⟩
  | .hbm, ⟨20, _⟩ => ⟨S2x16x4096x4096, .f32⟩
  | .hbm, ⟨21, _⟩ => ⟨S_, .f32⟩
  | .hbm, ⟨22, _⟩ => ⟨S2x16x4096x4096, .f32⟩
  | .hbm, ⟨23, _⟩ => ⟨S2x16x4096x4096, .f32⟩
  | .hbm, ⟨24, _⟩ => ⟨S1x1x4096x4096, .i1⟩
  | .hbm, ⟨25, _⟩ => ⟨S_, .f32⟩
  | .hbm, ⟨26, _⟩ => ⟨S_, .f32⟩
  | .hbm, ⟨27, _⟩ => ⟨S2x16x4096x4096, .i1⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S2x16x4096, .f32⟩
  | .hbm, ⟨32, _⟩ => ⟨S_, .f32⟩
  | .hbm, ⟨33, _⟩ => ⟨S2x16x4096, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S_, .f32⟩
  | .hbm, ⟨46, _⟩ => ⟨S2x16x4096x4096, .i1⟩
  | .hbm, ⟨47, _⟩ => ⟨S2x16x4096x4096, .f32⟩
  | .hbm, ⟨48, _⟩ => ⟨S2x16x4096x4096, .f32⟩
  | .hbm, ⟨49, _⟩ => ⟨S2x4096x64, .f32⟩
  | .hbm, ⟨50, _⟩ => ⟨S2x16x4096x64, .f32⟩
  | _, _ => ⟨S2x16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== NsaSel.lean ====
abbrev S2x16x4096x64 : Shape := ⟨4, ![2, 16, 4096, 64]⟩
abbrev S2x4096x128 : Shape := ⟨3, ![2, 4096, 128]⟩
abbrev S2x4096x64 : Shape := ⟨3, ![2, 4096, 64]⟩
abbrev S1x16x128x64 : Shape := ⟨4, ![1, 16, 128, 64]⟩
abbrev S1x512x128 : Shape := ⟨3, ![1, 512, 128]⟩
abbrev S1x128x64 : Shape := ⟨3, ![1, 128, 64]⟩
abbrev S2048x1 : Shape := ⟨2, ![2048, 1]⟩
abbrev S2048x64 : Shape := ⟨2, ![2048, 64]⟩
abbrev S16x128x64 : Shape := ⟨3, ![16, 128, 64]⟩
abbrev S512x128 : Shape := ⟨2, ![512, 128]⟩
abbrev S512x64 : Shape := ⟨2, ![512, 64]⟩
abbrev S64x512 : Shape := ⟨2, ![64, 512]⟩
abbrev S128x64 : Shape := ⟨2, ![128, 64]⟩
abbrev S128x512 : Shape := ⟨2, ![128, 512]⟩
abbrev S2048x512 : Shape := ⟨2, ![2048, 512]⟩
abbrev S16x128x512 : Shape := ⟨3, ![16, 128, 512]⟩
abbrev S1x128x512 : Shape := ⟨3, ![1, 128, 512]⟩
abbrev S2048 : Shape := ⟨1, ![2048]⟩

abbrev nBuf : Space → Nat
  | .hbm => 4
  | .vmem => 11
  | .smem => 0
  | _ => 0

abbrev bufTy : (tb : Table) → Fin (tcTables nBuf tb) → BufTy
  | .hbm, ⟨0, _⟩ => ⟨S2x16x4096x64, .bf16⟩
  | .hbm, ⟨1, _⟩ => ⟨S2x4096x128, .f32⟩
  | .hbm, ⟨2, _⟩ => ⟨S2x4096x64, .f32⟩
  | .hbm, ⟨3, _⟩ => ⟨S2x16x4096x64, .f32⟩
  | .local _ .vmem, ⟨0, _⟩ => ⟨S1x16x128x64, .bf16⟩
  | .local _ .vmem, ⟨1, _⟩ => ⟨S1x16x128x64, .bf16⟩
  | .local _ .vmem, ⟨2, _⟩ => ⟨S1x512x128, .f32⟩
  | .local _ .vmem, ⟨3, _⟩ => ⟨S1x512x128, .f32⟩
  | .local _ .vmem, ⟨4, _⟩ => ⟨S1x128x64, .f32⟩
  | .local _ .vmem, ⟨5, _⟩ => ⟨S1x128x64, .f32⟩
  | .local _ .vmem, ⟨6, _⟩ => ⟨S1x16x128x64, .f32⟩
  | .local _ .vmem, ⟨7, _⟩ => ⟨S1x16x128x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | _, _ => ⟨S2x16x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 32, 8], ![false, false, false]⟩

def k0_cond3 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_9 : BitVec 32 := 0#32
  let v28 : BitVec 1 := Scalar.cmpi .ne v27 c0_i32_9
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c128_i32 : BitVec 32 := 128#32
  let v1 : BitVec 32 := Scalar.muli v0 c128_i32
  let c1_i32_0 : BitVec 32 := 1#32
  let v2 : BitVec 32 := Scalar.subi v1 c1_i32_0
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== NsaSelIdeal.lean ====
variable {F : FTy → Type} [FloatOps F] [Named F]
def κ : String → Option EReal := fun
  | "mask" => some ⊥
  | _ => none
-- ==== NsaSelRefIdeal.lean ====
abbrev S2x16x4096x64 : Shape := ⟨4, ![2, 16, 4096, 64]⟩
abbrev S2x4096x128 : Shape := ⟨3, ![2, 4096, 128]⟩
abbrev S2x4096x64 : Shape := ⟨3, ![2, 4096, 64]⟩
abbrev S4096 : Shape := ⟨1, ![4096]⟩
abbrev S2x4096x64x1 : Shape := ⟨4, ![2, 4096, 64, 1]⟩
abbrev S_ : Shape := ⟨0, ![]⟩
abbrev S2x4096x64x64 : Shape := ⟨4, ![2, 4096, 64, 64]⟩
abbrev S2x4096x4096 : Shape := ⟨3, ![2, 4096, 4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S2x16x4096x4096 : Shape := ⟨4, ![2, 16, 4096, 4096]⟩
abbrev S2x1x4096x4096 : Shape := ⟨4, ![2, 1, 4096, 4096]⟩
abbrev S2x16x4096 : Shape := ⟨3, ![2, 16, 4096]⟩
abbrev S2x16x4096x1 : Shape := ⟨4, ![2, 16, 4096, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x16x4096x64, .bf16⟩
  | .hbm, ⟨1, _⟩ => ⟨S2x4096x128, .f32⟩
  | .hbm, ⟨2, _⟩ => ⟨S2x4096x64, .f32⟩
  | .hbm, ⟨3, _⟩ => ⟨S4096, .i32⟩
  | .hbm, ⟨4, _⟩ => ⟨S2x4096x64x1, .f32⟩
  | .hbm, ⟨5, _⟩ => ⟨S_, .f32⟩
  | .hbm, ⟨6, _⟩ => ⟨S2x4096x64x1, .f32⟩
  | .hbm, ⟨7, _⟩ => ⟨S2x4096x64x1, .i1⟩
  | .hbm, ⟨8, _⟩ => ⟨S2x4096x64x64, .i1⟩
  | .hbm, ⟨9, _⟩ => ⟨S2x4096x4096, .i1⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S1x4096x4096, .i1⟩
  | .hbm, ⟨16, _⟩ => ⟨S2x4096x4096, .i1⟩
  | .hbm, ⟨17, _⟩ => ⟨S2x4096x4096, .i1⟩
  | .hbm, ⟨18, _⟩ => ⟨S2x16x4096x64, .f32⟩
  | .hbm, ⟨19, _⟩ => ⟨S2x4096x64, .f32⟩
  | .hbm, ⟨20, _⟩ => ⟨S2x16x4096x4096, .f32⟩
  | .hbm, ⟨21, _⟩ => ⟨S_, .f32⟩
  | .hbm, ⟨22, _⟩ => ⟨S2x16x4096x4096, .f32⟩
  | .hbm, ⟨23, _⟩ => ⟨S2x16x4096x4096, .f32⟩
  | .hbm, ⟨24, _⟩ => ⟨S2x1x4096x4096, .i1⟩
  | .hbm, ⟨25, _⟩ => ⟨S_, .f32⟩
  | .hbm, ⟨26, _⟩ => ⟨S_, .f32⟩
  | .hbm, ⟨27, _⟩ => ⟨S2x16x4096x4096, .i1⟩
  | .hbm, ⟨28, _⟩ => ⟨S2x16x4096x4096, .f32⟩
  | .hbm, ⟨29, _⟩ => ⟨S2x16x4096x4096, .f32⟩
  | .hbm, ⟨30, _⟩ => ⟨S_, .f32⟩
  | .hbm, ⟨31, _⟩ => ⟨S2x16x4096, .f32⟩
  | .hbm, ⟨32, _⟩ => ⟨S_, .f32⟩
  | .hbm, ⟨33, _⟩ => ⟨S2x16x4096, .f32⟩
  | .hbm, ⟨34, _⟩ => ⟨S2x16x4096, .f32⟩
  | .hbm, ⟨35, _⟩ => ⟨S2x16x4096x1, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S_, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S_, .f32⟩
  | .hbm, ⟨45, _⟩ => ⟨S_, .f32⟩
  | .hbm, ⟨46, _⟩ => ⟨S2x16x4096x4096, .i1⟩
  | .hbm, ⟨47, _⟩ => ⟨S2x16x4096x4096, .f32⟩
  | .hbm, ⟨48, _⟩ => ⟨S2x16x4096x4096, .f32⟩
  | .hbm, ⟨49, _⟩ => ⟨S2x4096x64, .f32⟩
  | .hbm, ⟨50, _⟩ => ⟨S2x16x4096x64, .f32⟩
  | _, _ => ⟨S2x16x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Router.lean ====
abbrev S8704x2048 : Shape := ⟨2, ![8704, 2048]⟩
abbrev S2048x32 : Shape := ⟨2, ![2048, 32]⟩
abbrev S8704x32 : Shape := ⟨2, ![8704, 32]⟩
abbrev S512x2048 : Shape := ⟨2, ![512, 2048]⟩
abbrev S512x32 : Shape := ⟨2, ![512, 32]⟩

abbrev nBuf : Space → Nat
  | .hbm => 3
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048x32, .f32⟩
  | .hbm, ⟨2, _⟩ => ⟨S8704x32, .f32⟩
  | .local _ .vmem, ⟨0, _⟩ => ⟨S512x2048, .f32⟩
  | .local _ .vmem, ⟨1, _⟩ => ⟨S512x2048, .f32⟩
  | .local _ .vmem, ⟨2, _⟩ => ⟨S2048x32, .f32⟩
  | .local _ .vmem, ⟨3, _⟩ => ⟨S512x32, .f32⟩
  | .local _ .vmem, ⟨4, _⟩ => ⟨S512x32, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouterRefIdeal.lean ====
abbrev S8704x2048 : Shape := ⟨2, ![8704, 2048]⟩
abbrev S2048x32 : Shape := ⟨2, ![2048, 32]⟩
abbrev S8704x32 : Shape := ⟨2, ![8704, 32]⟩

abbrev nBuf : Space → Nat
  | .hbm => 3
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x32, .f32⟩
  | .hbm, ⟨2, _⟩ => ⟨S8704x32, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PhiOne.lean ====
abbrev S2x4096x128 : Shape := ⟨3, ![2, 4096, 128]⟩
abbrev S64x2x64 : Shape := ⟨3, ![64, 2, 64]⟩
abbrev S2x4096x64 : Shape := ⟨3, ![2, 4096, 64]⟩
abbrev S2x64x64x64 : Shape := ⟨4, ![2, 64, 64, 64]⟩
abbrev S1x64x64x64 : Shape := ⟨4, ![1, 64, 64, 64]⟩
abbrev S64x64x64 : Shape := ⟨3, ![64, 64, 64]⟩
abbrev S_ : Shape := ⟨0, ![]⟩
abbrev S64x64x128 : Shape := ⟨3, ![64, 64, 128]⟩
abbrev S64x128x128 : Shape := ⟨3, ![64, 128, 128]⟩
abbrev S8192x128 : Shape := ⟨2, ![8192, 128]⟩
abbrev S64x128 : Shape := ⟨2, ![64, 128]⟩
abbrev S2x64x64x128 : Shape := ⟨4, ![2, 64, 64, 128]⟩
abbrev S1x1x64x128 : Shape := ⟨4, ![1, 1, 64, 128]⟩
abbrev S128x8192 : Shape := ⟨2, ![128, 8192]⟩
abbrev S128x128 : Shape := ⟨2, ![128, 128]⟩

abbrev nBuf : Space → Nat
  | .hbm => 24
  | .vmem => 3
  | .smem => 0
  | _ => 0

abbrev bufTy : (tb : Table) → Fin (tcTables nBuf tb) → BufTy
  | .hbm, ⟨0, _⟩ => ⟨S2x4096x128, .f32⟩
  | .hbm, ⟨1, _⟩ => ⟨S64x2x64, .f32⟩
  | .hbm, ⟨2, _⟩ => ⟨S2x4096x64, .f32⟩
  | .hbm, ⟨3, _⟩ => ⟨S2x64x64x64, .f32⟩
  | .hbm, ⟨4, _⟩ => ⟨S1x64x64x64, .f32⟩
  | .hbm, ⟨5, _⟩ => ⟨S64x64x64, .f32⟩
  | .hbm, ⟨6, _⟩ => ⟨S_, .f32⟩
  | .hbm, ⟨7, _⟩ => ⟨S64x64x64, .f32⟩
  | .hbm, ⟨8, _⟩ => ⟨S1x64x64x64, .f32⟩
  | .hbm, ⟨9, _⟩ => ⟨S64x64x64, .f32⟩
  | .hbm, ⟨10, _⟩ => ⟨S64x64x128, .f32⟩
  | .hbm, ⟨11, _⟩ => ⟨S1x64x64x64, .f32⟩
  | .hbm, ⟨12, _⟩ => ⟨S64x64x64, .f32⟩
  | .hbm, ⟨13, _⟩ => ⟨S64x64x128, .f32⟩
  | .hbm, ⟨14, _⟩ => ⟨S64x128x128, .f32⟩
  | .hbm, ⟨15, _⟩ => ⟨S8192x128, .f32⟩
  | .hbm, ⟨16, _⟩ => ⟨S8192x128, .bf16⟩
  | .hbm, ⟨17, _⟩ => ⟨S64x128, .f32⟩
  | .hbm, ⟨18, _⟩ => ⟨S2x64x64x128, .f32⟩
  | .hbm, ⟨19, _⟩ => ⟨S1x1x64x128, .f32⟩
  | .hbm, ⟨20, _⟩ => ⟨S2x64x64x128, .f32⟩
  | .hbm, ⟨21, _⟩ => ⟨S2x64x64x128, .f32⟩
  | .hbm, ⟨22, _⟩ => ⟨S128x8192, .f32⟩
  | .hbm, ⟨23, _⟩ => ⟨S128x128, .f32⟩
  | .local _ .vmem, ⟨0, _⟩ => ⟨S128x8192, .f32⟩
  | .local _ .vmem, ⟨1, _⟩ => ⟨S8192x128, .bf16⟩
  | .local _ .vmem, ⟨2, _⟩ => ⟨S128x128, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== PhiOneRefIdeal.lean ====
abbrev S2x4096x128 : Shape := ⟨3, ![2, 4096, 128]⟩
abbrev S64x2x64 : Shape := ⟨3, ![64, 2, 64]⟩
abbrev S2x4096x64 : Shape := ⟨3, ![2, 4096, 64]⟩
abbrev S2x64x64x2x64 : Shape := ⟨5, ![2, 64, 64, 2, 64]⟩
abbrev S1x1x64x2x64 : Shape := ⟨5, ![1, 1, 64, 2, 64]⟩
abbrev S2x64x2x64x64 : Shape := ⟨5, ![2, 64, 2, 64, 64]⟩
abbrev S2x64x2x4096 : Shape := ⟨4, ![2, 64, 2, 4096]⟩
abbrev S2x64x2x64 : Shape := ⟨4, ![2, 64, 2, 64]⟩
abbrev S128x128 : Shape := ⟨2, ![128, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S64x2x64, .f32⟩
  | .hbm, ⟨2, _⟩ => ⟨S2x4096x64, .f32⟩
  | .hbm, ⟨3, _⟩ => ⟨S2x64x64x2x64, .f32⟩
  | .hbm, ⟨4, _⟩ => ⟨S1x1x64x2x64, .f32⟩
  | .hbm, ⟨5, _⟩ => ⟨S2x64x64x2x64, .f32⟩
  | .hbm, ⟨6, _⟩ => ⟨S2x64x64x2x64, .f32⟩
  | .hbm, ⟨7, _⟩ => ⟨S2x64x2x64x64, .f32⟩
  | .hbm, ⟨8, _⟩ => ⟨S2x64x2x4096, .f32⟩
  | .hbm, ⟨9, _⟩ => ⟨S2x64x2x64, .f32⟩
  | .hbm, ⟨10, _⟩ => ⟨S2x64x2x64, .f32⟩
  | .hbm, ⟨11, _⟩ => ⟨S128x128, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PhiTwo.lean ====
abbrev S128x128 : Shape := ⟨2, ![128, 128]⟩
abbrev S2x64x64 : Shape := ⟨3, ![2, 64, 64]⟩
abbrev S_ : Shape := ⟨0, ![]⟩
abbrev S64x64 : Shape := ⟨2, ![64, 64]⟩
abbrev S1x64x64 : Shape := ⟨3, ![1, 64, 64]⟩
abbrev S64x128 : Shape := ⟨2, ![64, 128]⟩

abbrev nBuf : Space → Nat
  | .hbm => 13
  | .vmem => 3
  | .smem => 0
  | _ => 0

abbrev bufTy : (tb : Table) → Fin (tcTables nBuf tb) → BufTy
  | .hbm, ⟨0, _⟩ => ⟨S128x128, .f32⟩
  | .hbm, ⟨1, _⟩ => ⟨S2x64x64, .f32⟩
  | .hbm, ⟨2, _⟩ => ⟨S_, .f32⟩
  | .hbm, ⟨3, _⟩ => ⟨S64x64, .f32⟩
  | .hbm, ⟨4, _⟩ => ⟨S1x64x64, .f32⟩
  | .hbm, ⟨5, _⟩ => ⟨S64x64, .f32⟩
  | .hbm, ⟨6, _⟩ => ⟨S64x128, .f32⟩
  | .hbm, ⟨7, _⟩ => ⟨S1x64x64, .f32⟩
  | .hbm, ⟨8, _⟩ => ⟨S64x64, .f32⟩
  | .hbm, ⟨9, _⟩ => ⟨S64x128, .f32⟩
  | .hbm, ⟨10, _⟩ => ⟨S128x128, .f32⟩
  | .hbm, ⟨11, _⟩ => ⟨S128x128, .bf16⟩
  | .hbm, ⟨12, _⟩ => ⟨S128x128, .f32⟩
  | .local _ .vmem, ⟨0, _⟩ => ⟨S128x128, .f32⟩
  | .local _ .vmem, ⟨1, _⟩ => ⟨S128x128, .bf16⟩
  | .local _ .vmem, ⟨2, _⟩ => ⟨S128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== PhiTwoRefIdeal.lean ====
abbrev S128x128 : Shape := ⟨2, ![128, 128]⟩
abbrev S2x64x64 : Shape := ⟨3, ![2, 64, 64]⟩
abbrev S2x64x2x64 : Shape := ⟨4, ![2, 64, 2, 64]⟩

abbrev nBuf : Space → Nat
  | .hbm => 6
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S2x64x64, .f32⟩
  | .hbm, ⟨2, _⟩ => ⟨S2x64x2x64, .f32⟩
  | .hbm, ⟨3, _⟩ => ⟨S2x64x2x64, .f32⟩
  | .hbm, ⟨4, _⟩ => ⟨S2x64x2x64, .f32⟩
  | .hbm, ⟨5, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NsaCmp.lean ====
abbrev S2x4096x1024 : Shape := ⟨3, ![2, 4096, 1024]⟩
abbrev S2x64x128 : Shape := ⟨3, ![2, 64, 128]⟩
abbrev S2x4096x64 : Shape := ⟨3, ![2, 4096, 64]⟩
abbrev S1x256x1024 : Shape := ⟨3, ![1, 256, 1024]⟩
abbrev S1x64x128 : Shape := ⟨3, ![1, 64, 128]⟩
abbrev S1x256x64 : Shape := ⟨3, ![1, 256, 64]⟩
abbrev S64x128 : Shape := ⟨2, ![64, 128]⟩
abbrev S64x64 : Shape := ⟨2, ![64, 64]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x64x128, .f32⟩
  | .hbm, ⟨2, _⟩ => ⟨S2x4096x1024, .f32⟩
  | .hbm, ⟨3, _⟩ => ⟨S2x4096x64, .f32⟩
  | .local _ .vmem, ⟨0, _⟩ => ⟨S1x256x1024, .f32⟩
  | .local _ .vmem, ⟨1, _⟩ => ⟨S1x256x1024, .f32⟩
  | .local _ .vmem, ⟨2, _⟩ => ⟨S1x64x128, .f32⟩
  | .local _ .vmem, ⟨3, _⟩ => ⟨S1x64x128, .f32⟩
  | .local _ .vmem, ⟨4, _⟩ => ⟨S1x256x1024, .f32⟩
  | .local _ .vmem, ⟨5, _⟩ => ⟨S1x256x1024, .f32⟩
  | .local _ .vmem, ⟨6, _⟩ => ⟨S1x256x64, .f32⟩
  | .local _ .vmem, ⟨7, _⟩ => ⟨S1x256x64, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NsaCmpIdeal.lean ====
variable {F : FTy → Type} [FloatOps F] [Named F]
def κ : String → Option EReal := fun
  | "mask" => some ⊥
  | _ => none
-- ==== NsaCmpRefIdeal.lean ====
abbrev S2x4096x1024 : Shape := ⟨3, ![2, 4096, 1024]⟩
abbrev S2x64x128 : Shape := ⟨3, ![2, 64, 128]⟩
abbrev S2x4096x16x64 : Shape := ⟨4, ![2, 4096, 16, 64]⟩
abbrev S2x64x64 : Shape := ⟨3, ![2, 64, 64]⟩
abbrev S_ : Shape := ⟨0, ![]⟩
abbrev S64 : Shape := ⟨1, ![64]⟩
abbrev S1x64 : Shape := ⟨2, ![1, 64]⟩
abbrev S4096 : Shape := ⟨1, ![4096]⟩
abbrev S4096x1 : Shape := ⟨2, ![4096, 1]⟩
abbrev S4096x64 : Shape := ⟨2, ![4096, 64]⟩
abbrev S1x4096x1x64 : Shape := ⟨4, ![1, 4096, 1, 64]⟩
abbrev S2x4096x16 : Shape := ⟨3, ![2, 4096, 16]⟩
abbrev S2x4096x16x1 : Shape := ⟨4, ![2, 4096, 16, 1]⟩
abbrev S2x4096x64 : Shape := ⟨3, ![2, 4096, 64]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x64x128, .f32⟩
  | .hbm, ⟨2, _⟩ => ⟨S2x4096x16x64, .f32⟩
  | .hbm, ⟨3, _⟩ => ⟨S2x64x64, .f32⟩
  | .hbm, ⟨4, _⟩ => ⟨S2x4096x16x64, .f32⟩
  | .hbm, ⟨5, _⟩ => ⟨S_, .f32⟩
  | .hbm, ⟨6, _⟩ => ⟨S2x4096x16x64, .f32⟩
  | .hbm, ⟨7, _⟩ => ⟨S2x4096x16x64, .f32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S4096, .i32⟩
  | .hbm, ⟨20, _⟩ => ⟨S4096x1, .i32⟩
  | .hbm, ⟨21, _⟩ => ⟨S4096x64, .i32⟩
  | .hbm, ⟨22, _⟩ => ⟨S4096x64, .i32⟩
  | .hbm, ⟨23, _⟩ => ⟨S4096x64, .i1⟩
  | .hbm, ⟨24, _⟩ => ⟨S1x4096x1x64, .i1⟩
  | .hbm, ⟨25, _⟩ => ⟨S_, .f32⟩
  | .hbm, ⟨26, _⟩ => ⟨S_, .f32⟩
  | .hbm, ⟨27, _⟩ => ⟨S2x4096x16x64, .i1⟩
  | .hbm, ⟨28, _⟩ => ⟨S2x4096x16x64, .f32⟩
  | .hbm, ⟨29, _⟩ => ⟨S2x4096x16x64, .f32⟩
  | .hbm, ⟨30, _⟩ => ⟨S_, .f32⟩
  | .hbm, ⟨31, _⟩ => ⟨S2x4096x16, .f32⟩
  | .hbm, ⟨32, _⟩ => ⟨S_, .f32⟩
  | .hbm, ⟨33, _⟩ => ⟨S2x4096x16, .f32⟩
  | .hbm, ⟨34, _⟩ => ⟨S2x4096x16, .f32⟩
  | .hbm, ⟨35, _⟩ => ⟨S2x4096x16x1, .f32⟩
  | .hbm, ⟨36, _⟩ => ⟨S2x4096x16x64, .f32⟩
  | .hbm, ⟨37, _⟩ => ⟨S2x4096x16x64, .f32⟩
  | .hbm, ⟨38, _⟩ => ⟨S2x4096x16x64, .f32⟩
  | .hbm, ⟨39, _⟩ => ⟨S_, .f32⟩
  | .hbm, ⟨40, _⟩ => ⟨S2x4096x16, .f32⟩
  | .hbm, ⟨41, _⟩ => ⟨S2x4096x16x1, .f32⟩
  | .hbm, ⟨42, _⟩ => ⟨S2x4096x16x64, .f32⟩
  | .hbm, ⟨43, _⟩ => ⟨S2x4096x16x64, .f32⟩
  | .hbm, ⟨44, _⟩ => ⟨S_, .f32⟩
  | .hbm, ⟨45, _⟩ => ⟨S_, .f32⟩
  | .hbm, ⟨46, _⟩ => ⟨S2x4096x16x64, .i1⟩
  | .hbm, ⟨47, _⟩ => ⟨S2x4096x16x64, .f32⟩
  | .hbm, ⟨48, _⟩ => ⟨S2x4096x16x64, .f32⟩
  | .hbm, ⟨49, _⟩ => ⟨S2x64x64, .f32⟩
  | .hbm, ⟨50, _⟩ => ⟨S2x4096x16x64, .f32⟩
  | .hbm, ⟨51, _⟩ => ⟨S2x4096x1024, .f32⟩
  | .hbm, ⟨52, _⟩ => ⟨S_, .f32⟩
  | .hbm, ⟨53, _⟩ => ⟨S2x4096x64, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Moe.lean ====
abbrev S168 : Shape := ⟨1, ![168]⟩
abbrev S1 : Shape := ⟨1, ![1]⟩
abbrev S43008x2048 : Shape := ⟨2, ![43008, 2048]⟩
abbrev S43008x1 : Shape := ⟨2, ![43008, 1]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S256x2048 : Shape := ⟨2, ![256, 2048]⟩
abbrev S256x1 : Shape := ⟨2, ![256, 1]⟩
abbrev S1x2048x1536 : Shape := ⟨3, ![1, 2048, 1536]⟩
abbrev S1x1x1536 : Shape := ⟨3, ![1, 1, 1536]⟩
abbrev S1x768x2048 : Shape := ⟨3, ![1, 768, 2048]⟩
abbrev S1x1x2048 : Shape := ⟨3, ![1, 1, 2048]⟩
abbrev S2048x1536 : Shape := ⟨2, ![2048, 1536]⟩
abbrev S256x1536 : Shape := ⟨2, ![256, 1536]⟩
abbrev S1x1536 : Shape := ⟨2, ![1, 1536]⟩
abbrev S256x768 : Shape := ⟨2, ![256, 768]⟩
abbrev S768x2048 : Shape := ⟨2, ![768, 2048]⟩
abbrev S1x2048 : Shape := ⟨2, ![1, 2048]⟩

abbrev nBuf : Space → Nat
  | .hbm => 7
  | .vmem => 14
  | .smem => 2
  | _ => 0

abbrev bufTy : (tb : Table) → Fin (tcTables nBuf tb) → BufTy
  | .hbm, ⟨0, _⟩ => ⟨S43008x2048, .bf16⟩
  | .hbm, ⟨1, _⟩ => ⟨S43008x1, .f32⟩
  | .hbm, ⟨2, _⟩ => ⟨S32x2048x1536, .bf16⟩
  | .hbm, ⟨3, _⟩ => ⟨S32x1x1536, .f32⟩
  | .hbm, ⟨4, _⟩ => ⟨S32x768x2048, .bf16⟩
  | .hbm, ⟨5, _⟩ => ⟨S32x1x2048, .f32⟩
  | .hbm, ⟨6, _⟩ => ⟨S43008x2048, .f32⟩
  | .local _ .vmem, ⟨0, _⟩ => ⟨S256x2048, .bf16⟩
  | .local _ .vmem, ⟨1, _⟩ => ⟨S256x2048, .bf16⟩
  | .local _ .vmem, ⟨2, _⟩ => ⟨S256x1, .f32⟩
  | .local _ .vmem, ⟨3, _⟩ => ⟨S256x1, .f32⟩
  | .local _ .vmem, ⟨4, _⟩ => ⟨S1x2048x1536, .bf16⟩
  | .local _ .vmem, ⟨5, _⟩ => ⟨S1x2048x1536, .bf16⟩
  | .local _ .vmem, ⟨6, _⟩ => ⟨S1x1x1536, .f32⟩
  | .local _ .vmem, ⟨7, _⟩ => ⟨S1x1x1536, .f32⟩
  | .local _ .vmem, ⟨8, _⟩ => ⟨S1x768x2048, .bf16⟩
  | .local _ .vmem, ⟨9, _⟩ => ⟨S1x768x2048, .bf16⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .smem, ⟨0, _⟩ => ⟨S168, .i32⟩
  | .local _ .smem, ⟨1, _⟩ => ⟨S1, .i32⟩
  | _, _ => ⟨S43008x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S168 : Shape := ⟨1, ![168]⟩
abbrev S1 : Shape := ⟨1, ![1]⟩
abbrev S43008x2048 : Shape := ⟨2, ![43008, 2048]⟩
abbrev S43008x1 : Shape := ⟨2, ![43008, 1]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S168x256x2048 : Shape := ⟨3, ![168, 256, 2048]⟩
abbrev S_ : Shape := ⟨0, ![]⟩
abbrev S168x1 : Shape := ⟨2, ![168, 1]⟩
abbrev S168x2048x1536 : Shape := ⟨3, ![168, 2048, 1536]⟩
abbrev S168x256x1536 : Shape := ⟨3, ![168, 256, 1536]⟩
abbrev S168x1x1536 : Shape := ⟨3, ![168, 1, 1536]⟩
abbrev S168x256x768 : Shape := ⟨3, ![168, 256, 768]⟩
abbrev S168x768x2048 : Shape := ⟨3, ![168, 768, 2048]⟩
abbrev S168x1x2048 : Shape := ⟨3, ![168, 1, 2048]⟩
abbrev S168x256x1 : Shape := ⟨3, ![168, 256, 1]⟩
abbrev S168x1x1 : Shape := ⟨3, ![168, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S43008x2048, .bf16⟩
  | .hbm, ⟨3, _⟩ => ⟨S43008x1, .f32⟩
  | .hbm, ⟨4, _⟩ => ⟨S32x2048x1536, .bf16⟩
  | .hbm, ⟨5, _⟩ => ⟨S32x1x1536, .f32⟩
  | .hbm, ⟨6, _⟩ => ⟨S32x768x2048, .bf16⟩
  | .hbm, ⟨7, _⟩ => ⟨S32x1x2048, .f32⟩
  | .hbm, ⟨8, _⟩ => ⟨S168x256x2048, .bf16⟩
  | .hbm, ⟨9, _⟩ => ⟨S168x256x2048, .f32⟩
  | .hbm, ⟨10, _⟩ => ⟨S_, .i32⟩
  | .hbm, ⟨11, _⟩ => ⟨S168, .i32⟩
  | .hbm, ⟨12, _⟩ => ⟨S168, .i1⟩
  | .hbm, ⟨13, _⟩ => ⟨S_, .i32⟩
  | .hbm, ⟨14, _⟩ => ⟨S168, .i32⟩
  | .hbm, ⟨15, _⟩ => ⟨S168, .i32⟩
  | .hbm, ⟨16, _⟩ => ⟨S168, .i32⟩
  | .hbm, ⟨17, _⟩ => ⟨S168x1, .i32⟩
  | .hbm, ⟨18, _⟩ => ⟨S168x2048x1536, .bf16⟩
  | .hbm, ⟨19, _⟩ => ⟨S168x2048x1536, .f32⟩
  | .hbm, ⟨20, _⟩ => ⟨S168x256x1536, .f32⟩
  | .hbm, ⟨21, _⟩ => ⟨S_, .i32⟩
  | .hbm, ⟨22, _⟩ => ⟨S168, .i32⟩
  | .hbm, ⟨23, _⟩ => ⟨S168, .i1⟩
  | .hbm, ⟨24, _⟩ => ⟨S_, .i32⟩
  | .hbm, ⟨25, _⟩ => ⟨S168, .i32⟩
  | .hbm, ⟨26, _⟩ => ⟨S168, .i32⟩
  | .hbm, ⟨27, _⟩ => ⟨S168, .i32⟩
  | .hbm, ⟨28, _⟩ => ⟨S168x1, .i32⟩
  | .hbm, ⟨29, _⟩ => ⟨S168x1x1536, .f32⟩
  | .hbm, ⟨30, _⟩ => ⟨S168x256x1536, .f32⟩
  | .hbm, ⟨31, _⟩ => ⟨S168x256x1536, .f32⟩
  | .hbm, ⟨32, _⟩ => ⟨S168x256x768, .f32⟩
  | .hbm, ⟨33, _⟩ => ⟨S_, .f32⟩
  | .hbm, ⟨34, _⟩ => ⟨S168x256x768, .f32⟩
  | .hbm, ⟨35, _⟩ => ⟨S168x256x768, .f32⟩
  | .hbm, ⟨36, _⟩ => ⟨S168x256x768, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S168x256x768, .f32⟩
  | .hbm, ⟨41, _⟩ => ⟨S168x256x768, .f32⟩
  | .hbm, ⟨42, _⟩ => ⟨S_, .f32⟩
  | .hbm, ⟨43, _⟩ => ⟨S168x256x768, .f32⟩
  | .hbm, ⟨44, _⟩ => ⟨S168x256x768, .f32⟩
  | .hbm, ⟨45, _⟩ => ⟨S_, .f32⟩
  | .hbm, ⟨46, _⟩ => ⟨S168x256x768, .f32⟩
  | .hbm, ⟨47, _⟩ => ⟨S168x256x768, .f32⟩
  | .hbm, ⟨48, _⟩ => ⟨S168x256x768, .f32⟩
  | .hbm, ⟨49, _⟩ => ⟨S168x256x768, .f32⟩
  | .hbm, ⟨50, _⟩ => ⟨S_, .f32⟩
  | .hbm, ⟨51, _⟩ => ⟨S168x256x768, .f32⟩
  | .hbm, ⟨52, _⟩ => ⟨S168x256x768, .f32⟩
  | .hbm, ⟨53, _⟩ => ⟨S_, .f32⟩
  | .hbm, ⟨54, _⟩ => ⟨S168x256x768, .f32⟩
  | .hbm, ⟨55, _⟩ => ⟨S168x256x768, .f32⟩
  | .hbm, ⟨56, _⟩ => ⟨S168x256x768, .f32⟩
  | .hbm, ⟨57, _⟩ => ⟨S_, .f32⟩
  | .hbm, ⟨58, _⟩ => ⟨S168x256x768, .f32⟩
  | .hbm, ⟨59, _⟩ => ⟨S168x256x768, .f32⟩
  | .hbm, ⟨60, _⟩ => ⟨S168x256x768, .f32⟩
  | .hbm, ⟨61, _⟩ => ⟨S_, .i32⟩
  | .hbm, ⟨62, _⟩ => ⟨S168, .i32⟩
  | .hbm, ⟨63, _⟩ => ⟨S168, .i1⟩
  | .hbm, ⟨64, _⟩ => ⟨S_, .i32⟩
  | .hbm, ⟨65, _⟩ => ⟨S168, .i32⟩
  | .hbm, ⟨66, _⟩ => ⟨S168, .i32⟩
  | .hbm, ⟨67, _⟩ => ⟨S168, .i32⟩
  | .hbm, ⟨68, _⟩ => ⟨S168x1, .i32⟩
  | .hbm, ⟨69, _⟩ => ⟨S168x768x2048, .bf16⟩
  | .hbm, ⟨70, _⟩ => ⟨S168x768x2048, .f32⟩
  | .hbm, ⟨71, _⟩ => ⟨S168x256x2048, .f32⟩
  | .hbm, ⟨72, _⟩ => ⟨S_, .i32⟩
  | .hbm, ⟨73, _⟩ => ⟨S168, .i32⟩
  | .hbm, ⟨74, _⟩ => ⟨S168, .i1⟩
  | .hbm, ⟨75, _⟩ => ⟨S_, .i32⟩
  | .hbm, ⟨76, _⟩ => ⟨S168, .i32⟩
  | .hbm, ⟨77, _⟩ => ⟨S168, .i32⟩
  | .hbm, ⟨78, _⟩ => ⟨S168, .i32⟩
  | .hbm, ⟨79, _⟩ => ⟨S168x1, .i32⟩
  | .hbm, ⟨80, _⟩ => ⟨S168x1x2048, .f32⟩
  | .hbm, ⟨81, _⟩ => ⟨S168x256x2048, .f32⟩
  | .hbm, ⟨82, _⟩ => ⟨S168x256x2048, .f32⟩
  | .hbm, ⟨83, _⟩ => ⟨S168x256x1, .f32⟩
  | .hbm, ⟨84, _⟩ => ⟨S168x256x2048, .f32⟩
  | .hbm, ⟨85, _⟩ => ⟨S168x256x2048, .f32⟩
  | .hbm, ⟨86, _⟩ => ⟨S168, .i32⟩
  | .hbm, ⟨87, _⟩ => ⟨S168, .i32⟩
  | .hbm, ⟨88, _⟩ => ⟨S168, .i1⟩
  | .hbm, ⟨89, _⟩ => ⟨S168x1x1, .i1⟩
  | .hbm, ⟨90, _⟩ => ⟨S_, .f32⟩
  | .hbm, ⟨91, _⟩ => ⟨S_, .f32⟩
  | .hbm, ⟨92, _⟩ => ⟨S168x256x2048, .i1⟩
  | .hbm, ⟨93, _⟩ => ⟨S168x256x2048, .f32⟩
  | .hbm, ⟨94, _⟩ => ⟨S168x256x2048, .f32⟩
  | .hbm, ⟨95, _⟩ => ⟨S43008x2048, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_11 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Proof.Online.lean ====
/- Softmax by blocks, over the reals: a running maximum `m`, a running sum `l` of exponentials and a running weighted sum
   `a` describe the keys read so far, whatever real number the running maximum is. -/
module

public import Idealize.ShloMosaic.PureOps.Ideal

@[expose] public section

noncomputable section

open Idealize.ShloMosaic

namespace Cert.Proof.Softmax

/-- The score of key `k` at query `q`: the number `x k` when the query may see the key, minus infinity when not. -/
def score (q : ℕ) (x : ℕ → ℝ) (k : ℕ) : EReal := if k ≤ q then (x k : EReal) else ⊥

/-- The unnormalized weight of key `k` at query `q`. -/
def wt (q : ℕ) (x : ℕ → ℝ) (k : ℕ) : ℝ := if k ≤ q then Real.exp (x k) else 0

theorem wt_nonneg (q : ℕ) (x : ℕ → ℝ) (k : ℕ) : 0 ≤ wt q x k := by
  unfold wt; split_ifs
  · exact (Real.exp_pos _).le
  · exact le_rfl

/-- The weights of the first `n + 1` keys add up to a positive number: key 0 is visible to every query. -/
theorem sum_wt_pos (q : ℕ) (x : ℕ → ℝ) (n : ℕ) : 0 < ∑ k ∈ Finset.range (n + 1), wt q x k :=
  Finset.sum_pos' (fun k _ => wt_nonneg q x k)
    ⟨0, by simp, by simp [wt, Real.exp_pos]⟩

theorem score_ne_top (q : ℕ) (x : ℕ → ℝ) (k : ℕ) : score q x k < ⊤ := by
  unfold score; split_ifs
  · exact EReal.coe_lt_top _
  · exact bot_lt_top

/-- The exponential of a score over a real shift is the weight over the shift's exponential. -/
theorem exp_score (q : ℕ) (x : ℕ → ℝ) (k : ℕ) (M : ℝ) :
    Ideal.exp (score q x k - (M : EReal)) = ((Real.exp (-M) * wt q x k : ℝ) : EReal) := by
  unfold score wt; split_ifs
  · rw [← EReal.coe_sub, Ideal.exp_coe, ← Real.exp_add]
    congr 2; ring
  · rw [EReal.bot_sub, Ideal.exp_bot, mul_zero, EReal.coe_zero]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum of numbers below `⊤`, one of which is above `⊥`, is real. -/
theorem fold_max_real {n : ℕ} (f : Fin n → EReal) (b : EReal) (hb : b < ⊤) (ht : ∀ i, f i < ⊤)
    (h : ⊥ < b ∨ ∃ i, ⊥ < f i) :
    ∃ M : ℝ, max b (Finset.univ.fold max ⊥ f) = (M : EReal) := by
  have h1 : max b (Finset.univ.fold max ⊥ f) < ⊤ :=
    max_lt hb ((Finset.fold_max_lt ⊤).2 ⟨bot_lt_top, fun i _ => ht i⟩)
  have h2 : ⊥ < max b (Finset.univ.fold max ⊥ f) := by
    rcases h with h | ⟨i, hi⟩
    · exact lt_max_of_lt_left h
    · exact lt_max_of_lt_right ((Finset.lt_fold_max ⊥).2 (Or.inr ⟨i, Finset.mem_univ _, hi⟩))
  exact ⟨_, (EReal.coe_toReal h1.ne h2.ne').symm⟩

/-- What the running maximum `m`, sum `l` and weighted sums `a` say after `n` keys. -/
def Upto {D : Type*} (q : ℕ) (x : ℕ → ℝ) (v : ℕ → D → ℝ) (n : ℕ) (m l : EReal) (a : D → EReal) : Prop :=
  ∃ M : ℝ, m = (M : EReal) ∧ l = ((Real.exp (-M) * ∑ k ∈ Finset.range n, wt q x k : ℝ) : EReal)
    ∧ ∀ d, a d = ((Real.exp (-M) * ∑ k ∈ Finset.range n, wt q x k * v k d : ℝ) : EReal)

/-- A block's exponentials, summed. -/
theorem block_sum (q : ℕ) (x : ℕ → ℝ) (n B : ℕ) (M : ℝ) (s : Fin B → EReal) (hs : ∀ j, s j = score q x (n + j)) :
    ∑ j, Ideal.exp (s j - (M : EReal)) = ((Real.exp (-M) * ∑ k ∈ Finset.range B, wt q x (n + k) : ℝ) : EReal) := by
  rw [Finset.mul_sum, Finset.sum_range, coe_sum]
  exact Finset.sum_congr rfl fun j _ => by rw [hs, exp_score]

/-- A block's exponentials times its values, summed. -/
theorem block_dot (q : ℕ) (x : ℕ → ℝ) (n B : ℕ) (M : ℝ) (s w : Fin B → EReal) (v : ℕ → ℝ)
    (hs : ∀ j, s j = score q x (n + j)) (hw : ∀ j : Fin B, w j = ((v (n + j) : ℝ) : EReal)) :
    ∑ j, Ideal.exp (s j - (M : EReal)) * w j
      = ((Real.exp (-M) * ∑ k ∈ Finset.range B, wt q x (n + k) * v (n + k) : ℝ) : EReal) := by
  rw [Finset.mul_sum, Finset.sum_range, coe_sum]
  exact Finset.sum_congr rfl fun j _ => by rw [hs, hw, exp_score, ← EReal.coe_mul, mul_assoc]

/-- The first block: it holds key 0, which every query sees. -/
theorem upto_first {D : Type*} (q : ℕ) (x : ℕ → ℝ) (v : ℕ → D → ℝ) (B : ℕ) (hB : 0 < B) (s : Fin B → EReal)
    (w : Fin B → D → EReal) (hs : ∀ j, s j = score q x j) (hw : ∀ j d, w j d = ((v j d : ℝ) : EReal))
    (m l : EReal) (a : D → EReal) (hm : m = max ⊥ (Finset.univ.fold max ⊥ s))
    (hl : l = Ideal.exp (⊥ - m) * 0 + ∑ j, Ideal.exp (s j - m))
    (ha : ∀ d, a d = Ideal.exp (⊥ - m) * 0 + ∑ j, Ideal.exp (s j - m) * w j d) :
    Upto q x v B m l a := by
  obtain ⟨M, hM⟩ := fold_max_real s ⊥ bot_lt_top (fun i => by rw [hs]; exact score_ne_top _ _ _)
    (Or.inr ⟨⟨0, hB⟩, by rw [hs]; simp [score, EReal.bot_lt_coe]⟩)
  rw [hM] at hm
  subst hm
  refine ⟨M, rfl, ?_, fun d => ?_⟩
  · rw [hl, mul_zero, zero_add, block_sum q x 0 B M s (by simpa using hs)]; simp
  · rw [ha, mul_zero, zero_add, block_dot q x 0 B M s (fun j => w j d) (fun k => v k d) (by simpa using hs)
      (by simpa using fun j => hw j d)]; simp

/-- A later block. -/
theorem upto_step {D : Type*} (q : ℕ) (x : ℕ → ℝ) (v : ℕ → D → ℝ) (n B : ℕ) (s : Fin B → EReal) (w : Fin B → D → EReal)
    (hs : ∀ j, s j = score q x (n + j)) (hw : ∀ j d, w j d = ((v (n + j) d : ℝ) : EReal))
    (m l : EReal) (a : D → EReal) (m' l' : EReal) (a' : D → EReal) (h : Upto q x v n m' l' a')
    (hm : m = max m' (Finset.univ.fold max ⊥ s))
    (hl : l = Ideal.exp (m' - m) * l' + ∑ j, Ideal.exp (s j - m))
    (ha : ∀ d, a d = Ideal.exp (m' - m) * a' d + ∑ j, Ideal.exp (s j - m) * w j d) :
    Upto q x v (n + B) m l a := by
  obtain ⟨M', rfl, hl', ha'⟩ := h
  obtain ⟨M, hM⟩ := fold_max_real s (M' : EReal) (EReal.coe_lt_top _)
    (fun i => by rw [hs]; exact score_ne_top _ _ _) (Or.inl (EReal.bot_lt_coe _))
  rw [hM] at hm
  subst hm
  have hE : Real.exp (M' - M) * Real.exp (-M') = Real.exp (-M) := by rw [← Real.exp_add]; congr 1; ring
  refine ⟨M, rfl, ?_, fun d => ?_⟩
  · rw [hl, hl', ← EReal.coe_sub, Ideal.exp_coe, ← EReal.coe_mul, block_sum q x n B M s hs, ← EReal.coe_add, ← mul_assoc,
      hE, ← mul_add, Finset.sum_range_add]
  · rw [ha, ha', ← EReal.coe_sub, Ideal.exp_coe, ← EReal.coe_mul,
      block_dot q x n B M s (fun j => w j d) (fun k => v k d) hs (fun j => hw j d), ← EReal.coe_add, ← mul_assoc,
      hE, ← mul_add, Finset.sum_range_add]

/-- A block no key of which the query sees changes nothing. -/
theorem upto_skip {D : Type*} (q : ℕ) (x : ℕ → ℝ) (v : ℕ → D → ℝ) (n B : ℕ) (hq : q < n) (m l : EReal) (a : D → EReal)
    (h : Upto q x v n m l a) : Upto q x v (n + B) m l a := by
  obtain ⟨M, hm, hl, ha⟩ := h
  have h0 : ∀ k, wt q x (n + k) = 0 := fun k => if_neg (by omega)
  refine ⟨M, hm, ?_, fun d => ?_⟩
  · rw [hl, Finset.sum_range_add, Finset.sum_eq_zero (s := Finset.range B) fun k _ => h0 k, add_zero]
  · rw [ha, Finset.sum_range_add, Finset.sum_eq_zero (s := Finset.range B) fun k _ => by rw [h0, zero_mul], add_zero]

/-- The weighted mean of the values: what attention is. -/
def mean (q : ℕ) (x : ℕ → ℝ) (v : ℕ → ℝ) (n : ℕ) : ℝ :=
  (∑ k ∈ Finset.range n, wt q x k * v k) / ∑ k ∈ Finset.range n, wt q x k

/-- The quotient of the running sums is the weighted mean. -/
theorem upto_div {D : Type*} (q : ℕ) (x : ℕ → ℝ) (v : ℕ → D → ℝ) (n : ℕ) (m l : EReal) (a : D → EReal)
    (h : Upto q x v (n + 1) m l a) (d : D) : Ideal.div (a d) l = ((mean q x (fun k => v k d) (n + 1) : ℝ) : EReal) := by
  obtain ⟨M, hm, hl, ha⟩ := h
  have hp := sum_wt_pos q x n
  have he := Real.exp_pos (-M)
  rw [ha, hl, Ideal.div_coe (mul_pos he hp).ne', ← EReal.coe_mul, mean]
  congr 1
  field_simp

/-- Attention written as the reference writes it — a softmax over all keys, its masked weights set to zero — is the
    weighted mean. -/
theorem softmax_mean (q : ℕ) (x : ℕ → ℝ) (v : ℕ → ℝ) (n : ℕ) (s w : Fin (n + 1) → EReal) (hs : ∀ j, s j = score q x j)
    (hw : ∀ j : Fin (n + 1), w j = ((v j : ℝ) : EReal)) (m l : EReal) (hm : m = max ⊥ (Finset.univ.fold max ⊥ s))
    (hl : l = ∑ j, Ideal.exp (s j - m)) :
    ∑ j : Fin (n + 1), w j * (if (j : ℕ) ≤ q then Ideal.div (Ideal.exp (s j - m)) l else 0)
      = ((mean q x v (n + 1) : ℝ) : EReal) := by
  obtain ⟨M, hM⟩ := fold_max_real s ⊥ bot_lt_top (fun i => by rw [hs]; exact score_ne_top _ _ _)
    (Or.inr ⟨0, by rw [hs]; simp [score, EReal.bot_lt_coe]⟩)
  rw [hM] at hm
  subst hm
  have hp := sum_wt_pos q x n
  have he := Real.exp_pos (-M)
  rw [block_sum q x 0 (n + 1) M s (by simpa using hs)] at hl
  simp only [zero_add] at hl
  have hterm : ∀ j : Fin (n + 1), w j * (if (j : ℕ) ≤ q then Ideal.div (Ideal.exp (s j - (M : EReal))) l else 0)
      = (((wt q x j * v j) / ∑ k ∈ Finset.range (n + 1), wt q x k : ℝ) : EReal) := fun j => by
    split_ifs with hj
    · rw [hw, hs, exp_score, hl, Ideal.div_coe (mul_pos he hp).ne', ← EReal.coe_mul, ← EReal.coe_mul]
      congr 1
      field_simp
    · rw [mul_zero, wt, if_neg hj]; simp
  rw [Finset.sum_congr rfl fun j _ => hterm j, ← coe_sum, mean, Finset.sum_div,
    Finset.sum_range fun k => wt q x k * v k / ∑ i ∈ Finset.range (n + 1), wt q x i]

end Cert.Proof.Softmax
-- ==== Proof.Spec.lean ====
/- The prompt attention over latent rows, written over the extended reals and, for arguments that are all numbers, over
   the reals: the scores, the values and the weighted mean of the values that the layer returns. -/
module

public import proofs.«01_k».proof.Proof.Online
public import Idealize.ShloMosaic.Lib.Pointwise

@[expose] public section

noncomputable section

open Idealize.ShloMosaic

namespace Cert.Proof.Spec

open Cert.Proof.Softmax

/-- The latent queries' shape, the rotary queries', the rows'. -/
abbrev SQ : Shape := ⟨4, ![16, 2, 4096, 256]⟩
abbrev SR : Shape := ⟨4, ![16, 2, 4096, 32]⟩
abbrev SK : Shape := ⟨3, ![2, 4096, 288]⟩

/-- Every entry is a real number. -/
def Finite {s : Shape} (A : s.Idx → EReal) : Prop := ∀ i, ∃ r : ℝ, A i = (r : EReal)

theorem Finite.toReal {s : Shape} {A : s.Idx → EReal} (h : Finite A) (i : s.Idx) : ((A i).toReal : EReal) = A i := by
  obtain ⟨r, hr⟩ := h i
  rw [hr, EReal.toReal_coe]

/-- The scale of the scores. -/
def scale : EReal := Ideal.ofBits .f32 0x3DD105EC#32

theorem scale_toReal : ((scale.toReal : ℝ) : EReal) = scale := by
  have h : ∃ r : ℝ, scale = (r : EReal) := by
    unfold scale Ideal.ofBits Ideal.ieee
    exact ⟨_, rfl⟩
  obtain ⟨r, hr⟩ := h
  rw [hr, EReal.toReal_coe]

/-- The pattern of minus infinity. -/
theorem neg_inf : Ideal.ofBits .f32 0xFF800000#32 = (⊥ : EReal) := by simp [Ideal.ofBits, Ideal.ieee]

/-- The pattern of plus infinity. -/
theorem pos_inf : Ideal.ofBits .f32 0x7F800000#32 = (⊤ : EReal) := by simp [Ideal.ofBits, Ideal.ieee]

variable (A0 : SQ.Idx → EReal) (A1 : SR.Idx → EReal) (A2 : SK.Idx → EReal)

/-- The score of key `k` at query `q` of head `h`, before the mask. -/
def raw (h : Fin 16) (b : Fin 2) (q k : Fin 4096) : EReal :=
  ((∑ x : Fin 256, A0 (ix4 h b q x) * A2 (ix3 b k ⟨(x : ℕ), by omega⟩))
    + ∑ x : Fin 32, A1 (ix4 h b q x) * A2 (ix3 b k ⟨256 + (x : ℕ), by omega⟩)) * scale

/-- The same over the reals, the key any natural number. -/
def rawR (h : Fin 16) (b : Fin 2) (q : Fin 4096) (k : ℕ) : ℝ :=
  if hk : k < 4096 then
    ((∑ x : Fin 256, (A0 (ix4 h b q x)).toReal * (A2 (ix3 b ⟨k, hk⟩ ⟨(x : ℕ), by omega⟩)).toReal)
      + ∑ x : Fin 32, (A1 (ix4 h b q x)).toReal * (A2 (ix3 b ⟨k, hk⟩ ⟨256 + (x : ℕ), by omega⟩)).toReal) * scale.toReal
  else 0

/-- The values, over the reals. -/
def valR (b : Fin 2) (k : ℕ) (d : Fin 256) : ℝ :=
  if hk : k < 4096 then (A2 (ix3 b ⟨k, hk⟩ ⟨(d : ℕ), by omega⟩)).toReal else 0

variable {A0 A1 A2}

theorem raw_eq (h0 : Finite A0) (h1 : Finite A1) (h2 : Finite A2) (h : Fin 16) (b : Fin 2) (q k : Fin 4096) :
    raw A0 A1 A2 h b q k = (rawR A0 A1 A2 h b q k : EReal) := by
  unfold raw rawR
  rw [dif_pos k.isLt, EReal.coe_mul, scale_toReal, EReal.coe_add, coe_sum, coe_sum]
  simp only [EReal.coe_mul, h0.toReal, h1.toReal, h2.toReal]

theorem val_eq (h2 : Finite A2) (b : Fin 2) (k : Fin 4096) (d : Fin 256) (hd : (d : ℕ) < 288) :
    A2 (ix3 b k ⟨(d : ℕ), hd⟩) = (valR A2 b k d : EReal) := by
  unfold valR
  rw [dif_pos k.isLt, h2.toReal]

variable (A0 A1 A2)

/-- The masked score. -/
def masked (h : Fin 16) (b : Fin 2) (q k : Fin 4096) : EReal := if (k : ℕ) ≤ q then raw A0 A1 A2 h b q k else ⊥

variable {A0 A1 A2}

theorem masked_eq (h0 : Finite A0) (h1 : Finite A1) (h2 : Finite A2) (h : Fin 16) (b : Fin 2) (q k : Fin 4096) :
    masked A0 A1 A2 h b q k = score q (rawR A0 A1 A2 h b q) k := by
  unfold masked score
  rw [raw_eq h0 h1 h2]

variable (A0 A1 A2)

/-- What the layer returns at head `h`, query `q`, column `d`. -/
def out (h : Fin 16) (b : Fin 2) (q : Fin 4096) (d : Fin 256) : EReal :=
  ((mean q (rawR A0 A1 A2 h b q) (fun k => valR A2 b k d) 4096 : ℝ) : EReal)

end Cert.Proof.Spec
-- ==== Proof.Payloads.lean ====
/- What the values stored by the prompt-attention kernel are at one index, as scalars. -/
module

public import proofs.«01_k».proof.Proof.Gen.MlaIdeal.Skeleton
public import proofs.«01_k».proof.Proof.Spec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Proof.Mla

open Cert.MlaIdeal Cert.MlaIdeal.Gen

/-- The named constant is minus infinity. -/
theorem mask_eq : Named.named (F := Ideal) κ "mask" (φ := .f32) 0xF149F2CA#32 = (⊥ : EReal) := rfl

/-- The causal comparison, on the words: the key's position against the query's. -/
theorem causal (qi : Fin 32) (kb : Fin 8) (r : Fin 2048) (k : Fin 512) :
    IntOp.cmpi CmpIPredicate.sle (IntOp.addi (Scalar.muli (BitVec.ofNat 32 kb) 512#32) (BitVec.ofNat 32 k))
        (IntOp.addi (Scalar.muli (BitVec.ofNat 32 qi) 128#32) (IntOp.andi (BitVec.ofNat 32 r) 127#32))
      = BitVec.ofBool (decide (512 * (kb : ℕ) + k ≤ 128 * (qi : ℕ) + r % 128)) := by
  have hk : (IntOp.addi (Scalar.muli (BitVec.ofNat 32 kb) 512#32) (BitVec.ofNat 32 k))
      = BitVec.ofNat 32 (512 * (kb : ℕ) + k) := by
    apply BitVec.eq_of_toNat_eq
    simp only [IntOp.addi, Scalar.muli, IntOp.muli, BitVec.toNat_add, BitVec.toNat_mul, BitVec.toNat_ofNat]
    omega
  have hq : (IntOp.addi (Scalar.muli (BitVec.ofNat 32 qi) 128#32) (IntOp.andi (BitVec.ofNat 32 r) 127#32))
      = BitVec.ofNat 32 (128 * (qi : ℕ) + r % 128) := by
    have h7 : (BitVec.ofNat 32 (r : ℕ) &&& 127#32).toNat = r % 128 := by
      rw [BitVec.toNat_and, BitVec.toNat_ofNat, Nat.mod_eq_of_lt (by omega)]
      exact Nat.and_two_pow_sub_one_eq_mod r 7
    apply BitVec.eq_of_toNat_eq
    simp only [IntOp.addi, IntOp.andi, Scalar.muli, IntOp.muli, BitVec.toNat_add, BitVec.toNat_mul, h7, BitVec.toNat_ofNat]
    omega
  rw [hk, hq]
  word_cmp

/-- The running maximum starts at minus infinity, -/
theorem pay1_at (r : Fin 2048) (z : Fin 1) : k0_pay1 (F := Ideal) (ix2 r z : S2048x1.Idx) = (⊥ : EReal) := by
  pointwise [k0_pay1, mask_eq]

/-- the running sum at zero, -/
theorem pay2_at (r : Fin 2048) (z : Fin 1) : k0_pay2 (F := Ideal) (ix2 r z : S2048x1.Idx) = (0 : EReal) := by
  pointwise [k0_pay2]

/-- and so do the running weighted sums. -/
theorem pay3_at (r : Fin 2048) (d : Fin 256) : k0_pay3 (F := Ideal) (ix2 r d : S2048x256.Idx) = (0 : EReal) := by
  pointwise [k0_pay3]

/-- The masked scores of a block of keys. -/
theorem pay10_at (qi : Fin 32) (kb : Fin 8) (ql : FVec Ideal S16x1x128x256 .bf16) (qr : FVec Ideal S16x1x128x32 .bf16)
    (kv : FVec Ideal S1x512x288 .f32) (r : Fin 2048) (k : Fin 512) :
    k0_pay10 (F := Ideal) (BitVec.ofNat 32 qi) (BitVec.ofNat 32 kb) ql qr kv (ix2 r k : S2048x512.Idx)
      = if 512 * (kb : ℕ) + k ≤ 128 * (qi : ℕ) + r % 128 then
          ((∑ x : Fin 256, ql (ix4 ⟨r / 128, by omega⟩ 0 ⟨r % 128, by omega⟩ x) * kv (ix3 0 k ⟨(x : ℕ), by omega⟩))
            + ∑ x : Fin 32, qr (ix4 ⟨r / 128, by omega⟩ 0 ⟨r % 128, by omega⟩ x) * kv (ix3 0 k ⟨256 + (x : ℕ), by omega⟩))
            * Spec.scale
        else ⊥ := by
  pointwise [k0_pay10, k0_pay8, k0_pay9, mask_eq, causal]
  rfl

/-- The new running maximum. -/
theorem pay11_at (qi kb : BitVec 32) (ql : FVec Ideal S16x1x128x256 .bf16) (qr : FVec Ideal S16x1x128x32 .bf16)
    (kv : FVec Ideal S1x512x288 .f32) (m : FVec Ideal S2048x1 .f32) (r : Fin 2048) (z : Fin 1) :
    k0_pay11 (F := Ideal) qi kb ql qr kv m (ix2 r z : S2048x1.Idx)
      = max (m (ix2 r z)) (Finset.univ.fold max ⊥ fun x : Fin 512 => k0_pay10 (F := Ideal) qi kb ql qr kv (ix2 r x)) := by
  pointwise [k0_pay11, Spec.neg_inf]

/-- The factor that rescales what was summed before. -/
theorem pay12_at (qi kb : BitVec 32) (ql : FVec Ideal S16x1x128x256 .bf16) (qr : FVec Ideal S16x1x128x32 .bf16)
    (kv : FVec Ideal S1x512x288 .f32) (m : FVec Ideal S2048x1 .f32) (r : Fin 2048) (z : Fin 1) :
    k0_pay12 (F := Ideal) qi kb ql qr kv m (ix2 r z : S2048x1.Idx)
      = Ideal.exp (m (ix2 r z) - k0_pay11 (F := Ideal) qi kb ql qr kv m (ix2 r z)) := by
  pointwise [k0_pay12]

/-- The block's exponentials. -/
theorem pay13_at (qi kb : BitVec 32) (ql : FVec Ideal S16x1x128x256 .bf16) (qr : FVec Ideal S16x1x128x32 .bf16)
    (kv : FVec Ideal S1x512x288 .f32) (m : FVec Ideal S2048x1 .f32) (r : Fin 2048) (k : Fin 512) :
    k0_pay13 (F := Ideal) qi kb ql qr kv m (ix2 r k : S2048x512.Idx)
      = Ideal.exp (k0_pay10 (F := Ideal) qi kb ql qr kv (ix2 r k) - k0_pay11 (F := Ideal) qi kb ql qr kv m (ix2 r 0)) := by
  pointwise [k0_pay13]

/-- The new running sum. -/
theorem pay4_at (a : FVec Ideal S2048x1 .f32) (p : FVec Ideal S2048x512 .f32) (l : FVec Ideal S2048x1 .f32) (r : Fin 2048)
    (z : Fin 1) :
    k0_pay4 (F := Ideal) a p l (ix2 r z : S2048x1.Idx) = a (ix2 r z) * l (ix2 r z) + ∑ x : Fin 512, p (ix2 r x) := by
  pointwise [k0_pay4]

/-- The new running weighted sums. -/
theorem pay5_at (kv : FVec Ideal S1x512x288 .f32) (a : FVec Ideal S2048x1 .f32) (p : FVec Ideal S2048x512 .f32)
    (acc : FVec Ideal S2048x256 .f32) (r : Fin 2048) (d : Fin 256) :
    k0_pay5 (F := Ideal) (k0_pay9 (F := Ideal) kv) a p acc (ix2 r d : S2048x256.Idx)
      = a (ix2 r 0) * acc (ix2 r d) + ∑ x : Fin 512, p (ix2 r x) * kv (ix3 0 x ⟨(d : ℕ), by omega⟩) := by
  pointwise [k0_pay5, k0_pay8, k0_pay9]

theorem pay6_at (v : FVec Ideal S2048x1 .f32) (r : Fin 2048) (z : Fin 1) :
    k0_pay6 (F := Ideal) v (ix2 r z : S2048x1.Idx) = v (ix2 r z) := by
  pointwise [k0_pay6]

/-- The written block: the weighted sums over the sum. -/
theorem pay7_at (acc : FVec Ideal S2048x256 .f32) (l : FVec Ideal S2048x1 .f32) (h : Fin 16) (z : Fin 1) (i : Fin 128)
    (d : Fin 256) :
    k0_pay7 (F := Ideal) acc l (ix4 h z i d : S16x1x128x256.Idx)
      = Ideal.div (acc (ix2 ⟨h * 128 + i, by omega⟩ d)) (l (ix2 ⟨h * 128 + i, by omega⟩ 0)) := by
  pointwise [k0_pay7]

end Cert.Proof.Mla
-- ==== Proof.Points.lean ====
/- The prompt-attention kernel at one grid point: which part of each argument it holds, and what it leaves in its three
   running arrays. -/
module

public import proofs.«01_k».proof.Proof.Gen.MlaIdeal.Value
public import proofs.«01_k».proof.Proof.Payloads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Mla

open Cert.MlaIdeal Cert.MlaIdeal.Gen

variable (m : (ℓ : Loc nD τ sig) → Buf (Elt Ideal) ℓ) (c : Dev nD)

/-- Where the queries' and the result's blocks lie: batch `t / 256`, query block `t / 8 % 32`. -/
theorem idx : ∀ t : Fin cfg0.N, win0_0.index t = ![0, t.val / 256, t.val / 8 % 32, 0]
    ∧ win0_1.index t = ![0, t.val / 256, t.val / 8 % 32, 0] ∧ win0_3.index t = ![0, t.val / 256, t.val / 8 % 32, 0]
    ∧ (grid0.coords t 1).val = t.val / 8 % 32 ∧ (grid0.coords t 2).val = t.val % 8 :=
  (by decide +kernel : ∀ t : Fin grid0.N, _)

/-- Where the rows' block lies at a point that uses it: key block `t % 8`. -/
theorem idx_kv : ∀ t : Fin cfg0.N, 4 * (t.val % 8) ≤ t.val / 8 % 32 → win0_2.index t = ![t.val / 256, t.val % 8, 0] :=
  (by decide +kernel : ∀ t : Fin grid0.N, _)

/-- The point's batch, its row `r`'s head and query. -/
def bat (t : Fin cfg0.N) : Fin 2 := ⟨t.val / 256, by have := lt_of_lt_of_eq t.isLt N_0; omega⟩
def hd (r : Fin 2048) : Fin 16 := ⟨r / 128, by omega⟩
def qry (t : Fin cfg0.N) (i : ℕ) : Fin 4096 := ⟨128 * (t.val / 8 % 32) + i % 128, by omega⟩
def key (t : Fin cfg0.N) (k : Fin 512) : Fin 4096 := ⟨512 * (t.val % 8) + k, by omega⟩

/-- The three arguments. -/
abbrev A0 : FVec Ideal S16x2x4096x256 .bf16 := m ((c.tc : Thread nD τ).loc main_arg0)
abbrev A1 : FVec Ideal S16x2x4096x32 .bf16 := m ((c.tc : Thread nD τ).loc main_arg1)
abbrev A2 : FVec Ideal S2x4096x288 .f32 := m ((c.tc : Thread nD τ).loc main_arg2)

/-- The point's three blocks. -/
abbrev B0 (t : Fin cfg0.N) : FVec Ideal S16x1x128x256 .bf16 := iblk m c 0 t
abbrev B1 (t : Fin cfg0.N) : FVec Ideal S16x1x128x32 .bf16 := iblk m c 1 t
abbrev B2 (t : Fin cfg0.N) : FVec Ideal S1x512x288 .f32 := iblk m c 2 t

theorem B0_at (t : Fin cfg0.N) (h : Fin 16) (i : Fin 128) (x : Fin 256) :
    B0 m c t (ix4 h 0 i x) = A0 m c (ix4 h (bat t) (qry t i) x) := by
  blk_point [iblk, V, idx t]
  all_goals (dsimp only [bat, qry]; omega)

theorem B1_at (t : Fin cfg0.N) (h : Fin 16) (i : Fin 128) (x : Fin 32) :
    B1 m c t (ix4 h 0 i x) = A1 m c (ix4 h (bat t) (qry t i) x) := by
  blk_point [iblk, V, idx t]
  all_goals (dsimp only [bat, qry]; omega)

theorem B2_at (t : Fin cfg0.N) (ht : 4 * (t.val % 8) ≤ t.val / 8 % 32) (k : Fin 512) (x : Fin 288) :
    B2 m c t (ix3 0 k x) = A2 m c (ix3 (bat t) (key t k) x) := by
  blk_point [iblk, V, idx_kv t ht]
  all_goals (dsimp only [bat, key]; omega)

/-- The three running arrays after point `t`. -/
abbrev mx (n : ℕ) (hn : n < cfg0.N) : FVec Ideal S2048x1 .f32 := (outsAt0 m c n hn).2.1
abbrev sm (n : ℕ) (hn : n < cfg0.N) : FVec Ideal S2048x1 .f32 := (outsAt0 m c n hn).2.2.1
abbrev ac (n : ℕ) (hn : n < cfg0.N) : FVec Ideal S2048x256 .f32 := (outsAt0 m c n hn).2.2.2

abbrev qi (t : Fin cfg0.N) : BitVec 32 := BitVec.ofNat 32 (grid0.coords t 1).val
abbrev kb (t : Fin cfg0.N) : BitVec 32 := BitVec.ofNat 32 (grid0.coords t 2).val

/-- An updating point, from what the running arrays held: the new maxima, sums and weighted sums. -/
def newM (t : Fin cfg0.N) (mm : FVec Ideal S2048x1 .f32) : FVec Ideal S2048x1 .f32 :=
  k0_pay6 (k0_pay11 (qi t) (kb t) (B0 m c t) (B1 m c t) (B2 m c t) mm)
def newL (t : Fin cfg0.N) (mm l : FVec Ideal S2048x1 .f32) : FVec Ideal S2048x1 .f32 :=
  k0_pay4 (k0_pay12 (qi t) (kb t) (B0 m c t) (B1 m c t) (B2 m c t) mm)
    (k0_pay13 (qi t) (kb t) (B0 m c t) (B1 m c t) (B2 m c t) mm) l
def newA (t : Fin cfg0.N) (mm : FVec Ideal S2048x1 .f32) (a : FVec Ideal S2048x256 .f32) : FVec Ideal S2048x256 .f32 :=
  k0_pay5 (k0_pay9 (B2 m c t)) (k0_pay12 (qi t) (kb t) (B0 m c t) (B1 m c t) (B2 m c t) mm)
    (k0_pay13 (qi t) (kb t) (B0 m c t) (B1 m c t) (B2 m c t) mm) a

/-! ## What each kind of point leaves -/

variable (t : Fin cfg0.N)

/-- The point before. -/
theorem pred_lt : t.val - 1 < cfg0.N := Nat.lt_of_le_of_lt (Nat.sub_le _ _) t.isLt

/-- The first key block: the update from the initial arrays. -/
theorem mx_A (h0 : t.val % 8 = 0) (h1 : 4 * (t.val % 8) ≤ t.val / 8 % 32) (h2 : ¬t.val % 8 = 7) :
    mx m c t.val t.isLt = newM m c t (k0_pay1 (F := Ideal)) := by
  unfold mx newM; rw [outsAt0_A m c t h0 h1 h2]; frame_out

theorem sm_A (h0 : t.val % 8 = 0) (h1 : 4 * (t.val % 8) ≤ t.val / 8 % 32) (h2 : ¬t.val % 8 = 7) :
    sm m c t.val t.isLt = newL m c t (k0_pay1 (F := Ideal)) (k0_pay2 (F := Ideal)) := by
  unfold sm newL; rw [outsAt0_A m c t h0 h1 h2]; frame_out

theorem ac_A (h0 : t.val % 8 = 0) (h1 : 4 * (t.val % 8) ≤ t.val / 8 % 32) (h2 : ¬t.val % 8 = 7) :
    ac m c t.val t.isLt = newA m c t (k0_pay1 (F := Ideal)) (k0_pay3 (F := Ideal)) := by
  unfold ac newA; rw [outsAt0_A m c t h0 h1 h2]; frame_out

/-- A wholly masked key block: nothing changes. -/
theorem mx_B (h0 : ¬t.val % 8 = 0) (h1 : ¬4 * (t.val % 8) ≤ t.val / 8 % 32) (h2 : ¬t.val % 8 = 7) :
    mx m c t.val t.isLt = mx m c (t.val - 1) (pred_lt t) := by
  unfold mx; rw [outsAt0_B m c t h0 h1 h2]; rfl

theorem sm_B (h0 : ¬t.val % 8 = 0) (h1 : ¬4 * (t.val % 8) ≤ t.val / 8 % 32) (h2 : ¬t.val % 8 = 7) :
    sm m c t.val t.isLt = sm m c (t.val - 1) (pred_lt t) := by
  unfold sm; rw [outsAt0_B m c t h0 h1 h2]; rfl

theorem ac_B (h0 : ¬t.val % 8 = 0) (h1 : ¬4 * (t.val % 8) ≤ t.val / 8 % 32) (h2 : ¬t.val % 8 = 7) :
    ac m c t.val t.isLt = ac m c (t.val - 1) (pred_lt t) := by
  unfold ac; rw [outsAt0_B m c t h0 h1 h2]; rfl

/-- A wholly masked last key block: nothing changes. -/
theorem mx_C (h0 : ¬t.val % 8 = 0) (h1 : ¬4 * (t.val % 8) ≤ t.val / 8 % 32) (h2 : t.val % 8 = 7) :
    mx m c t.val t.isLt = mx m c (t.val - 1) (pred_lt t) := by
  unfold mx; rw [outsAt0_C m c t h0 h1 h2]; rfl

theorem sm_C (h0 : ¬t.val % 8 = 0) (h1 : ¬4 * (t.val % 8) ≤ t.val / 8 % 32) (h2 : t.val % 8 = 7) :
    sm m c t.val t.isLt = sm m c (t.val - 1) (pred_lt t) := by
  unfold sm; rw [outsAt0_C m c t h0 h1 h2]; rfl

theorem ac_C (h0 : ¬t.val % 8 = 0) (h1 : ¬4 * (t.val % 8) ≤ t.val / 8 % 32) (h2 : t.val % 8 = 7) :
    ac m c t.val t.isLt = ac m c (t.val - 1) (pred_lt t) := by
  unfold ac; rw [outsAt0_C m c t h0 h1 h2]; rfl

/-- A further key block: the update. -/
theorem mx_D (h0 : ¬t.val % 8 = 0) (h1 : 4 * (t.val % 8) ≤ t.val / 8 % 32) (h2 : ¬t.val % 8 = 7) :
    mx m c t.val t.isLt = newM m c t (mx m c (t.val - 1) (pred_lt t)) := by
  unfold mx newM; rw [outsAt0_D m c t h0 h1 h2]; frame_out
  simp only [read_unread_whole]

theorem sm_D (h0 : ¬t.val % 8 = 0) (h1 : 4 * (t.val % 8) ≤ t.val / 8 % 32) (h2 : ¬t.val % 8 = 7) :
    sm m c t.val t.isLt = newL m c t (mx m c (t.val - 1) (pred_lt t)) (sm m c (t.val - 1) (pred_lt t)) := by
  unfold mx sm newL; rw [outsAt0_D m c t h0 h1 h2]; frame_out
  simp only [read_unread_whole]

theorem ac_D (h0 : ¬t.val % 8 = 0) (h1 : 4 * (t.val % 8) ≤ t.val / 8 % 32) (h2 : ¬t.val % 8 = 7) :
    ac m c t.val t.isLt = newA m c t (mx m c (t.val - 1) (pred_lt t)) (ac m c (t.val - 1) (pred_lt t)) := by
  unfold mx ac newA; rw [outsAt0_D m c t h0 h1 h2]; frame_out
  simp only [read_unread_whole]

/-- The last key block: the update. -/
theorem mx_E (h0 : ¬t.val % 8 = 0) (h1 : 4 * (t.val % 8) ≤ t.val / 8 % 32) (h2 : t.val % 8 = 7) :
    mx m c t.val t.isLt = newM m c t (mx m c (t.val - 1) (pred_lt t)) := by
  unfold mx newM; rw [outsAt0_E m c t h0 h1 h2]; frame_out
  simp only [read_unread_whole]

theorem sm_E (h0 : ¬t.val % 8 = 0) (h1 : 4 * (t.val % 8) ≤ t.val / 8 % 32) (h2 : t.val % 8 = 7) :
    sm m c t.val t.isLt = newL m c t (mx m c (t.val - 1) (pred_lt t)) (sm m c (t.val - 1) (pred_lt t)) := by
  unfold mx sm newL; rw [outsAt0_E m c t h0 h1 h2]; frame_out
  simp only [read_unread_whole]

theorem ac_E (h0 : ¬t.val % 8 = 0) (h1 : 4 * (t.val % 8) ≤ t.val / 8 % 32) (h2 : t.val % 8 = 7) :
    ac m c t.val t.isLt = newA m c t (mx m c (t.val - 1) (pred_lt t)) (ac m c (t.val - 1) (pred_lt t)) := by
  unfold mx ac newA; rw [outsAt0_E m c t h0 h1 h2]; frame_out
  simp only [read_unread_whole]

/-- What a last point writes: the weighted sums over the sums, both as it leaves them. -/
theorem out_C (h0 : ¬t.val % 8 = 0) (h1 : ¬4 * (t.val % 8) ≤ t.val / 8 % 32) (h2 : t.val % 8 = 7) :
    (outsAt0 m c t.val t.isLt).1 = k0_pay7 (F := Ideal) (ac m c t.val t.isLt) (sm m c t.val t.isLt) := by
  rw [ac_C m c t h0 h1 h2, sm_C m c t h0 h1 h2]
  unfold sm ac
  rw [outsAt0_C m c t h0 h1 h2]; frame_out
  simp only [read_unread_whole]

/-- What a last point writes: the weighted sums over the sums, both as it leaves them. -/
theorem out_E (h0 : ¬t.val % 8 = 0) (h1 : 4 * (t.val % 8) ≤ t.val / 8 % 32) (h2 : t.val % 8 = 7) :
    (outsAt0 m c t.val t.isLt).1 = k0_pay7 (F := Ideal) (ac m c t.val t.isLt) (sm m c t.val t.isLt) := by
  rw [ac_E m c t h0 h1 h2, sm_E m c t h0 h1 h2]
  unfold newA newL mx sm ac
  rw [outsAt0_E m c t h0 h1 h2]; frame_out
  simp only [read_unread_whole]

end Cert.Proof.Mla
-- ==== Proof.Steps.lean ====
/- The prompt-attention kernel's result: along the key blocks the three running arrays hold the running maximum, the running
   sum of the weights and the running weighted sums of the values, so the quotient written after the last block is the
   weighted mean of the values. -/
module

public import proofs.«01_k».proof.Proof.Points

@[expose] public section

set_option maxRecDepth 16384

noncomputable section

open Idealize.ShloMosaic Idealize.ShloMosaic.TcCoe Idealize.SL.Sem
open Idealize.ShloMosaic.Pipeline (Dat)

namespace Cert.Proof.Mla

open Cert.MlaIdeal Cert.MlaIdeal.Gen Cert.Proof.Softmax

variable (m : (ℓ : Loc nD τ sig) → Buf (Elt Ideal) ℓ) (c : Dev nD)

/-- Row `r`'s scores and values at point `t`, over the reals. -/
abbrev X (t : Fin cfg0.N) (r : Fin 2048) : ℕ → ℝ := Spec.rawR (A0 m c) (A1 m c) (A2 m c) (hd r) (bat t) (qry t r)
abbrev W (t : Fin cfg0.N) : ℕ → Fin 256 → ℝ := Spec.valR (A2 m c) (bat t)

/-- The three arguments are numbers. -/
structure Real3 : Prop where
  h0 : Spec.Finite (A0 m c)
  h1 : Spec.Finite (A1 m c)
  h2 : Spec.Finite (A2 m c)

variable {m c} (H : Real3 m c) (t : Fin cfg0.N)
include H

/-- A block's masked scores. -/
theorem block_scores (ht : 4 * (t.val % 8) ≤ t.val / 8 % 32) (r : Fin 2048) (k : Fin 512) :
    k0_pay10 (F := Ideal) (qi t) (kb t) (B0 m c t) (B1 m c t) (B2 m c t) (ix2 r k)
      = score (qry t r) (X m c t r) (512 * (t.val % 8) + k) := by
  obtain ⟨-, -, -, e1, e2⟩ := idx t
  refine (pay10_at (grid0.coords t 1) (grid0.coords t 2) _ _ _ r k).trans ?_
  rw [e1, e2]
  simp only [B0_at, B1_at, B2_at m c t ht]
  have eq' : qry t (r % 128 : ℕ) = qry t r :=
    Fin.ext (show 128 * (t.val / 8 % 32) + (r % 128 : ℕ) % 128 = 128 * (t.val / 8 % 32) + r % 128 by omega)
  rw [eq']
  exact Spec.masked_eq H.h0 H.h1 H.h2 (hd r) (bat t) (qry t r) (key t k)

/-- A block's values. -/
theorem block_values (ht : 4 * (t.val % 8) ≤ t.val / 8 % 32) (k : Fin 512) (d : Fin 256) :
    B2 m c t (ix3 0 k ⟨(d : ℕ), by omega⟩) = ((W m c t (512 * (t.val % 8) + k) d : ℝ) : EReal) := by
  rw [B2_at m c t ht]
  exact Spec.val_eq H.h2 (bat t) (key t k) d (by omega)

/-- The update of the first block. -/
theorem update_first (h0 : t.val % 8 = 0) (r : Fin 2048) :
    Upto (qry t r) (X m c t r) (W m c t) 512 (newM m c t (k0_pay1 (F := Ideal)) (ix2 r 0))
      (newL m c t (k0_pay1 (F := Ideal)) (k0_pay2 (F := Ideal)) (ix2 r 0))
      (fun d => newA m c t (k0_pay1 (F := Ideal)) (k0_pay3 (F := Ideal)) (ix2 r d)) := by
  have ht : 4 * (t.val % 8) ≤ t.val / 8 % 32 := by omega
  have hM : newM m c t (k0_pay1 (F := Ideal)) (ix2 r 0)
      = k0_pay11 (F := Ideal) (qi t) (kb t) (B0 m c t) (B1 m c t) (B2 m c t) (k0_pay1 (F := Ideal)) (ix2 r 0) := pay6_at _ _ _
  refine upto_first _ _ _ 512 (by omega) (fun k => k0_pay10 (F := Ideal) (qi t) (kb t) (B0 m c t) (B1 m c t) (B2 m c t) (ix2 r k))
    (fun k (d : Fin 256) => B2 m c t (ix3 0 k ⟨(d : ℕ), by omega⟩)) (fun k => ?_) (fun k d => ?_) _ _ _ ?_ ?_ fun d => ?_
  · rw [block_scores H t ht, h0]; simp
  · rw [block_values H t ht, h0]; simp
  · rw [hM, pay11_at, pay1_at]
  · rw [hM]; unfold newL; rw [pay4_at, pay12_at, pay1_at, pay2_at]; simp only [pay13_at]
  · rw [hM]; unfold newA; rw [pay5_at, pay12_at, pay1_at, pay3_at]; simp only [pay13_at]

/-- The update of a further block. -/
theorem update_next (ht : 4 * (t.val % 8) ≤ t.val / 8 % 32) (r : Fin 2048) (mm l : FVec Ideal S2048x1 .f32)
    (a : FVec Ideal S2048x256 .f32)
    (h : Upto (qry t r) (X m c t r) (W m c t) (512 * (t.val % 8)) (mm (ix2 r 0)) (l (ix2 r 0)) (fun d => a (ix2 r d))) :
    Upto (qry t r) (X m c t r) (W m c t) (512 * (t.val % 8) + 512) (newM m c t mm (ix2 r 0)) (newL m c t mm l (ix2 r 0))
      (fun d => newA m c t mm a (ix2 r d)) := by
  have hM : newM m c t mm (ix2 r 0)
      = k0_pay11 (F := Ideal) (qi t) (kb t) (B0 m c t) (B1 m c t) (B2 m c t) mm (ix2 r 0) := pay6_at _ _ _
  refine upto_step _ _ _ _ 512 (fun k => k0_pay10 (F := Ideal) (qi t) (kb t) (B0 m c t) (B1 m c t) (B2 m c t) (ix2 r k))
    (fun k (d : Fin 256) => B2 m c t (ix3 0 k ⟨(d : ℕ), by omega⟩)) (fun k => block_scores H t ht r k)
    (fun k d => block_values H t ht k d) _ _ _ _ _ _ h ?_ ?_ fun d => ?_
  · rw [hM, pay11_at]
  · rw [hM]; unfold newL; rw [pay4_at, pay12_at]; simp only [pay13_at]
  · rw [hM]; unfold newA; rw [pay5_at, pay12_at]; simp only [pay13_at]

/-- After every point, the running arrays are those of the keys up to and including its block. -/
theorem running (n : ℕ) (hn : n < cfg0.N) (r : Fin 2048) :
    Upto (qry ⟨n, hn⟩ r) (X m c ⟨n, hn⟩ r) (W m c ⟨n, hn⟩) (512 * (n % 8) + 512) (mx m c n hn (ix2 r 0)) (sm m c n hn (ix2 r 0))
      (fun d => ac m c n hn (ix2 r d)) := by
  induction n with
  | zero =>
    rw [mx_A m c ⟨0, hn⟩ rfl (by simp) (by simp), sm_A m c ⟨0, hn⟩ rfl (by simp) (by simp),
      ac_A m c ⟨0, hn⟩ rfl (by simp) (by simp)]
    exact update_first H ⟨0, hn⟩ rfl r
  | succ n ih =>
    by_cases h0 : (n + 1) % 8 = 0
    · have h1 : 4 * ((n + 1) % 8) ≤ (n + 1) / 8 % 32 := by omega
      have h2 : ¬(n + 1) % 8 = 7 := by omega
      rw [mx_A m c ⟨n + 1, hn⟩ h0 h1 h2, sm_A m c ⟨n + 1, hn⟩ h0 h1 h2, ac_A m c ⟨n + 1, hn⟩ h0 h1 h2, h0]
      exact update_first H ⟨n + 1, hn⟩ h0 r
    · have ih := ih (Nat.lt_of_succ_lt hn)
      have eb : bat ⟨n, Nat.lt_of_succ_lt hn⟩ = bat ⟨n + 1, hn⟩ := Fin.ext (show n / 256 = (n + 1) / 256 by omega)
      have eq' : qry ⟨n, Nat.lt_of_succ_lt hn⟩ r = qry ⟨n + 1, hn⟩ r :=
        Fin.ext (show 128 * (n / 8 % 32) + r % 128 = 128 * ((n + 1) / 8 % 32) + r % 128 by omega)
      have en : 512 * (n % 8) + 512 = 512 * ((n + 1) % 8) := by omega
      unfold X W at ih
      rw [eb, eq', en] at ih
      by_cases h1 : 4 * ((n + 1) % 8) ≤ (n + 1) / 8 % 32
      · by_cases h2 : (n + 1) % 8 = 7
        · rw [mx_E m c ⟨n + 1, hn⟩ h0 h1 h2, sm_E m c ⟨n + 1, hn⟩ h0 h1 h2, ac_E m c ⟨n + 1, hn⟩ h0 h1 h2]
          exact update_next H ⟨n + 1, hn⟩ h1 r _ _ _ ih
        · rw [mx_D m c ⟨n + 1, hn⟩ h0 h1 h2, sm_D m c ⟨n + 1, hn⟩ h0 h1 h2, ac_D m c ⟨n + 1, hn⟩ h0 h1 h2]
          exact update_next H ⟨n + 1, hn⟩ h1 r _ _ _ ih
      · have hq : ((qry ⟨n + 1, hn⟩ r : Fin 4096) : ℕ) < 512 * ((n + 1) % 8) := by
          show 128 * ((n + 1) / 8 % 32) + r % 128 < _
          omega
        by_cases h2 : (n + 1) % 8 = 7
        · rw [mx_C m c ⟨n + 1, hn⟩ h0 h1 h2, sm_C m c ⟨n + 1, hn⟩ h0 h1 h2, ac_C m c ⟨n + 1, hn⟩ h0 h1 h2]
          exact upto_skip _ _ _ _ 512 hq _ _ _ ih
        · rw [mx_B m c ⟨n + 1, hn⟩ h0 h1 h2, sm_B m c ⟨n + 1, hn⟩ h0 h1 h2, ac_B m c ⟨n + 1, hn⟩ h0 h1 h2]
          exact upto_skip _ _ _ _ 512 hq _ _ _ ih

/-- What a last point writes is the layer's result. -/
theorem written (h2 : t.val % 8 = 7) (h : Fin 16) (i : Fin 128) (d : Fin 256) :
    (outsAt0 m c t.val t.isLt).1 (ix4 h 0 i d : S16x1x128x256.Idx)
      = Spec.out (A0 m c) (A1 m c) (A2 m c) h (bat t) (qry t i) d := by
  have h0 : ¬t.val % 8 = 0 := by omega
  have e : (outsAt0 m c t.val t.isLt).1 = k0_pay7 (F := Ideal) (ac m c t.val t.isLt) (sm m c t.val t.isLt) := by
    by_cases h1 : 4 * (t.val % 8) ≤ t.val / 8 % 32
    · exact out_E m c t h0 h1 h2
    · exact out_C m c t h0 h1 h2
  have hr := running H t.val t.isLt ⟨h * 128 + i, by omega⟩
  rw [h2] at hr
  rw [e, pay7_at]
  refine (upto_div _ _ _ 4095 _ _ _ hr d).trans ?_
  have eh : hd ⟨h * 128 + i, by omega⟩ = h := Fin.ext (show (h * 128 + i : ℕ) / 128 = h by omega)
  have ei : qry t (h * 128 + i : ℕ) = qry t i :=
    Fin.ext (show 128 * (t.val / 8 % 32) + (h * 128 + i : ℕ) % 128 = 128 * (t.val / 8 % 32) + i % 128 by omega)
  unfold Spec.out
  show ((mean (qry t (h * 128 + i : ℕ)) (Spec.rawR (A0 m c) (A1 m c) (A2 m c) (hd ⟨h * 128 + i, by omega⟩) (bat t)
    (qry t (h * 128 + i : ℕ))) (fun k => Spec.valR (A2 m c) (bat t) k d) 4096 : ℝ) : EReal) = _
  rw [eh, ei]

end Cert.Proof.Mla
-- ==== Proof.RefAt.lean ====
/- The reference's result at one index: its composed term in three steps — the masked scores, their exponentials over the
   row's maximum, and the weighted sum of the values — each read at an index. -/
module

public import proofs.«01_k».proof.Proof.Gen.MlaRefIdeal.Run
public import proofs.«01_k».proof.Proof.Spec
public import Idealize.ShloMosaic.Lib.WordCmp

@[expose] public section

set_option maxRecDepth 16384

noncomputable section

open Idealize.ShloMosaic Idealize.ShloMosaic.TcCoe Idealize.SL.Sem

namespace Cert.Proof.MlaRef

open Cert.MlaRefIdeal Cert.MlaRefIdeal.Gen

/-- The causal mask: key position at most query position. -/
def Mask : IVec S2x16x4096x4096 1 :=
  broadcastInDim S2x16x4096x4096 ![2, 3] bcast_S4096x4096_S2x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def Scores (A0 : FVec Ideal S16x2x4096x256 .bf16) (A1 : FVec Ideal S16x2x4096x32 .bf16) (A2 : FVec Ideal S2x4096x288 .f32) :
    FVec Ideal S2x16x4096x4096 .f32 :=
  select Mask (mulf (addf (Host.dotGeneral dot_S16x2x4096x256_S2x4096x256_S2x16x4096x4096_3_2_02_1_1_0 none (extf .f32 A0 bitsLt_bf16_f32) (extractStridedSlice S2x4096x256 ![0, 0, 0] A2 slices_S2x4096x288_S2x4096x256_0_0_0)) (Host.dotGeneral dot_S16x2x4096x32_S2x4096x32_S2x16x4096x4096_3_2_02_1_1_0 none (extf .f32 A1 bitsLt_bf16_f32) (extractStridedSlice S2x4096x32 ![0, 0, 256] A2 slices_S2x4096x288_S2x4096x32_0_0_256))) (broadcastInDim S2x16x4096x4096 ![] bcast_S_S2x16x4096x4096 (constant S_ .f32 0x3DD105EC#32))) (broadcastInDim S2x16x4096x4096 ![] bcast_S_S2x16x4096x4096 (id (constant S_ .f32 0xFF800000#32)))

/-- A row's maximum over the last axis, at any sizes. -/
theorem max_last {n0 n1 n2 n3 : ℕ} (h : (⟨4, ![n0, n1, n2, n3]⟩ : Shape).ReducesTo [3] ⟨3, ![n0, n1, n2]⟩)
    (v : (⟨4, ![n0, n1, n2, n3]⟩ : Shape).Idx → EReal) {u : Shape} (init : u.Idx → EReal) (hu : 0 < u.numel)
    (a : Fin n0) (b : Fin n1) (c : Fin n2) :
    Host.reduce (FloatOps.maximumf (F := Ideal) (φ := .f32)) v init h hu (ix3 a b c)
      = Finset.univ.fold max (init (Shape.Idx.first hu)) fun k : Fin n3 => v (ix4 a b c k) := by
  rw [Host.reduce_eq_fold]
  exact h.fold_fiber_r4_a3 _ _ _ _

/-- A constant array, at any index. -/
theorem const_at {s : Shape} (w : BitVec 32) (i : s.Idx) :
    (constant s .f32 w : FVec Ideal s .f32) i = Ideal.ofBits .f32 w := rfl

/-- The rows' maxima. -/
def RowMax (S : FVec Ideal S2x16x4096x4096 .f32) : FVec Ideal S2x16x4096 .f32 :=
  Host.reduce FloatOps.maximumf S (constant S_ .f32 0xFF800000#32) reducesTo_S2x16x4096x4096_S2x16x4096_d3 h_S_

theorem RowMax_at (S : FVec Ideal S2x16x4096x4096 .f32) (h : Fin 16) (b : Fin 2) (q : Fin 4096) :
    RowMax S (ix3 b h q : S2x16x4096.Idx) = Finset.univ.fold max ⊥ fun k => S (ix4 b h q k) := by
  unfold RowMax
  rw [max_last, const_at, Spec.neg_inf]

/-- The exponentials of the scores over the rows' maxima `M`. -/
def Exps (S : FVec Ideal S2x16x4096x4096 .f32) (M : FVec Ideal S2x16x4096 .f32) : FVec Ideal S2x16x4096x4096 .f32 :=
  Host.exp (subf S (broadcastInDim S2x16x4096x4096 ![0, 1, 2, 3] bcast_S2x16x4096x1_S2x16x4096x4096_0_1_2_3 (broadcastInDim S2x16x4096x1 ![0, 1, 2] bcast_S2x16x4096_S2x16x4096x1_0_1_2 (maximumf (broadcastInDim S2x16x4096 ![] bcast_S_S2x16x4096 (constant S_ .f32 0xFF800000#32)) M))))

/-- The softmax weights, the masked ones zero. -/
def Weights (E : FVec Ideal S2x16x4096x4096 .f32) : FVec Ideal S2x16x4096x4096 .f32 :=
  select Mask (Host.divf E (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd E (constant S_ .f32 0x00000000#32) reducesTo_S2x16x4096x4096_S2x16x4096_d3 h_S_)))) (broadcastInDim S2x16x4096x4096 ![] bcast_S_S2x16x4096x4096 (id (constant S_ .f32 0x00000000#32)))

/-- The weighted sums of the values. -/
def Mix (W : FVec Ideal S2x16x4096x4096 .f32) (A2 : FVec Ideal S2x4096x288 .f32) : FVec Ideal S16x2x4096x256 .bf16 :=
  truncf .bf16 (transpose S16x2x4096x256 [2, 0, 3, 1] (Host.dotGeneral dot_S2x4096x256_S2x16x4096x4096_S2x256x16x4096_1_3_2_12_0_0 none (extractStridedSlice S2x4096x256 ![0, 0, 0] A2 slices_S2x4096x288_S2x4096x256_0_0_0) W) transposes_S2x256x16x4096_S16x2x4096x256_2_0_3_1) bitsLt_bf16_f32

theorem Mask_at (h : Fin 16) (b : Fin 2) (q k : Fin 4096) :
    Mask (ix4 b h q k : S2x16x4096x4096.Idx) = BitVec.ofBool (decide ((k : ℕ) ≤ q)) := by
  pointwise [Mask]
  word_cmp

theorem Scores_at (A0 : FVec Ideal S16x2x4096x256 .bf16) (A1 : FVec Ideal S16x2x4096x32 .bf16)
    (A2 : FVec Ideal S2x4096x288 .f32) (h : Fin 16) (b : Fin 2) (q k : Fin 4096) :
    Scores A0 A1 A2 (ix4 b h q k : S2x16x4096x4096.Idx) = Spec.masked A0 A1 A2 h b q k := by
  pointwise [Scores, Mask_at]
  exact if_congr Iff.rfl rfl Spec.neg_inf

theorem Exps_at (S : FVec Ideal S2x16x4096x4096 .f32) (M : FVec Ideal S2x16x4096 .f32) (h : Fin 16) (b : Fin 2)
    (q k : Fin 4096) :
    Exps S M (ix4 b h q k : S2x16x4096x4096.Idx) = Ideal.exp (S (ix4 b h q k) - max ⊥ (M (ix3 b h q))) := by
  pointwise [Exps, Spec.neg_inf]

theorem Weights_at (E : FVec Ideal S2x16x4096x4096 .f32) (h : Fin 16) (b : Fin 2) (q k : Fin 4096) :
    Weights E (ix4 b h q k : S2x16x4096x4096.Idx)
      = if (k : ℕ) ≤ q then Ideal.div (E (ix4 b h q k)) (∑ x, E (ix4 b h q x)) else 0 := by
  pointwise [Weights, Mask_at]
  exact if_congr Iff.rfl rfl (Ideal.ofBits_zero .f32)

theorem Mix_at (W : FVec Ideal S2x16x4096x4096 .f32) (A2 : FVec Ideal S2x4096x288 .f32) (h : Fin 16) (b : Fin 2)
    (q : Fin 4096) (d : Fin 256) :
    Mix W A2 (ix4 h b q d : S16x2x4096x256.Idx) = ∑ k : Fin 4096, A2 (ix3 b k ⟨(d : ℕ), by omega⟩) * W (ix4 b h q k) := by
  pointwise [Mix]

/-- The reference's result from its three arguments. -/
def Attend (A0 : FVec Ideal S16x2x4096x256 .bf16) (A1 : FVec Ideal S16x2x4096x32 .bf16) (A2 : FVec Ideal S2x4096x288 .f32) :
    FVec Ideal S16x2x4096x256 .bf16 :=
  Mix (Weights (Exps (Scores A0 A1 A2) (RowMax (Scores A0 A1 A2)))) A2

theorem res_eq (m : (ℓ : Loc nD τ sig) → Buf (Elt Ideal) ℓ) (c : Dev nD) :
    Cert.MlaRefIdeal.Value.res_main_v30 (F := Ideal) m c
      = Attend (m ((c.tc : Thread nD τ).loc main_arg0)) (m ((c.tc : Thread nD τ).loc main_arg1))
          (m ((c.tc : Thread nD τ).loc main_arg2)) := rfl

/-- At an index, the result is the weighted mean of the values. -/
theorem Attend_at {A0 : FVec Ideal S16x2x4096x256 .bf16} {A1 : FVec Ideal S16x2x4096x32 .bf16}
    {A2 : FVec Ideal S2x4096x288 .f32} (h0 : Spec.Finite A0) (h1 : Spec.Finite A1) (h2 : Spec.Finite A2)
    (h : Fin 16) (b : Fin 2) (q : Fin 4096) (d : Fin 256) :
    Attend A0 A1 A2 (ix4 h b q d : S16x2x4096x256.Idx) = Spec.out A0 A1 A2 h b q d := by
  unfold Attend
  rw [Mix_at]
  simp only [Weights_at, Exps_at, RowMax_at, Scores_at, Spec.masked_eq h0 h1 h2]
  exact Softmax.softmax_mean (n := 4095) q (Spec.rawR A0 A1 A2 h b q) (fun k => Spec.valR A2 b k d) _
    (fun k => A2 (ix3 b k ⟨(d : ℕ), by omega⟩)) (fun k => rfl) (fun k => Spec.val_eq h2 b k d (by omega)) _ _ rfl rfl

end Cert.Proof.MlaRef
-- ==== Proof.Final.lean ====
/- The prompt attention's two programs return the same array. -/
module

public import proofs.«01_k».proof.Proof.Steps
public import proofs.«01_k».proof.Proof.RefAt

@[expose] public section

set_option maxRecDepth 16384

noncomputable section

open Idealize.ShloMosaic Idealize.ShloMosaic.TcCoe Idealize.SL.Sem
open Idealize.ShloMosaic.Pipeline (Dat)

namespace Cert.Proof.Mla

open Cert.MlaIdeal Cert.MlaIdeal.Gen

variable (m : (ℓ : Loc nD τ sig) → Buf (Elt Ideal) ℓ) (c : Dev nD)

/-- The kernel's result array is the reference's. -/
theorem final (H : Real3 m c) : (dats m 0 c).arrAt 3 (cfgs 0).N = MlaRef.Attend (A0 m c) (A1 m c) (A2 m c) := by
  refine (dats m 0 c).arrAt_eq_of_covers 3 _ (by decide +kernel) fun t hf y => ?_
  blk_simp
  rw [after0_3]
  idx_vars y
  have hf7 : t.val % 8 = 7 := (flush0_3 t).mp hf
  have e : ((View.whole main_v0).slice (win0_3.rect t)).emb (ix4 y0 y1 y2 y3) = ix4 y0 (bat t) (qry t y2) y3 := by
    blk_ext [idx t]
    all_goals first | rfl | (dsimp only [bat, qry]; omega)
  obtain rfl : y1 = 0 := Subsingleton.elim _ _
  rw [e]
  exact (written H t hf7 y0 y2 y3).trans (MlaRef.Attend_at H.h0 H.h1 H.h2 y0 (bat t) (qry t y2) y3).symm

end Cert.Proof.Mla
-- ==== Proof.Finite.lean ====
/- The precondition read: every entry of the three arguments is a real number. -/
module

public import proofs.«01_k».proof.Proof.Gen.Pre_finite
public import proofs.«01_k».proof.Proof.Spec
public import Idealize.ShloMosaic.Lib.ReduceAll
public import Idealize.ShloMosaic.Lib.WordArith
public import Idealize.ShloMosaic.Lib.Pointwise

@[expose] public section

noncomputable section

open Idealize.ShloMosaic

namespace Cert.Proof.Finite

/-- An extended real whose absolute value is below plus infinity is a real number. -/
theorem real_of_abs_lt {x : EReal} (h : max x (-x) < ⊤) : ∃ r : ℝ, x = (r : EReal) := by
  rw [max_lt_iff] at h
  refine ⟨x.toReal, (EReal.coe_toReal h.1.ne ?_).symm⟩
  rintro rfl
  simp at h

/-- `all(|x| < inf)`, at any shape. -/
theorem all_real {s : Shape} {axes : List (Fin s.rank)} (A : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf A) (broadcastInDim s ![] hb (constant ⟨0, ![]⟩ .f32 0x7F800000#32)))
      (constantI ⟨0, ![]⟩ 1 1#1) h hu j = 1#1) : Spec.Finite A := by
  intro i
  have hi : BitVec.ofBool (decide (max (A i) (-(A i)) < Ideal.ofBits .f32 0x7F800000#32)) = 1#1 :=
    Host.reduce_andi_all _ _ h hu j e i
  rw [Spec.pos_inf] at hi
  exact real_of_abs_lt (by_contra fun hc => by simp [hc] at hi)

/-- A conjunction of two bits that is set has both set. -/
theorem both_set : ∀ a b : BitVec 1, IntOp.andi a b = 1#1 → a = 1#1 ∧ b = 1#1 := by decide

end Cert.Proof.Finite

namespace Cert.Proof.Finite

open Cert.Pre_finite Cert.Pre_finite.Gen

/-- The precondition of the attention: its three arguments are numbers. -/
theorem of_finite {a0 : FVec Ideal S16x2x4096x256 .bf16} {a1 : FVec Ideal S16x2x4096x32 .bf16} {a2 : FVec Ideal S2x4096x288 .f32}
    (h : Cert.Pre_finite.fn (F := Ideal) a0 a1 a2 = fun _ => 1#1) :
    Spec.Finite a0 ∧ Spec.Finite a1 ∧ Spec.Finite a2 := by
  have j : S_.Idx := fun a => a.elim0
  obtain ⟨h01, h2⟩ := both_set _ _ (congrFun h j)
  obtain ⟨h0, h1⟩ := both_set _ _ h01
  exact ⟨all_real _ _ _ _ j h0, all_real _ _ _ _ j h1, all_real _ _ _ _ j h2⟩

end Cert.Proof.Finite
-- ==== Proof.MlaClaims.lean ====
/- The claims about the prompt attention. -/
module

public import proofs.«01_k».proof.Defs
public import proofs.«01_k».proof.Proof.Gen.Mla.Frame
public import proofs.«01_k».proof.Proof.Final
public import proofs.«01_k».proof.Proof.Finite
public import Idealize.ShloMosaic.Lib.Quiescent

@[expose] public section

noncomputable section

open Idealize.ShloMosaic Idealize.ShloMosaic.TcCoe Idealize.SL.Sem

namespace Cert.Proof.MlaClaims

theorem frame_p : Cert.quiescent_Mla := fun m ρ _ => Cert.Mla.Gen.frame m ρ
theorem frame_pi : Cert.quiescent_MlaIdeal := fun m ρ _ => Cert.MlaIdeal.Gen.frame m ρ
theorem frame_pi_finite : Cert.quiescent_MlaIdeal_pre_finite := fun m ρ _ => Cert.MlaIdeal.Gen.frame m ρ

/-- The reference runs, its arguments end unchanged, and it has no semaphores. -/
theorem frame_ri : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)
theorem frame_ri_finite : Cert.quiescent_MlaRefIdeal_pre_finite := fun m ρ _ => frame_ri m ρ trivial

/-- The one rewritten constant: the mask, which stands for minus infinity. -/
theorem preserves : Cert.preserves_Mla_MlaIdeal :=
  IdealRules.named_const.statement Cert.MlaIdeal.κ "mask" .f32 0xF149F2CA#32 ⊥ rfl

/-- On arguments that are numbers the two results are equal. -/
theorem algebraic : Cert.algebraic_MlaIdeal_MlaRefIdeal_pre_finite := by
  intro m g m' g' hp hag
  refine ⟨fun c => MlaRef.Attend (Mla.A0 m c) (Mla.A1 m c) (Mla.A2 m c), ?_, ?_⟩
  · refine (θ_run Cert.MlaIdeal.defs _ _).mono (fun _ h c => ⟨(h c).1.trans (Mla.final m c ?_), (h c).2⟩)
      (Cert.MlaIdeal.Value.run_blocks m g)
    obtain ⟨h0, h1, h2⟩ := Finite.of_finite (hp c)
    exact ⟨h0, h1, h2⟩
  · refine (θ_run Cert.MlaRefIdeal.defs _ _).mono (fun _ h c => ⟨(h c).1.trans ((MlaRef.res_eq m' c).trans ?_), (h c).2⟩)
      (Cert.MlaRefIdeal.Value.run (F := Ideal) m' g')
    obtain ⟨e0, e1, e2⟩ := hag c
    rw [e0, e1, e2]

end Cert.Proof.MlaClaims
-- ==== Proof.InProj.lean ====
/- The combined input projection: the tiled product with the laid-out weights, and the product laid out afterwards. -/
module

public import proofs.«01_k».proof.Proof.Gen.InProjIdeal.Value
public import proofs.«01_k».proof.Proof.Gen.InProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InProj

open Cert.InProjIdeal Cert.InProjIdeal.Gen

variable (m : (ℓ : Loc nD τ sig) → Buf (Elt Ideal) ℓ) (c : Dev nD)

/-- The two arguments: the tokens and the weights. -/
abbrev A0 : FVec Ideal S8704x2048 .f32 := m ((c.tc : Thread nD τ).loc main_arg0)
abbrev A1 : FVec Ideal S2048x10320 .f32 := m ((c.tc : Thread nD τ).loc main_arg1)

/-- The weights with zero columns between their parts. -/
def Laid (Y : FVec Ideal S2048x10320 .f32) : FVec Ideal S2048x10752 .f32 :=
  concatenate S2048x10752 1
    [⟨S2048x672, extractStridedSlice S2048x672 ![0, 0] Y slices_S2048x10320_S2048x672_0_0⟩,
      ⟨S2048x96, broadcastInDim S2048x96 ![] bcast_S_S2048x96 (constant S_ .f32 0x00000000#32)⟩,
      ⟨S2048x3504, extractStridedSlice S2048x3504 ![0, 672] Y slices_S2048x10320_S2048x3504_0_672⟩,
      ⟨S2048x80, broadcastInDim S2048x80 ![] bcast_S_S2048x80 (constant S_ .f32 0x00000000#32)⟩,
      ⟨S2048x6144, extractStridedSlice S2048x6144 ![0, 4176] Y slices_S2048x10320_S2048x6144_0_4176⟩,
      ⟨S2048x256, broadcastInDim S2048x256 ![] bcast_S_S2048x256 (constant S_ .f32 0x00000000#32)⟩]
    concatenates_S2048x672_S2048x96_S2048x3504_S2048x80_S2048x6144_S2048x256_S2048x10752_d1

theorem V_W : (V m c main_v7 : FVec Ideal S2048x10752 .bf16) = truncf .bf16 (Laid (A1 m c)) bitsLt_bf16_f32 := by
  unfold V
  after_results <;> rfl

/-- The laid-out weights at an index. -/
theorem Laid_at (Y : FVec Ideal S2048x10320 .f32) (k : Fin 2048) (j : Fin 10752) : Laid Y (ix2 k j)
    = if h : (j : ℕ) < 672 then Y (ix2 k ⟨j, by omega⟩)
      else if h : (j : ℕ) - 672 < 96 then 0
      else if h : (j : ℕ) - 672 - 96 < 3504 then Y (ix2 k ⟨672 + (j - 672 - 96), by omega⟩)
      else if h : (j : ℕ) - 672 - 96 - 3504 < 80 then 0
      else if h : (j : ℕ) - 672 - 96 - 3504 - 80 < 6144 then Y (ix2 k ⟨4176 + (j - 672 - 96 - 3504 - 80), by omega⟩)
      else 0 := by
  pointwise [Laid]

/-- The reference: the product, its columns laid out with zero columns between its parts. -/
def Ref (X : FVec Ideal S8704x2048 .f32) (Y : FVec Ideal S2048x10320 .f32) : FVec Ideal S8704x10752 .f32 :=
  let H : FVec Ideal Cert.InProjRefIdeal.S8704x10320 .f32 := Host.dotGeneral Cert.InProjRefIdeal.dot_S8704x2048_S2048x10320_S8704x10320_1_0_0_1_n_n none X Y
  concatenate Cert.InProjRefIdeal.S8704x10752 1
    [⟨Cert.InProjRefIdeal.S8704x672, extractStridedSlice Cert.InProjRefIdeal.S8704x672 ![0, 0] H Cert.InProjRefIdeal.Gen.slices_S8704x10320_S8704x672_0_0⟩,
      ⟨Cert.InProjRefIdeal.S8704x96, broadcastInDim Cert.InProjRefIdeal.S8704x96 ![] Cert.InProjRefIdeal.Gen.bcast_S_S8704x96 (constant Cert.InProjRefIdeal.S_ .f32 0x00000000#32)⟩,
      ⟨Cert.InProjRefIdeal.S8704x3504, extractStridedSlice Cert.InProjRefIdeal.S8704x3504 ![0, 672] H Cert.InProjRefIdeal.Gen.slices_S8704x10320_S8704x3504_0_672⟩,
      ⟨Cert.InProjRefIdeal.S8704x80, broadcastInDim Cert.InProjRefIdeal.S8704x80 ![] Cert.InProjRefIdeal.Gen.bcast_S_S8704x80 (constant Cert.InProjRefIdeal.S_ .f32 0x00000000#32)⟩,
      ⟨Cert.InProjRefIdeal.S8704x6144, extractStridedSlice Cert.InProjRefIdeal.S8704x6144 ![0, 4176] H Cert.InProjRefIdeal.Gen.slices_S8704x10320_S8704x6144_0_4176⟩,
      ⟨Cert.InProjRefIdeal.S8704x256, broadcastInDim Cert.InProjRefIdeal.S8704x256 ![] Cert.InProjRefIdeal.Gen.bcast_S_S8704x256 (constant Cert.InProjRefIdeal.S_ .f32 0x00000000#32)⟩]
    Cert.InProjRefIdeal.Gen.concatenates_S8704x672_S8704x96_S8704x3504_S8704x80_S8704x6144_S8704x256_S8704x10752_d1

/-- The reference at an index. -/
theorem Ref_ladder (X : FVec Ideal S8704x2048 .f32) (Y : FVec Ideal S2048x10320 .f32) (i : Fin 8704) (j : Fin 10752) :
    Ref X Y (ix2 i j : S8704x10752.Idx)
    = if h : (j : ℕ) < 672 then ∑ k : Fin 2048, X (ix2 i k) * Y (ix2 k ⟨j, by omega⟩)
      else if h : (j : ℕ) - 672 < 96 then 0
      else if h : (j : ℕ) - 672 - 96 < 3504 then ∑ k : Fin 2048, X (ix2 i k) * Y (ix2 k ⟨672 + (j - 672 - 96), by omega⟩)
      else if h : (j : ℕ) - 672 - 96 - 3504 < 80 then 0
      else if h : (j : ℕ) - 672 - 96 - 3504 - 80 < 6144 then ∑ k : Fin 2048, X (ix2 i k) * Y (ix2 k ⟨4176 + (j - 672 - 96 - 3504 - 80), by omega⟩)
      else 0 := by
  pointwise [Ref]

/-- A laid-out column of the product is the product with the laid-out column: a zero column gives zeros. -/
theorem Ref_at (X : FVec Ideal S8704x2048 .f32) (Y : FVec Ideal S2048x10320 .f32) (i : Fin 8704) (j : Fin 10752) :
    Ref X Y (ix2 i j : S8704x10752.Idx) = ∑ k : Fin 2048, X (ix2 i k) * Laid Y (ix2 k j) := by
  rw [Ref_ladder]
  simp only [Laid_at]
  split_ifs <;> simp

/-- A tile of the product. -/
theorem pay (x : FVec Ideal S512x2048 .f32) (w : FVec Ideal S2048x1536 .bf16) (i : Fin 512) (j : Fin 1536) :
    k0_pay1 (F := Ideal) x w (ix2 i j : S512x1536.Idx) = ∑ k : Fin 2048, x (ix2 i k) * w (ix2 k j) := by
  pointwise [k0_pay1]

/-- Where the blocks lie: token block `t % 17`, column block `t / 17`. -/
theorem idx : ∀ t : Fin cfg0.N, win0_0.index t = ![t.val % 17, 0] ∧ win0_1.index t = ![0, t.val / 17]
    ∧ win0_2.index t = ![t.val % 17, t.val / 17] := (by decide +kernel : ∀ t : Fin grid0.N, _)

/-- The point's tokens and columns. -/
def row (t : Fin cfg0.N) (i : Fin 512) : Fin 8704 := ⟨512 * (t.val % 17) + i, by omega⟩
def col (t : Fin cfg0.N) (j : Fin 1536) : Fin 10752 :=
  ⟨1536 * (t.val / 17) + j, by have := lt_of_lt_of_eq t.isLt N_0; omega⟩

/-- The point's two blocks. -/
abbrev B0 (t : Fin cfg0.N) : FVec Ideal S512x2048 .f32 := iblk m c 0 t
abbrev B1 (t : Fin cfg0.N) : FVec Ideal S2048x1536 .bf16 := iblk m c 1 t

theorem B0_at (t : Fin cfg0.N) (i : Fin 512) (k : Fin 2048) : B0 m c t (ix2 i k) = A0 m c (ix2 (row t i) k) := by
  blk_point [iblk, V, idx t]
  all_goals (dsimp only [row]; omega)

theorem B1_at (t : Fin cfg0.N) (k : Fin 2048) (j : Fin 1536) :
    B1 m c t (ix2 k j) = Laid (A1 m c) (ix2 k (col t j)) := by
  refine Eq.trans ?_ (congrFun (V_W m c) _)
  blk_simp [iblk, idx t]
  blk_ext [idx t]
  all_goals (dsimp only [col]; omega)

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v8).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.InProj
-- ==== Proof.OutProj.lean ====
/- The output projection: the tiled product and the product. -/
module

public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.OutProj

open Cert.OutProjIdeal Cert.OutProjIdeal.Gen

variable (m : (ℓ : Loc nD τ sig) → Buf (Elt Ideal) ℓ) (c : Dev nD)

/-- The two arguments: the left factor and the weights. -/
abbrev A0 : FVec Ideal S8704x2048 .f32 := m ((c.tc : Thread nD τ).loc main_arg0)
abbrev A1 : FVec Ideal S2048x2048 .f32 := m ((c.tc : Thread nD τ).loc main_arg1)

/-- The host casts the weights, and on values a cast is the identity. -/
theorem V_W : (V m c main_v0 : FVec Ideal S2048x2048 .bf16) = truncf .bf16 (A1 m c) bitsLt_bf16_f32 := by
  unfold V
  after_results <;> rfl

/-- The reference: the product. -/
def Ref (X : FVec Ideal S8704x2048 .f32) (Y : FVec Ideal S2048x2048 .f32) : FVec Ideal S8704x2048 .f32 :=
  Host.dotGeneral Cert.OutProjRefIdeal.dot_S8704x2048_S2048x2048_S8704x2048_1_0_0_1_n_n none X Y

theorem Ref_at (X : FVec Ideal S8704x2048 .f32) (Y : FVec Ideal S2048x2048 .f32) (i : Fin 8704) (j : Fin 2048) :
    Ref X Y (ix2 i j : S8704x2048.Idx) = ∑ k : Fin 2048, X (ix2 i k) * Y (ix2 k j) := by
  pointwise [Ref]

/-- A tile of the product. -/
theorem pay (x : FVec Ideal S1088x2048 .f32) (w : FVec Ideal S2048x1024 .bf16) (i : Fin 1088) (j : Fin 1024) :
    k0_pay1 (F := Ideal) x w (ix2 i j : S1088x1024.Idx) = ∑ k : Fin 2048, x (ix2 i k) * w (ix2 k j) := by
  pointwise [k0_pay1]

/-- Where the blocks lie: row block `t % 8`, column block `t / 8`. -/
theorem idx : ∀ t : Fin cfg0.N, win0_0.index t = ![t.val % 8, 0] ∧ win0_1.index t = ![0, t.val / 8]
    ∧ win0_2.index t = ![t.val % 8, t.val / 8] := (by decide +kernel : ∀ t : Fin grid0.N, _)

/-- The point's rows and columns. -/
def row (t : Fin cfg0.N) (i : Fin 1088) : Fin 8704 := ⟨1088 * (t.val % 8) + i, by omega⟩
def col (t : Fin cfg0.N) (j : Fin 1024) : Fin 2048 :=
  ⟨1024 * (t.val / 8) + j, by have := lt_of_lt_of_eq t.isLt N_0; omega⟩

/-- The point's two blocks. -/
abbrev B0 (t : Fin cfg0.N) : FVec Ideal S1088x2048 .f32 := iblk m c 0 t
abbrev B1 (t : Fin cfg0.N) : FVec Ideal S2048x1024 .bf16 := iblk m c 1 t

theorem B0_at (t : Fin cfg0.N) (i : Fin 1088) (k : Fin 2048) : B0 m c t (ix2 i k) = A0 m c (ix2 (row t i) k) := by
  blk_point [iblk, V, idx t]
  all_goals (dsimp only [row]; omega)

theorem B1_at (t : Fin cfg0.N) (k : Fin 2048) (j : Fin 1024) :
    B1 m c t (ix2 k j) = (A1 m c) (ix2 k (col t j)) := by
  refine Eq.trans ?_ (congrFun (V_W m c) _)
  blk_simp [iblk, idx t]
  blk_ext [idx t]
  all_goals (dsimp only [col]; omega)

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v1).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.OutProj
-- ==== Proof.Branch.lean ====
/- A branch projection: the tiled product and the product. -/
module

public import proofs.«01_k».proof.Proof.Gen.BranchIdeal.Value
public import proofs.«01_k».proof.Proof.Gen.BranchRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Branch

open Cert.BranchIdeal Cert.BranchIdeal.Gen

variable (m : (ℓ : Loc nD τ sig) → Buf (Elt Ideal) ℓ) (c : Dev nD)

/-- The two arguments: the left factor and the weights. -/
abbrev A0 : FVec Ideal S8704x1024 .bf16 := m ((c.tc : Thread nD τ).loc main_arg0)
abbrev A1 : FVec Ideal S1024x2048 .f32 := m ((c.tc : Thread nD τ).loc main_arg1)

/-- The host casts the weights, and on values a cast is the identity. -/
theorem V_W : (V m c main_v0 : FVec Ideal S1024x2048 .bf16) = truncf .bf16 (A1 m c) bitsLt_bf16_f32 := by
  unfold V
  after_results <;> rfl

/-- The reference: the product. -/
def Ref (X : FVec Ideal S8704x1024 .bf16) (Y : FVec Ideal S1024x2048 .f32) : FVec Ideal S8704x2048 .f32 :=
  Host.dotGeneral Cert.BranchRefIdeal.dot_S8704x1024_S1024x2048_S8704x2048_1_0_0_1_n_n none (extf .f32 X bitsLt_bf16_f32) Y

theorem Ref_at (X : FVec Ideal S8704x1024 .bf16) (Y : FVec Ideal S1024x2048 .f32) (i : Fin 8704) (j : Fin 2048) :
    Ref X Y (ix2 i j : S8704x2048.Idx) = ∑ k : Fin 1024, X (ix2 i k) * Y (ix2 k j) := by
  pointwise [Ref]

/-- A tile of the product. -/
theorem pay (x : FVec Ideal S1088x1024 .bf16) (w : FVec Ideal S1024x1024 .bf16) (i : Fin 1088) (j : Fin 1024) :
    k0_pay1 (F := Ideal) x w (ix2 i j : S1088x1024.Idx) = ∑ k : Fin 1024, x (ix2 i k) * w (ix2 k j) := by
  pointwise [k0_pay1]

/-- Where the blocks lie: row block `t % 8`, column block `t / 8`. -/
theorem idx : ∀ t : Fin cfg0.N, win0_0.index t = ![t.val % 8, 0] ∧ win0_1.index t = ![0, t.val / 8]
    ∧ win0_2.index t = ![t.val % 8, t.val / 8] := (by decide +kernel : ∀ t : Fin grid0.N, _)

/-- The point's rows and columns. -/
def row (t : Fin cfg0.N) (i : Fin 1088) : Fin 8704 := ⟨1088 * (t.val % 8) + i, by omega⟩
def col (t : Fin cfg0.N) (j : Fin 1024) : Fin 2048 :=
  ⟨1024 * (t.val / 8) + j, by have := lt_of_lt_of_eq t.isLt N_0; omega⟩

/-- The point's two blocks. -/
abbrev B0 (t : Fin cfg0.N) : FVec Ideal S1088x1024 .bf16 := iblk m c 0 t
abbrev B1 (t : Fin cfg0.N) : FVec Ideal S1024x1024 .bf16 := iblk m c 1 t

theorem B0_at (t : Fin cfg0.N) (i : Fin 1088) (k : Fin 1024) : B0 m c t (ix2 i k) = A0 m c (ix2 (row t i) k) := by
  blk_point [iblk, V, idx t]
  all_goals (dsimp only [row]; omega)

theorem B1_at (t : Fin cfg0.N) (k : Fin 1024) (j : Fin 1024) :
    B1 m c t (ix2 k j) = (A1 m c) (ix2 k (col t j)) := by
  refine Eq.trans ?_ (congrFun (V_W m c) _)
  blk_simp [iblk, idx t]
  blk_ext [idx t]
  all_goals (dsimp only [col]; omega)

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v1).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.Branch
-- ==== Proof.NsaBranch.lean ====
/- The projection of the third branch: the tiled product and the product. -/
module

public import proofs.«01_k».proof.Proof.Gen.NsaBranchIdeal.Value
public import proofs.«01_k».proof.Proof.Gen.NsaBranchRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.NsaBranch

open Cert.NsaBranchIdeal Cert.NsaBranchIdeal.Gen

variable (m : (ℓ : Loc nD τ sig) → Buf (Elt Ideal) ℓ) (c : Dev nD)

/-- The two arguments: the left factor and the weights. -/
abbrev A0 : FVec Ideal S8704x1024 .f32 := m ((c.tc : Thread nD τ).loc main_arg0)
abbrev A1 : FVec Ideal S1024x2048 .f32 := m ((c.tc : Thread nD τ).loc main_arg1)

/-- The host casts the weights, and on values a cast is the identity. -/
theorem V_W : (V m c main_v0 : FVec Ideal S1024x2048 .bf16) = truncf .bf16 (A1 m c) bitsLt_bf16_f32 := by
  unfold V
  after_results <;> rfl

/-- The reference: the product. -/
def Ref (X : FVec Ideal S8704x1024 .f32) (Y : FVec Ideal S1024x2048 .f32) : FVec Ideal S8704x2048 .f32 :=
  Host.dotGeneral Cert.NsaBranchRefIdeal.dot_S8704x1024_S1024x2048_S8704x2048_1_0_0_1_n_n none X Y

theorem Ref_at (X : FVec Ideal S8704x1024 .f32) (Y : FVec Ideal S1024x2048 .f32) (i : Fin 8704) (j : Fin 2048) :
    Ref X Y (ix2 i j : S8704x2048.Idx) = ∑ k : Fin 1024, X (ix2 i k) * Y (ix2 k j) := by
  pointwise [Ref]

/-- A tile of the product. -/
theorem pay (x : FVec Ideal S1088x1024 .f32) (w : FVec Ideal S1024x1024 .bf16) (i : Fin 1088) (j : Fin 1024) :
    k0_pay1 (F := Ideal) x w (ix2 i j : S1088x1024.Idx) = ∑ k : Fin 1024, x (ix2 i k) * w (ix2 k j) := by
  pointwise [k0_pay1]

/-- Where the blocks lie: row block `t % 8`, column block `t / 8`. -/
theorem idx : ∀ t : Fin cfg0.N, win0_0.index t = ![t.val % 8, 0] ∧ win0_1.index t = ![0, t.val / 8]
    ∧ win0_2.index t = ![t.val % 8, t.val / 8] := (by decide +kernel : ∀ t : Fin grid0.N, _)

/-- The point's rows and columns. -/
def row (t : Fin cfg0.N) (i : Fin 1088) : Fin 8704 := ⟨1088 * (t.val % 8) + i, by omega⟩
def col (t : Fin cfg0.N) (j : Fin 1024) : Fin 2048 :=
  ⟨1024 * (t.val / 8) + j, by have := lt_of_lt_of_eq t.isLt N_0; omega⟩

/-- The point's two blocks. -/
abbrev B0 (t : Fin cfg0.N) : FVec Ideal S1088x1024 .f32 := iblk m c 0 t
abbrev B1 (t : Fin cfg0.N) : FVec Ideal S1024x1024 .bf16 := iblk m c 1 t

theorem B0_at (t : Fin cfg0.N) (i : Fin 1088) (k : Fin 1024) : B0 m c t (ix2 i k) = A0 m c (ix2 (row t i) k) := by
  blk_point [iblk, V, idx t]
  all_goals (dsimp only [row]; omega)

theorem B1_at (t : Fin cfg0.N) (k : Fin 1024) (j : Fin 1024) :
    B1 m c t (ix2 k j) = (A1 m c) (ix2 k (col t j)) := by
  refine Eq.trans ?_ (congrFun (V_W m c) _)
  blk_simp [iblk, idx t]
  blk_ext [idx t]
  all_goals (dsimp only [col]; omega)

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v1).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.NsaBranch
-- ==== Proof.MlaUq.lean ====
/- The query up-projection: the tiled product with regrouped columns, and the product regrouped afterwards. -/
module

public import proofs.«01_k».proof.Proof.Gen.MlaUqIdeal.Value
public import proofs.«01_k».proof.Proof.Gen.MlaUqRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.MlaUq

open Cert.MlaUqIdeal Cert.MlaUqIdeal.Gen

variable (m : (ℓ : Loc nD τ sig) → Buf (Elt Ideal) ℓ) (c : Dev nD)

/-- The two arguments: the left factor and the weights. -/
abbrev A0 : FVec Ideal S8704x384 .f32 := m ((c.tc : Thread nD τ).loc main_arg0)
abbrev A1 : FVec Ideal S384x1536 .f32 := m ((c.tc : Thread nD τ).loc main_arg1)

/-- Columns in head groups of 96 regrouped: all heads' first 64, then all heads' last 32. -/
def Laid (Y : FVec Ideal S384x1536 .f32) : FVec Ideal S384x1536 .f32 :=
  concatenate S384x1536 1
    [⟨S384x1024, shapeCast S384x1024 (extractStridedSlice S384x16x64 ![0, 0, 0] (shapeCast S384x16x96 Y shapeCasts_S384x1536_S384x16x96) slices_S384x16x96_S384x16x64_0_0_0) shapeCasts_S384x16x64_S384x1024⟩,
      ⟨S384x512, shapeCast S384x512 (extractStridedSlice S384x16x32 ![0, 0, 64] (shapeCast S384x16x96 Y shapeCasts_S384x1536_S384x16x96) slices_S384x16x96_S384x16x32_0_0_64) shapeCasts_S384x16x32_S384x512⟩]
    concatenates_S384x1024_S384x512_S384x1536_d1

theorem V_W : (V m c main_v6 : FVec Ideal S384x1536 .bf16) = truncf .bf16 (Laid (A1 m c)) bitsLt_bf16_f32 := by
  unfold V
  after_results <;> rfl

/-- Which column goes where. -/
def src (j : Fin 1536) : Fin 1536 :=
  if h : j.val < 1024 then ⟨j.val / 64 * 96 + j.val % 64, by omega⟩
  else ⟨(j.val - 1024) / 32 * 96 + (64 + (j.val - 1024) % 32), by omega⟩

theorem Laid_at (Y : FVec Ideal S384x1536 .f32) (k : Fin 384) (j : Fin 1536) :
    Laid Y (ix2 k j : S384x1536.Idx) = Y (ix2 k (src j)) := by
  unfold src
  pointwise [Laid]
  by_cases h : j.val < 1024 <;> simp only [h, ↓reduceDIte]

/-- The reference: the product, then its columns regrouped. -/
def Ref (X : FVec Ideal S8704x384 .f32) (Y : FVec Ideal S384x1536 .f32) : FVec Ideal S8704x1536 .f32 :=
  let H := Host.dotGeneral Cert.MlaUqRefIdeal.dot_S8704x384_S384x1536_S8704x1536_1_0_0_1_n_n none X Y
  concatenate Cert.MlaUqRefIdeal.S8704x1536 1
    [⟨Cert.MlaUqRefIdeal.S8704x1024, shapeCast _ (extractStridedSlice Cert.MlaUqRefIdeal.S8704x16x64 ![0, 0, 0] (shapeCast _ H Cert.MlaUqRefIdeal.Gen.shapeCasts_S8704x1536_S8704x16x96) Cert.MlaUqRefIdeal.Gen.slices_S8704x16x96_S8704x16x64_0_0_0) Cert.MlaUqRefIdeal.Gen.shapeCasts_S8704x16x64_S8704x1024⟩,
      ⟨Cert.MlaUqRefIdeal.S8704x512, shapeCast _ (extractStridedSlice Cert.MlaUqRefIdeal.S8704x16x32 ![0, 0, 64] (shapeCast _ H Cert.MlaUqRefIdeal.Gen.shapeCasts_S8704x1536_S8704x16x96) Cert.MlaUqRefIdeal.Gen.slices_S8704x16x96_S8704x16x32_0_0_64) Cert.MlaUqRefIdeal.Gen.shapeCasts_S8704x16x32_S8704x512⟩]
    Cert.MlaUqRefIdeal.Gen.concatenates_S8704x1024_S8704x512_S8704x1536_d1

theorem Ref_at (X : FVec Ideal S8704x384 .f32) (Y : FVec Ideal S384x1536 .f32) (i : Fin 8704) (j : Fin 1536) :
    Ref X Y (ix2 i j : S8704x1536.Idx) = ∑ k : Fin 384, X (ix2 i k) * Laid Y (ix2 k j) := by
  simp only [Laid_at]
  unfold src
  pointwise [Ref]
  by_cases h : j.val < 1024 <;> simp only [h, ↓reduceDIte]

/-- A tile of the product. -/
theorem pay (x : FVec Ideal S1088x384 .f32) (w : FVec Ideal S384x1536 .bf16) (i : Fin 1088) (j : Fin 1536) :
    k0_pay1 (F := Ideal) x w (ix2 i j : S1088x1536.Idx) = ∑ k : Fin 384, x (ix2 i k) * w (ix2 k j) := by
  pointwise [k0_pay1]

/-- Where the blocks lie: row block `t % 8`, column block `t / 8`. -/
theorem idx : ∀ t : Fin cfg0.N, win0_0.index t = ![t.val % 8, 0] ∧ win0_1.index t = ![0, t.val / 8]
    ∧ win0_2.index t = ![t.val % 8, t.val / 8] := (by decide +kernel : ∀ t : Fin grid0.N, _)

/-- The point's rows and columns. -/
def row (t : Fin cfg0.N) (i : Fin 1088) : Fin 8704 := ⟨1088 * (t.val % 8) + i, by omega⟩
def col (t : Fin cfg0.N) (j : Fin 1536) : Fin 1536 :=
  ⟨1536 * (t.val / 8) + j, by have := lt_of_lt_of_eq t.isLt N_0; omega⟩

/-- The point's two blocks. -/
abbrev B0 (t : Fin cfg0.N) : FVec Ideal S1088x384 .f32 := iblk m c 0 t
abbrev B1 (t : Fin cfg0.N) : FVec Ideal S384x1536 .bf16 := iblk m c 1 t

theorem B0_at (t : Fin cfg0.N) (i : Fin 1088) (k : Fin 384) : B0 m c t (ix2 i k) = A0 m c (ix2 (row t i) k) := by
  blk_point [iblk, V, idx t]
  all_goals (dsimp only [row]; omega)

theorem B1_at (t : Fin cfg0.N) (k : Fin 384) (j : Fin 1536) :
    B1 m c t (ix2 k j) = Laid (A1 m c) (ix2 k (col t j)) := by
  refine Eq.trans ?_ (congrFun (V_W m c) _)
  blk_simp [iblk, idx t]
  blk_ext [idx t]
  all_goals (dsimp only [col]; omega)

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v7).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.MlaUq
-- ==== Proof.Projections.lean ====
/- The claims about the projections. -/
module

public import proofs.«01_k».proof.Defs
public import proofs.«01_k».proof.Proof.Gen.InProj.Frame
public import proofs.«01_k».proof.Proof.InProj
public import proofs.«01_k».proof.Proof.Gen.OutProj.Frame
public import proofs.«01_k».proof.Proof.OutProj
public import proofs.«01_k».proof.Proof.Gen.Branch.Frame
public import proofs.«01_k».proof.Proof.Branch
public import proofs.«01_k».proof.Proof.Gen.NsaBranch.Frame
public import proofs.«01_k».proof.Proof.NsaBranch
public import proofs.«01_k».proof.Proof.Gen.MlaUq.Frame
public import proofs.«01_k».proof.Proof.MlaUq
public import Idealize.ShloMosaic.Lib.Quiescent

@[expose] public section

noncomputable section

open Idealize.ShloMosaic Idealize.ShloMosaic.TcCoe Idealize.SL.Sem

namespace Cert.Proof.InProj

/-! The combined input projection. -/

theorem frame_p : Cert.quiescent_InProj := fun m ρ _ => Cert.InProj.Gen.frame m ρ
theorem frame_pi : Cert.quiescent_InProjIdeal := fun m ρ _ => Cert.InProjIdeal.Gen.frame m ρ

/-- The reference runs, its arguments end unchanged, and it has no semaphores. -/
theorem frame_ri : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem preserves : Cert.preserves_InProj_InProjIdeal := trivial

/-- The two results are equal. -/
theorem algebraic : Cert.algebraic_InProjIdeal_InProjRefIdeal := by
  intro m g m' g' hp hag
  refine ⟨fun c => Ref (A0 m c) (A1 m c), ?_, ?_⟩
  · exact (θ_run Cert.InProjIdeal.defs _ _).mono (fun _ h c => ⟨(h c).1.trans (final m c), (h c).2⟩)
      (Cert.InProjIdeal.Value.run_blocks m g)
  · refine (θ_run Cert.InProjRefIdeal.defs _ _).mono (fun _ h c => ⟨(h c).1.trans ?_, (h c).2⟩)
      (Cert.InProjRefIdeal.Value.run (F := Ideal) m' g')
    obtain ⟨e0, e1⟩ := hag c
    rw [e0, e1]
    rfl

end Cert.Proof.InProj

namespace Cert.Proof.OutProj

/-! The output projection. -/

theorem frame_p : Cert.quiescent_OutProj := fun m ρ _ => Cert.OutProj.Gen.frame m ρ
theorem frame_pi : Cert.quiescent_OutProjIdeal := fun m ρ _ => Cert.OutProjIdeal.Gen.frame m ρ

/-- The reference runs, its arguments end unchanged, and it has no semaphores. -/
theorem frame_ri : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem preserves : Cert.preserves_OutProj_OutProjIdeal := trivial

/-- The two results are equal. -/
theorem algebraic : Cert.algebraic_OutProjIdeal_OutProjRefIdeal := by
  intro m g m' g' hp hag
  refine ⟨fun c => Ref (A0 m c) (A1 m c), ?_, ?_⟩
  · exact (θ_run Cert.OutProjIdeal.defs _ _).mono (fun _ h c => ⟨(h c).1.trans (final m c), (h c).2⟩)
      (Cert.OutProjIdeal.Value.run_blocks m g)
  · refine (θ_run Cert.OutProjRefIdeal.defs _ _).mono (fun _ h c => ⟨(h c).1.trans ?_, (h c).2⟩)
      (Cert.OutProjRefIdeal.Value.run (F := Ideal) m' g')
    obtain ⟨e0, e1⟩ := hag c
    rw [e0, e1]
    rfl

end Cert.Proof.OutProj

namespace Cert.Proof.Branch

/-! The branch projection. -/

theorem frame_p : Cert.quiescent_Branch := fun m ρ _ => Cert.Branch.Gen.frame m ρ
theorem frame_pi : Cert.quiescent_BranchIdeal := fun m ρ _ => Cert.BranchIdeal.Gen.frame m ρ

/-- The reference runs, its arguments end unchanged, and it has no semaphores. -/
theorem frame_ri : Cert.quiescent_BranchRefIdeal := fun m ρ _ =>
  (θ_run Cert.BranchRefIdeal.defs _ _).mono (fun r h => ⟨fun c => (h c).2, sem_eq_zero_of_no_sems (by decide) r.2⟩)
    (Cert.BranchRefIdeal.Value.run (F := Ideal) m ρ)

theorem preserves : Cert.preserves_Branch_BranchIdeal := trivial

/-- The two results are equal. -/
theorem algebraic : Cert.algebraic_BranchIdeal_BranchRefIdeal := by
  intro m g m' g' hp hag
  refine ⟨fun c => Ref (A0 m c) (A1 m c), ?_, ?_⟩
  · exact (θ_run Cert.BranchIdeal.defs _ _).mono (fun _ h c => ⟨(h c).1.trans (final m c), (h c).2⟩)
      (Cert.BranchIdeal.Value.run_blocks m g)
  · refine (θ_run Cert.BranchRefIdeal.defs _ _).mono (fun _ h c => ⟨(h c).1.trans ?_, (h c).2⟩)
      (Cert.BranchRefIdeal.Value.run (F := Ideal) m' g')
    obtain ⟨e0, e1⟩ := hag c
    rw [e0, e1]
    rfl

end Cert.Proof.Branch

namespace Cert.Proof.NsaBranch

/-! The third branch's projection. -/

theorem frame_p : Cert.quiescent_NsaBranch := fun m ρ _ => Cert.NsaBranch.Gen.frame m ρ
theorem frame_pi : Cert.quiescent_NsaBranchIdeal := fun m ρ _ => Cert.NsaBranchIdeal.Gen.frame m ρ

/-- The reference runs, its arguments end unchanged, and it has no semaphores. -/
theorem frame_ri : Cert.quiescent_NsaBranchRefIdeal := fun m ρ _ =>
  (θ_run Cert.NsaBranchRefIdeal.defs _ _).mono (fun r h => ⟨fun c => (h c).2, sem_eq_zero_of_no_sems (by decide) r.2⟩)
    (Cert.NsaBranchRefIdeal.Value.run (F := Ideal) m ρ)

theorem preserves : Cert.preserves_NsaBranch_NsaBranchIdeal := trivial

/-- The two results are equal. -/
theorem algebraic : Cert.algebraic_NsaBranchIdeal_NsaBranchRefIdeal := by
  intro m g m' g' hp hag
  refine ⟨fun c => Ref (A0 m c) (A1 m c), ?_, ?_⟩
  · exact (θ_run Cert.NsaBranchIdeal.defs _ _).mono (fun _ h c => ⟨(h c).1.trans (final m c), (h c).2⟩)
      (Cert.NsaBranchIdeal.Value.run_blocks m g)
  · refine (θ_run Cert.NsaBranchRefIdeal.defs _ _).mono (fun _ h c => ⟨(h c).1.trans ?_, (h c).2⟩)
      (Cert.NsaBranchRefIdeal.Value.run (F := Ideal) m' g')
    obtain ⟨e0, e1⟩ := hag c
    rw [e0, e1]
    rfl

end Cert.Proof.NsaBranch

namespace Cert.Proof.MlaUq

/-! The query up-projection. -/

theorem frame_p : Cert.quiescent_MlaUq := fun m ρ _ => Cert.MlaUq.Gen.frame m ρ
theorem frame_pi : Cert.quiescent_MlaUqIdeal := fun m ρ _ => Cert.MlaUqIdeal.Gen.frame m ρ

/-- The reference runs, its arguments end unchanged, and it has no semaphores. -/
theorem frame_ri : Cert.quiescent_MlaUqRefIdeal := fun m ρ _ =>
  (θ_run Cert.MlaUqRefIdeal.defs _ _).mono (fun r h => ⟨fun c => (h c).2, sem_eq_zero_of_no_sems (by decide) r.2⟩)
    (Cert.MlaUqRefIdeal.Value.run (F := Ideal) m ρ)

theorem preserves : Cert.preserves_MlaUq_MlaUqIdeal := trivial

/-- The two results are equal. -/
theorem algebraic : Cert.algebraic_MlaUqIdeal_MlaUqRefIdeal := by
  intro m g m' g' hp hag
  refine ⟨fun c => Ref (A0 m c) (A1 m c), ?_, ?_⟩
  · exact (θ_run Cert.MlaUqIdeal.defs _ _).mono (fun _ h c => ⟨(h c).1.trans (final m c), (h c).2⟩)
      (Cert.MlaUqIdeal.Value.run_blocks m g)
  · refine (θ_run Cert.MlaUqRefIdeal.defs _ _).mono (fun _ h c => ⟨(h c).1.trans ?_, (h c).2⟩)
      (Cert.MlaUqRefIdeal.Value.run (F := Ideal) m' g')
    obtain ⟨e0, e1⟩ := hag c
    rw [e0, e1]
    rfl

end Cert.Proof.MlaUq
-- ==== Proof.MlaUk.lean ====
/- The product that takes the queries of each head to the latent space, two heads a step, and its claims. -/
module

public import proofs.«01_k».proof.Defs
public import proofs.«01_k».proof.Proof.Gen.MlaUk.Frame
public import proofs.«01_k».proof.Proof.Gen.MlaUkIdeal.Value
public import proofs.«01_k».proof.Proof.Gen.MlaUkRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.MlaUk

open Cert.MlaUkIdeal Cert.MlaUkIdeal.Gen

variable (m : (ℓ : Loc nD τ sig) → Buf (Elt Ideal) ℓ) (c : Dev nD)

/-- The two arguments: the queries of all heads side by side, and the weights of the heads. -/
abbrev A0 : FVec Ideal S8704x1024 .f32 := m ((c.tc : Thread nD τ).loc main_arg0)
abbrev A1 : FVec Ideal S256x16x64 .f32 := m ((c.tc : Thread nD τ).loc main_arg1)

/-- The host turns the weights and casts them. -/
theorem V_W : (V m c main_v1 : FVec Ideal S16x64x256 .bf16) =
    truncf .bf16 (transpose S16x64x256 [1, 2, 0] (A1 m c) transposes_S256x16x64_S16x64x256_1_2_0) bitsLt_bf16_f32 := by
  unfold V
  after_results <;> rfl

/-- The reference: for each head the product of its queries with its weights. -/
def Ref (X : FVec Ideal S8704x1024 .f32) (Y : FVec Ideal S256x16x64 .f32) : FVec Ideal S16x8704x256 .bf16 :=
  truncf .bf16 (Host.dotGeneral Cert.MlaUkRefIdeal.dot_S8704x16x64_S256x16x64_S16x8704x256_2_2_0_0_1_1 none
    (shapeCast Cert.MlaUkRefIdeal.S8704x16x64 X Cert.MlaUkRefIdeal.Gen.shapeCasts_S8704x1024_S8704x16x64) Y) bitsLt_bf16_f32

theorem Ref_at (X : FVec Ideal S8704x1024 .f32) (Y : FVec Ideal S256x16x64 .f32) (h : Fin 16) (i : Fin 8704) (j : Fin 256) :
    Ref X Y (ix3 h i j : S16x8704x256.Idx) =
      ∑ k : Fin 64, X (ix2 i (⟨h.val * 64 + k.val, by omega⟩ : Fin 1024)) * Y (ix3 j h k) := by
  pointwise [Ref]

/-- The two stores of a point are the products of its two heads. -/
theorem out_at (x : FVec Ideal S1088x128 .f32) (w : FVec Ideal S2x64x256 .bf16) (a : Fin 2) (i : Fin 1088) (j : Fin 256) :
    out0_2 (F := Ideal) x w (ix3 a i j : S2x1088x256.Idx) =
      ∑ k : Fin 64, x (ix2 i (⟨a.val * 64 + k.val, by omega⟩ : Fin 128)) * w (ix3 a k j) := by
  canon_tiles z h
  · obtain rfl : a = 1 := Fin.ext ((show a.val = 1 + (z 0).val from h0).trans (show _ = 1 by omega))
    obtain rfl : i = z 1 := Fin.ext h1
    obtain rfl : j = z 2 := Fin.ext h2
    pointwise [k0_pay3, k0_pay1]
  · obtain rfl : a = 0 := Fin.ext ((show a.val = (z 0).val from h0).trans (show _ = 0 by omega))
    obtain rfl : i = z 1 := Fin.ext h1
    obtain rfl : j = z 2 := Fin.ext h2
    pointwise [k0_pay2, k0_pay1]

/-- Where the blocks lie: row block `t % 8`, pair of heads `t / 8`. -/
theorem idx : ∀ t : Fin cfg0.N, win0_0.index t = ![t.val % 8, t.val / 8] ∧ win0_1.index t = ![t.val / 8, 0, 0]
    ∧ win0_2.index t = ![t.val / 8, t.val % 8, 0] := (by decide +kernel : ∀ t : Fin grid0.N, _)

/-- The point's rows and heads. -/
def row (t : Fin cfg0.N) (i : Fin 1088) : Fin 8704 := ⟨1088 * (t.val % 8) + i, by omega⟩
def hd (t : Fin cfg0.N) (a : Fin 2) : Fin 16 :=
  ⟨2 * (t.val / 8) + a, by have := lt_of_lt_of_eq t.isLt N_0; omega⟩
def col (t : Fin cfg0.N) (k : Fin 128) : Fin 1024 :=
  ⟨128 * (t.val / 8) + k, by have := lt_of_lt_of_eq t.isLt N_0; omega⟩

/-- The point's two blocks. -/
abbrev B0 (t : Fin cfg0.N) : FVec Ideal S1088x128 .f32 := iblk m c 0 t
abbrev B1 (t : Fin cfg0.N) : FVec Ideal S2x64x256 .bf16 := iblk m c 1 t

theorem B0_at (t : Fin cfg0.N) (i : Fin 1088) (k : Fin 128) : B0 m c t (ix2 i k) = A0 m c (ix2 (row t i) (col t k)) := by
  blk_point [iblk, V, idx t]
  all_goals (dsimp only [row, col]; omega)

theorem B1_at (t : Fin cfg0.N) (a : Fin 2) (k : Fin 64) (j : Fin 256) :
    B1 m c t (ix3 a k j) = A1 m c (ix3 j (hd t a) k) := by
  have e : B1 m c t (ix3 a k j) = (V m c main_v1 : FVec Ideal S16x64x256 .bf16) (ix3 (hd t a) k j) := by
    blk_simp [iblk, idx t]
    blk_ext [idx t]
    all_goals (dsimp only [hd]; omega)
  rw [e, V_W]
  pointwise

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]
  idx_vars y
  have e : ((View.whole main_v2).slice (win0_2.rect t)).emb (ix3 y0 y1 y2) = ix3 (hd t y0) (row t y1) y2 := by
    blk_ext [idx t]
    all_goals (dsimp only [row, hd]; omega)
  rw [e]
  refine (out_at _ _ y0 y1 y2).trans (Eq.trans ?_ (Ref_at _ _ _ _ _).symm)
  refine Finset.sum_congr rfl fun k _ => congrArg₂ (· * ·) ((B0_at m c t y1 _).trans ?_) (B1_at m c t y0 k y2)
  refine congrArg (fun z => A0 m c (ix2 (row t y1) z)) (Fin.ext ?_)
  dsimp only [col, hd]; omega

/-! The claims. -/

theorem frame_p : Cert.quiescent_MlaUk := fun m ρ _ => Cert.MlaUk.Gen.frame m ρ
theorem frame_pi : Cert.quiescent_MlaUkIdeal := fun m ρ _ => Cert.MlaUkIdeal.Gen.frame m ρ

/-- The reference runs, its arguments end unchanged, and it has no semaphores. -/
theorem frame_ri : Cert.quiescent_MlaUkRefIdeal := fun m ρ _ =>
  (θ_run Cert.MlaUkRefIdeal.defs _ _).mono (fun r h => ⟨fun c => (h c).2, sem_eq_zero_of_no_sems (by decide) r.2⟩)
    (Cert.MlaUkRefIdeal.Value.run (F := Ideal) m ρ)

theorem preserves : Cert.preserves_MlaUk_MlaUkIdeal := trivial

/-- The two results are equal. -/
theorem algebraic : Cert.algebraic_MlaUkIdeal_MlaUkRefIdeal := by
  intro m g m' g' hp hag
  refine ⟨fun c => Ref (A0 m c) (A1 m c), ?_, ?_⟩
  · exact (θ_run Cert.MlaUkIdeal.defs _ _).mono (fun _ h c => ⟨(h c).1.trans (final m c), (h c).2⟩)
      (Cert.MlaUkIdeal.Value.run_blocks m g)
  · refine (θ_run Cert.MlaUkRefIdeal.defs _ _).mono (fun _ h c => ⟨(h c).1.trans ?_, (h c).2⟩)
      (Cert.MlaUkRefIdeal.Value.run (F := Ideal) m' g')
    obtain ⟨e0, e1⟩ := hag c
    rw [e0, e1]
    rfl

end Cert.Proof.MlaUk
-- ==== Proof.MlaUv.lean ====
/- The product that takes the weighted latent rows of each head to its values, two heads a step, and its claims. -/
module

public import proofs.«01_k».proof.Defs
public import proofs.«01_k».proof.Proof.Gen.MlaUv.Frame
public import proofs.«01_k».proof.Proof.Gen.MlaUvIdeal.Value
public import proofs.«01_k».proof.Proof.Gen.MlaUvRefIdeal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Proof.MlaUv

open Cert.MlaUvIdeal Cert.MlaUvIdeal.Gen

variable (m : (ℓ : Loc nD τ sig) → Buf (Elt Ideal) ℓ) (c : Dev nD)

/-- The two arguments: the weighted latent rows of the heads, and the weights of the heads. -/
abbrev A0 : FVec Ideal S16x8704x256 .bf16 := m ((c.tc : Thread nD τ).loc main_arg0)
abbrev A1 : FVec Ideal S256x16x64 .f32 := m ((c.tc : Thread nD τ).loc main_arg1)

/-- The host turns the weights and casts them. -/
theorem V_W : (V m c main_v1 : FVec Ideal S16x256x64 .bf16) =
    truncf .bf16 (transpose S16x256x64 [1, 0, 2] (A1 m c) transposes_S256x16x64_S16x256x64_1_0_2) bitsLt_bf16_f32 := by
  unfold V
  after_results <;> rfl

/-- The reference: for each head the product of its rows with its weights, the heads side by side. -/
def Ref (X : FVec Ideal S16x8704x256 .bf16) (Y : FVec Ideal S256x16x64 .f32) : FVec Ideal S8704x1024 .bf16 :=
  truncf .bf16 (shapeCast S8704x1024 (transpose Cert.MlaUvRefIdeal.S8704x16x64 [2, 0, 1]
    (Host.dotGeneral Cert.MlaUvRefIdeal.dot_S256x16x64_S16x8704x256_S16x64x8704_0_2_2_1_1_0 none Y (extf .f32 X bitsLt_bf16_f32))
    Cert.MlaUvRefIdeal.Gen.transposes_S16x64x8704_S8704x16x64_2_0_1)
    Cert.MlaUvRefIdeal.Gen.shapeCasts_S8704x16x64_S8704x1024) bitsLt_bf16_f32

theorem Ref_at (X : FVec Ideal S16x8704x256 .bf16) (Y : FVec Ideal S256x16x64 .f32) (i : Fin 8704) (j : Fin 1024) :
    Ref X Y (ix2 i j : S8704x1024.Idx) =
      ∑ k : Fin 256, Y (ix3 k (⟨j.val / 64, by omega⟩ : Fin 16) (⟨j.val % 64, by omega⟩ : Fin 64)) *
        X (ix3 (⟨j.val / 64, by omega⟩ : Fin 16) i k) := by
  pointwise [Ref]

/-- A tile: the products of two heads side by side. -/
theorem pay (x : FVec Ideal S2x1088x256 .bf16) (w : FVec Ideal S2x256x64 .bf16) (i : Fin 1088) (j : Fin 128) :
    k0_pay1 (F := Ideal) (View.ld x r0_0) (View.ld w r0_1) (View.ld x r0_2) (View.ld w r0_3) (ix2 i j : S1088x128.Idx) =
      ∑ k : Fin 256, x (ix3 (⟨j.val / 64, by omega⟩ : Fin 2) i k) *
        w (ix3 (⟨j.val / 64, by omega⟩ : Fin 2) k (⟨j.val % 64, by omega⟩ : Fin 64)) := by
  pointwise [k0_pay1]
  by_cases h : j.val < 64
  · have e : j.val / 64 = 0 := by omega
    have e' : j.val % 64 = j.val := by omega
    simp only [h, ↓reduceDIte, e, e']
    rfl
  · have e : j.val / 64 = 1 := by omega
    have e' : j.val % 64 = j.val - 64 := by omega
    simp only [h, ↓reduceDIte, e, e']
    rfl

/-- Where the blocks lie: row block `t % 8`, pair of heads `t / 8`. -/
theorem idx : ∀ t : Fin cfg0.N, win0_0.index t = ![t.val / 8, t.val % 8, 0] ∧ win0_1.index t = ![t.val / 8, 0, 0]
    ∧ win0_2.index t = ![t.val % 8, t.val / 8] := (by decide +kernel : ∀ t : Fin grid0.N, _)

/-- The point's rows, heads and columns. -/
def row (t : Fin cfg0.N) (i : Fin 1088) : Fin 8704 := ⟨1088 * (t.val % 8) + i, by omega⟩
def hd (t : Fin cfg0.N) (a : Fin 2) : Fin 16 :=
  ⟨2 * (t.val / 8) + a, by have := lt_of_lt_of_eq t.isLt N_0; omega⟩
def col (t : Fin cfg0.N) (k : Fin 128) : Fin 1024 :=
  ⟨128 * (t.val / 8) + k, by have := lt_of_lt_of_eq t.isLt N_0; omega⟩

/-- The point's two blocks. -/
abbrev B0 (t : Fin cfg0.N) : FVec Ideal S2x1088x256 .bf16 := iblk m c 0 t
abbrev B1 (t : Fin cfg0.N) : FVec Ideal S2x256x64 .bf16 := iblk m c 1 t

theorem B0_at (t : Fin cfg0.N) (a : Fin 2) (i : Fin 1088) (k : Fin 256) :
    B0 m c t (ix3 a i k) = A0 m c (ix3 (hd t a) (row t i) k) := by
  blk_point [iblk, V, idx t]
  all_goals (dsimp only [row, hd]; omega)

theorem B1_at (t : Fin cfg0.N) (a : Fin 2) (k : Fin 256) (j : Fin 64) :
    B1 m c t (ix3 a k j) = A1 m c (ix3 k (hd t a) j) := by
  have e : B1 m c t (ix3 a k j) = (V m c main_v1 : FVec Ideal S16x256x64 .bf16) (ix3 (hd t a) k j) := by
    blk_simp [iblk, idx t]
    blk_ext [idx t]
    all_goals (dsimp only [hd]; omega)
  rw [e, V_W]
  pointwise

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v2).slice (win0_2.rect t)).emb (ix2 y0 y1) = ix2 (row t y0) (col t y1) := by
    blk_ext [idx t]
    all_goals (dsimp only [row, col]; omega)
  rw [e]
  refine (pay _ _ y0 y1).trans (Eq.trans ?_ (Ref_at _ _ _ _).symm)
  refine Finset.sum_congr rfl fun k _ => ?_
  refine (congrArg₂ (· * ·) (B0_at m c t _ y0 k) (B1_at m c t _ k _)).trans ((mul_comm _ _).trans (congrArg₂ (· * ·) ?_ ?_))
  · refine congrArg₂ (fun a b => A1 m c (ix3 k a b)) (Fin.ext ?_) (Fin.ext ?_) <;> dsimp only [hd, col] <;> omega
  · refine congrArg (fun a => A0 m c (ix3 a (row t y0) k)) (Fin.ext ?_)
    dsimp only [hd, col]; omega

/-! The claims. -/

theorem frame_p : Cert.quiescent_MlaUv := fun m ρ _ => Cert.MlaUv.Gen.frame m ρ
theorem frame_pi : Cert.quiescent_MlaUvIdeal := fun m ρ _ => Cert.MlaUvIdeal.Gen.frame m ρ

/-- The reference runs, its arguments end unchanged, and it has no semaphores. -/
theorem frame_ri : Cert.quiescent_MlaUvRefIdeal := fun m ρ _ =>
  (θ_run Cert.MlaUvRefIdeal.defs _ _).mono (fun r h => ⟨fun c => (h c).2, sem_eq_zero_of_no_sems (by decide) r.2⟩)
    (Cert.MlaUvRefIdeal.Value.run (F := Ideal) m ρ)

theorem preserves : Cert.preserves_MlaUv_MlaUvIdeal := trivial

/-- The two results are equal. -/
theorem algebraic : Cert.algebraic_MlaUvIdeal_MlaUvRefIdeal := by
  intro m g m' g' hp hag
  refine ⟨fun c => Ref (A0 m c) (A1 m c), ?_, ?_⟩
  · exact (θ_run Cert.MlaUvIdeal.defs _ _).mono (fun _ h c => ⟨(h c).1.trans (final m c), (h c).2⟩)
      (Cert.MlaUvIdeal.Value.run_blocks m g)
  · refine (θ_run Cert.MlaUvRefIdeal.defs _ _).mono (fun _ h c => ⟨(h c).1.trans ?_, (h c).2⟩)
      (Cert.MlaUvRefIdeal.Value.run (F := Ideal) m' g')
    obtain ⟨e0, e1⟩ := hag c
    rw [e0, e1]
    rfl

end Cert.Proof.MlaUv
-- ==== Proof.Masked.lean ====
/- Softmax by blocks under any mask, over the reals: as for the causal mask, but a query may have seen no visible key yet, and
   then the running maximum is minus infinity and both running sums are zero. -/
module

public import proofs.«01_k».proof.Proof.Online

@[expose] public section

noncomputable section

open Idealize.ShloMosaic

namespace Cert.Proof.Masked

open Cert.Proof.Softmax (coe_sum fold_max_real)

variable (ok : ℕ → Bool) (x : ℕ → ℝ)

/-- The score of key `k`: the number `x k` when the key is visible, minus infinity when not. -/
def score (k : ℕ) : EReal := if ok k then (x k : EReal) else ⊥

/-- The unnormalized weight of key `k`. -/
def wt (k : ℕ) : ℝ := if ok k then Real.exp (x k) else 0

theorem wt_nonneg (k : ℕ) : 0 ≤ wt ok x k := by
  unfold wt; split_ifs
  · exact (Real.exp_pos _).le
  · exact le_rfl

theorem wt_hidden {k : ℕ} (h : ok k = false) : wt ok x k = 0 := by simp [wt, h]

theorem score_hidden {k : ℕ} (h : ok k = false) : score ok x k = ⊥ := by simp [score, h]

/-- With one visible key among them, the weights of the first `n` keys add up to a positive number. -/
theorem sum_wt_pos (n : ℕ) (h : ∃ k < n, ok k = true) : 0 < ∑ k ∈ Finset.range n, wt ok x k := by
  obtain ⟨k, hk, ho⟩ := h
  exact Finset.sum_pos' (fun k _ => wt_nonneg ok x k) ⟨k, Finset.mem_range.2 hk, by simp [wt, ho, Real.exp_pos]⟩

theorem score_ne_top (k : ℕ) : score ok x k < ⊤ := by
  unfold score; split_ifs
  · exact EReal.coe_lt_top _
  · exact bot_lt_top

/-- The exponential of a score over a real shift is the weight over the shift's exponential. -/
theorem exp_score (k : ℕ) (M : ℝ) :
    Ideal.exp (score ok x k - (M : EReal)) = ((Real.exp (-M) * wt ok x k : ℝ) : EReal) := by
  unfold score wt; split_ifs
  · rw [← EReal.coe_sub, Ideal.exp_coe, ← Real.exp_add]
    congr 2; ring
  · rw [EReal.bot_sub, Ideal.exp_bot, mul_zero, EReal.coe_zero]

/-- A block's exponentials, summed. -/
theorem block_sum (n B : ℕ) (M : ℝ) (s : Fin B → EReal) (hs : ∀ j, s j = score ok x (n + j)) :
    ∑ j, Ideal.exp (s j - (M : EReal)) = ((Real.exp (-M) * ∑ k ∈ Finset.range B, wt ok x (n + k) : ℝ) : EReal) := by
  rw [Finset.mul_sum, Finset.sum_range, coe_sum]
  exact Finset.sum_congr rfl fun j _ => by rw [hs, exp_score]

/-- A block's exponentials times its values, summed. -/
theorem block_dot (n B : ℕ) (M : ℝ) (s w : Fin B → EReal) (v : ℕ → ℝ)
    (hs : ∀ j, s j = score ok x (n + j)) (hw : ∀ j : Fin B, w j = ((v (n + j) : ℝ) : EReal)) :
    ∑ j, Ideal.exp (s j - (M : EReal)) * w j
      = ((Real.exp (-M) * ∑ k ∈ Finset.range B, wt ok x (n + k) * v (n + k) : ℝ) : EReal) := by
  rw [Finset.mul_sum, Finset.sum_range, coe_sum]
  exact Finset.sum_congr rfl fun j _ => by rw [hs, hw, exp_score, ← EReal.coe_mul, mul_assoc]

/-- What the running maximum `m`, sum `l` and weighted sums `a` say after `n` keys: either they stand for real numbers, or
    none of the keys is visible and they are as they started. -/
def Upto {D : Type*} (v : ℕ → D → ℝ) (n : ℕ) (m l : EReal) (a : D → EReal) : Prop :=
  (∃ M : ℝ, m = (M : EReal) ∧ l = ((Real.exp (-M) * ∑ k ∈ Finset.range n, wt ok x k : ℝ) : EReal)
    ∧ ∀ d, a d = ((Real.exp (-M) * ∑ k ∈ Finset.range n, wt ok x k * v k d : ℝ) : EReal))
  ∨ (m = ⊥ ∧ l = 0 ∧ (∀ d, a d = 0) ∧ ∀ k < n, ok k = false)

/-- Before the first key, and after keys none of which is visible. -/
theorem upto_start {D : Type*} (v : ℕ → D → ℝ) (n : ℕ) (h : ∀ k < n, ok k = false) :
    Upto ok x v n ⊥ 0 (fun _ => 0) := Or.inr ⟨rfl, rfl, fun _ => rfl, h⟩

/-- A block. -/
theorem upto_step {D : Type*} (v : ℕ → D → ℝ) (n B : ℕ) (s : Fin B → EReal) (w : Fin B → D → EReal)
    (hs : ∀ j, s j = score ok x (n + j)) (hw : ∀ j d, w j d = ((v (n + j) d : ℝ) : EReal))
    (m l : EReal) (a : D → EReal) (m' l' : EReal) (a' : D → EReal) (h : Upto ok x v n m' l' a')
    (hm : m = max m' (Finset.univ.fold max ⊥ s))
    (hl : l = Ideal.exp (m' - m) * l' + ∑ j, Ideal.exp (s j - m))
    (ha : ∀ d, a d = Ideal.exp (m' - m) * a' d + ∑ j, Ideal.exp (s j - m) * w j d) :
    Upto ok x v (n + B) m l a := by
  rcases h with ⟨M', rfl, hl', ha'⟩ | ⟨rfl, rfl, ha', hn⟩
  · obtain ⟨M, hM⟩ := fold_max_real s (M' : EReal) (EReal.coe_lt_top _)
      (fun i => by rw [hs]; exact score_ne_top _ _ _) (Or.inl (EReal.bot_lt_coe _))
    rw [hM] at hm
    subst hm
    have hE : Real.exp (M' - M) * Real.exp (-M') = Real.exp (-M) := by rw [← Real.exp_add]; congr 1; ring
    refine Or.inl ⟨M, rfl, ?_, fun d => ?_⟩
    · rw [hl, hl', ← EReal.coe_sub, Ideal.exp_coe, ← EReal.coe_mul, block_sum ok x n B M s hs, ← EReal.coe_add,
        ← mul_assoc, hE, ← mul_add, Finset.sum_range_add]
    · rw [ha, ha', ← EReal.coe_sub, Ideal.exp_coe, ← EReal.coe_mul,
        block_dot ok x n B M s (fun j => w j d) (fun k => v k d) hs (fun j => hw j d), ← EReal.coe_add, ← mul_assoc,
        hE, ← mul_add, Finset.sum_range_add]
  · by_cases hv : ∃ j : Fin B, ok (n + j) = true
    · obtain ⟨j, hj⟩ := hv
      obtain ⟨M, hM⟩ := fold_max_real s ⊥ bot_lt_top (fun i => by rw [hs]; exact score_ne_top _ _ _)
        (Or.inr ⟨j, by rw [hs]; simp [score, hj, EReal.bot_lt_coe]⟩)
      rw [hM] at hm
      subst hm
      have h0 : ∀ k ∈ Finset.range n, wt ok x k = 0 := fun k hk => wt_hidden ok x (hn k (Finset.mem_range.1 hk))
      refine Or.inl ⟨M, rfl, ?_, fun d => ?_⟩
      · rw [hl, mul_zero, zero_add, block_sum ok x n B M s hs, Finset.sum_range_add, Finset.sum_eq_zero h0, zero_add]
      · rw [ha, ha', mul_zero, zero_add, block_dot ok x n B M s (fun j => w j d) (fun k => v k d) hs (fun j => hw j d),
          Finset.sum_range_add, Finset.sum_eq_zero (s := Finset.range n) fun k hk => by rw [h0 k hk, zero_mul], zero_add]
    · have hb : ∀ j : Fin B, ok (n + j) = false := fun j => by
        cases e : ok (n + j)
        · rfl
        · exact absurd ⟨j, e⟩ hv
      have hs' : ∀ j, s j = ⊥ := fun j => by rw [hs, score_hidden ok x (hb j)]
      have hm' : m = ⊥ := by
        rw [hm]
        refine max_eq_left (le_of_eq ?_) |>.trans rfl
        exact le_bot_iff.1 ((Finset.fold_max_le ⊥).2 ⟨le_rfl, fun i _ => (hs' i).le⟩)
      have he : ∀ j, Ideal.exp (s j - m) = 0 := fun j => by rw [hs', EReal.bot_sub, Ideal.exp_bot]
      refine Or.inr ⟨hm', ?_, fun d => ?_, fun k hk => ?_⟩
      · rw [hl, mul_zero, zero_add, Finset.sum_eq_zero fun j _ => he j]
      · rw [ha, ha', mul_zero, zero_add, Finset.sum_eq_zero fun j _ => by rw [he, zero_mul]]
      · by_cases hkn : k < n
        · exact hn k hkn
        · have := hb ⟨k - n, by omega⟩
          rwa [show n + (k - n) = k by omega] at this

/-- A block none of whose keys is visible changes nothing. -/
theorem upto_skip {D : Type*} (v : ℕ → D → ℝ) (n B : ℕ) (hq : ∀ k, n ≤ k → k < n + B → ok k = false) (m l : EReal)
    (a : D → EReal) (h : Upto ok x v n m l a) : Upto ok x v (n + B) m l a := by
  have h0 : ∀ k ∈ Finset.range B, wt ok x (n + k) = 0 := fun k hk =>
    wt_hidden ok x (hq _ (by omega) (by have := Finset.mem_range.1 hk; omega))
  rcases h with ⟨M, hm, hl, ha⟩ | ⟨hm, hl, ha, hn⟩
  · refine Or.inl ⟨M, hm, ?_, fun d => ?_⟩
    · rw [hl, Finset.sum_range_add, Finset.sum_eq_zero h0, add_zero]
    · rw [ha, Finset.sum_range_add, Finset.sum_eq_zero (s := Finset.range B) fun k hk => by rw [h0 k hk, zero_mul], add_zero]
  · refine Or.inr ⟨hm, hl, ha, fun k hk => ?_⟩
    by_cases hkn : k < n
    · exact hn k hkn
    · exact hq k (by omega) hk

/-- The weighted mean of the values. -/
def mean (v : ℕ → ℝ) (n : ℕ) : ℝ :=
  (∑ k ∈ Finset.range n, wt ok x k * v k) / ∑ k ∈ Finset.range n, wt ok x k

/-- The quotient of the running sums is the weighted mean, once a key was visible. -/
theorem upto_div {D : Type*} (v : ℕ → D → ℝ) (n : ℕ) (hv : ∃ k < n, ok k = true) (m l : EReal) (a : D → EReal)
    (h : Upto ok x v n m l a) (d : D) : Ideal.div (a d) l = ((mean ok x (fun k => v k d) n : ℝ) : EReal) := by
  have hp := sum_wt_pos ok x n hv
  rcases h with ⟨M, hm, hl, ha⟩ | ⟨-, -, -, hn⟩
  · have he := Real.exp_pos (-M)
    rw [ha, hl, Ideal.div_coe (mul_pos he hp).ne', ← EReal.coe_mul, mean]
    congr 1
    field_simp
  · obtain ⟨k, hk, ho⟩ := hv
    rw [hn k hk] at ho
    cases ho

/-- Attention written as the reference writes it — a softmax over all keys, its masked weights set to zero — is the
    weighted mean. -/
theorem softmax_mean (v : ℕ → ℝ) (n : ℕ) (hv : ∃ k < n, ok k = true) (s w : Fin n → EReal) (hs : ∀ j, s j = score ok x j)
    (hw : ∀ j : Fin n, w j = ((v j : ℝ) : EReal)) (m l : EReal) (hm : m = max ⊥ (Finset.univ.fold max ⊥ s))
    (hl : l = ∑ j, Ideal.exp (s j - m)) :
    ∑ j : Fin n, (if ok j then Ideal.div (Ideal.exp (s j - m)) l else 0) * w j = ((mean ok x v n : ℝ) : EReal) := by
  have hp := sum_wt_pos ok x n hv
  obtain ⟨k, hk, ho⟩ := hv
  obtain ⟨M, hM⟩ := fold_max_real s ⊥ bot_lt_top (fun i => by rw [hs]; exact score_ne_top _ _ _)
    (Or.inr ⟨⟨k, hk⟩, by rw [hs]; simp [score, ho, EReal.bot_lt_coe]⟩)
  rw [hM] at hm
  subst hm
  have he := Real.exp_pos (-M)
  rw [block_sum ok x 0 n M s (by simpa using hs)] at hl
  simp only [zero_add] at hl
  have hterm : ∀ j : Fin n, (if ok j then Ideal.div (Ideal.exp (s j - (M : EReal))) l else 0) * w j
      = (((wt ok x j * v j) / ∑ k ∈ Finset.range n, wt ok x k : ℝ) : EReal) := fun j => by
    split_ifs with hj
    · rw [hw, hs, exp_score, hl, Ideal.div_coe (mul_pos he hp).ne', ← EReal.coe_mul, ← EReal.coe_mul]
      congr 1
      field_simp
    · rw [zero_mul, wt, if_neg hj]; simp
  rw [Finset.sum_congr rfl fun j _ => hterm j, ← coe_sum, mean, Finset.sum_div,
    Finset.sum_range fun k => wt ok x k * v k / ∑ i ∈ Finset.range n, wt ok x i]

end Cert.Proof.Masked
-- ==== Proof.NsaSpec.lean ====
/- The attentions of the sparse branches over a prompt, written over the extended reals and, for arguments that are all
   numbers, over the reals, whichever keys a query may see. -/
module

public import proofs.«01_k».proof.Proof.Masked
public import proofs.«01_k».proof.Proof.Spec

@[expose] public section

noncomputable section

open Idealize.ShloMosaic

namespace Cert.Proof.Nsa

open Cert.Proof.Masked
open Cert.Proof.Spec (Finite)
open Cert.Proof.Softmax (coe_sum)

/-- The queries' shape, the rows'. -/
abbrev SQ : Shape := ⟨4, ![2, 16, 4096, 64]⟩
abbrev SK : Shape := ⟨3, ![2, 4096, 128]⟩

/-- One half, above which a block counts as chosen. -/
def half : EReal := Ideal.ofBits .f32 0x3F000000#32

/-- The scale of the scores. -/
def scale : EReal := Ideal.ofBits .f32 0x3E000000#32

theorem scale_toReal : ((scale.toReal : ℝ) : EReal) = scale := by
  have h : ∃ r : ℝ, scale = (r : EReal) := by
    unfold scale Ideal.ofBits Ideal.ieee
    exact ⟨_, rfl⟩
  obtain ⟨r, hr⟩ := h
  rw [hr, EReal.toReal_coe]

variable (A0 : SQ.Idx → EReal) (A1 : SK.Idx → EReal)

/-- The score of key `k` at query `q` of head `h`, before the mask. -/
def raw (b : Fin 2) (h : Fin 16) (q k : Fin 4096) : EReal :=
  (∑ x : Fin 64, A0 (ix4 b h q x) * A1 (ix3 b k ⟨(x : ℕ), by omega⟩)) * scale

/-- The same over the reals, the key any natural number. -/
def rawR (b : Fin 2) (h : Fin 16) (q : Fin 4096) (k : ℕ) : ℝ :=
  if hk : k < 4096 then
    (∑ x : Fin 64, (A0 (ix4 b h q x)).toReal * (A1 (ix3 b ⟨k, hk⟩ ⟨(x : ℕ), by omega⟩)).toReal) * scale.toReal
  else 0

/-- The values, over the reals. -/
def valR (b : Fin 2) (k : ℕ) (d : Fin 64) : ℝ :=
  if hk : k < 4096 then (A1 (ix3 b ⟨k, hk⟩ ⟨64 + (d : ℕ), by omega⟩)).toReal else 0

/-- The result at head `h`, query `q`, column `d`, when the query sees the keys `ok`. -/
def out (ok : ℕ → Bool) (b : Fin 2) (h : Fin 16) (q : Fin 4096) (d : Fin 64) : EReal :=
  ((mean ok (rawR A0 A1 b h q) (fun k => valR A1 b k d) 4096 : ℝ) : EReal)

variable {A0 A1}

theorem raw_eq (h0 : Finite A0) (h1 : Finite A1) (b : Fin 2) (h : Fin 16) (q k : Fin 4096) :
    raw A0 A1 b h q k = (rawR A0 A1 b h q k : EReal) := by
  unfold raw rawR
  rw [dif_pos k.isLt, EReal.coe_mul, scale_toReal, coe_sum]
  simp only [EReal.coe_mul, h0.toReal, h1.toReal]

theorem val_eq (h1 : Finite A1) (b : Fin 2) (k : Fin 4096) (d : Fin 64) (hd : 64 + (d : ℕ) < 128) :
    A1 (ix3 b k ⟨64 + (d : ℕ), hd⟩) = (valR A1 b k d : EReal) := by
  unfold valR
  rw [dif_pos k.isLt, h1.toReal]

/-- A score plus zero where the key is visible, plus minus infinity where it is not. -/
theorem raw_bias (h0 : Finite A0) (h1 : Finite A1) (ok : ℕ → Bool) (b : Fin 2) (h : Fin 16) (q k : Fin 4096) :
    raw A0 A1 b h q k + (if ok k then 0 else ⊥) = score ok (rawR A0 A1 b h q) k := by
  unfold score
  split_ifs
  · rw [add_zero, raw_eq h0 h1]
  · rw [EReal.add_bot]

/-- The masked score. -/
theorem raw_masked (h0 : Finite A0) (h1 : Finite A1) (ok : ℕ → Bool) (b : Fin 2) (h : Fin 16) (q k : Fin 4096) :
    (if ok k then raw A0 A1 b h q k else ⊥) = score ok (rawR A0 A1 b h q) k := by
  unfold score
  rw [raw_eq h0 h1]

end Cert.Proof.Nsa
-- ==== Proof.WinWords.lean ====
/- Which keys a query of the window attention sees, and the comparisons of positions that decide it, on words. -/
module

public import Idealize.ShloMosaic.PureOps
public import Idealize.ShloMosaic.Lib.WordCmp

@[expose] public section

noncomputable section

open Idealize.ShloMosaic

namespace Cert.Proof.Win

/-- Which keys a query sees: the last 512 up to its own. -/
def vis (q : Fin 4096) (k : ℕ) : Bool := decide (k ≤ q ∧ (q : ℕ) < k + 512)

/-- The key is not after the query. -/
theorem before (q k : ℕ) (hq : q < 4096) (hk : k < 4096) :
    IntOp.cmpi CmpIPredicate.sle (BitVec.ofNat 32 k) (BitVec.ofNat 32 q) = BitVec.ofBool (decide (k ≤ q)) := by
  word_cmp

theorem small_toInt (k : ℕ) (hk : k < 4096) : (BitVec.ofNat 32 k).toInt = k := by
  rw [BitVec.toInt_eq_toNat_of_lt] <;> rw [BitVec.toNat_ofNat]
  · omega
  · omega

/-- The key is among the last 512. -/
theorem recent (q k : ℕ) (hq : q < 4096) (hk : k < 4096) :
    IntOp.cmpi CmpIPredicate.sgt (BitVec.ofNat 32 k) (IntOp.subi (BitVec.ofNat 32 q) 512#32) = BitVec.ofBool (decide (q < k + 512)) := by
  have hs : (IntOp.subi (BitVec.ofNat 32 q) 512#32).toInt = (q : ℤ) - 512 := by
    show (BitVec.ofNat 32 q - 512#32).toInt = _
    rw [BitVec.toInt_sub, small_toInt q hq, show (512#32).toInt = 512 by decide]
    exact Int.bmod_eq_of_le (by omega) (by omega)
  show BitVec.ofBool ((IntOp.subi (BitVec.ofNat 32 q) 512#32).slt (BitVec.ofNat 32 k)) = _
  rw [BitVec.slt, hs, small_toInt k hk]
  congr 1
  exact decide_eq_decide.mpr (by omega)

/-- Both. -/
theorem both (q k : ℕ) : IntOp.andi (BitVec.ofBool (decide (k ≤ q))) (BitVec.ofBool (decide (q < k + 512)))
    = BitVec.ofBool (decide (k ≤ q ∧ q < k + 512)) := by
  by_cases h1 : k ≤ q <;> by_cases h2 : q < k + 512 <;> simp [h1, h2, IntOp.andi]

end Cert.Proof.Win
-- ==== Proof.WinPayloads.lean ====
/- What the values stored by the window attention are at one index, as scalars. -/
module

public import proofs.«01_k».proof.Proof.Gen.NsaWinIdeal.Skeleton
public import proofs.«01_k».proof.Proof.NsaSpec
public import proofs.«01_k».proof.Proof.WinWords
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Proof.NsaWin

open Cert.NsaWinIdeal Cert.NsaWinIdeal.Gen

/-- The named constant is minus infinity. -/
theorem mask_eq : Named.named (F := Ideal) κ "mask" (φ := .f32) 0xF149F2CA#32 = (⊥ : EReal) := rfl

/-- A position, as a word. -/
theorem pos_word (b : Fin 32) (i : Fin 128) :
    (IntOp.addi (Scalar.muli (BitVec.ofNat 32 b) 128#32) (BitVec.ofNat 32 i)) = BitVec.ofNat 32 (128 * (b : ℕ) + i) := by
  apply BitVec.eq_of_toNat_eq
  simp only [IntOp.addi, Scalar.muli, IntOp.muli, BitVec.toNat_add, BitVec.toNat_mul, BitVec.toNat_ofNat]
  omega

/-- The key block's number, as a word. -/
theorem blk_word (qi : Fin 32) (w : Fin 5) (h : 4 ≤ (qi : ℕ) + w) :
    Scalar.addi (Scalar.subi (BitVec.ofNat 32 qi) 4#32) (BitVec.ofNat 32 w) = BitVec.ofNat 32 ((qi : ℕ) + w - 4) := by
  apply BitVec.eq_of_toNat_eq
  simp only [Scalar.addi, IntOp.addi, Scalar.subi, IntOp.subi, BitVec.toNat_add, BitVec.toNat_sub, BitVec.toNat_ofNat]
  omega

/-- The running maximum starts at minus infinity, -/
theorem pay1_at (r : Fin 2048) (z : Fin 1) : k0_pay1 (F := Ideal) (ix2 r z : S2048x1.Idx) = (⊥ : EReal) := by
  pointwise [k0_pay1, mask_eq]

/-- the running sum at zero, -/
theorem pay2_at (r : Fin 2048) (z : Fin 1) : k0_pay2 (F := Ideal) (ix2 r z : S2048x1.Idx) = (0 : EReal) := by
  pointwise [k0_pay2]

/-- and so do the running weighted sums. -/
theorem pay3_at (r : Fin 2048) (d : Fin 64) : k0_pay3 (F := Ideal) (ix2 r d : S2048x64.Idx) = (0 : EReal) := by
  pointwise [k0_pay3]

/-- The masked scores of a block of keys. -/
theorem pay10_at (qi kt : Fin 32) (q : FVec Ideal S1x16x128x64 .bf16) (kv : FVec Ideal S1x128x128 .f32) (r : Fin 2048)
    (k : Fin 128) :
    k0_pay10 (F := Ideal) (BitVec.ofNat 32 qi) (BitVec.ofNat 32 kt) q kv (ix2 r k : S2048x128.Idx)
      = (∑ x : Fin 64, q (ix4 0 ⟨r / 128, by omega⟩ ⟨r % 128, by omega⟩ x) * kv (ix3 0 k ⟨(x : ℕ), by omega⟩)) * Nsa.scale
        + if 128 * (kt : ℕ) + k ≤ 128 * (qi : ℕ) + r % 128 ∧ 128 * (qi : ℕ) + r % 128 < 128 * (kt : ℕ) + k + 512 then 0 else ⊥ := by
  have e : ∀ i : Fin 128, IntOp.andi
      (IntOp.cmpi CmpIPredicate.sle (IntOp.addi (Scalar.muli (BitVec.ofNat 32 kt) 128#32) (BitVec.ofNat 32 k))
        (IntOp.addi (Scalar.muli (BitVec.ofNat 32 qi) 128#32) (BitVec.ofNat 32 i)))
      (IntOp.cmpi CmpIPredicate.sgt (IntOp.addi (Scalar.muli (BitVec.ofNat 32 kt) 128#32) (BitVec.ofNat 32 k))
        (IntOp.subi (IntOp.addi (Scalar.muli (BitVec.ofNat 32 qi) 128#32) (BitVec.ofNat 32 i)) 512#32))
      = BitVec.ofBool (decide (128 * (kt : ℕ) + k ≤ 128 * (qi : ℕ) + i ∧ 128 * (qi : ℕ) + i < 128 * (kt : ℕ) + k + 512)) := fun i => by
    rw [pos_word, pos_word, Win.before _ _ (by omega) (by omega), Win.recent _ _ (by omega) (by omega), Win.both]
  have e' := e ⟨r % 128, by omega⟩
  pointwise [k0_pay10, k0_pay8, mask_eq, e']
  rfl

variable (qi kt : BitVec 32) (q : FVec Ideal S1x16x128x64 .bf16) (kv : FVec Ideal S1x128x128 .f32) (m : FVec Ideal S2048x1 .f32)

/-- The new running maximum. -/
theorem pay11_at (r : Fin 2048) (z : Fin 1) :
    k0_pay11 (F := Ideal) qi kt q kv m (ix2 r z : S2048x1.Idx)
      = max (m (ix2 r z)) (Finset.univ.fold max ⊥ fun x : Fin 128 => k0_pay10 (F := Ideal) qi kt q kv (ix2 r x)) := by
  pointwise [k0_pay11, Spec.neg_inf]

/-- The factor that rescales what was summed before. -/
theorem pay12_at (r : Fin 2048) (z : Fin 1) :
    k0_pay12 (F := Ideal) qi kt q kv m (ix2 r z : S2048x1.Idx)
      = Ideal.exp (m (ix2 r z) - k0_pay11 (F := Ideal) qi kt q kv m (ix2 r z)) := by
  pointwise [k0_pay12]

/-- The block's exponentials. -/
theorem pay13_at (r : Fin 2048) (k : Fin 128) :
    k0_pay13 (F := Ideal) qi kt q kv m (ix2 r k : S2048x128.Idx)
      = Ideal.exp (k0_pay10 (F := Ideal) qi kt q kv (ix2 r k) - k0_pay11 (F := Ideal) qi kt q kv m (ix2 r 0)) := by
  pointwise [k0_pay13]

/-- The new running sum. -/
theorem pay4_at (a : FVec Ideal S2048x1 .f32) (p : FVec Ideal S2048x128 .f32) (l : FVec Ideal S2048x1 .f32) (r : Fin 2048)
    (z : Fin 1) :
    k0_pay4 (F := Ideal) a p l (ix2 r z : S2048x1.Idx) = a (ix2 r z) * l (ix2 r z) + ∑ x : Fin 128, p (ix2 r x) := by
  pointwise [k0_pay4]

/-- The new running weighted sums. -/
theorem pay5_at (a : FVec Ideal S2048x1 .f32) (p : FVec Ideal S2048x128 .f32) (acc : FVec Ideal S2048x64 .f32) (r : Fin 2048)
    (d : Fin 64) :
    k0_pay5 (F := Ideal) (k0_pay9 (F := Ideal) kv) a p acc (ix2 r d : S2048x64.Idx)
      = a (ix2 r 0) * acc (ix2 r d) + ∑ x : Fin 128, p (ix2 r x) * kv (ix3 0 x ⟨64 + (d : ℕ), by omega⟩) := by
  pointwise [k0_pay5, k0_pay8, k0_pay9]

theorem pay6_at (v : FVec Ideal S2048x1 .f32) (r : Fin 2048) (z : Fin 1) :
    k0_pay6 (F := Ideal) v (ix2 r z : S2048x1.Idx) = v (ix2 r z) := by
  pointwise [k0_pay6]

/-- The written block: the weighted sums over the sum. -/
theorem pay7_at (acc : FVec Ideal S2048x64 .f32) (l : FVec Ideal S2048x1 .f32) (h : Fin 16) (z : Fin 1) (i : Fin 128)
    (d : Fin 64) :
    k0_pay7 (F := Ideal) acc l (ix4 z h i d : S1x16x128x64.Idx)
      = Ideal.div (acc (ix2 ⟨h * 128 + i, by omega⟩ d)) (l (ix2 ⟨h * 128 + i, by omega⟩ 0)) := by
  pointwise [k0_pay7]

end Cert.Proof.NsaWin
-- ==== Proof.WinPoints.lean ====
/- The window attention at one grid point: which part of each argument it holds, and what it leaves in its three
   running arrays. -/
module

public import proofs.«01_k».proof.Proof.Gen.NsaWinIdeal.Value
public import proofs.«01_k».proof.Proof.WinPayloads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.NsaWin

open Cert.NsaWinIdeal Cert.NsaWinIdeal.Gen

variable (m : (ℓ : Loc nD τ sig) → Buf (Elt Ideal) ℓ) (c : Dev nD)

/-- Where the queries' and the result's blocks lie: batch `t / 160`, query block `t / 5 % 32`. -/
theorem idx : ∀ t : Fin cfg0.N, win0_0.index t = ![t.val / 160, 0, t.val / 5 % 32, 0]
    ∧ win0_2.index t = ![t.val / 160, 0, t.val / 5 % 32, 0]
    ∧ (grid0.coords t 1).val = t.val / 5 % 32 ∧ (grid0.coords t 2).val = t.val % 5 :=
  (by decide +kernel : ∀ t : Fin grid0.N, _)

/-- Where the rows' block lies at a point that uses it: key block `t / 5 % 32 + t % 5 - 4`. -/
theorem idx_kv : ∀ t : Fin cfg0.N, 4 ≤ t.val / 5 % 32 + t.val % 5 →
    win0_1.index t = ![t.val / 160, t.val / 5 % 32 + t.val % 5 - 4, 0] :=
  (by decide +kernel : ∀ t : Fin grid0.N, _)

/-- The point's batch, its row `r`'s head and query, and its key block and keys. -/
def bat (t : Fin cfg0.N) : Fin 2 := ⟨t.val / 160, by have := lt_of_lt_of_eq t.isLt N_0; omega⟩
def hd (r : Fin 2048) : Fin 16 := ⟨r / 128, by omega⟩
def qry (t : Fin cfg0.N) (i : ℕ) : Fin 4096 := ⟨128 * (t.val / 5 % 32) + i % 128, by omega⟩
def kblk (t : Fin cfg0.N) : Fin 32 := ⟨t.val / 5 % 32 + t.val % 5 - 4, by omega⟩
def key (t : Fin cfg0.N) (k : Fin 128) : Fin 4096 := ⟨128 * (t.val / 5 % 32 + t.val % 5 - 4) + k, by omega⟩

/-- The two arguments. -/
abbrev A0 : FVec Ideal S2x16x4096x64 .bf16 := m ((c.tc : Thread nD τ).loc main_arg0)
abbrev A1 : FVec Ideal S2x4096x128 .f32 := m ((c.tc : Thread nD τ).loc main_arg1)

/-- The point's two blocks. -/
abbrev B0 (t : Fin cfg0.N) : FVec Ideal S1x16x128x64 .bf16 := iblk m c 0 t
abbrev B1 (t : Fin cfg0.N) : FVec Ideal S1x128x128 .f32 := iblk m c 1 t

theorem B0_at (t : Fin cfg0.N) (h : Fin 16) (i : Fin 128) (x : Fin 64) :
    B0 m c t (ix4 0 h i x) = A0 m c (ix4 (bat t) h (qry t i) x) := by
  blk_point [iblk, V, idx t]
  all_goals (dsimp only [bat, qry]; omega)

theorem B1_at (t : Fin cfg0.N) (ht : 4 ≤ t.val / 5 % 32 + t.val % 5) (k : Fin 128) (x : Fin 128) :
    B1 m c t (ix3 0 k x) = A1 m c (ix3 (bat t) (key t k) x) := by
  blk_point [iblk, V, idx_kv t ht]
  all_goals (dsimp only [bat, key]; omega)

/-- The three running arrays after point `t`. -/
abbrev mx (n : ℕ) (hn : n < cfg0.N) : FVec Ideal S2048x1 .f32 := (outsAt0 m c n hn).2.1
abbrev sm (n : ℕ) (hn : n < cfg0.N) : FVec Ideal S2048x1 .f32 := (outsAt0 m c n hn).2.2.1
abbrev ac (n : ℕ) (hn : n < cfg0.N) : FVec Ideal S2048x64 .f32 := (outsAt0 m c n hn).2.2.2

abbrev qi (t : Fin cfg0.N) : BitVec 32 := BitVec.ofNat 32 (grid0.coords t 1).val
abbrev kt (t : Fin cfg0.N) : BitVec 32 := Scalar.addi (Scalar.subi (qi t) 4#32) (BitVec.ofNat 32 (grid0.coords t 2).val)

/-- An updating point, from what the running arrays held: the new maxima, sums and weighted sums. -/
def newM (t : Fin cfg0.N) (mm : FVec Ideal S2048x1 .f32) : FVec Ideal S2048x1 .f32 :=
  k0_pay6 (k0_pay11 (qi t) (kt t) (B0 m c t) (B1 m c t) mm)
def newL (t : Fin cfg0.N) (mm l : FVec Ideal S2048x1 .f32) : FVec Ideal S2048x1 .f32 :=
  k0_pay4 (k0_pay12 (qi t) (kt t) (B0 m c t) (B1 m c t) mm) (k0_pay13 (qi t) (kt t) (B0 m c t) (B1 m c t) mm) l
def newA (t : Fin cfg0.N) (mm : FVec Ideal S2048x1 .f32) (a : FVec Ideal S2048x64 .f32) : FVec Ideal S2048x64 .f32 :=
  k0_pay5 (k0_pay9 (B1 m c t)) (k0_pay12 (qi t) (kt t) (B0 m c t) (B1 m c t) mm)
    (k0_pay13 (qi t) (kt t) (B0 m c t) (B1 m c t) mm) a

/-! ## What each kind of point leaves -/

variable (t : Fin cfg0.N)

/-- The point before. -/
theorem pred_lt : t.val - 1 < cfg0.N := Nat.lt_of_le_of_lt (Nat.sub_le _ _) t.isLt

/-- A first point before the first key: the initial arrays. -/
theorem mx_A (h0 : t.val % 5 = 0) (h1 : ¬4 ≤ t.val / 5 % 32 + t.val % 5) (h2 : ¬t.val % 5 = 4) :
    mx m c t.val t.isLt = k0_pay1 (F := Ideal) := by
  unfold mx; rw [outsAt0_A m c t h0 h1 h2]; frame_out

theorem sm_A (h0 : t.val % 5 = 0) (h1 : ¬4 ≤ t.val / 5 % 32 + t.val % 5) (h2 : ¬t.val % 5 = 4) :
    sm m c t.val t.isLt = k0_pay2 (F := Ideal) := by
  unfold sm; rw [outsAt0_A m c t h0 h1 h2]; frame_out

theorem ac_A (h0 : t.val % 5 = 0) (h1 : ¬4 ≤ t.val / 5 % 32 + t.val % 5) (h2 : ¬t.val % 5 = 4) :
    ac m c t.val t.isLt = k0_pay3 (F := Ideal) := by
  unfold ac; rw [outsAt0_A m c t h0 h1 h2]; frame_out

/-- A further point before the first key: nothing changes. -/
theorem mx_B (h0 : ¬t.val % 5 = 0) (h1 : ¬4 ≤ t.val / 5 % 32 + t.val % 5) (h2 : ¬t.val % 5 = 4) :
    mx m c t.val t.isLt = mx m c (t.val - 1) (pred_lt t) := by
  unfold mx; rw [outsAt0_B m c t h0 h1 h2]; rfl

theorem sm_B (h0 : ¬t.val % 5 = 0) (h1 : ¬4 ≤ t.val / 5 % 32 + t.val % 5) (h2 : ¬t.val % 5 = 4) :
    sm m c t.val t.isLt = sm m c (t.val - 1) (pred_lt t) := by
  unfold sm; rw [outsAt0_B m c t h0 h1 h2]; rfl

theorem ac_B (h0 : ¬t.val % 5 = 0) (h1 : ¬4 ≤ t.val / 5 % 32 + t.val % 5) (h2 : ¬t.val % 5 = 4) :
    ac m c t.val t.isLt = ac m c (t.val - 1) (pred_lt t) := by
  unfold ac; rw [outsAt0_B m c t h0 h1 h2]; rfl

/-- The last key block: the update. -/
theorem mx_C (h0 : ¬t.val % 5 = 0) (h1 : 4 ≤ t.val / 5 % 32 + t.val % 5) (h2 : t.val % 5 = 4) :
    mx m c t.val t.isLt = newM m c t (mx m c (t.val - 1) (pred_lt t)) := by
  unfold mx newM; rw [outsAt0_C m c t h0 h1 h2]; frame_out
  simp only [read_unread_whole]

theorem sm_C (h0 : ¬t.val % 5 = 0) (h1 : 4 ≤ t.val / 5 % 32 + t.val % 5) (h2 : t.val % 5 = 4) :
    sm m c t.val t.isLt = newL m c t (mx m c (t.val - 1) (pred_lt t)) (sm m c (t.val - 1) (pred_lt t)) := by
  unfold mx sm newL; rw [outsAt0_C m c t h0 h1 h2]; frame_out
  simp only [read_unread_whole]

theorem ac_C (h0 : ¬t.val % 5 = 0) (h1 : 4 ≤ t.val / 5 % 32 + t.val % 5) (h2 : t.val % 5 = 4) :
    ac m c t.val t.isLt = newA m c t (mx m c (t.val - 1) (pred_lt t)) (ac m c (t.val - 1) (pred_lt t)) := by
  unfold mx ac newA; rw [outsAt0_C m c t h0 h1 h2]; frame_out
  simp only [read_unread_whole]

/-- A further key block: the update. -/
theorem mx_D (h0 : ¬t.val % 5 = 0) (h1 : 4 ≤ t.val / 5 % 32 + t.val % 5) (h2 : ¬t.val % 5 = 4) :
    mx m c t.val t.isLt = newM m c t (mx m c (t.val - 1) (pred_lt t)) := by
  unfold mx newM; rw [outsAt0_D m c t h0 h1 h2]; frame_out
  simp only [read_unread_whole]

theorem sm_D (h0 : ¬t.val % 5 = 0) (h1 : 4 ≤ t.val / 5 % 32 + t.val % 5) (h2 : ¬t.val % 5 = 4) :
    sm m c t.val t.isLt = newL m c t (mx m c (t.val - 1) (pred_lt t)) (sm m c (t.val - 1) (pred_lt t)) := by
  unfold mx sm newL; rw [outsAt0_D m c t h0 h1 h2]; frame_out
  simp only [read_unread_whole]

theorem ac_D (h0 : ¬t.val % 5 = 0) (h1 : 4 ≤ t.val / 5 % 32 + t.val % 5) (h2 : ¬t.val % 5 = 4) :
    ac m c t.val t.isLt = newA m c t (mx m c (t.val - 1) (pred_lt t)) (ac m c (t.val - 1) (pred_lt t)) := by
  unfold mx ac newA; rw [outsAt0_D m c t h0 h1 h2]; frame_out
  simp only [read_unread_whole]

/-- The first key block: the update from the initial arrays. -/
theorem mx_E (h0 : t.val % 5 = 0) (h1 : 4 ≤ t.val / 5 % 32 + t.val % 5) (h2 : ¬t.val % 5 = 4) :
    mx m c t.val t.isLt = newM m c t (k0_pay1 (F := Ideal)) := by
  unfold mx newM; rw [outsAt0_E m c t h0 h1 h2]; frame_out

theorem sm_E (h0 : t.val % 5 = 0) (h1 : 4 ≤ t.val / 5 % 32 + t.val % 5) (h2 : ¬t.val % 5 = 4) :
    sm m c t.val t.isLt = newL m c t (k0_pay1 (F := Ideal)) (k0_pay2 (F := Ideal)) := by
  unfold sm newL; rw [outsAt0_E m c t h0 h1 h2]; frame_out

theorem ac_E (h0 : t.val % 5 = 0) (h1 : 4 ≤ t.val / 5 % 32 + t.val % 5) (h2 : ¬t.val % 5 = 4) :
    ac m c t.val t.isLt = newA m c t (k0_pay1 (F := Ideal)) (k0_pay3 (F := Ideal)) := by
  unfold ac newA; rw [outsAt0_E m c t h0 h1 h2]; frame_out

/-- What a last point writes: the weighted sums over the sums, both as it leaves them. -/
theorem out_C (h0 : ¬t.val % 5 = 0) (h1 : 4 ≤ t.val / 5 % 32 + t.val % 5) (h2 : t.val % 5 = 4) :
    (outsAt0 m c t.val t.isLt).1 = k0_pay7 (F := Ideal) (ac m c t.val t.isLt) (sm m c t.val t.isLt) := by
  rw [ac_C m c t h0 h1 h2, sm_C m c t h0 h1 h2]
  unfold newA newL mx sm ac
  rw [outsAt0_C m c t h0 h1 h2]; frame_out
  simp only [read_unread_whole]

end Cert.Proof.NsaWin
-- ==== Proof.WinSteps.lean ====
/- The window attention's result: along the key blocks the three running arrays hold the running maximum, the running
   sum of the weights and the running weighted sums of the values, so the quotient written after the last block is the
   weighted mean of the values. -/
module

public import proofs.«01_k».proof.Proof.WinPoints

@[expose] public section

set_option maxRecDepth 16384

noncomputable section

open Idealize.ShloMosaic Idealize.ShloMosaic.TcCoe Idealize.SL.Sem
open Idealize.ShloMosaic.Pipeline (Dat)

namespace Cert.Proof.NsaWin

open Cert.NsaWinIdeal Cert.NsaWinIdeal.Gen
open Cert.Proof.Masked

variable (m : (ℓ : Loc nD τ sig) → Buf (Elt Ideal) ℓ) (c : Dev nD)

/-- The keys row `r` of point `t` sees, its scores and values, over the reals. -/
abbrev K (t : Fin cfg0.N) (r : Fin 2048) : ℕ → Bool := Win.vis (qry t r)
abbrev X (t : Fin cfg0.N) (r : Fin 2048) : ℕ → ℝ := Nsa.rawR (A0 m c) (A1 m c) (bat t) (hd r) (qry t r)
abbrev W (t : Fin cfg0.N) : ℕ → Fin 64 → ℝ := Nsa.valR (A1 m c) (bat t)

/-- The queries and the rows are numbers. -/
structure Real2 : Prop where
  h0 : Spec.Finite (A0 m c)
  h1 : Spec.Finite (A1 m c)

variable {m c} (H : Real2 m c) (t : Fin cfg0.N)

/-- The key block's number, at a point that uses it. -/
theorem kt_eq (ht : 4 ≤ t.val / 5 % 32 + t.val % 5) : kt t = BitVec.ofNat 32 (kblk t) := by
  obtain ⟨-, -, e1, e2⟩ := idx t
  refine (blk_word (grid0.coords t 1) (grid0.coords t 2) ?_).trans ?_
  · rw [e1, e2]; exact ht
  · rw [e1, e2]; rfl

include H

/-- A block's masked scores. -/
theorem block_scores (ht : 4 ≤ t.val / 5 % 32 + t.val % 5) (r : Fin 2048) (k : Fin 128) :
    k0_pay10 (F := Ideal) (qi t) (kt t) (B0 m c t) (B1 m c t) (ix2 r k)
      = score (K t r) (X m c t r) (128 * (t.val / 5 % 32 + t.val % 5 - 4) + k) := by
  obtain ⟨-, -, e1, e2⟩ := idx t
  rw [kt_eq t ht]
  refine (pay10_at (grid0.coords t 1) (kblk t) _ _ r k).trans ?_
  simp only [B0_at, B1_at m c t ht, e1]
  have eq' : qry t (r % 128 : ℕ) = qry t r :=
    Fin.ext (show 128 * (t.val / 5 % 32) + (r % 128 : ℕ) % 128 = 128 * (t.val / 5 % 32) + r % 128 by omega)
  rw [eq']
  refine Eq.trans ?_ (Nsa.raw_bias H.h0 H.h1 (K t r) (bat t) (hd r) (qry t r) (key t k))
  refine congrArg₂ _ rfl (if_congr ?_ rfl rfl)
  exact decide_eq_true_iff.symm

/-- A block's values. -/
theorem block_values (ht : 4 ≤ t.val / 5 % 32 + t.val % 5) (k : Fin 128) (d : Fin 64) :
    B1 m c t (ix3 0 k ⟨64 + (d : ℕ), by omega⟩)
      = ((W m c t (128 * (t.val / 5 % 32 + t.val % 5 - 4) + k) d : ℝ) : EReal) := by
  rw [B1_at m c t ht]
  exact Nsa.val_eq H.h1 (bat t) (key t k) d (by omega)

/-- The update of a block. -/
theorem update (ht : 4 ≤ t.val / 5 % 32 + t.val % 5) (r : Fin 2048) (mm l : FVec Ideal S2048x1 .f32)
    (a : FVec Ideal S2048x64 .f32)
    (h : Upto (K t r) (X m c t r) (W m c t) (128 * (t.val / 5 % 32 + t.val % 5 - 4)) (mm (ix2 r 0)) (l (ix2 r 0))
      (fun d => a (ix2 r d))) :
    Upto (K t r) (X m c t r) (W m c t) (128 * (t.val / 5 % 32 + t.val % 5 - 3)) (newM m c t mm (ix2 r 0))
      (newL m c t mm l (ix2 r 0)) (fun d => newA m c t mm a (ix2 r d)) := by
  have hM : newM m c t mm (ix2 r 0) = k0_pay11 (F := Ideal) (qi t) (kt t) (B0 m c t) (B1 m c t) mm (ix2 r 0) := pay6_at _ _ _
  rw [show 128 * (t.val / 5 % 32 + t.val % 5 - 3) = 128 * (t.val / 5 % 32 + t.val % 5 - 4) + 128 by omega]
  refine upto_step _ _ _ _ 128 (fun k => k0_pay10 (F := Ideal) (qi t) (kt t) (B0 m c t) (B1 m c t) (ix2 r k))
    (fun k (d : Fin 64) => B1 m c t (ix3 0 k ⟨64 + (d : ℕ), by omega⟩)) (fun k => block_scores H t ht r k)
    (fun k d => block_values H t ht k d) _ _ _ _ _ _ h ?_ ?_ fun d => ?_
  · rw [hM, pay11_at]
  · rw [hM]; unfold newL; rw [pay4_at, pay12_at]; simp only [pay13_at]
  · rw [hM]; unfold newA; rw [pay5_at, pay12_at]; simp only [pay13_at]

omit H in
/-- The initial arrays, where none of the first `n` keys is visible. -/
theorem initial (r : Fin 2048) (n : ℕ) (hn : ∀ k < n, K t r k = false) :
    Upto (K t r) (X m c t r) (W m c t) n (k0_pay1 (F := Ideal) (ix2 r 0)) (k0_pay2 (F := Ideal) (ix2 r 0))
      (fun d => k0_pay3 (F := Ideal) (ix2 r d)) := by
  rw [pay1_at, pay2_at]
  simp only [pay3_at]
  exact upto_start _ _ _ _ hn

/-- What a first point leaves. -/
theorem first (h0 : t.val % 5 = 0) (r : Fin 2048) :
    Upto (K t r) (X m c t r) (W m c t) (128 * (t.val / 5 % 32 + t.val % 5 - 3)) (mx m c t.val t.isLt (ix2 r 0))
      (sm m c t.val t.isLt (ix2 r 0)) (fun d => ac m c t.val t.isLt (ix2 r d)) := by
  have h2 : ¬t.val % 5 = 4 := by omega
  by_cases h1 : 4 ≤ t.val / 5 % 32 + t.val % 5
  · rw [mx_E m c t h0 h1 h2, sm_E m c t h0 h1 h2, ac_E m c t h0 h1 h2]
    refine update H t h1 r _ _ _ (initial t r _ fun k hk => decide_eq_false fun hv => ?_)
    have hv' : 128 * (t.val / 5 % 32) + r % 128 < k + 512 := hv.2
    omega
  · rw [mx_A m c t h0 h1 h2, sm_A m c t h0 h1 h2, ac_A m c t h0 h1 h2]
    exact initial t r _ fun k hk => absurd hk (by omega)

/-- After every point, the running arrays are those of the keys up to and including its block. -/
theorem running (n : ℕ) (hn : n < cfg0.N) (r : Fin 2048) :
    Upto (K ⟨n, hn⟩ r) (X m c ⟨n, hn⟩ r) (W m c ⟨n, hn⟩) (128 * (n / 5 % 32 + n % 5 - 3)) (mx m c n hn (ix2 r 0))
      (sm m c n hn (ix2 r 0)) (fun d => ac m c n hn (ix2 r d)) := by
  induction n with
  | zero => exact first H ⟨0, hn⟩ rfl r
  | succ n ih =>
    by_cases h0 : (n + 1) % 5 = 0
    · exact first H ⟨n + 1, hn⟩ h0 r
    · have ih := ih (Nat.lt_of_succ_lt hn)
      have eb : bat ⟨n, Nat.lt_of_succ_lt hn⟩ = bat ⟨n + 1, hn⟩ := Fin.ext (show n / 160 = (n + 1) / 160 by omega)
      have eq' : qry ⟨n, Nat.lt_of_succ_lt hn⟩ r = qry ⟨n + 1, hn⟩ r :=
        Fin.ext (show 128 * (n / 5 % 32) + r % 128 = 128 * ((n + 1) / 5 % 32) + r % 128 by omega)
      have en : 128 * (n / 5 % 32 + n % 5 - 3) = 128 * ((n + 1) / 5 % 32 + (n + 1) % 5 - 4) := by omega
      unfold K X W at ih
      rw [eb, eq', en] at ih
      by_cases h1 : 4 ≤ (n + 1) / 5 % 32 + (n + 1) % 5
      · by_cases h2 : (n + 1) % 5 = 4
        · rw [mx_C m c ⟨n + 1, hn⟩ h0 h1 h2, sm_C m c ⟨n + 1, hn⟩ h0 h1 h2, ac_C m c ⟨n + 1, hn⟩ h0 h1 h2]
          exact update H ⟨n + 1, hn⟩ h1 r _ _ _ ih
        · rw [mx_D m c ⟨n + 1, hn⟩ h0 h1 h2, sm_D m c ⟨n + 1, hn⟩ h0 h1 h2, ac_D m c ⟨n + 1, hn⟩ h0 h1 h2]
          exact update H ⟨n + 1, hn⟩ h1 r _ _ _ ih
      · have h2 : ¬(n + 1) % 5 = 4 := by omega
        rw [mx_B m c ⟨n + 1, hn⟩ h0 h1 h2, sm_B m c ⟨n + 1, hn⟩ h0 h1 h2, ac_B m c ⟨n + 1, hn⟩ h0 h1 h2]
        rw [show 128 * ((n + 1) / 5 % 32 + (n + 1) % 5 - 3) = 128 * ((n + 1) / 5 % 32 + (n + 1) % 5 - 4) by omega]
        exact ih

omit H in
/-- A query sees its own key. -/
theorem own (q : Fin 4096) : ∃ k < 4096, Win.vis q k = true :=
  ⟨q, q.isLt, decide_eq_true ⟨le_refl _, by omega⟩⟩

/-- What a last point writes is the attention's result. -/
theorem written (h2 : t.val % 5 = 4) (h : Fin 16) (i : Fin 128) (d : Fin 64) :
    (outsAt0 m c t.val t.isLt).1 (ix4 0 h i d : S1x16x128x64.Idx)
      = Nsa.out (A0 m c) (A1 m c) (Win.vis (qry t i)) (bat t) h (qry t i) d := by
  have h0 : ¬t.val % 5 = 0 := by omega
  have h1 : 4 ≤ t.val / 5 % 32 + t.val % 5 := by omega
  have eh : hd ⟨h * 128 + i, by omega⟩ = h := Fin.ext (show (h * 128 + i : ℕ) / 128 = h by omega)
  have ei : qry t (h * 128 + i : ℕ) = qry t i :=
    Fin.ext (show 128 * (t.val / 5 % 32) + (h * 128 + i : ℕ) % 128 = 128 * (t.val / 5 % 32) + i % 128 by omega)
  have hr := running H t.val t.isLt ⟨h * 128 + i, by omega⟩
  have hr' : Upto (Win.vis (qry t (h * 128 + i : ℕ)))
      (Nsa.rawR (A0 m c) (A1 m c) (bat t) (hd ⟨h * 128 + i, by omega⟩) (qry t (h * 128 + i : ℕ))) (Nsa.valR (A1 m c) (bat t))
      (128 * (t.val / 5 % 32 + t.val % 5 - 3)) _ _ _ := hr
  rw [eh, ei] at hr'
  have hlast := upto_skip _ _ _ _ (4096 - 128 * (t.val / 5 % 32 + t.val % 5 - 3)) (fun k h3 _ => decide_eq_false fun hv => by
    have hv' : k ≤ 128 * (t.val / 5 % 32) + (i : ℕ) % 128 := hv.1
    omega) _ _ _ hr'
  rw [show 128 * (t.val / 5 % 32 + t.val % 5 - 3) + (4096 - 128 * (t.val / 5 % 32 + t.val % 5 - 3)) = 4096 by omega] at hlast
  rw [out_C m c t h0 h1 h2, pay7_at]
  exact upto_div _ _ _ 4096 (own _) _ _ _ hlast d

end Cert.Proof.NsaWin
-- ==== Proof.NsaRef.lean ====
/- The attention of the sparse branches as the references write it, under any mask, read at an index: the masked scores, their
   exponentials over the row's maximum, and the weighted sum of the values. -/
module

public import proofs.«01_k».proof.Proof.Gen.NsaSelRefIdeal.Run
public import proofs.«01_k».proof.Proof.NsaSpec
public import proofs.«01_k».proof.Proof.RefAt
public import Idealize.ShloMosaic.Lib.WordCmp

@[expose] public section

set_option maxRecDepth 16384

noncomputable section

open Idealize.ShloMosaic Idealize.ShloMosaic.TcCoe Idealize.SL.Sem

namespace Cert.Proof.NsaRef

open Cert.NsaSelRefIdeal Cert.NsaSelRefIdeal.Gen
open Cert.Proof.MlaRef (max_last const_at)

variable (Mask : IVec S2x16x4096x4096 1)

/-- The masked scores. -/
def Scores (A0 : FVec Ideal S2x16x4096x64 .bf16) (A1 : FVec Ideal S2x4096x128 .f32) : FVec Ideal S2x16x4096x4096 .f32 :=
  select Mask (mulf (Host.dotGeneral dot_S2x16x4096x64_S2x4096x64_S2x16x4096x4096_3_2_12_1_0_0 none (extf .f32 A0 bitsLt_bf16_f32) (extractStridedSlice S2x4096x64 ![0, 0, 0] A1 slices_S2x4096x128_S2x4096x64_0_0_0)) (broadcastInDim S2x16x4096x4096 ![] bcast_S_S2x16x4096x4096 (constant S_ .f32 0x3E000000#32))) (broadcastInDim S2x16x4096x4096 ![] bcast_S_S2x16x4096x4096 (id (constant S_ .f32 0xFF800000#32)))

/-- The rows' maxima. -/
def RowMax (S : FVec Ideal S2x16x4096x4096 .f32) : FVec Ideal S2x16x4096 .f32 :=
  Host.reduce FloatOps.maximumf S (constant S_ .f32 0xFF800000#32) reducesTo_S2x16x4096x4096_S2x16x4096_d3 h_S_

/-- The exponentials of the scores over the rows' maxima `M`. -/
def Exps (S : FVec Ideal S2x16x4096x4096 .f32) (M : FVec Ideal S2x16x4096 .f32) : FVec Ideal S2x16x4096x4096 .f32 :=
  Host.exp (subf S (broadcastInDim S2x16x4096x4096 ![0, 1, 2, 3] bcast_S2x16x4096x1_S2x16x4096x4096_0_1_2_3 (broadcastInDim S2x16x4096x1 ![0, 1, 2] bcast_S2x16x4096_S2x16x4096x1_0_1_2 (maximumf (broadcastInDim S2x16x4096 ![] bcast_S_S2x16x4096 (constant S_ .f32 0xFF800000#32)) M))))

/-- The softmax weights, the masked ones zero. -/
def Weights (E : FVec Ideal S2x16x4096x4096 .f32) : FVec Ideal S2x16x4096x4096 .f32 :=
  select Mask (Host.divf E (broadcastInDim S2x16x4096x4096 ![0, 1, 2, 3] bcast_S2x16x4096x1_S2x16x4096x4096_0_1_2_3 (broadcastInDim S2x16x4096x1 ![0, 1, 2] bcast_S2x16x4096_S2x16x4096x1_0_1_2 (Host.reduceAdd E (constant S_ .f32 0x00000000#32) reducesTo_S2x16x4096x4096_S2x16x4096_d3 h_S_)))) (broadcastInDim S2x16x4096x4096 ![] bcast_S_S2x16x4096x4096 (id (constant S_ .f32 0x00000000#32)))

/-- The weighted sums of the values. -/
def Mix (W : FVec Ideal S2x16x4096x4096 .f32) (A1 : FVec Ideal S2x4096x128 .f32) : FVec Ideal S2x16x4096x64 .f32 :=
  Host.dotGeneral dot_S2x16x4096x4096_S2x4096x64_S2x16x4096x64_3_1_12_2_0_0 none W (extractStridedSlice S2x4096x64 ![0, 0, 64] A1 slices_S2x4096x128_S2x4096x64_0_0_64)

theorem RowMax_at (S : FVec Ideal S2x16x4096x4096 .f32) (b : Fin 2) (h : Fin 16) (q : Fin 4096) :
    RowMax S (ix3 b h q : S2x16x4096.Idx) = Finset.univ.fold max ⊥ fun k => S (ix4 b h q k) := by
  unfold RowMax
  rw [max_last, const_at, Spec.neg_inf]

theorem Exps_at (S : FVec Ideal S2x16x4096x4096 .f32) (M : FVec Ideal S2x16x4096 .f32) (b : Fin 2) (h : Fin 16)
    (q k : Fin 4096) :
    Exps S M (ix4 b h q k : S2x16x4096x4096.Idx) = Ideal.exp (S (ix4 b h q k) - max ⊥ (M (ix3 b h q))) := by
  pointwise [Exps, Spec.neg_inf]

theorem Mix_at (W : FVec Ideal S2x16x4096x4096 .f32) (A1 : FVec Ideal S2x4096x128 .f32) (b : Fin 2) (h : Fin 16)
    (q : Fin 4096) (d : Fin 64) :
    Mix W A1 (ix4 b h q d : S2x16x4096x64.Idx) = ∑ k : Fin 4096, W (ix4 b h q k) * A1 (ix3 b k ⟨64 + (d : ℕ), by omega⟩) := by
  pointwise [Mix]

/-- The result of the attention from its mask and its two arguments. -/
def Attend (A0 : FVec Ideal S2x16x4096x64 .bf16) (A1 : FVec Ideal S2x4096x128 .f32) : FVec Ideal S2x16x4096x64 .f32 :=
  Mix (Weights Mask (Exps (Scores Mask A0 A1) (RowMax (Scores Mask A0 A1)))) A1

variable {Mask} {ok : Fin 2 → Fin 4096 → ℕ → Bool}
  (hM : ∀ (b : Fin 2) (h : Fin 16) (q k : Fin 4096), Mask (ix4 b h q k : S2x16x4096x4096.Idx) = BitVec.ofBool (ok b q k))
include hM

theorem Scores_at (A0 : FVec Ideal S2x16x4096x64 .bf16) (A1 : FVec Ideal S2x4096x128 .f32) (b : Fin 2) (h : Fin 16)
    (q k : Fin 4096) :
    Scores Mask A0 A1 (ix4 b h q k : S2x16x4096x4096.Idx) = if ok b q k then Nsa.raw A0 A1 b h q k else ⊥ := by
  pointwise [Scores, hM]
  cases ok b q k
  · exact Spec.neg_inf
  · rfl

theorem Weights_at (E : FVec Ideal S2x16x4096x4096 .f32) (b : Fin 2) (h : Fin 16) (q k : Fin 4096) :
    Weights Mask E (ix4 b h q k : S2x16x4096x4096.Idx)
      = if ok b q k then Ideal.div (E (ix4 b h q k)) (∑ x, E (ix4 b h q x)) else 0 := by
  pointwise [Weights, hM]
  cases ok b q k
  · exact Ideal.ofBits_zero .f32
  · rfl

/-- At an index, the result is the weighted mean of the values, when the query sees a key. -/
theorem Attend_at {A0 : FVec Ideal S2x16x4096x64 .bf16} {A1 : FVec Ideal S2x4096x128 .f32}
    (h0 : Spec.Finite A0) (h1 : Spec.Finite A1) (b : Fin 2) (h : Fin 16) (q : Fin 4096) (d : Fin 64)
    (hv : ∃ k < 4096, ok b q k = true) :
    Attend Mask A0 A1 (ix4 b h q d : S2x16x4096x64.Idx) = Nsa.out A0 A1 (ok b q) b h q d := by
  unfold Attend
  rw [Mix_at]
  simp only [Weights_at hM, Exps_at, RowMax_at, Scores_at hM, Nsa.raw_masked h0 h1]
  exact Masked.softmax_mean (ok b q) (Nsa.rawR A0 A1 b h q) (fun k => Nsa.valR A1 b k d) 4096 hv _
    (fun k => A1 (ix3 b k ⟨64 + (d : ℕ), by omega⟩)) (fun k => rfl) (fun k => Nsa.val_eq h1 b k d (by omega)) _ _ rfl rfl

end Cert.Proof.NsaRef
-- ==== Proof.WinRef.lean ====
/- The window attention's reference: the attention of the sparse branches under the window's mask. -/
module

public import proofs.«01_k».proof.Proof.Gen.NsaWinRefIdeal.Run
public import proofs.«01_k».proof.Proof.NsaRef
public import proofs.«01_k».proof.Proof.WinWords

@[expose] public section

set_option maxRecDepth 16384

noncomputable section

open Idealize.ShloMosaic Idealize.ShloMosaic.TcCoe Idealize.SL.Sem

namespace Cert.Proof.WinRef

open Cert.NsaWinRefIdeal Cert.NsaWinRefIdeal.Gen
open Cert.Proof.Win (vis before recent both)

/-- The mask. -/
def Mask : IVec S2x16x4096x4096 1 :=
  broadcastInDim S2x16x4096x4096 ![0, 1, 2, 3] bcast_S1x1x4096x4096_S2x16x4096x4096_0_1_2_3 (broadcastInDim S1x1x4096x4096 ![0, 2, 3] bcast_S1x4096x4096_S1x1x4096x4096_0_2_3 (broadcastInDim S1x4096x4096 ![1, 2] bcast_S4096x4096_S1x4096x4096_1_2 (andi (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (cmpi .sgt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (subi (broadcastInDim S4096x1 ![0] bcast_S4096_S4096x1_0 (iotaInDim S4096 32 0)) (broadcastInDim S4096x1 ![] bcast_S_S4096x1 (constantI S_ 32 512#32))))))))

theorem Mask_at (b : Fin 2) (h : Fin 16) (q k : Fin 4096) :
    Mask (ix4 b h q k : S2x16x4096x4096.Idx) = BitVec.ofBool (vis q k) := by
  pointwise [Mask]
  rw [before q k q.isLt k.isLt, recent q k q.isLt k.isLt, both]
  rfl

theorem res_eq (m : (ℓ : Loc nD τ sig) → Buf (Elt Ideal) ℓ) (c : Dev nD) :
    Cert.NsaWinRefIdeal.Value.res_main_v35 (F := Ideal) m c
      = NsaRef.Attend Mask (m ((c.tc : Thread nD τ).loc main_arg0)) (m ((c.tc : Thread nD τ).loc main_arg1)) := rfl

end Cert.Proof.WinRef
-- ==== Proof.WinFinal.lean ====
/- The window attention's two programs return the same array. -/
module

public import proofs.«01_k».proof.Proof.WinSteps
public import proofs.«01_k».proof.Proof.WinRef

@[expose] public section

set_option maxRecDepth 16384

noncomputable section

open Idealize.ShloMosaic Idealize.ShloMosaic.TcCoe Idealize.SL.Sem
open Idealize.ShloMosaic.Pipeline (Dat)

namespace Cert.Proof.NsaWin

open Cert.NsaWinIdeal Cert.NsaWinIdeal.Gen

variable (m : (ℓ : Loc nD τ sig) → Buf (Elt Ideal) ℓ) (c : Dev nD)

/-- The kernel's result array is the reference's. -/
theorem final (H : Real2 m c) :
    (dats m 0 c).arrAt 2 (cfgs 0).N = NsaRef.Attend WinRef.Mask (A0 m c) (A1 m c) := by
  refine (dats m 0 c).arrAt_eq_of_covers 2 _ (by decide +kernel) fun t hf y => ?_
  blk_simp
  rw [after0_2]
  idx_vars y
  have hf4 : t.val % 5 = 4 := (flush0_2 t).mp hf
  have e : ((View.whole main_v0).slice (win0_2.rect t)).emb (ix4 y0 y1 y2 y3) = ix4 (bat t) y1 (qry t y2) y3 := by
    blk_ext [idx t]
    all_goals first | rfl | (dsimp only [bat, qry]; omega)
  obtain rfl : y0 = 0 := Subsingleton.elim _ _
  rw [e]
  exact (written H t hf4 y1 y2 y3).trans
    (NsaRef.Attend_at (ok := fun _ q => Win.vis q) WinRef.Mask_at H.h0 H.h1 (bat t) y1 (qry t y2) y3 (own _)).symm

end Cert.Proof.NsaWin
-- ==== Proof.WinNumbers.lean ====
/- The precondition of the window attention read: every entry of its two arrays is a real number. -/
module

public import proofs.«01_k».proof.Proof.Gen.Pre_numbers
public import proofs.«01_k».proof.Proof.Finite

@[expose] public section

noncomputable section

open Idealize.ShloMosaic

namespace Cert.Proof.Numbers

open Cert.Pre_numbers Cert.Pre_numbers.Gen

theorem of_numbers {a0 : FVec Ideal S2x16x4096x64 .bf16} {a1 : FVec Ideal S2x4096x128 .f32}
    (h : Cert.Pre_numbers.fn (F := Ideal) a0 a1 = fun _ => 1#1) : Spec.Finite a0 ∧ Spec.Finite a1 := by
  have j : S_.Idx := fun a => a.elim0
  obtain ⟨h0, h1⟩ := Finite.both_set _ _ (congrFun h j)
  exact ⟨Finite.all_real _ _ _ _ j h0, Finite.all_real _ _ _ _ j h1⟩

end Cert.Proof.Numbers
-- ==== Proof.WinClaims.lean ====
/- The claims about the window attention. -/
module

public import proofs.«01_k».proof.Defs
public import proofs.«01_k».proof.Proof.Gen.NsaWin.Frame
public import proofs.«01_k».proof.Proof.WinFinal
public import proofs.«01_k».proof.Proof.Gen.NsaWinRefIdeal.Run
public import proofs.«01_k».proof.Proof.WinNumbers
public import Idealize.ShloMosaic.Lib.Quiescent

@[expose] public section

noncomputable section

open Idealize.ShloMosaic Idealize.ShloMosaic.TcCoe Idealize.SL.Sem

namespace Cert.Proof.NsaWinClaims

theorem frame_p : Cert.quiescent_NsaWin := fun m ρ _ => Cert.NsaWin.Gen.frame m ρ
theorem frame_pi : Cert.quiescent_NsaWinIdeal := fun m ρ _ => Cert.NsaWinIdeal.Gen.frame m ρ
theorem frame_pi_numbers : Cert.quiescent_NsaWinIdeal_pre_numbers := fun m ρ _ => Cert.NsaWinIdeal.Gen.frame m ρ

/-- The reference runs, its arguments end unchanged, and it has no semaphores. -/
theorem frame_ri : Cert.quiescent_NsaWinRefIdeal := fun m ρ _ =>
  (θ_run Cert.NsaWinRefIdeal.defs _ _).mono (fun r h => ⟨fun c => (h c).2, sem_eq_zero_of_no_sems (by decide) r.2⟩)
    (Cert.NsaWinRefIdeal.Value.run (F := Ideal) m ρ)
theorem frame_ri_numbers : Cert.quiescent_NsaWinRefIdeal_pre_numbers := fun m ρ _ => frame_ri m ρ trivial

/-- The one rewritten constant: the mask, which stands for minus infinity. -/
theorem preserves : Cert.preserves_NsaWin_NsaWinIdeal :=
  IdealRules.named_const.statement Cert.NsaWinIdeal.κ "mask" .f32 0xF149F2CA#32 ⊥ rfl

/-- On arrays of numbers the two results are equal. -/
theorem algebraic : Cert.algebraic_NsaWinIdeal_NsaWinRefIdeal_pre_numbers := by
  intro m g m' g' hp hag
  refine ⟨fun c => NsaRef.Attend WinRef.Mask (NsaWin.A0 m c) (NsaWin.A1 m c), ?_, ?_⟩
  · refine (θ_run Cert.NsaWinIdeal.defs _ _).mono (fun _ h c => ⟨(h c).1.trans ?_, (h c).2⟩)
      (Cert.NsaWinIdeal.Value.run_blocks m g)
    obtain ⟨h0, h1⟩ := Numbers.of_numbers (hp c)
    exact NsaWin.final m c ⟨h0, h1⟩
  · refine (θ_run Cert.NsaWinRefIdeal.defs _ _).mono (fun _ h c => ⟨(h c).1.trans ((WinRef.res_eq m' c).trans ?_), (h c).2⟩)
      (Cert.NsaWinRefIdeal.Value.run (F := Ideal) m' g')
    obtain ⟨e0, e1⟩ := hag c
    rw [e0, e1]

end Cert.Proof.NsaWinClaims
-- ==== Proof.SelPayloads.lean ====
/- What the values stored by the selected-blocks attention are at one index, as scalars. -/
module

public import proofs.«01_k».proof.Proof.Gen.NsaSelIdeal.Skeleton
public import proofs.«01_k».proof.Proof.NsaSpec
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Proof.NsaSel

open Cert.NsaSelIdeal Cert.NsaSelIdeal.Gen
open Cert.Proof.Nsa (half)

/-- The named constant is minus infinity. -/
theorem mask_eq : Named.named (F := Ideal) κ "mask" (φ := .f32) 0xF149F2CA#32 = (⊥ : EReal) := rfl

/-- A key's position, as a word. -/
theorem key_word (kb : Fin 8) (k : Fin 512) :
    (IntOp.addi (Scalar.muli (BitVec.ofNat 32 kb) 512#32) (BitVec.ofNat 32 k)) = BitVec.ofNat 32 (512 * (kb : ℕ) + k) := by
  apply BitVec.eq_of_toNat_eq
  simp only [IntOp.addi, Scalar.muli, IntOp.muli, BitVec.toNat_add, BitVec.toNat_mul, BitVec.toNat_ofNat]
  omega

/-- A query's position, as a word. -/
theorem qry_word (qi : Fin 32) (i : Fin 128) :
    (IntOp.addi (Scalar.muli (BitVec.ofNat 32 qi) 128#32) (BitVec.ofNat 32 i)) = BitVec.ofNat 32 (128 * (qi : ℕ) + i) := by
  apply BitVec.eq_of_toNat_eq
  simp only [IntOp.addi, Scalar.muli, IntOp.muli, BitVec.toNat_add, BitVec.toNat_mul, BitVec.toNat_ofNat]
  omega

/-- The causal comparison, on the words. -/
theorem causal (qi : Fin 32) (kb : Fin 8) (i : Fin 128) (k : Fin 512) :
    IntOp.cmpi CmpIPredicate.sle (IntOp.addi (Scalar.muli (BitVec.ofNat 32 kb) 512#32) (BitVec.ofNat 32 k))
        (IntOp.addi (Scalar.muli (BitVec.ofNat 32 qi) 128#32) (BitVec.ofNat 32 i))
      = BitVec.ofBool (decide (512 * (kb : ℕ) + k ≤ 128 * (qi : ℕ) + i)) := by
  rw [key_word, qry_word]
  word_cmp

/-- The comparison of a key's block with a block's number, on the words. -/
theorem block_word (kb : Fin 8) (j : Fin 64) (k : Fin 512) :
    IntOp.cmpi CmpIPredicate.eq
        (IntOp.shrsi ArithUnit.vector (IntOp.addi (Scalar.muli (BitVec.ofNat 32 kb) 512#32) (BitVec.ofNat 32 k)) 6#32) (BitVec.ofNat 32 j)
      = BitVec.ofBool (decide ((512 * (kb : ℕ) + k) / 64 = j)) := by
  have hs : IntOp.shrsi ArithUnit.vector (BitVec.ofNat 32 (512 * (kb : ℕ) + k)) 6#32
      = BitVec.ofNat 32 ((512 * (kb : ℕ) + k) / 64) := by
    have hlt : 512 * (kb : ℕ) + k < 4096 := by omega
    have hm : (BitVec.ofNat 32 (512 * (kb : ℕ) + k)).msb = false := by
      rw [BitVec.msb_eq_false_iff_two_mul_lt, BitVec.toNat_ofNat]
      omega
    show (if (6#32).toNat < 32 then (BitVec.ofNat 32 (512 * (kb : ℕ) + k)).sshiftRight' 6#32 else _) = _
    rw [if_pos (by decide)]
    apply BitVec.eq_of_toNat_eq
    rw [BitVec.sshiftRight', BitVec.sshiftRight_eq_of_msb_false hm, BitVec.toNat_ushiftRight, Nat.shiftRight_eq_div_pow]
    show (BitVec.ofNat 32 (512 * (kb : ℕ) + k)).toNat / 64 = _
    simp only [BitVec.toNat_ofNat]
    omega
  rw [key_word, hs]
  word_cmp

/-- The entry of the matrix that spreads blocks over keys: one where the key lies in the block, zero elsewhere. -/
theorem spread (kb : Fin 8) (j : Fin 64) (k : Fin 512) :
    FloatOps.sitofp (F := Ideal) .f32 (BitVec.setWidth 32 (IntOp.cmpi CmpIPredicate.eq
        (IntOp.shrsi ArithUnit.vector (IntOp.addi (Scalar.muli (BitVec.ofNat 32 kb) 512#32) (BitVec.ofNat 32 k)) 6#32)
        (BitVec.ofNat 32 j)))
      = (if (512 * (kb : ℕ) + k) / 64 = j then 1 else 0 : EReal) := by
  rw [block_word]
  by_cases h : (512 * (kb : ℕ) + k) / 64 = j
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

/-- A block's mark, read off by that matrix. -/
theorem spread_sum (kb : Fin 8) (k : Fin 512) (f : Fin 64 → EReal) :
    ∑ x : Fin 64, f x * (if (512 * (kb : ℕ) + k) / 64 = x then 1 else 0 : EReal)
      = f ⟨(512 * (kb : ℕ) + k) / 64, by omega⟩ := by
  rw [Finset.sum_eq_single ⟨(512 * (kb : ℕ) + k) / 64, by omega⟩]
  · rw [if_pos rfl, mul_one]
  · intro x _ hx
    rw [if_neg fun h => hx (Fin.ext h.symm), mul_zero]
  · intro h
    exact absurd (Finset.mem_univ _) h

/-- The running maximum starts at minus infinity, -/
theorem pay1_at (r : Fin 2048) (z : Fin 1) : k0_pay1 (F := Ideal) (ix2 r z : S2048x1.Idx) = (⊥ : EReal) := by
  pointwise [k0_pay1, mask_eq]

/-- the running sum at zero, -/
theorem pay2_at (r : Fin 2048) (z : Fin 1) : k0_pay2 (F := Ideal) (ix2 r z : S2048x1.Idx) = (0 : EReal) := by
  pointwise [k0_pay2]

/-- and so do the running weighted sums. -/
theorem pay3_at (r : Fin 2048) (d : Fin 64) : k0_pay3 (F := Ideal) (ix2 r d : S2048x64.Idx) = (0 : EReal) := by
  pointwise [k0_pay3]

/-- What is added to a score: zero where the key's block is chosen and the key is not after the query, else minus infinity. -/
theorem pay14_at (qi : Fin 32) (kb : Fin 8) (sel : FVec Ideal S1x128x64 .f32) (i : Fin 128) (k : Fin 512) :
    k0_pay14 (F := Ideal) (BitVec.ofNat 32 qi) (BitVec.ofNat 32 kb) sel (ix2 i k : S128x512.Idx)
      = if half < sel (ix3 0 i ⟨(512 * (kb : ℕ) + k) / 64, by omega⟩) ∧ 512 * (kb : ℕ) + k ≤ 128 * (qi : ℕ) + i then 0 else ⊥ := by
  pointwise [k0_pay14, mask_eq, causal]
  simp only [spread, spread_sum (f := fun x => sel (ix3 0 i x))]
  show (if IntOp.andi (BitVec.ofBool _) (BitVec.ofBool _) = 1#1 then (0 : EReal) else ⊥) = _
  refine if_congr ?_ rfl rfl
  show IntOp.andi (BitVec.ofBool (decide (half < _))) (BitVec.ofBool (decide _)) = 1#1 ↔ _
  by_cases h1 : half < sel (ix3 0 i ⟨(512 * (kb : ℕ) + k) / 64, by omega⟩) <;>
    by_cases h2 : 512 * (kb : ℕ) + k ≤ 128 * (qi : ℕ) + i <;> simp [h1, h2, IntOp.andi]

/-- The scores of a block before the scale and the mask. -/
theorem pay15_at (q : FVec Ideal S1x16x128x64 .bf16) (kv : FVec Ideal S1x512x128 .f32) (r : Fin 2048) (k : Fin 512) :
    k0_pay15 (F := Ideal) q kv (ix2 r k : S2048x512.Idx)
      = ∑ x : Fin 64, q (ix4 0 ⟨r / 128, by omega⟩ ⟨r % 128, by omega⟩ x) * kv (ix3 0 k ⟨(x : ℕ), by omega⟩) := by
  pointwise [k0_pay15, k0_pay12]

variable (bias : FVec Ideal S128x512 .f32) (s : FVec Ideal S2048x512 .f32)

/-- The scale, as the body holds it. -/
abbrev cst : Ideal .f32 := Scalar.ofBits .f32 0x3E000000#32

/-- The masked scores. -/
theorem pay4_at (r : Fin 2048) (k : Fin 512) :
    k0_pay4 (F := Ideal) bias s cst (ix2 r k : S2048x512.Idx)
      = s (ix2 r k) * Nsa.scale + bias (ix2 ⟨r % 128, by omega⟩ k) := by
  pointwise [k0_pay4]
  rfl

/-- The new running maximum. -/
theorem pay5_at (m : FVec Ideal S2048x1 .f32) (r : Fin 2048) (z : Fin 1) :
    k0_pay5 (F := Ideal) bias s cst m (ix2 r z : S2048x1.Idx)
      = max (m (ix2 r z)) (Finset.univ.fold max ⊥ fun x : Fin 512 => k0_pay4 (F := Ideal) bias s cst (ix2 r x)) := by
  pointwise [k0_pay5, Spec.neg_inf]

/-- The factor that rescales what was summed before. -/
theorem pay6_at (m : FVec Ideal S2048x1 .f32) (r : Fin 2048) (z : Fin 1) :
    k0_pay6 (F := Ideal) bias s cst m (ix2 r z : S2048x1.Idx)
      = Ideal.exp (m (ix2 r z) - k0_pay5 (F := Ideal) bias s cst m (ix2 r z)) := by
  pointwise [k0_pay6]

/-- The block's exponentials. -/
theorem pay7_at (m : FVec Ideal S2048x1 .f32) (r : Fin 2048) (k : Fin 512) :
    k0_pay7 (F := Ideal) bias s cst m (ix2 r k : S2048x512.Idx)
      = Ideal.exp (k0_pay4 (F := Ideal) bias s cst (ix2 r k) - k0_pay5 (F := Ideal) bias s cst m (ix2 r 0)) := by
  pointwise [k0_pay7]

/-- The new running sum. -/
theorem pay8_at (m l : FVec Ideal S2048x1 .f32) (r : Fin 2048) (z : Fin 1) :
    k0_pay8 (F := Ideal) bias s cst m l (ix2 r z : S2048x1.Idx)
      = k0_pay6 (F := Ideal) bias s cst m (ix2 r z) * l (ix2 r z)
        + ∑ x : Fin 512, k0_pay7 (F := Ideal) bias s cst m (ix2 r x) := by
  pointwise [k0_pay8]

/-- The new running weighted sums. -/
theorem pay9_at (kv : FVec Ideal S1x512x128 .f32) (m : FVec Ideal S2048x1 .f32) (acc : FVec Ideal S2048x64 .f32)
    (r : Fin 2048) (d : Fin 64) :
    k0_pay9 (F := Ideal) (k0_pay13 (F := Ideal) kv) bias s cst m acc (ix2 r d : S2048x64.Idx)
      = k0_pay6 (F := Ideal) bias s cst m (ix2 r 0) * acc (ix2 r d)
        + ∑ x : Fin 512, k0_pay7 (F := Ideal) bias s cst m (ix2 r x) * kv (ix3 0 x ⟨64 + (d : ℕ), by omega⟩) := by
  pointwise [k0_pay9, k0_pay13, k0_pay12]

theorem pay10_at (m : FVec Ideal S2048x1 .f32) (r : Fin 2048) (z : Fin 1) :
    k0_pay10 (F := Ideal) bias s cst m (ix2 r z : S2048x1.Idx) = k0_pay5 (F := Ideal) bias s cst m (ix2 r z) := by
  pointwise [k0_pay10]

/-- The written block: the weighted sums over the sum. -/
theorem pay11_at (acc : FVec Ideal S2048x64 .f32) (l : FVec Ideal S2048x1 .f32) (h : Fin 16) (z : Fin 1) (i : Fin 128)
    (d : Fin 64) :
    k0_pay11 (F := Ideal) acc l (ix4 z h i d : S1x16x128x64.Idx)
      = Ideal.div (acc (ix2 ⟨h * 128 + i, by omega⟩ d)) (l (ix2 ⟨h * 128 + i, by omega⟩ 0)) := by
  pointwise [k0_pay11]

end Cert.Proof.NsaSel
-- ==== Proof.SelPoints.lean ====
/- The selected-blocks attention at one grid point: which part of each argument it holds, and what it leaves in its three
   running arrays. -/
module

public import proofs.«01_k».proof.Proof.Gen.NsaSelIdeal.Value
public import proofs.«01_k».proof.Proof.SelPayloads
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.NsaSel

open Cert.NsaSelIdeal Cert.NsaSelIdeal.Gen

variable (m : (ℓ : Loc nD τ sig) → Buf (Elt Ideal) ℓ) (c : Dev nD)

/-- Where the queries', the marks' and the result's blocks lie: batch `t / 256`, query block `t / 8 % 32`. -/
theorem idx : ∀ t : Fin cfg0.N, win0_0.index t = ![t.val / 256, 0, t.val / 8 % 32, 0]
    ∧ win0_2.index t = ![t.val / 256, t.val / 8 % 32, 0] ∧ win0_3.index t = ![t.val / 256, 0, t.val / 8 % 32, 0]
    ∧ (grid0.coords t 1).val = t.val / 8 % 32 ∧ (grid0.coords t 2).val = t.val % 8 :=
  (by decide +kernel : ∀ t : Fin grid0.N, _)

/-- Where the rows' block lies at a point that uses it: key block `t % 8`. -/
theorem idx_kv : ∀ t : Fin cfg0.N, 4 * (t.val % 8) ≤ t.val / 8 % 32 → win0_1.index t = ![t.val / 256, t.val % 8, 0] :=
  (by decide +kernel : ∀ t : Fin grid0.N, _)

/-- The point's batch, its row `r`'s head and query. -/
def bat (t : Fin cfg0.N) : Fin 2 := ⟨t.val / 256, by have := lt_of_lt_of_eq t.isLt N_0; omega⟩
def hd (r : Fin 2048) : Fin 16 := ⟨r / 128, by omega⟩
def qry (t : Fin cfg0.N) (i : ℕ) : Fin 4096 := ⟨128 * (t.val / 8 % 32) + i % 128, by omega⟩
def key (t : Fin cfg0.N) (k : Fin 512) : Fin 4096 := ⟨512 * (t.val % 8) + k, by omega⟩

/-- The three arguments. -/
abbrev A0 : FVec Ideal S2x16x4096x64 .bf16 := m ((c.tc : Thread nD τ).loc main_arg0)
abbrev A1 : FVec Ideal S2x4096x128 .f32 := m ((c.tc : Thread nD τ).loc main_arg1)
abbrev A2 : FVec Ideal S2x4096x64 .f32 := m ((c.tc : Thread nD τ).loc main_arg2)

/-- The point's three blocks. -/
abbrev B0 (t : Fin cfg0.N) : FVec Ideal S1x16x128x64 .bf16 := iblk m c 0 t
abbrev B1 (t : Fin cfg0.N) : FVec Ideal S1x512x128 .f32 := iblk m c 1 t
abbrev B2 (t : Fin cfg0.N) : FVec Ideal S1x128x64 .f32 := iblk m c 2 t

theorem B0_at (t : Fin cfg0.N) (h : Fin 16) (i : Fin 128) (x : Fin 64) :
    B0 m c t (ix4 0 h i x) = A0 m c (ix4 (bat t) h (qry t i) x) := by
  blk_point [iblk, V, idx t]
  all_goals (dsimp only [bat, qry]; omega)

theorem B1_at (t : Fin cfg0.N) (ht : 4 * (t.val % 8) ≤ t.val / 8 % 32) (k : Fin 512) (x : Fin 128) :
    B1 m c t (ix3 0 k x) = A1 m c (ix3 (bat t) (key t k) x) := by
  blk_point [iblk, V, idx_kv t ht]
  all_goals (dsimp only [bat, key]; omega)

theorem B2_at (t : Fin cfg0.N) (i : Fin 128) (x : Fin 64) :
    B2 m c t (ix3 0 i x) = A2 m c (ix3 (bat t) (qry t i) x) := by
  blk_point [iblk, V, idx t]
  all_goals (dsimp only [bat, qry]; omega)

/-- The three running arrays after point `t`. -/
abbrev mx (n : ℕ) (hn : n < cfg0.N) : FVec Ideal S2048x1 .f32 := (outsAt0 m c n hn).2.1
abbrev sm (n : ℕ) (hn : n < cfg0.N) : FVec Ideal S2048x1 .f32 := (outsAt0 m c n hn).2.2.1
abbrev ac (n : ℕ) (hn : n < cfg0.N) : FVec Ideal S2048x64 .f32 := (outsAt0 m c n hn).2.2.2

abbrev qi (t : Fin cfg0.N) : BitVec 32 := BitVec.ofNat 32 (grid0.coords t 1).val
abbrev kb (t : Fin cfg0.N) : BitVec 32 := BitVec.ofNat 32 (grid0.coords t 2).val

/-- What is added to the point's scores, and the scores before the scale. -/
abbrev bias (t : Fin cfg0.N) : FVec Ideal S128x512 .f32 := k0_pay14 (qi t) (kb t) (B2 m c t)
abbrev dots (t : Fin cfg0.N) : FVec Ideal S2048x512 .f32 := k0_pay15 (B0 m c t) (B1 m c t)

/-- An updating point, from what the running arrays held: the new maxima, sums and weighted sums. -/
def newM (t : Fin cfg0.N) (mm : FVec Ideal S2048x1 .f32) : FVec Ideal S2048x1 .f32 :=
  k0_pay10 (bias m c t) (dots m c t) cst mm
def newL (t : Fin cfg0.N) (mm l : FVec Ideal S2048x1 .f32) : FVec Ideal S2048x1 .f32 :=
  k0_pay8 (bias m c t) (dots m c t) cst mm l
def newA (t : Fin cfg0.N) (mm : FVec Ideal S2048x1 .f32) (a : FVec Ideal S2048x64 .f32) : FVec Ideal S2048x64 .f32 :=
  k0_pay9 (k0_pay13 (B1 m c t)) (bias m c t) (dots m c t) cst mm a

/-! ## What each kind of point leaves -/

variable (t : Fin cfg0.N)

/-- The point before. -/
theorem pred_lt : t.val - 1 < cfg0.N := Nat.lt_of_le_of_lt (Nat.sub_le _ _) t.isLt

/-- The first key block: the update from the initial arrays. -/
theorem mx_A (h0 : t.val % 8 = 0) (h1 : 4 * (t.val % 8) ≤ t.val / 8 % 32) (h2 : ¬t.val % 8 = 7) :
    mx m c t.val t.isLt = newM m c t (k0_pay1 (F := Ideal)) := by
  unfold mx newM; rw [outsAt0_A m c t h0 h1 h2]; frame_out

theorem sm_A (h0 : t.val % 8 = 0) (h1 : 4 * (t.val % 8) ≤ t.val / 8 % 32) (h2 : ¬t.val % 8 = 7) :
    sm m c t.val t.isLt = newL m c t (k0_pay1 (F := Ideal)) (k0_pay2 (F := Ideal)) := by
  unfold sm newL; rw [outsAt0_A m c t h0 h1 h2]; frame_out

theorem ac_A (h0 : t.val % 8 = 0) (h1 : 4 * (t.val % 8) ≤ t.val / 8 % 32) (h2 : ¬t.val % 8 = 7) :
    ac m c t.val t.isLt = newA m c t (k0_pay1 (F := Ideal)) (k0_pay3 (F := Ideal)) := by
  unfold ac newA; rw [outsAt0_A m c t h0 h1 h2]; frame_out

/-- A key block after the queries: nothing changes. -/
theorem mx_B (h0 : ¬t.val % 8 = 0) (h1 : ¬4 * (t.val % 8) ≤ t.val / 8 % 32) (h2 : ¬t.val % 8 = 7) :
    mx m c t.val t.isLt = mx m c (t.val - 1) (pred_lt t) := by
  unfold mx; rw [outsAt0_B m c t h0 h1 h2]; rfl

theorem sm_B (h0 : ¬t.val % 8 = 0) (h1 : ¬4 * (t.val % 8) ≤ t.val / 8 % 32) (h2 : ¬t.val % 8 = 7) :
    sm m c t.val t.isLt = sm m c (t.val - 1) (pred_lt t) := by
  unfold sm; rw [outsAt0_B m c t h0 h1 h2]; rfl

theorem ac_B (h0 : ¬t.val % 8 = 0) (h1 : ¬4 * (t.val % 8) ≤ t.val / 8 % 32) (h2 : ¬t.val % 8 = 7) :
    ac m c t.val t.isLt = ac m c (t.val - 1) (pred_lt t) := by
  unfold ac; rw [outsAt0_B m c t h0 h1 h2]; rfl

/-- A last key block after the queries: nothing changes. -/
theorem mx_C (h0 : ¬t.val % 8 = 0) (h1 : ¬4 * (t.val % 8) ≤ t.val / 8 % 32) (h2 : t.val % 8 = 7) :
    mx m c t.val t.isLt = mx m c (t.val - 1) (pred_lt t) := by
  unfold mx; rw [outsAt0_C m c t h0 h1 h2]; rfl

theorem sm_C (h0 : ¬t.val % 8 = 0) (h1 : ¬4 * (t.val % 8) ≤ t.val / 8 % 32) (h2 : t.val % 8 = 7) :
    sm m c t.val t.isLt = sm m c (t.val - 1) (pred_lt t) := by
  unfold sm; rw [outsAt0_C m c t h0 h1 h2]; rfl

theorem ac_C (h0 : ¬t.val % 8 = 0) (h1 : ¬4 * (t.val % 8) ≤ t.val / 8 % 32) (h2 : t.val % 8 = 7) :
    ac m c t.val t.isLt = ac m c (t.val - 1) (pred_lt t) := by
  unfold ac; rw [outsAt0_C m c t h0 h1 h2]; rfl

/-- A further key block: the update. -/
theorem mx_D (h0 : ¬t.val % 8 = 0) (h1 : 4 * (t.val % 8) ≤ t.val / 8 % 32) (h2 : ¬t.val % 8 = 7) :
    mx m c t.val t.isLt = newM m c t (mx m c (t.val - 1) (pred_lt t)) := by
  unfold mx newM; rw [outsAt0_D m c t h0 h1 h2]; frame_out
  simp only [read_unread_whole]

theorem sm_D (h0 : ¬t.val % 8 = 0) (h1 : 4 * (t.val % 8) ≤ t.val / 8 % 32) (h2 : ¬t.val % 8 = 7) :
    sm m c t.val t.isLt = newL m c t (mx m c (t.val - 1) (pred_lt t)) (sm m c (t.val - 1) (pred_lt t)) := by
  unfold mx sm newL; rw [outsAt0_D m c t h0 h1 h2]; frame_out
  simp only [read_unread_whole]

theorem ac_D (h0 : ¬t.val % 8 = 0) (h1 : 4 * (t.val % 8) ≤ t.val / 8 % 32) (h2 : ¬t.val % 8 = 7) :
    ac m c t.val t.isLt = newA m c t (mx m c (t.val - 1) (pred_lt t)) (ac m c (t.val - 1) (pred_lt t)) := by
  unfold mx ac newA; rw [outsAt0_D m c t h0 h1 h2]; frame_out
  simp only [read_unread_whole]

/-- The last key block: the update. -/
theorem mx_E (h0 : ¬t.val % 8 = 0) (h1 : 4 * (t.val % 8) ≤ t.val / 8 % 32) (h2 : t.val % 8 = 7) :
    mx m c t.val t.isLt = newM m c t (mx m c (t.val - 1) (pred_lt t)) := by
  unfold mx newM; rw [outsAt0_E m c t h0 h1 h2]; frame_out
  simp only [read_unread_whole]

theorem sm_E (h0 : ¬t.val % 8 = 0) (h1 : 4 * (t.val % 8) ≤ t.val / 8 % 32) (h2 : t.val % 8 = 7) :
    sm m c t.val t.isLt = newL m c t (mx m c (t.val - 1) (pred_lt t)) (sm m c (t.val - 1) (pred_lt t)) := by
  unfold mx sm newL; rw [outsAt0_E m c t h0 h1 h2]; frame_out
  simp only [read_unread_whole]

theorem ac_E (h0 : ¬t.val % 8 = 0) (h1 : 4 * (t.val % 8) ≤ t.val / 8 % 32) (h2 : t.val % 8 = 7) :
    ac m c t.val t.isLt = newA m c t (mx m c (t.val - 1) (pred_lt t)) (ac m c (t.val - 1) (pred_lt t)) := by
  unfold mx ac newA; rw [outsAt0_E m c t h0 h1 h2]; frame_out
  simp only [read_unread_whole]

/-- What a last point writes: the weighted sums over the sums, both as it leaves them. -/
theorem out_C (h0 : ¬t.val % 8 = 0) (h1 : ¬4 * (t.val % 8) ≤ t.val / 8 % 32) (h2 : t.val % 8 = 7) :
    (outsAt0 m c t.val t.isLt).1 = k0_pay11 (F := Ideal) (ac m c t.val t.isLt) (sm m c t.val t.isLt) := by
  rw [ac_C m c t h0 h1 h2, sm_C m c t h0 h1 h2]
  unfold sm ac
  rw [outsAt0_C m c t h0 h1 h2]; frame_out
  simp only [read_unread_whole]

/-- What a last point writes: the weighted sums over the sums, both as it leaves them. -/
theorem out_E (h0 : ¬t.val % 8 = 0) (h1 : 4 * (t.val % 8) ≤ t.val / 8 % 32) (h2 : t.val % 8 = 7) :
    (outsAt0 m c t.val t.isLt).1 = k0_pay11 (F := Ideal) (ac m c t.val t.isLt) (sm m c t.val t.isLt) := by
  rw [ac_E m c t h0 h1 h2, sm_E m c t h0 h1 h2]
  unfold newA newL mx sm ac
  rw [outsAt0_E m c t h0 h1 h2]; frame_out
  simp only [read_unread_whole]

end Cert.Proof.NsaSel
-- ==== Proof.SelRef.lean ====
/- The selected-blocks reference: its mask at an index, and its result as the attention under that mask. -/
module

public import proofs.«01_k».proof.Proof.NsaRef

@[expose] public section

set_option maxRecDepth 16384

noncomputable section

open Idealize.ShloMosaic Idealize.ShloMosaic.TcCoe Idealize.SL.Sem

namespace Cert.Proof.SelRef

open Cert.NsaSelRefIdeal Cert.NsaSelRefIdeal.Gen
open Cert.Proof.Nsa (half)

/-- The blocks' marks' shape. -/
abbrev SM : Shape := ⟨3, ![2, 4096, 64]⟩

/-- Which keys a query sees: those of its chosen blocks that are not after it. -/
def vis (A2 : SM.Idx → EReal) (b : Fin 2) (q : Fin 4096) (k : ℕ) : Bool :=
  if hk : k < 4096 then decide (half < A2 (ix3 b q ⟨k / 64, by omega⟩) ∧ k ≤ q) else false

/-- The mask. -/
def Mask (A2 : FVec Ideal S2x4096x64 .f32) : IVec S2x16x4096x4096 1 :=
  broadcastInDim S2x16x4096x4096 ![0, 1, 2, 3] bcast_S2x1x4096x4096_S2x16x4096x4096_0_1_2_3 (broadcastInDim S2x1x4096x4096 ![0, 2, 3] bcast_S2x4096x4096_S2x1x4096x4096_0_2_3 (andi (shapeCast _ (broadcastInDim S2x4096x64x64 ![0, 1, 2, 3] bcast_S2x4096x64x1_S2x4096x64x64_0_1_2_3 (cmpf .ogt (broadcastInDim S2x4096x64x1 ![0, 1, 2] bcast_S2x4096x64_S2x4096x64x1_0_1_2 A2) (broadcastInDim S2x4096x64x1 ![] bcast_S_S2x4096x64x1 (constant S_ .f32 0x3F000000#32)))) shapeCasts_S2x4096x64x64_S2x4096x4096) (broadcastInDim S2x4096x4096 ![0, 1, 2] bcast_S1x4096x4096_S2x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))))))

theorem causal (q k : Fin 4096) :
    IntOp.cmpi CmpIPredicate.sle (BitVec.ofNat 32 (k : ℕ)) (BitVec.ofNat 32 (q : ℕ)) = BitVec.ofBool (decide ((k : ℕ) ≤ q)) := by
  word_cmp

theorem Mask_at (A2 : FVec Ideal S2x4096x64 .f32) (b : Fin 2) (h : Fin 16) (q k : Fin 4096) :
    Mask A2 (ix4 b h q k : S2x16x4096x4096.Idx) = BitVec.ofBool (vis A2 b q k) := by
  pointwise [Mask, causal]
  unfold vis
  rw [dif_pos k.isLt]
  show IntOp.andi (BitVec.ofBool (decide (half < A2 (ix3 b q ⟨(k : ℕ) / 64, by omega⟩)))) (BitVec.ofBool (decide _)) = _
  by_cases h1 : half < A2 (ix3 b q ⟨(k : ℕ) / 64, by omega⟩) <;> by_cases h2 : (k : ℕ) ≤ q <;> simp [h1, h2, IntOp.andi]

theorem res_eq (m : (ℓ : Loc nD τ sig) → Buf (Elt Ideal) ℓ) (c : Dev nD) :
    Cert.NsaSelRefIdeal.Value.res_main_v34 (F := Ideal) m c
      = NsaRef.Attend (Mask (m ((c.tc : Thread nD τ).loc main_arg2))) (m ((c.tc : Thread nD τ).loc main_arg0))
          (m ((c.tc : Thread nD τ).loc main_arg1)) := rfl

end Cert.Proof.SelRef
-- ==== Proof.SelSteps.lean ====
/- The selected-blocks attention's result: along the key blocks the three running arrays hold the running maximum, the running
   sum of the weights and the running weighted sums of the values, so the quotient written after the last block is the
   weighted mean of the values. -/
module

public import proofs.«01_k».proof.Proof.SelPoints
public import proofs.«01_k».proof.Proof.SelRef

@[expose] public section

set_option maxRecDepth 16384

noncomputable section

open Idealize.ShloMosaic Idealize.ShloMosaic.TcCoe Idealize.SL.Sem
open Idealize.ShloMosaic.Pipeline (Dat)

namespace Cert.Proof.NsaSel

open Cert.NsaSelIdeal Cert.NsaSelIdeal.Gen
open Cert.Proof.Masked

variable (m : (ℓ : Loc nD τ sig) → Buf (Elt Ideal) ℓ) (c : Dev nD)

/-- The keys row `r` of point `t` sees, its scores and values, over the reals. -/
abbrev K (t : Fin cfg0.N) (r : Fin 2048) : ℕ → Bool := SelRef.vis (A2 m c) (bat t) (qry t r)
abbrev X (t : Fin cfg0.N) (r : Fin 2048) : ℕ → ℝ := Nsa.rawR (A0 m c) (A1 m c) (bat t) (hd r) (qry t r)
abbrev W (t : Fin cfg0.N) : ℕ → Fin 64 → ℝ := Nsa.valR (A1 m c) (bat t)

/-- The queries and the rows are numbers. -/
structure Real2 : Prop where
  h0 : Spec.Finite (A0 m c)
  h1 : Spec.Finite (A1 m c)

variable {m c} (H : Real2 m c) (t : Fin cfg0.N)

/-- What a block adds to its scores: zero at the keys the query sees, minus infinity at the others. -/
theorem block_bias (r : Fin 2048) (k : Fin 512) :
    bias m c t (ix2 ⟨r % 128, by omega⟩ k) = if K m c t r (512 * (t.val % 8) + k) then 0 else ⊥ := by
  obtain ⟨-, -, -, e1, e2⟩ := idx t
  refine (pay14_at (grid0.coords t 1) (grid0.coords t 2) _ ⟨r % 128, by omega⟩ k).trans ?_
  simp only [B2_at, e1, e2]
  have eq' : qry t (r % 128 : ℕ) = qry t r :=
    Fin.ext (show 128 * (t.val / 8 % 32) + (r % 128 : ℕ) % 128 = 128 * (t.val / 8 % 32) + r % 128 by omega)
  rw [eq']
  unfold K SelRef.vis
  rw [dif_pos (by omega)]
  refine if_congr ?_ rfl rfl
  rw [decide_eq_true_iff]
  exact Iff.rfl

include H

/-- A block's masked scores. -/
theorem block_scores (ht : 4 * (t.val % 8) ≤ t.val / 8 % 32) (r : Fin 2048) (k : Fin 512) :
    k0_pay4 (F := Ideal) (bias m c t) (dots m c t) cst (ix2 r k)
      = score (K m c t r) (X m c t r) (512 * (t.val % 8) + k) := by
  rw [pay4_at, block_bias]
  unfold dots
  rw [pay15_at]
  simp only [B0_at, B1_at m c t ht]
  have eq' : qry t (r % 128 : ℕ) = qry t r :=
    Fin.ext (show 128 * (t.val / 8 % 32) + (r % 128 : ℕ) % 128 = 128 * (t.val / 8 % 32) + r % 128 by omega)
  rw [eq']
  exact Nsa.raw_bias H.h0 H.h1 (K m c t r) (bat t) (hd r) (qry t r) (key t k)

/-- A block's values. -/
theorem block_values (ht : 4 * (t.val % 8) ≤ t.val / 8 % 32) (k : Fin 512) (d : Fin 64) :
    B1 m c t (ix3 0 k ⟨64 + (d : ℕ), by omega⟩) = ((W m c t (512 * (t.val % 8) + k) d : ℝ) : EReal) := by
  rw [B1_at m c t ht]
  exact Nsa.val_eq H.h1 (bat t) (key t k) d (by omega)

/-- The update of a block. -/
theorem update (ht : 4 * (t.val % 8) ≤ t.val / 8 % 32) (r : Fin 2048) (mm l : FVec Ideal S2048x1 .f32)
    (a : FVec Ideal S2048x64 .f32)
    (h : Upto (K m c t r) (X m c t r) (W m c t) (512 * (t.val % 8)) (mm (ix2 r 0)) (l (ix2 r 0)) (fun d => a (ix2 r d))) :
    Upto (K m c t r) (X m c t r) (W m c t) (512 * (t.val % 8) + 512) (newM m c t mm (ix2 r 0)) (newL m c t mm l (ix2 r 0))
      (fun d => newA m c t mm a (ix2 r d)) := by
  have hM : newM m c t mm (ix2 r 0) = k0_pay5 (F := Ideal) (bias m c t) (dots m c t) cst mm (ix2 r 0) := pay10_at _ _ _ _ _
  refine upto_step _ _ _ _ 512 (fun k => k0_pay4 (F := Ideal) (bias m c t) (dots m c t) cst (ix2 r k))
    (fun k (d : Fin 64) => B1 m c t (ix3 0 k ⟨64 + (d : ℕ), by omega⟩)) (fun k => block_scores H t ht r k)
    (fun k d => block_values H t ht k d) _ _ _ _ _ _ h ?_ ?_ fun d => ?_
  · rw [hM, pay5_at]
  · rw [hM]; unfold newL; rw [pay8_at, pay6_at]; simp only [pay7_at]
  · rw [hM]; unfold newA; rw [pay9_at, pay6_at]; simp only [pay7_at]

/-- The update of the first block. -/
theorem update_first (h0 : t.val % 8 = 0) (r : Fin 2048) :
    Upto (K m c t r) (X m c t r) (W m c t) 512 (newM m c t (k0_pay1 (F := Ideal)) (ix2 r 0))
      (newL m c t (k0_pay1 (F := Ideal)) (k0_pay2 (F := Ideal)) (ix2 r 0))
      (fun d => newA m c t (k0_pay1 (F := Ideal)) (k0_pay3 (F := Ideal)) (ix2 r d)) := by
  have hu := update H t (by omega) r (k0_pay1 (F := Ideal)) (k0_pay2 (F := Ideal)) (k0_pay3 (F := Ideal))
  rw [h0] at hu
  refine hu ?_
  rw [pay1_at, pay2_at]
  simp only [pay3_at]
  exact upto_start _ _ _ _ fun k hk => absurd hk (by omega)

/-- After every point, the running arrays are those of the keys up to and including its block. -/
theorem running (n : ℕ) (hn : n < cfg0.N) (r : Fin 2048) :
    Upto (K m c ⟨n, hn⟩ r) (X m c ⟨n, hn⟩ r) (W m c ⟨n, hn⟩) (512 * (n % 8) + 512) (mx m c n hn (ix2 r 0)) (sm m c n hn (ix2 r 0))
      (fun d => ac m c n hn (ix2 r d)) := by
  induction n with
  | zero =>
    rw [mx_A m c ⟨0, hn⟩ rfl (by simp) (by simp), sm_A m c ⟨0, hn⟩ rfl (by simp) (by simp),
      ac_A m c ⟨0, hn⟩ rfl (by simp) (by simp)]
    exact update_first H ⟨0, hn⟩ rfl r
  | succ n ih =>
    by_cases h0 : (n + 1) % 8 = 0
    · have h1 : 4 * ((n + 1) % 8) ≤ (n + 1) / 8 % 32 := by omega
      have h2 : ¬(n + 1) % 8 = 7 := by omega
      rw [mx_A m c ⟨n + 1, hn⟩ h0 h1 h2, sm_A m c ⟨n + 1, hn⟩ h0 h1 h2, ac_A m c ⟨n + 1, hn⟩ h0 h1 h2, h0]
      exact update_first H ⟨n + 1, hn⟩ h0 r
    · have ih := ih (Nat.lt_of_succ_lt hn)
      have eb : bat ⟨n, Nat.lt_of_succ_lt hn⟩ = bat ⟨n + 1, hn⟩ := Fin.ext (show n / 256 = (n + 1) / 256 by omega)
      have eq' : qry ⟨n, Nat.lt_of_succ_lt hn⟩ r = qry ⟨n + 1, hn⟩ r :=
        Fin.ext (show 128 * (n / 8 % 32) + r % 128 = 128 * ((n + 1) / 8 % 32) + r % 128 by omega)
      have en : 512 * (n % 8) + 512 = 512 * ((n + 1) % 8) := by omega
      unfold K X W at ih
      rw [eb, eq', en] at ih
      by_cases h1 : 4 * ((n + 1) % 8) ≤ (n + 1) / 8 % 32
      · by_cases h2 : (n + 1) % 8 = 7
        · rw [mx_E m c ⟨n + 1, hn⟩ h0 h1 h2, sm_E m c ⟨n + 1, hn⟩ h0 h1 h2, ac_E m c ⟨n + 1, hn⟩ h0 h1 h2]
          exact update H ⟨n + 1, hn⟩ h1 r _ _ _ ih
        · rw [mx_D m c ⟨n + 1, hn⟩ h0 h1 h2, sm_D m c ⟨n + 1, hn⟩ h0 h1 h2, ac_D m c ⟨n + 1, hn⟩ h0 h1 h2]
          exact update H ⟨n + 1, hn⟩ h1 r _ _ _ ih
      · have hq : ∀ k, 512 * ((n + 1) % 8) ≤ k → k < 512 * ((n + 1) % 8) + 512 →
            SelRef.vis (A2 m c) (bat ⟨n + 1, hn⟩) (qry ⟨n + 1, hn⟩ r) k = false := fun k h3 h4 => by
          unfold SelRef.vis
          rw [dif_pos (by omega)]
          refine decide_eq_false fun h5 => ?_
          have h6 : k ≤ 128 * ((n + 1) / 8 % 32) + r % 128 := h5.2
          omega
        by_cases h2 : (n + 1) % 8 = 7
        · rw [mx_C m c ⟨n + 1, hn⟩ h0 h1 h2, sm_C m c ⟨n + 1, hn⟩ h0 h1 h2, ac_C m c ⟨n + 1, hn⟩ h0 h1 h2]
          exact upto_skip _ _ _ _ 512 hq _ _ _ ih
        · rw [mx_B m c ⟨n + 1, hn⟩ h0 h1 h2, sm_B m c ⟨n + 1, hn⟩ h0 h1 h2, ac_B m c ⟨n + 1, hn⟩ h0 h1 h2]
          exact upto_skip _ _ _ _ 512 hq _ _ _ ih

/-- What a last point writes is the attention's result, when the query sees a key. -/
theorem written (h2 : t.val % 8 = 7) (h : Fin 16) (i : Fin 128) (d : Fin 64)
    (hv : ∃ k < 4096, SelRef.vis (A2 m c) (bat t) (qry t i) k = true) :
    (outsAt0 m c t.val t.isLt).1 (ix4 0 h i d : S1x16x128x64.Idx)
      = Nsa.out (A0 m c) (A1 m c) (SelRef.vis (A2 m c) (bat t) (qry t i)) (bat t) h (qry t i) d := by
  have h0 : ¬t.val % 8 = 0 := by omega
  have e : (outsAt0 m c t.val t.isLt).1 = k0_pay11 (F := Ideal) (ac m c t.val t.isLt) (sm m c t.val t.isLt) := by
    by_cases h1 : 4 * (t.val % 8) ≤ t.val / 8 % 32
    · exact out_E m c t h0 h1 h2
    · exact out_C m c t h0 h1 h2
  have eh : hd ⟨h * 128 + i, by omega⟩ = h := Fin.ext (show (h * 128 + i : ℕ) / 128 = h by omega)
  have ei : qry t (h * 128 + i : ℕ) = qry t i :=
    Fin.ext (show 128 * (t.val / 8 % 32) + (h * 128 + i : ℕ) % 128 = 128 * (t.val / 8 % 32) + i % 128 by omega)
  have hr := running H t.val t.isLt ⟨h * 128 + i, by omega⟩
  rw [h2] at hr
  have hr' : Upto (SelRef.vis (A2 m c) (bat t) (qry t (h * 128 + i : ℕ)))
      (Nsa.rawR (A0 m c) (A1 m c) (bat t) (hd ⟨h * 128 + i, by omega⟩) (qry t (h * 128 + i : ℕ))) (Nsa.valR (A1 m c) (bat t))
      4096 _ _ _ := hr
  rw [eh, ei] at hr'
  rw [e, pay11_at]
  exact upto_div _ _ _ 4096 hv _ _ _ hr' d

end Cert.Proof.NsaSel
-- ==== Proof.SelFinal.lean ====
/- The selected-blocks attention's two programs return the same array. -/
module

public import proofs.«01_k».proof.Proof.SelSteps

@[expose] public section

set_option maxRecDepth 16384

noncomputable section

open Idealize.ShloMosaic Idealize.ShloMosaic.TcCoe Idealize.SL.Sem
open Idealize.ShloMosaic.Pipeline (Dat)

namespace Cert.Proof.NsaSel

open Cert.NsaSelIdeal Cert.NsaSelIdeal.Gen

variable (m : (ℓ : Loc nD τ sig) → Buf (Elt Ideal) ℓ) (c : Dev nD)

/-- The kernel's result array is the reference's. -/
theorem final (H : Real2 m c) (seen : ∀ b q, ∃ k < 4096, SelRef.vis (A2 m c) b q k = true) :
    (dats m 0 c).arrAt 3 (cfgs 0).N = NsaRef.Attend (SelRef.Mask (A2 m c)) (A0 m c) (A1 m c) := by
  refine (dats m 0 c).arrAt_eq_of_covers 3 _ (by decide +kernel) fun t hf y => ?_
  blk_simp
  rw [after0_3]
  idx_vars y
  have hf7 : t.val % 8 = 7 := (flush0_3 t).mp hf
  have e : ((View.whole main_v0).slice (win0_3.rect t)).emb (ix4 y0 y1 y2 y3) = ix4 (bat t) y1 (qry t y2) y3 := by
    blk_ext [idx t]
    all_goals first | rfl | (dsimp only [bat, qry]; omega)
  obtain rfl : y0 = 0 := Subsingleton.elim _ _
  rw [e]
  exact (written H t hf7 y1 y2 y3 (seen _ _)).trans
    (NsaRef.Attend_at (SelRef.Mask_at (A2 m c)) H.h0 H.h1 (bat t) y1 (qry t y2) y3 (seen _ _)).symm

end Cert.Proof.NsaSel
-- ==== Proof.SelChosen.lean ====
/- The precondition of the selected-blocks attention read: its numbers are real, and each query sees a key. -/
module

public import proofs.«01_k».proof.Proof.Gen.Pre_chosen
public import proofs.«01_k».proof.Proof.Finite
public import proofs.«01_k».proof.Proof.SelRef

@[expose] public section

set_option maxRecDepth 16384

noncomputable section

open Idealize.ShloMosaic

namespace Cert.Proof.Chosen

open Cert.Pre_chosen Cert.Pre_chosen.Gen
open Cert.Proof.Nsa (half)

theorem half_not_neg : ¬ half < 0 := by
  refine not_lt.mpr ?_
  simp [half, Ideal.ofBits, Ideal.ieee, Nat.shiftRight_eq_div_pow, show BitVec.extractLsb' 31 1 1056964608#32 = 0#1 from rfl]
  exact mul_nonneg (by positivity) (by positivity)

/-- The largest entry of a row of a three-axis array, from an initial value. -/
theorem max_row {n0 n1 n2 : Nat} {u : Shape} (v : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf v init h hu (ix2 a b : (⟨2, ![n0, n1]⟩ : Shape).Idx)
      = Finset.univ.fold max (init (Shape.Idx.first hu)) fun k : Fin n2 => v (ix3 a b k) := by
  rw [Host.reduce_eq_fold]
  exact h.fold_fiber_r3_a2 _ _ _ _

theorem begun (q : Fin 4096) (j : Fin 64) :
    IntOp.cmpi CmpIPredicate.sle (IntOp.muli (BitVec.ofNat 32 (j : ℕ)) 64#32) (BitVec.ofNat 32 (q : ℕ))
      = BitVec.ofBool (decide (64 * (j : ℕ) ≤ q)) := by
  have e : IntOp.muli (BitVec.ofNat 32 (j : ℕ)) 64#32 = BitVec.ofNat 32 (64 * (j : ℕ)) := by
    refine BitVec.eq_of_toNat_eq ?_
    simp only [IntOp.muli, BitVec.toNat_mul, BitVec.toNat_ofNat]
    omega
  have h : 64 * (j : ℕ) < 4096 := by omega
  rw [e]
  generalize 64 * (j : ℕ) = k at h ⊢
  word_cmp

/-- The marks of the blocks that have begun, zero for the others. -/
def Begun (a2 : FVec Ideal S2x4096x64 .f32) : FVec Ideal S2x4096x64 .f32 :=
  fn_where (F := Ideal) (broadcastInDim S1x4096x64 ![1, 2] Facts.bcast_S4096x64_S1x4096x64_1_2 (cmpi .sle (broadcastInDim S4096x64 ![0, 1] Facts.bcast_S1x64_S4096x64_0_1 (muli (broadcastInDim S1x64 ![1] Facts.bcast_S64_S1x64_1 (iotaInDim S64 32 0)) (broadcastInDim S1x64 ![] Facts.bcast_S_S1x64 (constantI S_ 32 64#32)))) (broadcastInDim S4096x64 ![0, 1] Facts.bcast_S4096x1_S4096x64_0_1 (broadcastInDim S4096x1 ![0] Facts.bcast_S4096_S4096x1_0 (iotaInDim S4096 32 0))))) a2 (constant S_ .f32 0x00000000#32)

theorem Begun_at (a2 : FVec Ideal S2x4096x64 .f32) (b : Fin 2) (q : Fin 4096) (j : Fin 64) :
    Begun a2 (ix3 b q j) = if 64 * (j : ℕ) ≤ q then a2 (ix3 b q j) else 0 := by
  pointwise [Begun, fn_where, begun]
  exact if_congr Iff.rfl rfl (Ideal.ofBits_zero .f32)

/-- `all(x > 1/2)`, at any shape. -/
theorem all_above {s : Shape} {axes : List (Fin s.rank)} (A : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .ogt A (broadcastInDim s ![] hb (constant ⟨0, ![]⟩ .f32 0x3F000000#32)))
      (constantI ⟨0, ![]⟩ 1 1#1) h hu j = 1#1) (i : s.Idx) : half < A i := by
  have hi : BitVec.ofBool (decide (half < A i)) = 1#1 := Host.reduce_andi_all _ _ h hu j e i
  exact by_contra fun hc => by simp [hc] at hi

/-- The precondition of the selected-blocks attention. -/
theorem of_chosen {a0 : FVec Ideal S2x16x4096x64 .bf16} {a1 : FVec Ideal S2x4096x128 .f32} {a2 : FVec Ideal S2x4096x64 .f32}
    (h : Cert.Pre_chosen.fn (F := Ideal) a0 a1 a2 = fun _ => 1#1) :
    Spec.Finite a0 ∧ Spec.Finite a1 ∧ ∀ b q, ∃ k < 4096, SelRef.vis a2 b q k = true := by
  have j : S_.Idx := fun a => a.elim0
  obtain ⟨h01, h2⟩ := Finite.both_set _ _ (congrFun h j)
  obtain ⟨h0, h1⟩ := Finite.both_set _ _ h01
  refine ⟨Finite.all_real _ _ _ _ j h0, Finite.all_real _ _ _ _ j h1, fun b q => ?_⟩
  have hlt : half < Host.reduce FloatOps.maximumf (Begun a2) (constant S_ .f32 0xFF800000#32)
      Facts.reducesTo_S2x4096x64_S2x4096_d2 Facts.h_S_ (ix2 b q) := all_above _ _ _ _ j h2 (ix2 b q)
  rw [max_row] at hlt
  rcases (Finset.lt_fold_max _).mp hlt with hi | ⟨i, -, hi⟩
  · have hi' : half < Ideal.ofBits .f32 0xFF800000#32 := hi
    rw [Spec.neg_inf] at hi'
    exact absurd hi' not_lt_bot
  · rw [Begun_at] at hi
    split_ifs at hi with hq
    · refine ⟨64 * i, by omega, ?_⟩
      unfold SelRef.vis
      rw [dif_pos (by omega)]
      have ei : (⟨64 * (i : ℕ) / 64, by omega⟩ : Fin 64) = i := Fin.ext (show 64 * (i : ℕ) / 64 = i by omega)
      rw [ei]
      exact decide_eq_true ⟨hi, hq⟩
    · exact absurd hi half_not_neg

end Cert.Proof.Chosen
-- ==== Proof.SelClaims.lean ====
/- The claims about the selected-blocks attention. -/
module

public import proofs.«01_k».proof.Defs
public import proofs.«01_k».proof.Proof.Gen.NsaSel.Frame
public import proofs.«01_k».proof.Proof.SelFinal
public import proofs.«01_k».proof.Proof.Gen.NsaSelRefIdeal.Run
public import proofs.«01_k».proof.Proof.SelChosen
public import Idealize.ShloMosaic.Lib.Quiescent

@[expose] public section

noncomputable section

open Idealize.ShloMosaic Idealize.ShloMosaic.TcCoe Idealize.SL.Sem

namespace Cert.Proof.NsaSelClaims

theorem frame_p : Cert.quiescent_NsaSel := fun m ρ _ => Cert.NsaSel.Gen.frame m ρ
theorem frame_pi : Cert.quiescent_NsaSelIdeal := fun m ρ _ => Cert.NsaSelIdeal.Gen.frame m ρ
theorem frame_pi_chosen : Cert.quiescent_NsaSelIdeal_pre_chosen := fun m ρ _ => Cert.NsaSelIdeal.Gen.frame m ρ

/-- The reference runs, its arguments end unchanged, and it has no semaphores. -/
theorem frame_ri : Cert.quiescent_NsaSelRefIdeal := fun m ρ _ =>
  (θ_run Cert.NsaSelRefIdeal.defs _ _).mono (fun r h => ⟨fun c => (h c).2, sem_eq_zero_of_no_sems (by decide) r.2⟩)
    (Cert.NsaSelRefIdeal.Value.run (F := Ideal) m ρ)
theorem frame_ri_chosen : Cert.quiescent_NsaSelRefIdeal_pre_chosen := fun m ρ _ => frame_ri m ρ trivial

/-- The one rewritten constant: the mask, which stands for minus infinity. -/
theorem preserves : Cert.preserves_NsaSel_NsaSelIdeal :=
  IdealRules.named_const.statement Cert.NsaSelIdeal.κ "mask" .f32 0xF149F2CA#32 ⊥ rfl

/-- Where the two arrays are numbers and each query sees a key, the two results are equal. -/
theorem algebraic : Cert.algebraic_NsaSelIdeal_NsaSelRefIdeal_pre_chosen := by
  intro m g m' g' hp hag
  refine ⟨fun c => NsaRef.Attend (SelRef.Mask (NsaSel.A2 m c)) (NsaSel.A0 m c) (NsaSel.A1 m c), ?_, ?_⟩
  · refine (θ_run Cert.NsaSelIdeal.defs _ _).mono (fun _ h c => ⟨(h c).1.trans ?_, (h c).2⟩)
      (Cert.NsaSelIdeal.Value.run_blocks m g)
    obtain ⟨h0, h1, h2⟩ := Chosen.of_chosen (hp c)
    exact NsaSel.final m c ⟨h0, h1⟩ h2
  · refine (θ_run Cert.NsaSelRefIdeal.defs _ _).mono (fun _ h c => ⟨(h c).1.trans ((SelRef.res_eq m' c).trans ?_), (h c).2⟩)
      (Cert.NsaSelRefIdeal.Value.run (F := Ideal) m' g')
    obtain ⟨e0, e1, e2⟩ := hag c
    rw [e0, e1, e2]

end Cert.Proof.NsaSelClaims
-- ==== Proof.Router.lean ====
/- The product of the router: the tiled product and the product. -/
module

public import proofs.«01_k».proof.Proof.Gen.RouterIdeal.Value
public import proofs.«01_k».proof.Proof.Gen.RouterRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Router

open Cert.RouterIdeal Cert.RouterIdeal.Gen

variable (m : (ℓ : Loc nD τ sig) → Buf (Elt Ideal) ℓ) (c : Dev nD)

/-- The two arguments: the left factor and the weights. -/
abbrev A0 : FVec Ideal S8704x2048 .f32 := m ((c.tc : Thread nD τ).loc main_arg0)
abbrev A1 : FVec Ideal S2048x32 .f32 := m ((c.tc : Thread nD τ).loc main_arg1)

/-- The reference: the product. -/
def Ref (X : FVec Ideal S8704x2048 .f32) (Y : FVec Ideal S2048x32 .f32) : FVec Ideal S8704x32 .f32 :=
  Host.dotGeneral Cert.RouterRefIdeal.dot_S8704x2048_S2048x32_S8704x32_1_0_0_1_n_n none X Y

theorem Ref_at (X : FVec Ideal S8704x2048 .f32) (Y : FVec Ideal S2048x32 .f32) (i : Fin 8704) (j : Fin 32) :
    Ref X Y (ix2 i j : S8704x32.Idx) = ∑ k : Fin 2048, X (ix2 i k) * Y (ix2 k j) := by
  pointwise [Ref]

/-- A block of rows of the product. -/
theorem pay (x : FVec Ideal S512x2048 .f32) (w : FVec Ideal S2048x32 .f32) (i : Fin 512) (j : Fin 32) :
    k0_pay1 (F := Ideal) x w (ix2 i j : S512x32.Idx) = ∑ k : Fin 2048, x (ix2 i k) * w (ix2 k j) := by
  pointwise [k0_pay1]

/-- Where the blocks lie: row block `t`, the weights whole. -/
theorem idx : ∀ t : Fin cfg0.N, win0_0.index t = ![t.val, 0] ∧ win0_1.index t = ![0, 0]
    ∧ win0_2.index t = ![t.val, 0] := (by decide +kernel : ∀ t : Fin grid0.N, _)

/-- The point's rows. -/
def row (t : Fin cfg0.N) (i : Fin 512) : Fin 8704 :=
  ⟨512 * t.val + i, by have := lt_of_lt_of_eq t.isLt N_0; omega⟩

/-- The point's two blocks. -/
abbrev B0 (t : Fin cfg0.N) : FVec Ideal S512x2048 .f32 := iblk m c 0 t
abbrev B1 (t : Fin cfg0.N) : FVec Ideal S2048x32 .f32 := iblk m c 1 t

theorem B0_at (t : Fin cfg0.N) (i : Fin 512) (k : Fin 2048) : B0 m c t (ix2 i k) = A0 m c (ix2 (row t i) k) := by
  blk_point [iblk, V, idx t]
  all_goals (dsimp only [row]; omega)

theorem B1_at (t : Fin cfg0.N) (k : Fin 2048) (j : Fin 32) : B1 m c t (ix2 k j) = A1 m c (ix2 k j) := by
  blk_point [iblk, V, idx t]
  all_goals omega

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v0).slice (win0_2.rect t)).emb (ix2 y0 y1) = ix2 (row t y0) y1 := by
    blk_ext [idx t]
    all_goals (dsimp only [row]; omega)
  rw [e]
  refine (pay _ _ y0 y1).trans (Eq.trans ?_ (Ref_at _ _ _ _).symm)
  exact Finset.sum_congr rfl fun k _ => congrArg₂ (· * ·) (B0_at m c t y0 k) (B1_at m c t k y1)

end Cert.Proof.Router
-- ==== Proof.RouterClaims.lean ====
/- The claims about the product of the router. -/
module

public import proofs.«01_k».proof.Defs
public import proofs.«01_k».proof.Proof.Gen.Router.Frame
public import proofs.«01_k».proof.Proof.Router
public import Idealize.ShloMosaic.Lib.Quiescent

@[expose] public section

noncomputable section

open Idealize.ShloMosaic Idealize.ShloMosaic.TcCoe Idealize.SL.Sem

namespace Cert.Proof.Router

theorem frame_p : Cert.quiescent_Router := fun m ρ _ => Cert.Router.Gen.frame m ρ
theorem frame_pi : Cert.quiescent_RouterIdeal := fun m ρ _ => Cert.RouterIdeal.Gen.frame m ρ

/-- The reference runs, its arguments end unchanged, and it has no semaphores. -/
theorem frame_ri : Cert.quiescent_RouterRefIdeal := fun m ρ _ =>
  (θ_run Cert.RouterRefIdeal.defs _ _).mono (fun r h => ⟨fun c => (h c).2, sem_eq_zero_of_no_sems (by decide) r.2⟩)
    (Cert.RouterRefIdeal.Value.run (F := Ideal) m ρ)

theorem preserves : Cert.preserves_Router_RouterIdeal := trivial

/-- The two results are equal. -/
theorem algebraic : Cert.algebraic_RouterIdeal_RouterRefIdeal := by
  intro m g m' g' hp hag
  refine ⟨fun c => Ref (A0 m c) (A1 m c), ?_, ?_⟩
  · exact (θ_run Cert.RouterIdeal.defs _ _).mono (fun _ h c => ⟨(h c).1.trans (final m c), (h c).2⟩)
      (Cert.RouterIdeal.Value.run_blocks m g)
  · refine (θ_run Cert.RouterRefIdeal.defs _ _).mono (fun _ h c => ⟨(h c).1.trans ?_, (h c).2⟩)
      (Cert.RouterRefIdeal.Value.run (F := Ideal) m' g')
    obtain ⟨e0, e1⟩ := hag c
    rw [e0, e1]
    rfl

end Cert.Proof.Router
-- ==== Proof.PhiOne.lean ====
/- The first product that compresses a block: the product with weights laid out on the diagonal, and the two products apart. -/
module

public import proofs.«01_k».proof.Proof.Gen.PhiOneIdeal.Value
public import proofs.«01_k».proof.Proof.Gen.PhiOneRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.PhiOne

open Cert.PhiOneIdeal Cert.PhiOneIdeal.Gen

variable (m : (ℓ : Loc nD τ sig) → Buf (Elt Ideal) ℓ) (c : Dev nD)

/-- The three arguments: the rows of keys and values, the positions' terms and the weights of the keys and of the values. -/
abbrev A0 : FVec Ideal S2x4096x128 .f32 := m ((c.tc : Thread nD τ).loc main_arg0)
abbrev A1 : FVec Ideal S64x2x64 .f32 := m ((c.tc : Thread nD τ).loc main_arg1)
abbrev A2 : FVec Ideal S2x4096x64 .f32 := m ((c.tc : Thread nD τ).loc main_arg2)

/-- The rows of a block, with the positions' terms added, laid side by side. -/
def Flat (X : FVec Ideal S2x4096x128 .f32) (P : FVec Ideal S64x2x64 .f32) : FVec Ideal S128x8192 .f32 :=
  shapeCast S128x8192 (addf (shapeCast S2x64x64x128 X shapeCasts_S2x4096x128_S2x64x64x128)
    (broadcastInDim S2x64x64x128 ![0, 1, 2, 3] bcast_S1x1x64x128_S2x64x64x128_0_1_2_3
      (broadcastInDim S1x1x64x128 ![2, 3] bcast_S64x128_S1x1x64x128_2_3
        (shapeCast S64x128 P shapeCasts_S64x2x64_S64x128)))) shapeCasts_S2x64x64x128_S128x8192

/-- One of the two matrices, its rows by position. -/
abbrev Part0 (Y : FVec Ideal S2x4096x64 .f32) : FVec Ideal S64x64x64 .f32 :=
  shapeCast S64x64x64 (extractStridedSlice S1x64x64x64 ![0, 0, 0, 0]
    (shapeCast S2x64x64x64 Y shapeCasts_S2x4096x64_S2x64x64x64) slices_S2x64x64x64_S1x64x64x64_0_0_0_0) shapeCasts_S1x64x64x64_S64x64x64
abbrev Part1 (Y : FVec Ideal S2x4096x64 .f32) : FVec Ideal S64x64x64 .f32 :=
  shapeCast S64x64x64 (extractStridedSlice S1x64x64x64 ![1, 0, 0, 0]
    (shapeCast S2x64x64x64 Y shapeCasts_S2x4096x64_S2x64x64x64) slices_S2x64x64x64_S1x64x64x64_1_0_0_0) shapeCasts_S1x64x64x64_S64x64x64

/-- The two matrices on the diagonal of each position, zeros beside them. -/
def Laid (Y : FVec Ideal S2x4096x64 .f32) : FVec Ideal S8192x128 .f32 :=
  let Z : FVec Ideal S64x64x64 .f32 := broadcastInDim S64x64x64 ![] bcast_S_S64x64x64 (constant S_ .f32 0x00000000#32)
  shapeCast S8192x128 (concatenate S64x128x128 1
    [⟨S64x64x128, concatenate S64x64x128 2 [⟨S64x64x64, Part0 Y⟩, ⟨S64x64x64, Z⟩] concatenates_S64x64x64_S64x64x64_S64x64x128_d2⟩,
      ⟨S64x64x128, concatenate S64x64x128 2 [⟨S64x64x64, Z⟩, ⟨S64x64x64, Part1 Y⟩] concatenates_S64x64x64_S64x64x64_S64x64x128_d2⟩]
    concatenates_S64x64x128_S64x64x128_S64x128x128_d1) shapeCasts_S64x128x128_S8192x128

theorem V_W : (V m c main_v12 : FVec Ideal S8192x128 .bf16) = truncf .bf16 (Laid (A2 m c)) bitsLt_bf16_f32 := by
  unfold V
  after_results <;> rfl

theorem V_X : (V m c main_v18 : FVec Ideal S128x8192 .f32) = Flat (A0 m c) (A1 m c) := by
  unfold V
  after_results <;> rfl

theorem Flat_at (X : FVec Ideal S2x4096x128 .f32) (P : FVec Ideal S64x2x64 .f32) (i : Fin 128) (k : Fin 8192) :
    Flat X P (ix2 i k : S128x8192.Idx)
      = X (ix3 ⟨i.val / 64, by omega⟩ ⟨i.val % 64 * 64 + k.val / 128, by omega⟩ ⟨k.val % 128, by omega⟩)
        + P (ix3 ⟨k.val / 128, by omega⟩ ⟨k.val % 128 / 64, by omega⟩ ⟨k.val % 64, by omega⟩) := by
  pointwise [Flat]
  simp only [Nat.mod_mod_of_dvd _ (by decide : 64 ∣ 128)]

theorem Laid_ladder (Y : FVec Ideal S2x4096x64 .f32) (k : Fin 8192) (j : Fin 128) : Laid Y (ix2 k j : S8192x128.Idx)
    = if h : (k : ℕ) % 128 < 64 then
        (if h' : (j : ℕ) < 64 then Y (ix3 0 ⟨k / 128 * 64 + k % 128, by omega⟩ ⟨j, h'⟩) else 0)
      else if h' : (j : ℕ) < 64 then 0 else Y (ix3 1 ⟨k / 128 * 64 + (k % 128 - 64), by omega⟩ ⟨j - 64, by omega⟩) := by
  pointwise [Laid, Part0, Part1]

theorem Laid_at (Y : FVec Ideal S2x4096x64 .f32) (k : Fin 8192) (j : Fin 128) : Laid Y (ix2 k j : S8192x128.Idx)
    = if k.val % 128 / 64 = j.val / 64
      then Y (ix3 ⟨j.val / 64, by omega⟩ ⟨k.val / 128 * 64 + k.val % 64, by omega⟩ ⟨j.val % 64, by omega⟩) else 0 := by
  have at3 : ∀ (a a' : Fin 2) (b b' : Fin 4096) (d d' : Fin 64), a = a' → b = b' → d = d' → Y (ix3 a b d) = Y (ix3 a' b' d') := by
    rintro _ _ _ _ _ _ rfl rfl rfl; rfl
  rw [Laid_ladder]
  by_cases hk : k.val % 128 < 64 <;> by_cases hj : j.val < 64
  · rw [dif_pos hk, dif_pos hj, if_pos (by omega)]
    exact at3 _ _ _ _ _ _ (Fin.ext (show 0 = j.val / 64 by omega)) (Fin.ext (by dsimp only; omega)) (Fin.ext (by dsimp only; omega))
  · rw [dif_pos hk, dif_neg hj, if_neg (by omega)]
  · rw [dif_neg hk, dif_pos hj, if_neg (by omega)]
  · rw [dif_neg hk, dif_neg hj, if_pos (by omega)]
    exact at3 _ _ _ _ _ _ (Fin.ext (show 1 = j.val / 64 by omega)) (Fin.ext (by dsimp only; omega)) (Fin.ext (by dsimp only; omega))

/-- The reference: the keys' product and the values', side by side. -/
def Ref (X : FVec Ideal S2x4096x128 .f32) (P : FVec Ideal S64x2x64 .f32) (Y : FVec Ideal S2x4096x64 .f32) : FVec Ideal S128x128 .f32 :=
  shapeCast Cert.PhiOneRefIdeal.S128x128 (transpose Cert.PhiOneRefIdeal.S2x64x2x64 [2, 3, 0, 1]
    (Host.dotGeneral Cert.PhiOneRefIdeal.dot_S2x4096x64_S2x64x2x4096_S2x64x2x64_1_3_2_01_0_2 none Y
      (shapeCast Cert.PhiOneRefIdeal.S2x64x2x4096 (transpose Cert.PhiOneRefIdeal.S2x64x2x64x64 [0, 1, 3, 2, 4]
        (addf (shapeCast Cert.PhiOneRefIdeal.S2x64x64x2x64 X Cert.PhiOneRefIdeal.Gen.shapeCasts_S2x4096x128_S2x64x64x2x64)
          (broadcastInDim Cert.PhiOneRefIdeal.S2x64x64x2x64 ![0, 1, 2, 3, 4] Cert.PhiOneRefIdeal.Gen.bcast_S1x1x64x2x64_S2x64x64x2x64_0_1_2_3_4
            (broadcastInDim Cert.PhiOneRefIdeal.S1x1x64x2x64 ![2, 3, 4] Cert.PhiOneRefIdeal.Gen.bcast_S64x2x64_S1x1x64x2x64_2_3_4 P)))
        Cert.PhiOneRefIdeal.Gen.transposes_S2x64x64x2x64_S2x64x2x64x64_0_1_3_2_4)
        Cert.PhiOneRefIdeal.Gen.shapeCasts_S2x64x2x64x64_S2x64x2x4096))
    Cert.PhiOneRefIdeal.Gen.transposes_S2x64x2x64_S2x64x2x64_2_3_0_1)
    Cert.PhiOneRefIdeal.Gen.shapeCasts_S2x64x2x64_S128x128

theorem Ref_half (X : FVec Ideal S2x4096x128 .f32) (P : FVec Ideal S64x2x64 .f32) (Y : FVec Ideal S2x4096x64 .f32) (i j : Fin 128) :
    Ref X P Y (ix2 i j : S128x128.Idx) = ∑ f : Fin 4096, Y (ix3 ⟨j.val / 64, by omega⟩ f ⟨j.val % 64, by omega⟩)
      * (X (ix3 ⟨i.val / 64, by omega⟩ ⟨i.val % 64 * 64 + f.val / 64, by omega⟩ ⟨j.val / 64 * 64 + f.val % 64, by omega⟩)
        + P (ix3 ⟨f.val / 64, by omega⟩ ⟨j.val / 64, by omega⟩ ⟨f.val % 64, by omega⟩)) := by
  pointwise [Ref]

/-- Of a column of the laid-out weights only the half that is not zero counts. -/
theorem Ref_at (X : FVec Ideal S2x4096x128 .f32) (P : FVec Ideal S64x2x64 .f32) (Y : FVec Ideal S2x4096x64 .f32) (i j : Fin 128) :
    Ref X P Y (ix2 i j : S128x128.Idx) = ∑ k : Fin 8192, Flat X P (ix2 i k) * Laid Y (ix2 k j) := by
  rw [Ref_half]
  simp only [Laid_at]
  refine Finset.sum_of_injOn (fun f : Fin 4096 =>
    (⟨f.val / 64 * 128 + j.val / 64 * 64 + f.val % 64, by omega⟩ : Fin 8192)) ?_ ?_ ?_ ?_
  · intro a _ b _ e
    exact Fin.ext (by have := congrArg Fin.val e; dsimp only at this; omega)
  · intro a _; exact Finset.mem_coe.2 (Finset.mem_univ _)
  · intro k _ hk
    rw [if_neg, mul_zero]
    intro e
    exact hk ⟨⟨k.val / 128 * 64 + k.val % 64, by omega⟩, Finset.mem_coe.2 (Finset.mem_univ _), Fin.ext (by dsimp only; omega)⟩
  · intro f _
    rw [if_pos (by dsimp only; omega), mul_comm, Flat_at]
    congr 1
    · congr 2 <;> (ext a; fin_cases a <;> simp <;> omega)
    · congr 1; ext a; fin_cases a <;> simp <;> omega

/-- The product of the two blocks. -/
theorem pay (x : FVec Ideal S128x8192 .f32) (w : FVec Ideal S8192x128 .bf16) (i j : Fin 128) :
    k0_pay1 (F := Ideal) x w (ix2 i j : S128x128.Idx) = ∑ k : Fin 8192, x (ix2 i k) * w (ix2 k j) := by
  pointwise [k0_pay1]

/-- There is one point, and its blocks are the arrays. -/
theorem idx : ∀ t : Fin cfg0.N, win0_0.index t = ![0, 0] ∧ win0_1.index t = ![0, 0]
    ∧ win0_2.index t = ![0, 0] := (by decide +kernel : ∀ t : Fin grid0.N, _)

abbrev B0 (t : Fin cfg0.N) : FVec Ideal S128x8192 .f32 := iblk m c 0 t
abbrev B1 (t : Fin cfg0.N) : FVec Ideal S8192x128 .bf16 := iblk m c 1 t

theorem B0_at (t : Fin cfg0.N) (i : Fin 128) (k : Fin 8192) : B0 m c t (ix2 i k) = Flat (A0 m c) (A1 m c) (ix2 i k) := by
  refine Eq.trans ?_ (congrFun (V_X m c) _)
  blk_simp [iblk, idx t]
  blk_ext [idx t]
  all_goals omega

theorem B1_at (t : Fin cfg0.N) (k : Fin 8192) (j : Fin 128) : B1 m c t (ix2 k j) = Laid (A2 m c) (ix2 k j) := by
  refine Eq.trans ?_ (congrFun (V_W m c) _)
  blk_simp [iblk, idx t]
  blk_ext [idx t]
  all_goals omega

/-- The kernel's result array is the reference's. -/
theorem final : (dats m 0 c).arrAt 2 (cfgs 0).N = Ref (A0 m c) (A1 m c) (A2 m c) := by
  refine (dats m 0 c).arrAt_eq_of_covers 2 _ (by decide +kernel) fun t hf y => ?_
  blk_simp
  rw [after0_2]; frame_out
  idx_vars y
  have e : ((View.whole main_v19).slice (win0_2.rect t)).emb (ix2 y0 y1) = ix2 y0 y1 := by
    blk_ext [idx t]
    all_goals omega
  rw [e]
  refine (pay _ _ y0 y1).trans (Eq.trans ?_ (Ref_at _ _ _ _ _).symm)
  exact Finset.sum_congr rfl fun k _ => congrArg₂ (· * ·) (B0_at m c t y0 k) (B1_at m c t k y1)

end Cert.Proof.PhiOne
-- ==== Proof.PhiOneClaims.lean ====
/- The claims about the first product that compresses a block. -/
module

public import proofs.«01_k».proof.Defs
public import proofs.«01_k».proof.Proof.Gen.PhiOne.Frame
public import proofs.«01_k».proof.Proof.PhiOne
public import Idealize.ShloMosaic.Lib.Quiescent

@[expose] public section

noncomputable section

open Idealize.ShloMosaic Idealize.ShloMosaic.TcCoe Idealize.SL.Sem

namespace Cert.Proof.PhiOne

theorem frame_p : Cert.quiescent_PhiOne := fun m ρ _ => Cert.PhiOne.Gen.frame m ρ
theorem frame_pi : Cert.quiescent_PhiOneIdeal := fun m ρ _ => Cert.PhiOneIdeal.Gen.frame m ρ

/-- The reference runs, its arguments end unchanged, and it has no semaphores. -/
theorem frame_ri : Cert.quiescent_PhiOneRefIdeal := fun m ρ _ =>
  (θ_run Cert.PhiOneRefIdeal.defs _ _).mono (fun r h => ⟨fun c => (h c).2, sem_eq_zero_of_no_sems (by decide) r.2⟩)
    (Cert.PhiOneRefIdeal.Value.run (F := Ideal) m ρ)

theorem preserves : Cert.preserves_PhiOne_PhiOneIdeal := trivial

/-- The two results are equal. -/
theorem algebraic : Cert.algebraic_PhiOneIdeal_PhiOneRefIdeal := by
  intro m g m' g' hp hag
  refine ⟨fun c => Ref (A0 m c) (A1 m c) (A2 m c), ?_, ?_⟩
  · exact (θ_run Cert.PhiOneIdeal.defs _ _).mono (fun _ h c => ⟨(h c).1.trans (final m c), (h c).2⟩)
      (Cert.PhiOneIdeal.Value.run_blocks m g)
  · refine (θ_run Cert.PhiOneRefIdeal.defs _ _).mono (fun _ h c => ⟨(h c).1.trans ?_, (h c).2⟩)
      (Cert.PhiOneRefIdeal.Value.run (F := Ideal) m' g')
    obtain ⟨e0, e1, e2⟩ := hag c
    rw [e0, e1, e2]
    rfl

end Cert.Proof.PhiOne
-- ==== Proof.PhiTwo.lean ====
/- The second product that compresses a block: the product with weights laid out on the diagonal, and the two products apart. -/
module

public import proofs.«01_k».proof.Proof.Gen.PhiTwoIdeal.Value
public import proofs.«01_k».proof.Proof.Gen.PhiTwoRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.PhiTwo

open Cert.PhiTwoIdeal Cert.PhiTwoIdeal.Gen

variable (m : (ℓ : Loc nD τ sig) → Buf (Elt Ideal) ℓ) (c : Dev nD)

/-- The two arguments: the hidden layer and the weights of the keys and of the values. -/
abbrev A0 : FVec Ideal S128x128 .f32 := m ((c.tc : Thread nD τ).loc main_arg0)
abbrev A1 : FVec Ideal S2x64x64 .f32 := m ((c.tc : Thread nD τ).loc main_arg1)

/-- The two matrices on the diagonal, zeros beside them. -/
def Laid (Y : FVec Ideal S2x64x64 .f32) : FVec Ideal S128x128 .f32 :=
  let Z : FVec Ideal S64x64 .f32 := broadcastInDim S64x64 ![] bcast_S_S64x64 (constant S_ .f32 0x00000000#32)
  concatenate S128x128 0
    [⟨S64x128, concatenate S64x128 1
        [⟨S64x64, shapeCast S64x64 (extractStridedSlice S1x64x64 ![0, 0, 0] Y slices_S2x64x64_S1x64x64_0_0_0) shapeCasts_S1x64x64_S64x64⟩,
          ⟨S64x64, Z⟩] concatenates_S64x64_S64x64_S64x128_d1⟩,
      ⟨S64x128, concatenate S64x128 1
        [⟨S64x64, Z⟩,
          ⟨S64x64, shapeCast S64x64 (extractStridedSlice S1x64x64 ![1, 0, 0] Y slices_S2x64x64_S1x64x64_1_0_0) shapeCasts_S1x64x64_S64x64⟩]
        concatenates_S64x64_S64x64_S64x128_d1⟩]
    concatenates_S64x128_S64x128_S128x128_d0

theorem V_W : (V m c main_v8 : FVec Ideal S128x128 .bf16) = truncf .bf16 (Laid (A1 m c)) bitsLt_bf16_f32 := by
  unfold V
  after_results <;> rfl

theorem Laid_ladder (Y : FVec Ideal S2x64x64 .f32) (k j : Fin 128) : Laid Y (ix2 k j : S128x128.Idx)
    = if h : (k : ℕ) < 64 then (if h' : (j : ℕ) < 64 then Y (ix3 0 ⟨k, h⟩ ⟨j, h'⟩) else 0)
      else if h' : (j : ℕ) < 64 then 0 else Y (ix3 1 ⟨k - 64, by omega⟩ ⟨j - 64, by omega⟩) := by
  pointwise [Laid]

theorem Laid_at (Y : FVec Ideal S2x64x64 .f32) (k j : Fin 128) : Laid Y (ix2 k j : S128x128.Idx)
    = if k.val / 64 = j.val / 64 then Y (ix3 ⟨j.val / 64, by omega⟩ ⟨k.val % 64, by omega⟩ ⟨j.val % 64, by omega⟩) else 0 := by
  have at3 : ∀ (a a' : Fin 2) (b b' d d' : Fin 64), a = a' → b = b' → d = d' → Y (ix3 a b d) = Y (ix3 a' b' d') := by
    rintro _ _ _ _ _ _ rfl rfl rfl; rfl
  rw [Laid_ladder]
  by_cases hk : k.val < 64 <;> by_cases hj : j.val < 64
  · rw [dif_pos hk, dif_pos hj, if_pos (by omega)]
    exact at3 _ _ _ _ _ _ (Fin.ext (show 0 = j.val / 64 by omega)) (Fin.ext (by dsimp only; omega)) (Fin.ext (by dsimp only; omega))
  · rw [dif_pos hk, dif_neg hj, if_neg (by omega)]
  · rw [dif_neg hk, dif_pos hj, if_neg (by omega)]
  · rw [dif_neg hk, dif_neg hj, if_pos (by omega)]
    exact at3 _ _ _ _ _ _ (Fin.ext (show 1 = j.val / 64 by omega)) (Fin.ext (by dsimp only; omega)) (Fin.ext (by dsimp only; omega))

/-- The reference: the keys' product and the values', side by side. -/
def Ref (X : FVec Ideal S128x128 .f32) (Y : FVec Ideal S2x64x64 .f32) : FVec Ideal S128x128 .f32 :=
  shapeCast Cert.PhiTwoRefIdeal.S128x128 (transpose Cert.PhiTwoRefIdeal.S2x64x2x64 [2, 3, 0, 1]
    (Host.dotGeneral Cert.PhiTwoRefIdeal.dot_S2x64x64_S2x64x2x64_S2x64x2x64_1_3_2_01_0_2 none Y
      (shapeCast Cert.PhiTwoRefIdeal.S2x64x2x64 X Cert.PhiTwoRefIdeal.Gen.shapeCasts_S128x128_S2x64x2x64))
    Cert.PhiTwoRefIdeal.Gen.transposes_S2x64x2x64_S2x64x2x64_2_3_0_1)
    Cert.PhiTwoRefIdeal.Gen.shapeCasts_S2x64x2x64_S128x128

theorem Ref_half (X : FVec Ideal S128x128 .f32) (Y : FVec Ideal S2x64x64 .f32) (i j : Fin 128) :
    Ref X Y (ix2 i j : S128x128.Idx) = ∑ h : Fin 64, Y (ix3 ⟨j.val / 64, by omega⟩ h ⟨j.val % 64, by omega⟩)
      * X (ix2 i ⟨j.val / 64 * 64 + h, by omega⟩) := by
  pointwise [Ref]

/-- Of a column of the laid-out weights only the half that is not zero counts. -/
theorem Ref_at (X : FVec Ideal S128x128 .f32) (Y : FVec Ideal S2x64x64 .f32) (i j : Fin 128) :
    Ref X Y (ix2 i j : S128x128.Idx) = ∑ k : Fin 128, X (ix2 i k) * Laid Y (ix2 k j) := by
  rw [Ref_half]
  simp only [Laid_at]
  refine Finset.sum_of_injOn (fun h : Fin 64 => (⟨j.val / 64 * 64 + h, by omega⟩ : Fin 128)) ?_ ?_ ?_ ?_
  · intro a _ b _ e
    exact Fin.ext (by have := congrArg Fin.val e; dsimp only at this; omega)
  · intro a _; exact Finset.mem_coe.2 (Finset.mem_univ _)
  · intro k _ hk
    rw [if_neg, mul_zero]
    intro e
    exact hk ⟨⟨k.val % 64, by omega⟩, Finset.mem_coe.2 (Finset.mem_univ _), Fin.ext (by dsimp only; omega)⟩
  · intro h _
    rw [if_pos (by dsimp only; omega), mul_comm]
    congr 2; ext a; fin_cases a <;> simp <;> omega

/-- The product of the two blocks. -/
theorem pay (x : FVec Ideal S128x128 .f32) (w : FVec Ideal S128x128 .bf16) (i j : Fin 128) :
    k0_pay1 (F := Ideal) x w (ix2 i j : S128x128.Idx) = ∑ k : Fin 128, x (ix2 i k) * w (ix2 k j) := by
  pointwise [k0_pay1]

/-- There is one point, and its blocks are the arrays. -/
theorem idx : ∀ t : Fin cfg0.N, win0_0.index t = ![0, 0] ∧ win0_1.index t = ![0, 0]
    ∧ win0_2.index t = ![0, 0] := (by decide +kernel : ∀ t : Fin grid0.N, _)

abbrev B0 (t : Fin cfg0.N) : FVec Ideal S128x128 .f32 := iblk m c 0 t
abbrev B1 (t : Fin cfg0.N) : FVec Ideal S128x128 .bf16 := iblk m c 1 t

theorem B0_at (t : Fin cfg0.N) (i k : Fin 128) : B0 m c t (ix2 i k) = A0 m c (ix2 i k) := by
  blk_point [iblk, V, idx t]
  all_goals omega

theorem B1_at (t : Fin cfg0.N) (k j : Fin 128) : B1 m c t (ix2 k j) = Laid (A1 m c) (ix2 k j) := by
  refine Eq.trans ?_ (congrFun (V_W m c) _)
  blk_simp [iblk, idx t]
  blk_ext [idx t]
  all_goals omega

/-- The kernel's result array is the reference's. -/
theorem final : (dats m 0 c).arrAt 2 (cfgs 0).N = Ref (A0 m c) (A1 m c) := by
  refine (dats m 0 c).arrAt_eq_of_covers 2 _ (by decide +kernel) fun t hf y => ?_
  blk_simp
  rw [after0_2]; frame_out
  idx_vars y
  have e : ((View.whole main_v9).slice (win0_2.rect t)).emb (ix2 y0 y1) = ix2 y0 y1 := by
    blk_ext [idx t]
    all_goals omega
  rw [e]
  refine (pay _ _ y0 y1).trans (Eq.trans ?_ (Ref_at _ _ _ _).symm)
  exact Finset.sum_congr rfl fun k _ => congrArg₂ (· * ·) (B0_at m c t y0 k) (B1_at m c t k y1)

end Cert.Proof.PhiTwo
-- ==== Proof.PhiTwoClaims.lean ====
/- The claims about the second product that compresses a block. -/
module

public import proofs.«01_k».proof.Defs
public import proofs.«01_k».proof.Proof.Gen.PhiTwo.Frame
public import proofs.«01_k».proof.Proof.PhiTwo
public import Idealize.ShloMosaic.Lib.Quiescent

@[expose] public section

noncomputable section

open Idealize.ShloMosaic Idealize.ShloMosaic.TcCoe Idealize.SL.Sem

namespace Cert.Proof.PhiTwo

theorem frame_p : Cert.quiescent_PhiTwo := fun m ρ _ => Cert.PhiTwo.Gen.frame m ρ
theorem frame_pi : Cert.quiescent_PhiTwoIdeal := fun m ρ _ => Cert.PhiTwoIdeal.Gen.frame m ρ

/-- The reference runs, its arguments end unchanged, and it has no semaphores. -/
theorem frame_ri : Cert.quiescent_PhiTwoRefIdeal := fun m ρ _ =>
  (θ_run Cert.PhiTwoRefIdeal.defs _ _).mono (fun r h => ⟨fun c => (h c).2, sem_eq_zero_of_no_sems (by decide) r.2⟩)
    (Cert.PhiTwoRefIdeal.Value.run (F := Ideal) m ρ)

theorem preserves : Cert.preserves_PhiTwo_PhiTwoIdeal := trivial

/-- The two results are equal. -/
theorem algebraic : Cert.algebraic_PhiTwoIdeal_PhiTwoRefIdeal := by
  intro m g m' g' hp hag
  refine ⟨fun c => Ref (A0 m c) (A1 m c), ?_, ?_⟩
  · exact (θ_run Cert.PhiTwoIdeal.defs _ _).mono (fun _ h c => ⟨(h c).1.trans (final m c), (h c).2⟩)
      (Cert.PhiTwoIdeal.Value.run_blocks m g)
  · refine (θ_run Cert.PhiTwoRefIdeal.defs _ _).mono (fun _ h c => ⟨(h c).1.trans ?_, (h c).2⟩)
      (Cert.PhiTwoRefIdeal.Value.run (F := Ideal) m' g')
    obtain ⟨e0, e1⟩ := hag c
    rw [e0, e1]
    rfl

end Cert.Proof.PhiTwo
-- ==== Proof.CmpRow.lean ====
/- A row of masked weights written two ways: the masked exponentials over their own sum, or over one where the row sees
   nothing, and the softmax with its masked weights set to zero. -/
module

public import proofs.«01_k».proof.Proof.Masked
public import Idealize.ShloMosaic.Lib.IdealHost

@[expose] public section

noncomputable section

open Idealize.ShloMosaic

namespace Cert.Proof.Cmp

open Cert.Proof.Masked
open Cert.Proof.Softmax (fold_max_real)

/-- Which blocks a query sees: those that end at or before it. -/
def vis (q k : ℕ) : Bool := decide ((k + 1) * 64 - 1 ≤ q)

/-- The kernel's weight of key `k`: the scores `S`, those of hidden keys minus infinity. -/
def kern (ok : ℕ → Bool) (S : Fin 64 → EReal) (k : Fin 64) : EReal :=
  Ideal.div (if ok k then Ideal.exp (S k - Finset.univ.fold max ⊥ S) else 0)
    (if 0 < ∑ j : Fin 64, (if ok j then Ideal.exp (S j - Finset.univ.fold max ⊥ S) else 0)
      then ∑ j : Fin 64, (if ok j then Ideal.exp (S j - Finset.univ.fold max ⊥ S) else 0) else 1)

/-- The reference's. -/
def soft (ok : ℕ → Bool) (S : Fin 64 → EReal) (k : Fin 64) : EReal :=
  if ok k then Ideal.div (Ideal.exp (S k - max ⊥ (Finset.univ.fold max ⊥ S)))
    (∑ j : Fin 64, Ideal.exp (S j - max ⊥ (Finset.univ.fold max ⊥ S))) else 0

/-- They agree when the visible scores are numbers. -/
theorem kern_eq_soft (ok : ℕ → Bool) (x : ℕ → ℝ) (S : Fin 64 → EReal) (hS : ∀ j, S j = score ok x j) (k : Fin 64) :
    kern ok S k = soft ok S k := by
  have hE : ∀ (M : EReal) (j : Fin 64), (if ok j then Ideal.exp (S j - M) else 0) = Ideal.exp (S j - M) := fun M j => by
    split_ifs with h
    · rfl
    · rw [hS, score_hidden ok x (by simpa using h), EReal.bot_sub, Ideal.exp_bot]
  unfold kern soft
  simp only [hE, max_eq_right bot_le]
  by_cases h : ok k
  · rw [if_pos h]
    have hp := sum_wt_pos ok x 64 ⟨k, k.isLt, h⟩
    obtain ⟨M, hM⟩ := fold_max_real S ⊥ bot_lt_top (fun i => by rw [hS]; exact score_ne_top _ _ _)
      (Or.inr ⟨k, by rw [hS]; simp [score, h, EReal.bot_lt_coe]⟩)
    rw [max_eq_right bot_le] at hM
    have hl := block_sum ok x 0 64 M S (by simpa using hS)
    simp only [zero_add] at hl
    rw [hM, if_pos]
    rw [hl]
    exact EReal.coe_pos.2 (mul_pos (Real.exp_pos _) hp)
  · rw [if_neg h, hS k, score_hidden ok x (by simpa using h), EReal.bot_sub, Ideal.exp_bot]
    refine Ideal.zero_div ?_
    split_ifs with hc
    · exact hc.ne'
    · exact one_ne_zero

end Cert.Proof.Cmp
-- ==== Proof.CmpPayloads.lean ====
/- What the compressed attention stores, head by head, at one index, as scalars. -/
module

public import proofs.«01_k».proof.Proof.Gen.NsaCmpIdeal.Value
public import proofs.«01_k».proof.Proof.NsaSpec
public import proofs.«01_k».proof.Proof.CmpRow
public import Idealize.ShloMosaic.Lib.Pointwise
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Proof.NsaCmp

open Cert.NsaCmpIdeal Cert.NsaCmpIdeal.Gen
open Cert.Proof.Cmp (vis kern)

/-- The named constant is minus infinity. -/
theorem mask_eq : Named.named (F := Ideal) κ "mask" (φ := .f32) 0xF149F2CA#32 = (⊥ : EReal) := rfl

/-- A query's position, as a word. -/
theorem pos_word (b : Fin 16) (i : Fin 256) :
    IntOp.addi (Scalar.muli (BitVec.ofNat 32 b) 256#32) (BitVec.ofNat 32 i) = BitVec.ofNat 32 (256 * (b : ℕ) + i) := by
  apply BitVec.eq_of_toNat_eq
  simp only [IntOp.addi, Scalar.muli, IntOp.muli, BitVec.toNat_add, BitVec.toNat_mul, BitVec.toNat_ofNat]
  omega

/-- A block's last position, as a word. -/
theorem end_word (n : Fin 64) :
    IntOp.subi (IntOp.muli (IntOp.addi (BitVec.ofNat 32 n) 1#32) 64#32) 1#32 = BitVec.ofNat 32 (((n : ℕ) + 1) * 64 - 1) := by
  apply BitVec.eq_of_toNat_eq
  simp only [IntOp.addi, IntOp.subi, IntOp.muli, BitVec.toNat_add, BitVec.toNat_sub, BitVec.toNat_mul, BitVec.toNat_ofNat]
  omega

/-- Their comparison. -/
theorem before (q k : ℕ) (hq : q < 4096) (hk : k < 4096) :
    IntOp.cmpi CmpIPredicate.sle (BitVec.ofNat 32 k) (BitVec.ofNat 32 q) = BitVec.ofBool (decide (k ≤ q)) := by
  word_cmp

/-- The mask. -/
theorem pay8_at (i : grid0.Coords) (r : Fin 256) (n : Fin 64) :
    k0_pay8 i (ix2 r n : S256x64.Idx) = BitVec.ofBool (vis (256 * ((i 1).val) + r) n) := by
  have hi : (i 1).val < 16 := (i 1).isLt
  have e : IntOp.cmpi CmpIPredicate.sle (IntOp.subi (IntOp.muli (IntOp.addi (BitVec.ofNat 32 n) 1#32) 64#32) 1#32)
      (IntOp.addi (Scalar.muli (BitVec.ofNat 32 (i 1).val) 256#32) (BitVec.ofNat 32 r))
      = BitVec.ofBool (vis (256 * ((i 1).val) + r) n) := by
    rw [end_word, pos_word ⟨(i 1).val, hi⟩, before _ _ (by dsimp only; omega) (by omega)]
    rfl
  pointwise [k0_pay8, e]

/-- One head's masked scores: the queries' columns from `o`. -/
def Sc (i : grid0.Coords) (x0 : FVec Ideal S1x256x1024 .f32) (x1 : FVec Ideal S1x64x128 .f32) (o : Fin 2 → ℕ)
    (ho : S256x1024.Slices o S256x64) : FVec Ideal S256x64 .f32 :=
  select (k0_pay8 i) (mulf (matmul dot_S256x64_S64x64_S256x64_1_1_0_0_n_n none
      (extractStridedSlice S256x64 o (k0_pay9 (F := Ideal) x0) ho) (k0_pay6 (F := Ideal) x1) (constant S256x64 .f32 0x00000000#32))
    (broadcast S256x64 (Scalar.ofBits .f32 0x3E000000#32))) (broadcast S256x64 (Named.named κ "mask" 0xF149F2CA#32))

/-- One head's weights. -/
def Pw (i : grid0.Coords) (x0 : FVec Ideal S1x256x1024 .f32) (x1 : FVec Ideal S1x64x128 .f32) (o : Fin 2 → ℕ)
    (ho : S256x1024.Slices o S256x64) : FVec Ideal S256x64 .f32 :=
  k0_pay1 (F := Ideal) (k0_pay8 i) (Sc i x0 x1 o ho)

/-- One head's output. -/
def Ow (i : grid0.Coords) (x0 : FVec Ideal S1x256x1024 .f32) (x1 : FVec Ideal S1x64x128 .f32) (o : Fin 2 → ℕ)
    (ho : S256x1024.Slices o S256x64) : FVec Ideal S256x64 .f32 :=
  k0_pay2 (F := Ideal) (k0_pay7 (F := Ideal) x1) (Pw i x0 x1 o ho)

/-- A score. -/
def raw (x0 : FVec Ideal S1x256x1024 .f32) (x1 : FVec Ideal S1x64x128 .f32) (r : Fin 256) (h : Fin 16) (n : Fin 64) : EReal :=
  (∑ x : Fin 64, x0 (ix3 0 r ⟨64 * (h : ℕ) + x, by omega⟩) * x1 (ix3 0 n ⟨(x : ℕ), by omega⟩)) * Nsa.scale

/-- The head whose columns are cut. -/
theorem Sc_at (i : grid0.Coords) (x0 : FVec Ideal S1x256x1024 .f32) (x1 : FVec Ideal S1x64x128 .f32) (h : Fin 16)
    (ho : S256x1024.Slices ![0, 64 * (h : ℕ)] S256x64) (r : Fin 256) (n : Fin 64) :
    Sc i x0 x1 ![0, 64 * (h : ℕ)] ho (ix2 r n : S256x64.Idx)
      = if vis (256 * ((i 1).val) + r) n then raw x0 x1 r h n else ⊥ := by
  pointwise [Sc, pay8_at, mask_eq, k0_pay9, k0_pay6, k0_pay5]
  rfl

/-- The weights from the scores. -/
theorem pay1_at (i : grid0.Coords) (S : FVec Ideal S256x64 .f32) (r : Fin 256) (n : Fin 64) :
    k0_pay1 (F := Ideal) (k0_pay8 i) S (ix2 r n : S256x64.Idx)
      = kern (vis (256 * ((i 1).val) + r)) (fun j => S (ix2 r j)) n := by
  unfold kern
  pointwise [k0_pay1, pay8_at, Spec.neg_inf]

theorem pay2_at (x1 : FVec Ideal S1x64x128 .f32) (P : FVec Ideal S256x64 .f32) (r : Fin 256) (d : Fin 64) :
    k0_pay2 (F := Ideal) (k0_pay7 (F := Ideal) x1) P (ix2 r d : S256x64.Idx)
      = ∑ n : Fin 64, P (ix2 r n) * x1 (ix3 0 n ⟨64 + (d : ℕ), by omega⟩) := by
  pointwise [k0_pay2, k0_pay7, k0_pay5]

end Cert.Proof.NsaCmp
-- ==== Proof.CmpHeads.lean ====
/- The sixteen heads of the compressed attention together: their outputs side by side, and their weights added up. -/
module

public import proofs.«01_k».proof.Proof.CmpPayloads

@[expose] public section

set_option maxRecDepth 16384

noncomputable section

open Idealize.ShloMosaic Idealize.ShloMosaic.TcCoe Idealize.SL.Sem

namespace Cert.Proof.NsaCmp

open Cert.NsaCmpIdeal Cert.NsaCmpIdeal.Gen
open Cert.Proof.Cmp (vis kern)

/-- A head's columns are within the row. -/
theorem sl : ∀ h : Fin 16, S256x1024.Slices ![0, 64 * (h : ℕ)] S256x64 := by decide

/-- The heads' outputs side by side. -/
def Side (T : Fin 16 → FVec Ideal S256x64 .f32) : FVec Ideal S1x256x1024 .f32 :=
  k0_pay3 (F := Ideal) (T 0) (T 1) (T 2) (T 3) (T 4) (T 5) (T 6) (T 7) (T 8) (T 9) (T 10) (T 11) (T 12) (T 13) (T 14) (T 15)

/-- The heads' weights added up. -/
def Sum (T : Fin 16 → FVec Ideal S256x64 .f32) : FVec Ideal S1x256x64 .f32 :=
  k0_pay4 (F := Ideal) (addf (addf (addf (addf (addf (addf (addf (addf (addf (addf (addf (addf (addf (addf (addf (k0_pay10 (F := Ideal)) (T 0)) (T 1)) (T 2)) (T 3)) (T 4)) (T 5)) (T 6)) (T 7)) (T 8)) (T 9)) (T 10)) (T 11)) (T 12)) (T 13)) (T 14)) (T 15)

variable (i : grid0.Coords) (x0 : Vec Ideal S1x256x1024 .f32) (x1 : Vec Ideal S1x64x128 .f32)

/-- A head's weights, from what the body loads. -/
def HW (h : Fin 16) : FVec Ideal S256x64 .f32 :=
  Pw i (View.ld x0 r0_1) (View.ld x1 r0_0) ![0, 64 * (h : ℕ)] (sl h)

/-- A head's output. -/
def HO (h : Fin 16) : FVec Ideal S256x64 .f32 := k0_pay2 (F := Ideal) (k0_pay7 (F := Ideal) (View.ld x1 r0_0)) (HW i x0 x1 h)

theorem w0 : k0_pay14 (F := Ideal) (k0_pay67 (F := Ideal) i x0 x1) (k0_pay68 (F := Ideal) i x0 x1) (k0_pay69 (F := Ideal) i x0 x1) (Scalar.ofBits .f32 0x3F800000#32) = HW i x0 x1 0 := rfl
theorem w1 : k0_pay16 (F := Ideal) (k0_pay63 (F := Ideal) i x0 x1) (k0_pay65 (F := Ideal) i x0 x1) (k0_pay66 (F := Ideal) i x0 x1) = HW i x0 x1 1 := rfl
theorem w2 : k0_pay20 (F := Ideal) (k0_pay70 (F := Ideal) i x0 x1) = HW i x0 x1 2 := rfl
theorem w3 : k0_pay22 (F := Ideal) (k0_pay63 (F := Ideal) i x0 x1) (k0_pay65 (F := Ideal) i x0 x1) (k0_pay66 (F := Ideal) i x0 x1) = HW i x0 x1 3 := rfl
theorem w4 : k0_pay27 (F := Ideal) (k0_pay65 (F := Ideal) i x0 x1) (k0_pay71 (F := Ideal) i x0 x1) (k0_pay72 (F := Ideal) i x0 x1) = HW i x0 x1 4 := rfl
theorem w5 : k0_pay29 (F := Ideal) (k0_pay63 (F := Ideal) i x0 x1) (k0_pay65 (F := Ideal) i x0 x1) (k0_pay66 (F := Ideal) i x0 x1) = HW i x0 x1 5 := rfl
theorem w6 : k0_pay33 (F := Ideal) (k0_pay65 (F := Ideal) i x0 x1) (k0_pay73 (F := Ideal) i x0 x1) (Named.named κ "mask" 0xF149F2CA#32) = HW i x0 x1 6 := rfl
theorem w7 : k0_pay35 (F := Ideal) (k0_pay63 (F := Ideal) i x0 x1) (k0_pay65 (F := Ideal) i x0 x1) (k0_pay66 (F := Ideal) i x0 x1) = HW i x0 x1 7 := rfl
theorem w8 : k0_pay39 (F := Ideal) (k0_pay63 (F := Ideal) i x0 x1) (k0_pay65 (F := Ideal) i x0 x1) (k0_pay74 (F := Ideal) i x0 x1) = HW i x0 x1 8 := rfl
theorem w9 : k0_pay44 (F := Ideal) (k0_pay75 (F := Ideal) i x0 x1) (k0_pay76 (F := Ideal) i x0 x1) = HW i x0 x1 9 := rfl
theorem w10 : k0_pay46 (F := Ideal) (k0_pay63 (F := Ideal) i x0 x1) (k0_pay65 (F := Ideal) i x0 x1) (k0_pay66 (F := Ideal) i x0 x1) = HW i x0 x1 10 := rfl
theorem w11 : k0_pay51 (F := Ideal) (k0_pay77 (F := Ideal) i x0 x1) (k0_pay78 (F := Ideal) i x0 x1) (Scalar.ofBits .f32 0x00000000#32) = HW i x0 x1 11 := rfl
theorem w12 : k0_pay53 (F := Ideal) (k0_pay63 (F := Ideal) i x0 x1) (k0_pay65 (F := Ideal) i x0 x1) (k0_pay66 (F := Ideal) i x0 x1) = HW i x0 x1 12 := rfl
theorem w13 : k0_pay57 (F := Ideal) (k0_pay65 (F := Ideal) i x0 x1) (k0_pay79 (F := Ideal) i x0 x1) (Scalar.ofBits .f32 0x00000000#32) = HW i x0 x1 13 := rfl
theorem w14 : k0_pay59 (F := Ideal) (k0_pay63 (F := Ideal) i x0 x1) (k0_pay65 (F := Ideal) i x0 x1) (k0_pay66 (F := Ideal) i x0 x1) = HW i x0 x1 14 := rfl
theorem w15 : (k0_pay80 (F := Ideal) i x0 x1) = HW i x0 x1 15 := rfl

/-! The outputs as the body writes them. -/

theorem o0 : k0_pay15 (F := Ideal) (k0_pay64 (F := Ideal) i x0 x1) (k0_pay67 (F := Ideal) i x0 x1) (k0_pay68 (F := Ideal) i x0 x1) (k0_pay69 (F := Ideal) i x0 x1) (Scalar.ofBits .f32 0x3F800000#32) = HO i x0 x1 0 := rfl
theorem o1 : k0_pay18 (F := Ideal) (k0_pay63 (F := Ideal) i x0 x1) (k0_pay64 (F := Ideal) i x0 x1) (k0_pay65 (F := Ideal) i x0 x1) (k0_pay66 (F := Ideal) i x0 x1) = HO i x0 x1 1 := rfl
theorem o2 : k0_pay21 (F := Ideal) (k0_pay64 (F := Ideal) i x0 x1) (k0_pay70 (F := Ideal) i x0 x1) = HO i x0 x1 2 := rfl
theorem o3 : k0_pay24 (F := Ideal) (k0_pay63 (F := Ideal) i x0 x1) (k0_pay64 (F := Ideal) i x0 x1) (k0_pay65 (F := Ideal) i x0 x1) (k0_pay66 (F := Ideal) i x0 x1) = HO i x0 x1 3 := rfl
theorem o4 : k0_pay28 (F := Ideal) (k0_pay64 (F := Ideal) i x0 x1) (k0_pay65 (F := Ideal) i x0 x1) (k0_pay71 (F := Ideal) i x0 x1) (k0_pay72 (F := Ideal) i x0 x1) = HO i x0 x1 4 := rfl
theorem o5 : k0_pay31 (F := Ideal) (k0_pay63 (F := Ideal) i x0 x1) (k0_pay64 (F := Ideal) i x0 x1) (k0_pay65 (F := Ideal) i x0 x1) (k0_pay66 (F := Ideal) i x0 x1) = HO i x0 x1 5 := rfl
theorem o6 : k0_pay34 (F := Ideal) (k0_pay64 (F := Ideal) i x0 x1) (k0_pay65 (F := Ideal) i x0 x1) (k0_pay73 (F := Ideal) i x0 x1) (Named.named κ "mask" 0xF149F2CA#32) = HO i x0 x1 6 := rfl
theorem o7 : k0_pay37 (F := Ideal) (k0_pay63 (F := Ideal) i x0 x1) (k0_pay64 (F := Ideal) i x0 x1) (k0_pay65 (F := Ideal) i x0 x1) (k0_pay66 (F := Ideal) i x0 x1) = HO i x0 x1 7 := rfl
theorem o8 : k0_pay41 (F := Ideal) (k0_pay63 (F := Ideal) i x0 x1) (k0_pay64 (F := Ideal) i x0 x1) (k0_pay65 (F := Ideal) i x0 x1) (k0_pay74 (F := Ideal) i x0 x1) = HO i x0 x1 8 := rfl
theorem o9 : k0_pay45 (F := Ideal) (k0_pay64 (F := Ideal) i x0 x1) (k0_pay75 (F := Ideal) i x0 x1) (k0_pay76 (F := Ideal) i x0 x1) = HO i x0 x1 9 := rfl
theorem o10 : k0_pay48 (F := Ideal) (k0_pay63 (F := Ideal) i x0 x1) (k0_pay64 (F := Ideal) i x0 x1) (k0_pay65 (F := Ideal) i x0 x1) (k0_pay66 (F := Ideal) i x0 x1) = HO i x0 x1 10 := rfl
theorem o11 : k0_pay52 (F := Ideal) (k0_pay64 (F := Ideal) i x0 x1) (k0_pay77 (F := Ideal) i x0 x1) (k0_pay78 (F := Ideal) i x0 x1) (Scalar.ofBits .f32 0x00000000#32) = HO i x0 x1 11 := rfl
theorem o12 : k0_pay55 (F := Ideal) (k0_pay63 (F := Ideal) i x0 x1) (k0_pay64 (F := Ideal) i x0 x1) (k0_pay65 (F := Ideal) i x0 x1) (k0_pay66 (F := Ideal) i x0 x1) = HO i x0 x1 12 := rfl
theorem o13 : k0_pay58 (F := Ideal) (k0_pay64 (F := Ideal) i x0 x1) (k0_pay65 (F := Ideal) i x0 x1) (k0_pay79 (F := Ideal) i x0 x1) (Scalar.ofBits .f32 0x00000000#32) = HO i x0 x1 13 := rfl
theorem o14 : k0_pay61 (F := Ideal) (k0_pay63 (F := Ideal) i x0 x1) (k0_pay64 (F := Ideal) i x0 x1) (k0_pay65 (F := Ideal) i x0 x1) (k0_pay66 (F := Ideal) i x0 x1) = HO i x0 x1 14 := rfl
theorem o15 : k0_pay2 (F := Ideal) (k0_pay64 (F := Ideal) i x0 x1) (k0_pay80 (F := Ideal) i x0 x1) = HO i x0 x1 15 := rfl

/-! The weights added two by two. -/

variable (k3 : FVec Ideal S64x64 .bf16) (k17 : IVec S256x64 1) (k20 : FVec Ideal S256x1024 .bf16) (k21 a b : FVec Ideal S256x64 .f32)
  (l : FVec Ideal S256x1 .f32) (p : IVec S256x1 1) (k214 : FVec Ideal S256x64 .bf16) (z : Ideal .f32)

theorem acc17 : k0_pay17 (F := Ideal) k3 k17 k20 k21 a l p z = addf (addf k21 (k0_pay14 (F := Ideal) a l p z)) (k0_pay16 (F := Ideal) k3 k17 k20) := rfl
theorem acc23 : k0_pay23 (F := Ideal) k3 k17 k20 k21 a = addf (addf k21 (k0_pay20 (F := Ideal) a)) (k0_pay22 (F := Ideal) k3 k17 k20) := rfl
theorem acc30 : k0_pay30 (F := Ideal) k3 k17 k20 k21 a b = addf (addf k21 (k0_pay27 (F := Ideal) k17 a b)) (k0_pay29 (F := Ideal) k3 k17 k20) := rfl
theorem acc36 : k0_pay36 (F := Ideal) k3 k17 k20 k21 a z = addf (addf k21 (k0_pay33 (F := Ideal) k17 a z)) (k0_pay35 (F := Ideal) k3 k17 k20) := rfl
theorem acc47 : k0_pay47 (F := Ideal) k3 k17 k20 k21 a b = addf (addf k21 (k0_pay44 (F := Ideal) a b)) (k0_pay46 (F := Ideal) k3 k17 k20) := rfl
theorem acc54 : k0_pay54 (F := Ideal) k3 k17 k20 k21 a l z = addf (addf k21 (k0_pay51 (F := Ideal) a l z)) (k0_pay53 (F := Ideal) k3 k17 k20) := rfl
theorem acc60 : k0_pay60 (F := Ideal) k3 k17 k20 k21 a z = addf (addf k21 (k0_pay57 (F := Ideal) k17 a z)) (k0_pay59 (F := Ideal) k3 k17 k20) := rfl
theorem acc40 : k0_pay40 (F := Ideal) k3 k17 k21 k214 = addf k21 (k0_pay39 (F := Ideal) k3 k17 k214) := rfl

theorem out2_eq : out0_2 (F := Ideal) i x0 x1 = View.canon [⟨r0_1, Side (HO i x0 x1)⟩] := by
  unfold out0_2 Side
  rw [o0, o1, o2, o3, o4, o5, o6, o7, o8, o9, o10, o11, o12, o13, o14, o15]

theorem out3_eq : out0_3 (F := Ideal) i x0 x1 = View.canon [⟨r0_2, Sum (HW i x0 x1)⟩] := by
  unfold out0_3 Sum
  rw [acc60, acc54, acc47, acc40, acc36, acc30, acc23, acc17, w0, w1, w2, w3, w4, w5, w6, w7, w8, w9, w10, w11, w12, w13, w14, w15]

end Cert.Proof.NsaCmp
-- ==== Proof.CmpSides.lean ====
/- The sixteen heads of the compressed attention together, read at an index. -/
module

public import proofs.«01_k».proof.Proof.CmpHeads

@[expose] public section

set_option maxRecDepth 16384

noncomputable section

open Idealize.ShloMosaic Idealize.ShloMosaic.TcCoe Idealize.SL.Sem

namespace Cert.Proof.NsaCmp

open Cert.NsaCmpIdeal Cert.NsaCmpIdeal.Gen
open Cert.Proof.Cmp (vis kern)

variable (T : Fin 16 → FVec Ideal S256x64 .f32)

theorem Sum_at (z : Fin 1) (r : Fin 256) (n : Fin 64) : Sum T (ix3 z r n : S1x256x64.Idx) = ∑ h : Fin 16, T h (ix2 r n) := by
  have e : ∀ A B : FVec Ideal S256x64 .f32, k0_pay4 (F := Ideal) A B (ix3 z r n : S1x256x64.Idx) = A (ix2 r n) + B (ix2 r n) :=
    fun A B => by pointwise [k0_pay4]
  have e0 : k0_pay10 (F := Ideal) (ix2 r n : S256x64.Idx) = (0 : EReal) := by pointwise [k0_pay10]
  have ea : ∀ A B : FVec Ideal S256x64 .f32, addf A B (ix2 r n : S256x64.Idx) = (A (ix2 r n) + B (ix2 r n) : EReal) := fun A B => rfl
  unfold Sum
  rw [e, ea, ea, ea, ea, ea, ea, ea, ea, ea, ea, ea, ea, ea, ea, ea, e0, Fin.sum_univ_def]
  simp only [zero_add]
  simp only [List.finRange, List.ofFn_succ, List.ofFn_zero, List.map_cons, List.map_nil, List.sum_cons, List.sum_nil, add_zero, add_assoc]
  rfl

/-- The concatenation of the heads, as one list. -/
def Row : FVec Ideal S256x1024 .f32 :=
  concatenate S256x1024 1 (List.ofFn fun n : Fin 16 => (⟨S256x64, T n⟩ : (s : Shape) × (s.Idx → EReal)))
    concatenates_S256x64_S256x64_S256x64_S256x64_S256x64_S256x64_S256x64_S256x64_S256x64_S256x64_S256x64_S256x64_S256x64_S256x64_S256x64_S256x64_S256x1024_d1

theorem Side_row : Side T = shapeCast S1x256x1024 (Row T) shapeCasts_S256x1024_S1x256x1024 := rfl

theorem Row_at (r : Fin 256) (j : Fin 1024) :
    Row T (ix2 r j : S256x1024.Idx) = T ⟨(j : ℕ) / 64, by omega⟩ (ix2 r ⟨(j : ℕ) % 64, by omega⟩) := by
  refine concatenate_ofFn_apply (1 : Fin S256x1024.rank) T _ rfl 64 rfl _ _ rfl _ rfl ?_
  intro b hb
  fin_cases b
  · rfl
  · exact absurd rfl hb

theorem Side_at (z : Fin 1) (r : Fin 256) (j : Fin 1024) :
    Side T (ix3 z r j : S1x256x1024.Idx) = T ⟨(j : ℕ) / 64, by omega⟩ (ix2 r ⟨(j : ℕ) % 64, by omega⟩) := by
  refine Eq.trans ?_ (Row_at T r j)
  rw [Side_row]
  generalize Row T = X
  pointwise

end Cert.Proof.NsaCmp
-- ==== Proof.CmpRef.lean ====
/- The reference of the compressed attention read at an index: the masked softmax over the blocks, the weighted sum of the
   blocks' values, and the weights added up over the heads. -/
module

public import proofs.«01_k».proof.Proof.Gen.NsaCmpRefIdeal.Run
public import proofs.«01_k».proof.Proof.NsaSpec
public import proofs.«01_k».proof.Proof.RefAt
public import proofs.«01_k».proof.Proof.CmpRow
public import Idealize.ShloMosaic.Lib.WordCmp

@[expose] public section

set_option maxRecDepth 16384

noncomputable section

open Idealize.ShloMosaic Idealize.ShloMosaic.TcCoe Idealize.SL.Sem

namespace Cert.Proof.CmpRef

open Cert.NsaCmpRefIdeal Cert.NsaCmpRefIdeal.Gen
open Cert.Proof.MlaRef (max_last const_at)
open Cert.Proof.Cmp (vis soft)

/-- The mask. -/
def Mask : IVec S2x4096x16x64 1 :=
  broadcastInDim S2x4096x16x64 ![0, 1, 2, 3] bcast_S1x4096x1x64_S2x4096x16x64_0_1_2_3 (broadcastInDim S1x4096x1x64 ![1, 3] bcast_S4096x64_S1x4096x1x64_1_3 (cmpi .sle (broadcastInDim S4096x64 ![0, 1] bcast_S1x64_S4096x64_0_1 (broadcastInDim S1x64 ![1] bcast_S64_S1x64_1 (subi (muli (addi (iotaInDim S64 32 0) (broadcastInDim S64 ![] bcast_S_S64 (constantI S_ 32 1#32))) (broadcastInDim S64 ![] bcast_S_S64 (constantI S_ 32 64#32))) (broadcastInDim S64 ![] bcast_S_S64 (constantI S_ 32 1#32))))) (broadcastInDim S4096x64 ![0, 1] bcast_S4096x1_S4096x64_0_1 (broadcastInDim S4096x1 ![0] bcast_S4096_S4096x1_0 (iotaInDim S4096 32 0)))))

/-- The masked scores. -/
def Scores (A0 : FVec Ideal S2x4096x1024 .f32) (A1 : FVec Ideal S2x64x128 .f32) : FVec Ideal S2x4096x16x64 .f32 :=
  select Mask (mulf (Host.dotGeneral dot_S2x4096x16x64_S2x64x64_S2x4096x16x64_3_2_12_1_0_0 none (shapeCast S2x4096x16x64 A0 shapeCasts_S2x4096x1024_S2x4096x16x64) (extractStridedSlice S2x64x64 ![0, 0, 0] A1 slices_S2x64x128_S2x64x64_0_0_0)) (broadcastInDim S2x4096x16x64 ![] bcast_S_S2x4096x16x64 (constant S_ .f32 0x3E000000#32))) (broadcastInDim S2x4096x16x64 ![] bcast_S_S2x4096x16x64 (id (constant S_ .f32 0xFF800000#32)))

/-- The rows' maxima. -/
def RowMax (S : FVec Ideal S2x4096x16x64 .f32) : FVec Ideal S2x4096x16 .f32 :=
  Host.reduce FloatOps.maximumf S (constant S_ .f32 0xFF800000#32) reducesTo_S2x4096x16x64_S2x4096x16_d3 h_S_

/-- The exponentials of the scores over the rows' maxima `M`. -/
def Exps (S : FVec Ideal S2x4096x16x64 .f32) (M : FVec Ideal S2x4096x16 .f32) : FVec Ideal S2x4096x16x64 .f32 :=
  Host.exp (subf S (broadcastInDim S2x4096x16x64 ![0, 1, 2, 3] bcast_S2x4096x16x1_S2x4096x16x64_0_1_2_3 (broadcastInDim S2x4096x16x1 ![0, 1, 2] bcast_S2x4096x16_S2x4096x16x1_0_1_2 (maximumf (broadcastInDim S2x4096x16 ![] bcast_S_S2x4096x16 (constant S_ .f32 0xFF800000#32)) M))))

/-- The softmax weights, the masked ones zero. -/
def Weights (E : FVec Ideal S2x4096x16x64 .f32) : FVec Ideal S2x4096x16x64 .f32 :=
  select Mask (Host.divf E (broadcastInDim S2x4096x16x64 ![0, 1, 2, 3] bcast_S2x4096x16x1_S2x4096x16x64_0_1_2_3 (broadcastInDim S2x4096x16x1 ![0, 1, 2] bcast_S2x4096x16_S2x4096x16x1_0_1_2 (Host.reduceAdd E (constant S_ .f32 0x00000000#32) reducesTo_S2x4096x16x64_S2x4096x16_d3 h_S_)))) (broadcastInDim S2x4096x16x64 ![] bcast_S_S2x4096x16x64 (id (constant S_ .f32 0x00000000#32)))

/-- The weights from the arguments. -/
def All (A0 : FVec Ideal S2x4096x1024 .f32) (A1 : FVec Ideal S2x64x128 .f32) : FVec Ideal S2x4096x16x64 .f32 :=
  Weights (Exps (Scores A0 A1) (RowMax (Scores A0 A1)))

/-- The first result: the weighted sums of the values, the heads side by side. -/
def Mix (W : FVec Ideal S2x4096x16x64 .f32) (A1 : FVec Ideal S2x64x128 .f32) : FVec Ideal S2x4096x1024 .f32 :=
  shapeCast S2x4096x1024 (Host.dotGeneral dot_S2x4096x16x64_S2x64x64_S2x4096x16x64_3_1_12_2_0_0 none W (extractStridedSlice S2x64x64 ![0, 0, 64] A1 slices_S2x64x128_S2x64x64_0_0_64)) shapeCasts_S2x4096x16x64_S2x4096x1024

/-- The second: the weights added up over the heads. -/
def Imp (W : FVec Ideal S2x4096x16x64 .f32) : FVec Ideal S2x4096x64 .f32 :=
  Host.reduceAdd W (constant S_ .f32 0x00000000#32) reducesTo_S2x4096x16x64_S2x4096x64_d2 h_S_

/-- A block's last position, as a word. -/
theorem end_word (n : Fin 64) :
    IntOp.subi (IntOp.muli (IntOp.addi (BitVec.ofNat 32 n) 1#32) 64#32) 1#32 = BitVec.ofNat 32 (((n : ℕ) + 1) * 64 - 1) := by
  apply BitVec.eq_of_toNat_eq
  simp only [IntOp.addi, IntOp.subi, IntOp.muli, BitVec.toNat_add, BitVec.toNat_sub, BitVec.toNat_mul, BitVec.toNat_ofNat]
  omega

theorem before (q k : ℕ) (hq : q < 4096) (hk : k < 4096) :
    IntOp.cmpi CmpIPredicate.sle (BitVec.ofNat 32 k) (BitVec.ofNat 32 q) = BitVec.ofBool (decide (k ≤ q)) := by
  word_cmp

theorem Mask_at (b : Fin 2) (q : Fin 4096) (h : Fin 16) (n : Fin 64) :
    Mask (ix4 b q h n : S2x4096x16x64.Idx) = BitVec.ofBool (vis q n) := by
  pointwise [Mask]
  rw [end_word, before _ _ q.isLt (by omega)]
  rfl

/-- A score before the mask. -/
def raw (A0 : FVec Ideal S2x4096x1024 .f32) (A1 : FVec Ideal S2x64x128 .f32) (b : Fin 2) (q : Fin 4096) (h : Fin 16)
    (n : Fin 64) : EReal :=
  (∑ x : Fin 64, A0 (ix3 b q ⟨64 * (h : ℕ) + x, by omega⟩) * A1 (ix3 b n ⟨(x : ℕ), by omega⟩)) * Nsa.scale

/-- The masked score. -/
def sc (A0 : FVec Ideal S2x4096x1024 .f32) (A1 : FVec Ideal S2x64x128 .f32) (b : Fin 2) (q : Fin 4096) (h : Fin 16)
    (n : Fin 64) : EReal := if vis q n then raw A0 A1 b q h n else ⊥

theorem Scores_half (A0 : FVec Ideal S2x4096x1024 .f32) (A1 : FVec Ideal S2x64x128 .f32) (b : Fin 2) (q : Fin 4096)
    (h : Fin 16) (n : Fin 64) :
    Scores A0 A1 (ix4 b q h n : S2x4096x16x64.Idx) = sc A0 A1 b q h n := by
  unfold sc raw
  pointwise [Scores, Mask_at]
  simp only [Nat.mul_comm (h : ℕ) 64]
  cases vis q n
  · exact Spec.neg_inf
  · rfl

theorem RowMax_at (S : FVec Ideal S2x4096x16x64 .f32) (b : Fin 2) (q : Fin 4096) (h : Fin 16) :
    RowMax S (ix3 b q h : S2x4096x16.Idx) = Finset.univ.fold max ⊥ fun k => S (ix4 b q h k) := by
  unfold RowMax
  rw [max_last, const_at, Spec.neg_inf]

theorem Exps_at (S : FVec Ideal S2x4096x16x64 .f32) (M : FVec Ideal S2x4096x16 .f32) (b : Fin 2) (q : Fin 4096) (h : Fin 16)
    (n : Fin 64) :
    Exps S M (ix4 b q h n : S2x4096x16x64.Idx) = Ideal.exp (S (ix4 b q h n) - max ⊥ (M (ix3 b q h))) := by
  pointwise [Exps, Spec.neg_inf]

theorem Weights_at (E : FVec Ideal S2x4096x16x64 .f32) (b : Fin 2) (q : Fin 4096) (h : Fin 16) (n : Fin 64) :
    Weights E (ix4 b q h n : S2x4096x16x64.Idx)
      = if vis q n then Ideal.div (E (ix4 b q h n)) (∑ x, E (ix4 b q h x)) else 0 := by
  pointwise [Weights, Mask_at]
  cases vis q n
  · exact Ideal.ofBits_zero .f32
  · rfl

theorem All_at (A0 : FVec Ideal S2x4096x1024 .f32) (A1 : FVec Ideal S2x64x128 .f32) (b : Fin 2) (q : Fin 4096) (h : Fin 16)
    (n : Fin 64) :
    All A0 A1 (ix4 b q h n : S2x4096x16x64.Idx) = soft (vis q) (sc A0 A1 b q h) n := by
  unfold All soft
  simp only [Weights_at, Exps_at, RowMax_at, Scores_half]

theorem Mix_at (W : FVec Ideal S2x4096x16x64 .f32) (A1 : FVec Ideal S2x64x128 .f32) (b : Fin 2) (q : Fin 4096) (j : Fin 1024) :
    Mix W A1 (ix3 b q j : S2x4096x1024.Idx)
      = ∑ n : Fin 64, W (ix4 b q ⟨(j : ℕ) / 64, by omega⟩ n) * A1 (ix3 b n ⟨64 + (j : ℕ) % 64, by omega⟩) := by
  pointwise [Mix]

theorem Imp_at (W : FVec Ideal S2x4096x16x64 .f32) (b : Fin 2) (q : Fin 4096) (n : Fin 64) :
    Imp W (ix3 b q n : S2x4096x64.Idx) = ∑ h : Fin 16, W (ix4 b q h n) := by
  pointwise [Imp]

theorem res0_eq (m : (ℓ : Loc nD τ sig) → Buf (Elt Ideal) ℓ) (c : Dev nD) :
    Cert.NsaCmpRefIdeal.Value.res_main_v34 (F := Ideal) m c
      = Mix (All (m ((c.tc : Thread nD τ).loc main_arg0)) (m ((c.tc : Thread nD τ).loc main_arg1)))
          (m ((c.tc : Thread nD τ).loc main_arg1)) := rfl

theorem res1_eq (m : (ℓ : Loc nD τ sig) → Buf (Elt Ideal) ℓ) (c : Dev nD) :
    Cert.NsaCmpRefIdeal.Value.res_main_v35 (F := Ideal) m c
      = Imp (All (m ((c.tc : Thread nD τ).loc main_arg0)) (m ((c.tc : Thread nD τ).loc main_arg1))) := rfl

end Cert.Proof.CmpRef
-- ==== Proof.CmpFinal.lean ====
/- The compressed attention's two programs return the same two arrays. -/
module

public import proofs.«01_k».proof.Proof.CmpSides
public import proofs.«01_k».proof.Proof.CmpRef

@[expose] public section

set_option maxRecDepth 16384

noncomputable section

open Idealize.ShloMosaic Idealize.ShloMosaic.TcCoe Idealize.SL.Sem
open Idealize.ShloMosaic.Pipeline (Dat)

namespace Cert.Proof.NsaCmp

open Cert.NsaCmpIdeal Cert.NsaCmpIdeal.Gen
open Cert.Proof.Cmp (vis kern soft)
open Cert.Proof.Masked (score)

theorem ld0 (x0 : Vec Ideal S1x256x1024 .f32) : View.ld x0 r0_1 = x0 := by frame_out
theorem ld1 (x1 : Vec Ideal S1x64x128 .f32) : View.ld x1 r0_0 = x1 := by frame_out

theorem HW_at (i : grid0.Coords) (x0 : Vec Ideal S1x256x1024 .f32) (x1 : Vec Ideal S1x64x128 .f32) (h : Fin 16)
    (r : Fin 256) (n : Fin 64) :
    HW i x0 x1 h (ix2 r n : S256x64.Idx)
      = kern (vis (256 * ((i 1).val) + r)) (fun j => if vis (256 * ((i 1).val) + r) j then raw x0 x1 r h j else ⊥) n := by
  unfold HW Pw
  rw [ld0, ld1, pay1_at]
  simp only [Sc_at]

theorem HO_at (i : grid0.Coords) (x0 : Vec Ideal S1x256x1024 .f32) (x1 : Vec Ideal S1x64x128 .f32) (h : Fin 16)
    (r : Fin 256) (d : Fin 64) :
    HO i x0 x1 h (ix2 r d : S256x64.Idx)
      = ∑ n : Fin 64, HW i x0 x1 h (ix2 r n) * (x1 (ix3 0 n ⟨64 + (d : ℕ), by omega⟩) : EReal) := by
  unfold HO
  rw [pay2_at, ld1]

variable (m : (ℓ : Loc nD τ sig) → Buf (Elt Ideal) ℓ) (c : Dev nD)

/-- The two arguments: the queries, and the blocks' compressed keys and values. -/
abbrev A0 : FVec Ideal S2x4096x1024 .f32 := m ((c.tc : Thread nD τ).loc main_arg0)
abbrev A1 : FVec Ideal S2x64x128 .f32 := m ((c.tc : Thread nD τ).loc main_arg1)

/-- The queries and the keys are numbers. -/
structure Known : Prop where
  q : ∀ (b : Fin 2) (q : Fin 4096) (j : Fin 1024), A0 m c (ix3 b q j) = ((A0 m c (ix3 b q j)).toReal : EReal)
  k : ∀ (b : Fin 2) (n : Fin 64) (d : Fin 64), A1 m c (ix3 b n ⟨d, by omega⟩) = ((A1 m c (ix3 b n ⟨d, by omega⟩)).toReal : EReal)

theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, t.val % 16, 0]
    ∧ ((grid0.coords t) 1).val = t.val % 16 := (by decide +kernel : ∀ t : Fin grid0.N, _)

theorem lt (t : Fin cfg0.N) : t.val < 32 := t.isLt

/-- The point's batch entry, and the query of a row of its block. -/
def bat (t : Fin cfg0.N) : Fin 2 := ⟨t.val / 16, by have := lt t; omega⟩
def qry (t : Fin cfg0.N) (r : Fin 256) : Fin 4096 := ⟨256 * (t.val % 16) + r, by omega⟩

abbrev B0 (t : Fin cfg0.N) : FVec Ideal S1x256x1024 .f32 := iblk m c 0 t
abbrev B1 (t : Fin cfg0.N) : FVec Ideal S1x64x128 .f32 := iblk m c 1 t

theorem B0_at (t : Fin cfg0.N) (r : Fin 256) (j : Fin 1024) : B0 m c t (ix3 0 r j) = A0 m c (ix3 (bat t) (qry t r) j) := by
  blk_simp [iblk, idx t]
  blk_ext [idx t]
  all_goals first | rfl | (dsimp only [bat, qry]; omega)

theorem B1_at (t : Fin cfg0.N) (n : Fin 64) (d : Fin 128) : B1 m c t (ix3 0 n d) = A1 m c (ix3 (bat t) n d) := by
  blk_simp [iblk, idx t]
  blk_ext [idx t]
  all_goals first | rfl | (dsimp only [bat]; omega)

theorem raw_at (t : Fin cfg0.N) (r : Fin 256) (h : Fin 16) (n : Fin 64) :
    raw (B0 m c t) (B1 m c t) r h n = CmpRef.raw (A0 m c) (A1 m c) (bat t) (qry t r) h n := by
  unfold raw CmpRef.raw
  simp only [B0_at, B1_at]

variable {m c} in
/-- A score of numbers is a number. -/
theorem raw_real (K : Known m c) (b : Fin 2) (q : Fin 4096) (h : Fin 16) (n : Fin 64) :
    ∃ x : ℝ, CmpRef.raw (A0 m c) (A1 m c) b q h n = (x : EReal) := by
  refine ⟨(∑ x : Fin 64, (A0 m c (ix3 b q ⟨64 * (h : ℕ) + x, by omega⟩)).toReal * (A1 m c (ix3 b n ⟨(x : ℕ), by omega⟩)).toReal)
    * Nsa.scale.toReal, ?_⟩
  unfold CmpRef.raw
  rw [EReal.coe_mul, Nsa.scale_toReal, Cert.Proof.Softmax.coe_sum]
  congr 1
  refine Finset.sum_congr rfl fun x _ => ?_
  rw [EReal.coe_mul, ← K.q, ← K.k b n x]

variable {m c} in
/-- The kernel's weights are the reference's. -/
theorem weight (K : Known m c) (t : Fin cfg0.N) (h : Fin 16) (r : Fin 256) (n : Fin 64) :
    HW (grid0.coords t) (B0 m c t) (B1 m c t) h (ix2 r n : S256x64.Idx)
      = CmpRef.All (A0 m c) (A1 m c) (ix4 (bat t) (qry t r) h n) := by
  choose x hx using raw_real K (bat t) (qry t r) h
  rw [HW_at, CmpRef.All_at, (idx t).2.2.2.2]
  simp only [raw_at]
  refine Cmp.kern_eq_soft (vis (qry t r)) (fun k => if hk : k < 64 then x ⟨k, hk⟩ else 0) _ (fun j => ?_) n
  unfold score
  dsimp only [qry] at hx ⊢
  rw [dif_pos j.isLt]
  exact congrArg (fun y => if vis (256 * (t.val % 16) + r) j = true then y else ⊥) (hx j)

variable {m c} in
/-- The first result. -/
theorem final0 (K : Known m c) : (dats m 0 c).arrAt 2 (cfgs 0).N = CmpRef.Mix (CmpRef.All (A0 m c) (A1 m c)) (A1 m c) := by
  refine (dats m 0 c).arrAt_eq_of_covers 2 _ (by decide +kernel) fun t hf y => ?_
  blk_simp
  rw [after0_2, out2_eq]; frame_out
  idx_vars y
  have e : ((View.whole main_v0_0).slice (win0_2.rect t)).emb (ix3 y0 y1 y2) = ix3 (bat t) (qry t y1) y2 := by
    blk_ext [idx t]
    all_goals first | rfl | (dsimp only [bat, qry]; omega)
  rw [e]
  refine (Side_at _ _ _ _).trans ((HO_at _ _ _ _ _ _).trans (Eq.trans ?_ (CmpRef.Mix_at _ _ _ _ _).symm))
  exact Finset.sum_congr rfl fun n _ => congrArg₂ (· * ·) (weight K t _ y1 n) (B1_at m c t n _)

variable {m c} in
/-- The second. -/
theorem final1 (K : Known m c) : (dats m 0 c).arrAt 3 (cfgs 0).N = CmpRef.Imp (CmpRef.All (A0 m c) (A1 m c)) := by
  refine (dats m 0 c).arrAt_eq_of_covers 3 _ (by decide +kernel) fun t hf y => ?_
  blk_simp
  rw [after0_3, out3_eq]; frame_out
  idx_vars y
  have e : ((View.whole main_v0_1).slice (win0_3.rect t)).emb (ix3 y0 y1 y2) = ix3 (bat t) (qry t y1) y2 := by
    blk_ext [idx t]
    all_goals first | rfl | (dsimp only [bat, qry]; omega)
  rw [e]
  refine (Sum_at _ _ _ _).trans (Eq.trans ?_ (CmpRef.Imp_at _ _ _ _).symm)
  exact Finset.sum_congr rfl fun h _ => weight K t h y1 y2

end Cert.Proof.NsaCmp
-- ==== Proof.CmpKnown.lean ====
/- The precondition of the compressed attention read: every entry of the queries and of the keys is a real number. -/
module

public import proofs.«01_k».proof.Proof.Gen.Pre_known
public import proofs.«01_k».proof.Proof.Finite
public import proofs.«01_k».proof.Proof.Spec
public import Idealize.ShloMosaic.Lib.Pointwise

@[expose] public section

noncomputable section

open Idealize.ShloMosaic

namespace Cert.Proof.CmpKnown

open Cert.Pre_known Cert.Pre_known.Gen

/-- The keys: the first half of each row. -/
theorem keys_at (a1 : FVec Ideal S2x64x128 .f32) (b : Fin 2) (n d : Fin 64) :
    extractStridedSlice S2x64x64 ![0, 0, 0] a1 slices_S2x64x128_S2x64x64_0_0_0 (ix3 b n d : S2x64x64.Idx)
      = a1 (ix3 b n ⟨d, by omega⟩) := by
  pointwise

theorem of_known {a0 : FVec Ideal S2x4096x1024 .f32} {a1 : FVec Ideal S2x64x128 .f32}
    (h : Cert.Pre_known.fn (F := Ideal) a0 a1 = fun _ => 1#1) :
    Spec.Finite a0 ∧ ∀ (b : Fin 2) (n d : Fin 64), a1 (ix3 b n ⟨d, by omega⟩) = ((a1 (ix3 b n ⟨d, by omega⟩)).toReal : EReal) := by
  have j : S_.Idx := fun a => a.elim0
  obtain ⟨h0, h1⟩ := Finite.both_set _ _ (congrFun h j)
  refine ⟨Finite.all_real _ _ _ _ j h0, fun b n d => ?_⟩
  have hk := Finite.all_real _ _ _ _ j h1
  rw [← keys_at a1 b n d]
  exact (hk.toReal _).symm

end Cert.Proof.CmpKnown
-- ==== Proof.NsaCmpClaims.lean ====
/- The claims about the compressed attention. -/
module

public import proofs.«01_k».proof.Defs
public import proofs.«01_k».proof.Proof.Gen.NsaCmp.Frame
public import proofs.«01_k».proof.Proof.Gen.NsaCmpIdeal.Value
public import proofs.«01_k».proof.Proof.Gen.NsaCmpRefIdeal.Run
public import proofs.«01_k».proof.Proof.Gen.Pre_known
public import proofs.«01_k».proof.Proof.CmpFinal
public import proofs.«01_k».proof.Proof.CmpKnown
public import Idealize.ShloMosaic.Lib.Quiescent

@[expose] public section

noncomputable section

open Idealize.ShloMosaic Idealize.ShloMosaic.TcCoe Idealize.SL.Sem

namespace Cert.Proof.NsaCmpClaims

theorem frame_p : Cert.quiescent_NsaCmp := fun m ρ _ => Cert.NsaCmp.Gen.frame m ρ
theorem frame_pi : Cert.quiescent_NsaCmpIdeal := fun m ρ _ => Cert.NsaCmpIdeal.Gen.frame m ρ
theorem frame_pi_known : Cert.quiescent_NsaCmpIdeal_pre_known := fun m ρ _ => Cert.NsaCmpIdeal.Gen.frame m ρ

/-- The reference runs, its arguments end unchanged, and it has no semaphores. -/
theorem frame_ri : Cert.quiescent_NsaCmpRefIdeal := fun m ρ _ =>
  (θ_run Cert.NsaCmpRefIdeal.defs _ _).mono (fun r h => ⟨fun c => (h c).2.2, sem_eq_zero_of_no_sems (by decide) r.2⟩)
    (Cert.NsaCmpRefIdeal.Value.run (F := Ideal) m ρ)
theorem frame_ri_known : Cert.quiescent_NsaCmpRefIdeal_pre_known := fun m ρ _ => frame_ri m ρ trivial

/-- The one rewritten constant: the mask, which stands for minus infinity. -/
theorem preserves : Cert.preserves_NsaCmp_NsaCmpIdeal :=
  IdealRules.named_const.statement Cert.NsaCmpIdeal.κ "mask" .f32 0xF149F2CA#32 ⊥ rfl

/-- With queries and keys that are numbers both results are equal. -/
theorem algebraic : Cert.algebraic_NsaCmpIdeal_NsaCmpRefIdeal_pre_known := by
  intro m g m' g' hp hag
  refine ⟨fun c => CmpRef.Mix (CmpRef.All (NsaCmp.A0 m c) (NsaCmp.A1 m c)) (NsaCmp.A1 m c),
    fun c => CmpRef.Imp (CmpRef.All (NsaCmp.A0 m c) (NsaCmp.A1 m c)), ?_, ?_⟩
  · refine (θ_run Cert.NsaCmpIdeal.defs _ _).mono (fun _ h c => ?_) (Cert.NsaCmpIdeal.Value.run_blocks m g)
    obtain ⟨h0, h1⟩ := CmpKnown.of_known (hp c)
    have K : NsaCmp.Known m c := ⟨fun b q j => (h0.toReal _).symm, h1⟩
    exact ⟨(h c).1.trans (NsaCmp.final0 K), (h c).2.1.trans (NsaCmp.final1 K), (h c).2.2⟩
  · refine (θ_run Cert.NsaCmpRefIdeal.defs _ _).mono (fun _ h c => ?_) (Cert.NsaCmpRefIdeal.Value.run (F := Ideal) m' g')
    obtain ⟨e0, e1⟩ := hag c
    refine ⟨(h c).1.trans ((CmpRef.res0_eq m' c).trans ?_), (h c).2.1.trans ((CmpRef.res1_eq m' c).trans ?_), (h c).2.2⟩
    · rw [e0, e1]
    · rw [e0, e1]

end Cert.Proof.NsaCmpClaims
-- ==== Proof.MoeRun.lean ====
/- The experts' run on machine words: from tables whose words lie in their ranges the launch ends, with the arguments unchanged. -/
module

public import proofs.«01_k».proof.Proof.Gen.Moe.Flash.Runs
public import Idealize.ShloMosaic.Lib.Pipeline.Quiescent
public import Idealize.ShloMosaic.Lib.Claim

@[expose] public section

set_option maxRecDepth 16384
set_option Elab.async false

noncomputable section

namespace Cert.Proof.MoeRun

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model. -/
abbrev MM := MT nD τ sig Unit (Elt Bits) ℕ (UR sig nD τ) ℕ

/-- The rounds library's algebra, for the staging cells. -/
abbrev EM : Emb (UR sig nD τ) MM := emb₁

/-! ## The tables -/

/-- The tables' words are in range: a block's expert is one of the 32, the count of blocks in use is in 1 .. 168. -/
def Good (T0 : S168.Idx → BitVec 32) (T1 : S1.Idx → BitVec 32) : Prop :=
  (∀ x, (T0 x).toNat < 32) ∧ ∀ x, 1 ≤ (T1 x).toNat ∧ (T1 x).toNat ≤ 168

/-- The two tables as the launch's contents. -/
def tabs (T0 : S168.Idx → BitVec 32) (T1 : S1.Idx → BitVec 32) : pre0.Contents (Elt Bits) :=
  fun | ⟨0, _⟩ => T0 | ⟨1, _⟩ => T1 | ⟨_ + 2, h⟩ => absurd h (by simp)

/-- The block of rows a point reads: its own, or the last one in use. -/
theorem rows_lt (i : grid0.Coords) (n : BitVec 32) (h : 1 ≤ n.toNat ∧ n.toNat ≤ 168) :
    (Scalar.minsi (BitVec.ofNat 32 (i 0).val) (Scalar.subi n 1#32)).toNat < 168 := by
  have hi : (i 0).val < 168 := (i 0).isLt
  unfold Scalar.minsi IntOp.minsi
  split
  · rw [BitVec.toNat_ofNat]; omega
  · show (n - 1#32).toNat < 168
    rw [BitVec.toNat_sub]; simp only [BitVec.toNat_ofNat]; omega

/-- Tables in range are admissible: every block read lies in its array. -/
theorem ok_of (T0 : S168.Idx → BitVec 32) (T1 : S1.Idx → BitVec 32) (h : Good T0 T1) : ok0 (F := Bits) (tabs T0 T1) := by
  refine ⟨fun i => ⟨fun a => ?_, .inr (Affine.block_words_dvd (s := S43008x2048) (p := EltTy.packing .bf16) (by decide) (by decide))⟩,
    fun i => ⟨fun a => ?_, .inl rfl⟩,
    fun i => ⟨fun a => ?_, .inr (Affine.block_words_dvd (s := S32x2048x1536) (p := EltTy.packing .bf16) (by decide) (by decide))⟩,
    fun i => ⟨fun a => ?_, .inl rfl⟩,
    fun i => ⟨fun a => ?_, .inr (Affine.block_words_dvd (s := S32x768x2048) (p := EltTy.packing .bf16) (by decide) (by decide))⟩,
    fun i => ⟨fun a => ?_, .inl rfl⟩⟩
  · match a with
    | 0 => have := rows_lt i _ (h.2 ((Rect.unit (s := S1) ![0] S1.size inb_S1_S1_0).emb (Shape.Idx.first (numel1_S1.symm ▸ Nat.one_pos))))
           exact (show (_ + 1) * 256 ≤ 43008 from Nat.mul_le_mul_right 256 this)
    | 1 => exact (by decide : ((0#32).toNat + 1) * 2048 ≤ 2048)
  · match a with
    | 0 => have := rows_lt i _ (h.2 ((Rect.unit (s := S1) ![0] S1.size inb_S1_S1_0).emb (Shape.Idx.first (numel1_S1.symm ▸ Nat.one_pos))))
           exact (show (_ + 1) * 256 ≤ 43008 from Nat.mul_le_mul_right 256 this)
    | 1 => exact (by decide : ((0#32).toNat + 1) * 1 ≤ 1)
  · match a with
    | 0 => exact (show (_ + 1) * 1 ≤ 32 from Nat.mul_le_mul_right 1 (h.1 _))
    | 1 => exact (by decide : ((0#32).toNat + 1) * 2048 ≤ 2048)
    | 2 => exact (by decide : ((0#32).toNat + 1) * 1536 ≤ 1536)
  · match a with
    | 0 => exact (show (_ + 1) * 1 ≤ 32 from Nat.mul_le_mul_right 1 (h.1 _))
    | 1 => exact (by decide : ((0#32).toNat + 1) * 1 ≤ 1)
    | 2 => exact (by decide : ((0#32).toNat + 1) * 1536 ≤ 1536)
  · match a with
    | 0 => exact (show (_ + 1) * 1 ≤ 32 from Nat.mul_le_mul_right 1 (h.1 _))
    | 1 => exact (by decide : ((0#32).toNat + 1) * 768 ≤ 768)
    | 2 => exact (by decide : ((0#32).toNat + 1) * 2048 ≤ 2048)
  · match a with
    | 0 => exact (show (_ + 1) * 1 ≤ 32 from Nat.mul_le_mul_right 1 (h.1 _))
    | 1 => exact (by decide : ((0#32).toNat + 1) * 1 ≤ 1)
    | 2 => exact (by decide : ((0#32).toNat + 1) * 2048 ≤ 2048)

/-- One of the body's two branches runs, and not both. -/
theorem conds (i : grid0.Coords) (v : BitVec 32) :
    (k0_cond1 i v = 1#1 → ¬ k0_cond2 i v = 1#1) ∧ (¬ k0_cond1 i v = 1#1 → k0_cond2 i v = 1#1) := by
  have key : ∀ b : Bool, ((BitVec.ofBool ((BitVec.ofBool b).setWidth 32 != 0#32)) = 1#1 ↔ b = true) := by decide
  have h1 : k0_cond1 i v = 1#1 ↔ (BitVec.ofNat 32 (i 0).val).slt v = true := key _
  have h2 : k0_cond2 i v = 1#1 ↔ v.sle (BitVec.ofNat 32 (i 0).val) = true := key _
  rw [h1, h2]
  have e : v.sle (BitVec.ofNat 32 (i 0).val) = !(BitVec.ofNat 32 (i 0).val).slt v := by
    simp only [BitVec.sle, BitVec.slt]; rw [← decide_not]; simp only [not_lt]
  rw [e]; cases (BitVec.ofNat 32 (i 0).val).slt v <;> decide

variable (T0 : S168.Idx → BitVec 32) (T1 : S1.Idx → BitVec 32) (g : Good T0 T1)

/-- The pipeline at the tables. -/
def adm : (pcfg0 (F := Bits)).Adm := ⟨tabs T0 T1, ok_of T0 T1 g⟩
abbrev cfgA : Pipeline.Cfg sig Λ₀ := cfg0 (F := Bits) (adm T0 T1 g)
abbrev pcs : Fin 1 → Pipeline.Cfg sig Λ₀ := Pipeline.pin (pcfgs (F := Bits)) fun _ => adm T0 T1 g

variable (m : (ℓ : Loc nD τ sig) → Buf (Elt Bits) ℓ) (ρ : Dev nD → PrngReg)

/-- A point's coordinates. -/
abbrev crd (t : Fin (cfgA T0 T1 g).N) : (cfgA T0 T1 g).grid.Coords := (cfgA T0 T1 g).grid.coords t

/-- Each window's staging buffer at a point, and that it is whole. -/
abbrev ms0_0 (t : Fin (cfgA T0 T1 g).N) : Memref sig .tc .vmem S256x2048 .bf16 := spec0_0.stage ((cfgA T0 T1 g).slots t (0 : Fin 7))
abbrev hs0_0 (t : Fin (cfgA T0 T1 g).N) : (ms0_0 T0 T1 g t).IsWhole := hstage0_0 (((cfgA T0 T1 g).slots t (0 : Fin 7)).cast nbuf0_0)
abbrev ms0_1 (t : Fin (cfgA T0 T1 g).N) : Memref sig .tc .vmem S256x1 .f32 := spec0_1.stage ((cfgA T0 T1 g).slots t (1 : Fin 7))
abbrev hs0_1 (t : Fin (cfgA T0 T1 g).N) : (ms0_1 T0 T1 g t).IsWhole := hstage0_1 (((cfgA T0 T1 g).slots t (1 : Fin 7)).cast nbuf0_1)
abbrev ms0_2 (t : Fin (cfgA T0 T1 g).N) : Memref sig .tc .vmem S1x2048x1536 .bf16 := spec0_2.stage ((cfgA T0 T1 g).slots t (2 : Fin 7))
abbrev hs0_2 (t : Fin (cfgA T0 T1 g).N) : (ms0_2 T0 T1 g t).IsWhole := hstage0_2 (((cfgA T0 T1 g).slots t (2 : Fin 7)).cast nbuf0_2)
abbrev ms0_3 (t : Fin (cfgA T0 T1 g).N) : Memref sig .tc .vmem S1x1x1536 .f32 := spec0_3.stage ((cfgA T0 T1 g).slots t (3 : Fin 7))
abbrev hs0_3 (t : Fin (cfgA T0 T1 g).N) : (ms0_3 T0 T1 g t).IsWhole := hstage0_3 (((cfgA T0 T1 g).slots t (3 : Fin 7)).cast nbuf0_3)
abbrev ms0_4 (t : Fin (cfgA T0 T1 g).N) : Memref sig .tc .vmem S1x768x2048 .bf16 := spec0_4.stage ((cfgA T0 T1 g).slots t (4 : Fin 7))
abbrev hs0_4 (t : Fin (cfgA T0 T1 g).N) : (ms0_4 T0 T1 g t).IsWhole := hstage0_4 (((cfgA T0 T1 g).slots t (4 : Fin 7)).cast nbuf0_4)
abbrev ms0_5 (t : Fin (cfgA T0 T1 g).N) : Memref sig .tc .vmem S1x1x2048 .f32 := spec0_5.stage ((cfgA T0 T1 g).slots t (5 : Fin 7))
abbrev hs0_5 (t : Fin (cfgA T0 T1 g).N) : (ms0_5 T0 T1 g t).IsWhole := hstage0_5 (((cfgA T0 T1 g).slots t (5 : Fin 7)).cast nbuf0_5)
abbrev ms0_6 (t : Fin (cfgA T0 T1 g).N) : Memref sig .tc .vmem S256x2048 .f32 := spec0_6.stage ((cfgA T0 T1 g).slots t (6 : Fin 7))
abbrev hs0_6 (t : Fin (cfgA T0 T1 g).N) : (ms0_6 T0 T1 g t).IsWhole := hstage0_6 (((cfgA T0 T1 g).slots t (6 : Fin 7)).cast nbuf0_6)

/-- A window's block at a point, read off its array at launch. -/
def iblk (c : Dev nD) (w : Fin (cfgA T0 T1 g).W) (t : Fin (cfgA T0 T1 g).N) : (((cfgA T0 T1 g).win w).xblock (crd T0 T1 g t)).Idx → Elt Bits ((cfgA T0 T1 g).win w).elt :=
  (((cfgA T0 T1 g).win w).blk t).view.read (Elt Bits) ((s₀ m ρ).mem (((cfgA T0 T1 g).win w).arr.view.loc (c : Thread nD τ)))

/-- The count of blocks in use, as the body reads it. -/
abbrev used (T1 : S1.Idx → BitVec 32) : BitVec 32 :=
  View.readAt (Elt Bits) (tbM0_1).view (Rect.unit (s := S1) ![0] S1.size inb_S1_S1_0).toLoadRect T1 (Shape.Idx.first (numel1_S1.symm ▸ Nat.one_pos))

/-- The point's block is in use. -/
abbrev InUse (t : Fin (cfgA T0 T1 g).N) : Prop := k0_cond1 (crd T0 T1 g t) (used T1) = 1#1

/-! ## The output's schedule: stored at every point, and written back after every point -/

theorem idle6 (t : Fin (cfgA T0 T1 g).N) : (cfgA T0 T1 g).idle (6 : Fin 7) ((cfgA T0 T1 g).grid.coords t) = false := by
  show idle0 (F := Bits) (tabs T0 T1) 6 _ = false
  have h := conds ((cfgA T0 T1 g).grid.coords t) ((tabs T0 T1).atD 1 ![0])
  show (!(k0_cond1 _ _ == 1#1) && !(k0_cond2 _ _ == 1#1)) = false
  by_cases q : k0_cond1 ((cfgA T0 T1 g).grid.coords t) ((tabs T0 T1).atD 1 ![0]) = 1#1
  · rw [beq_iff_eq.2 q]; rfl
  · rw [beq_iff_eq.2 (h.2 q), Bool.not_true, Bool.and_false]

theorem flush6 (t : Fin (cfgA T0 T1 g).N) : ((cfgA T0 T1 g).win (6 : Fin 7)).flush t = true :=
  (by decide +kernel : ∀ t : Fin grid0.N, Pipeline.Window.flushOf grid0 true cc0_transform_6 t = true) t

theorem fresh6 (t : Fin (cfgA T0 T1 g).N) : (cfgA T0 T1 g).fresh (6 : Fin 7) t.val = true :=
  Pipeline.Cfg.fresh_tab (cfgA T0 T1 g) (6 : Fin 7) (fun _ => true) rfl
    (fun t => by rw [flush6]; rfl) t.val (Nat.le_of_lt t.isLt)

/-! ## The proof data -/

/-- What a point leaves in the output's buffer. -/
def left (c : Dev nD) (t : Fin (cfgA T0 T1 g).N) : S256x2048.Idx → Elt Bits .f32 :=
  if q : InUse T0 T1 g t then
    out0_A_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q)
  else
    out0_B_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q)

theorem left_A (c : Dev nD) (t : Fin (cfgA T0 T1 g).N) (q : InUse T0 T1 g t) :
    left T0 T1 g m ρ c t = out0_A_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q) := by
  unfold left; rw [dif_pos q]

theorem left_B (c : Dev nD) (t : Fin (cfgA T0 T1 g).N) (q : ¬ InUse T0 T1 g t) :
    left T0 T1 g m ρ c t = out0_B_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q) := by
  unfold left; rw [dif_neg q]

/-- Between points: the body's halves of the tables. -/
def Phi (c : Dev nD) : sProp MM :=
  iprop((tbM0_0.view.loc (c : Thread nD τ) ↦{fullShare.right} T0) ∗ (tbM0_1.view.loc (c : Thread nD τ) ↦{fullShare.right} T1))

/-- The proof data on a core. -/
def dats (_ : Fin 1) (c : Dev nD) : Dat τ (Elt Bits) Unit ℕ (UR sig nD τ) ℕ (cfgA T0 T1 g) c where
  A w := (s₀ m ρ).mem (((cfgA T0 T1 g).win w).arr.view.loc (c : Thread nD τ))
  after w t := match w with
    | ⟨0, _⟩ => iblk T0 T1 g m ρ c (0 : Fin 7) t
    | ⟨1, _⟩ => iblk T0 T1 g m ρ c (1 : Fin 7) t
    | ⟨2, _⟩ => iblk T0 T1 g m ρ c (2 : Fin 7) t
    | ⟨3, _⟩ => iblk T0 T1 g m ρ c (3 : Fin 7) t
    | ⟨4, _⟩ => iblk T0 T1 g m ρ c (4 : Fin 7) t
    | ⟨5, _⟩ => iblk T0 T1 g m ρ c (5 : Fin 7) t
    | ⟨6, _⟩ => left T0 T1 g m ρ c t
  Φ t := Phi T0 T1 c
  q _ := fullShare
  owed _ := 0

theorem after0_0 (c : Dev nD) (t : Fin (cfgA T0 T1 g).N) : (dats T0 T1 g m ρ 0 c).after (0 : Fin 7) t = iblk T0 T1 g m ρ c (0 : Fin 7) t := rfl
theorem after0_1 (c : Dev nD) (t : Fin (cfgA T0 T1 g).N) : (dats T0 T1 g m ρ 0 c).after (1 : Fin 7) t = iblk T0 T1 g m ρ c (1 : Fin 7) t := rfl
theorem after0_2 (c : Dev nD) (t : Fin (cfgA T0 T1 g).N) : (dats T0 T1 g m ρ 0 c).after (2 : Fin 7) t = iblk T0 T1 g m ρ c (2 : Fin 7) t := rfl
theorem after0_3 (c : Dev nD) (t : Fin (cfgA T0 T1 g).N) : (dats T0 T1 g m ρ 0 c).after (3 : Fin 7) t = iblk T0 T1 g m ρ c (3 : Fin 7) t := rfl
theorem after0_4 (c : Dev nD) (t : Fin (cfgA T0 T1 g).N) : (dats T0 T1 g m ρ 0 c).after (4 : Fin 7) t = iblk T0 T1 g m ρ c (4 : Fin 7) t := rfl
theorem after0_5 (c : Dev nD) (t : Fin (cfgA T0 T1 g).N) : (dats T0 T1 g m ρ 0 c).after (5 : Fin 7) t = iblk T0 T1 g m ρ c (5 : Fin 7) t := rfl
theorem after0_6 (c : Dev nD) (t : Fin (cfgA T0 T1 g).N) : (dats T0 T1 g m ρ 0 c).after (6 : Fin 7) t = left T0 T1 g m ρ c t := rfl

/-- What each staging buffer holds when the body runs: an input its block, -/
theorem before0_0 (c : Dev nD) (t : Fin (cfgA T0 T1 g).N) (d) : (dats T0 T1 g m ρ 0 c).before (0 : Fin 7) t d = iblk T0 T1 g m ρ c (0 : Fin 7) t :=
  ((dats T0 T1 g m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 g).N) (d) : (dats T0 T1 g m ρ 0 c).before (1 : Fin 7) t d = iblk T0 T1 g m ρ c (1 : Fin 7) t :=
  ((dats T0 T1 g m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 g).N) (d) : (dats T0 T1 g m ρ 0 c).before (2 : Fin 7) t d = iblk T0 T1 g m ρ c (2 : Fin 7) t :=
  ((dats T0 T1 g m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 g).N) (d) : (dats T0 T1 g m ρ 0 c).before (3 : Fin 7) t d = iblk T0 T1 g m ρ c (3 : Fin 7) t :=
  ((dats T0 T1 g m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T0 T1 g).N) (d) : (dats T0 T1 g m ρ 0 c).before (4 : Fin 7) t d = iblk T0 T1 g m ρ c (4 : Fin 7) t :=
  ((dats T0 T1 g m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA T0 T1 g).N) (d) : (dats T0 T1 g m ρ 0 c).before (5 : Fin 7) t d = iblk T0 T1 g m ρ c (5 : Fin 7) t :=
  ((dats T0 T1 g m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)
/-- and the output anything. -/
theorem before0_6 (c : Dev nD) (t : Fin (cfgA T0 T1 g).N) (d) : (dats T0 T1 g m ρ 0 c).before (6 : Fin 7) t d = d := by
  rw [(dats T0 T1 g m ρ 0 c).before_out_traj (6 : Fin 7) rfl (fun _ _ => rfl)
    (fun t _ hi _ => absurd hi (by rw [idle6]; decide)) t.val t rfl d, fresh6 T0 T1 g t]
  rfl

/-! ## The body at a point -/

/-- The body on its staging buffers. -/
abbrev bodyAt0 (t : Fin (cfgA T0 T1 g).N) : Prog (TpuEff nD τ sig (Elt Bits) Λ₀ .tc) PUnit :=
  cc0_moe_experts (crd T0 T1 g t) (Memref.whole main_arg0) (Memref.isWhole_whole _) (Memref.whole main_arg1) (Memref.isWhole_whole _) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t)

set_option maxHeartbeats 4000000 in
/-- From the blocks and the tables the body runs, and leaves what the data says: one branch's run, or the other's. -/
theorem sound_body (c : Dev nD) (t : Fin (cfgA T0 T1 g).N) :
    iprop((dats T0 T1 g m ρ 0 c).Φ t.castSucc ∗ (dats T0 T1 g m ρ 0 c).owesAt () t.castSucc
        ∗ (∃ d, owns (c : Thread nD τ) (ms0_0 T0 T1 g t) fullShare ((dats T0 T1 g m ρ 0 c).before (0 : Fin 7) t d))
        ∗ (∃ d, owns (c : Thread nD τ) (ms0_1 T0 T1 g t) fullShare ((dats T0 T1 g m ρ 0 c).before (1 : Fin 7) t d))
        ∗ (∃ d, owns (c : Thread nD τ) (ms0_2 T0 T1 g t) fullShare ((dats T0 T1 g m ρ 0 c).before (2 : Fin 7) t d))
        ∗ (∃ d, owns (c : Thread nD τ) (ms0_3 T0 T1 g t) fullShare ((dats T0 T1 g m ρ 0 c).before (3 : Fin 7) t d))
        ∗ (∃ d, owns (c : Thread nD τ) (ms0_4 T0 T1 g t) fullShare ((dats T0 T1 g m ρ 0 c).before (4 : Fin 7) t d))
        ∗ (∃ d, owns (c : Thread nD τ) (ms0_5 T0 T1 g t) fullShare ((dats T0 T1 g m ρ 0 c).before (5 : Fin 7) t d))
        ∗ (∃ d, owns (c : Thread nD τ) (ms0_6 T0 T1 g t) fullShare ((dats T0 T1 g m ρ 0 c).before (6 : Fin 7) t d)))
      ⊢ wp frame (wpE (defs₀ (F := Bits)) Variants.none c none) Set.univ (bodyAt0 T0 T1 g t) fun _ =>
          iprop((dats T0 T1 g m ρ 0 c).Φ t.succ ∗ (dats T0 T1 g m ρ 0 c).owesAt () t.succ
            ∗ bigSep Finset.univ fun w : Fin (cfgA T0 T1 g).W =>
                match (cfgA T0 T1 g).idle w ((cfgA T0 T1 g).grid.coords t) with
                | true =>
                  match ((cfgA T0 T1 g).win w).flush t with
                  | false => iprop(∃ d, owns (c : Thread nD τ) (((cfgA T0 T1 g).win w).stage ((cfgA T0 T1 g).slots t w)) fullShare ((dats T0 T1 g m ρ 0 c).before w t d))
                  | true => owns (c : Thread nD τ) (((cfgA T0 T1 g).win w).stage ((cfgA T0 T1 g).slots t w)) fullShare ((dats T0 T1 g m ρ 0 c).after w t)
                | false => owns (c : Thread nD τ) (((cfgA T0 T1 g).win w).stage ((cfgA T0 T1 g).slots t w)) fullShare ((dats T0 T1 g m ρ 0 c).after w t)) := by
  rw [bigSep_W0]
  have i6 := idle6 T0 T1 g t
  rewrite [i6]
  simp only [before0_0, before0_1, before0_2, before0_3, before0_4, before0_5, before0_6, after0_0, after0_1, after0_2, after0_3, after0_4, after0_5, after0_6]
  rewrite [show (dats T0 T1 g m ρ 0 c).Φ t.succ = Phi T0 T1 c from rfl, show (dats T0 T1 g m ρ 0 c).Φ t.castSucc = Phi T0 T1 c from rfl,
    show (dats T0 T1 g m ρ 0 c).owesAt () t.succ = (dats T0 T1 g m ρ 0 c).owesAt () t.castSucc from rfl]
  unfold Phi
  by_cases q : InUse T0 T1 g t
  · simp only [left_A T0 T1 g m ρ c t q]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _ _ _)
  · simp only [left_B T0 T1 g m ρ c t q]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; exact View.read_writes_of_cover _ _ _ _ _ (cover0_B_6 c _ _ _ _ _ _ _ _ _ _ _ _ _ _ _ _ _ _ _ _ _ _ _ _ _)

theorem body_obligation (c : Dev nD) : BodyObligation (dats T0 T1 g m ρ 0 c) (defs₀ (F := Bits)) Variants.none () Set.univ := fun t => by
  rw [bigSep_W0]
  exact sound_body T0 T1 g m ρ c t

/-! ## The launch -/

/-- The rounds library's launch element. -/
def u₀ : UR sig nD τ :=
  initOf (Pipeline.cells (pcs T0 T1 g) ((launch0 (F := Bits)).cellOf_inj fun _ => adm T0 T1 g))
    (Pipeline.launchToks (pcs T0 T1 g) ((launch0 (F := Bits)).cellOf_inj fun _ => adm T0 T1 g))

theorem share_eq (c : Dev nD) (w : Fin (cfgA T0 T1 g).W) : (dats T0 T1 g m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp MM)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(BI.emp ∗ Pipeline.prefHeld pre0 c (fun _ => fullShare.right) (adm T0 T1 g).1 ∗ Pipeline.scopedRest spec0 c) ⊢ (dats T0 T1 g m ρ 0 c).Φ 0 := by
  rw [prefHeld_eq, scopedRest0_eq, show (dats T0 T1 g m ρ 0 c).Φ 0 = Phi T0 T1 c from rfl]
  unfold Phi
  iintro ⟨-, ⟨HT0, HT1⟩, -⟩
  isplitl [HT0]
  · iexact HT0
  iexact HT1

theorem phi_out (c : Dev nD) : (dats T0 T1 g m ρ 0 c).Φ (Fin.last (cfgA T0 T1 g).N) ⊢ iprop(BI.emp ∗ Pipeline.scopedRest spec0 c) := by
  rw [scopedRest0_eq, show (dats T0 T1 g m ρ 0 c).Φ (Fin.last (cfgA T0 T1 g).N) = Phi T0 T1 c from rfl]
  unfold Phi
  iintro ⟨-, -⟩
  isplitr; · iempintro
  iempintro

/-- The memory holds the tables. -/
def Holds : Prop :=
  (∀ c : Dev nD, m ((c : Thread nD τ).loc main_arg0) = T0) ∧ (∀ c : Dev nD, m ((c : Thread nD τ).loc main_arg1) = T1)

/-- At the end: every array at the computed contents, every table as it was. -/
def Done : PUnit × MemSt nD τ sig (Elt Bits) → Prop := fun r =>
  ∀ c : Dev nD, (∀ w : Fin (cfgA T0 T1 g).W, r.2.mem (((cfgA T0 T1 g).win w).arr.view.loc (c : Thread nD τ)) = (dats T0 T1 g m ρ 0 c).arrAt w (cfgA T0 T1 g).N)
    ∧ ∀ j, r.2.mem ((c : Thread nD τ).loc (pre0.ref j)) = (adm T0 T1 g).1 j

theorem tabs_at (hp : Holds T0 T1 m) (c : Dev nD) (j : Fin 2) : m ((c : Thread nD τ).loc (pre0.ref j)) = (adm T0 T1 g).1 j := by
  fin_cases j
  · exact hp.1 c
  · exact hp.2 c

set_option backward.isDefEq.respectTransparency.types false in
set_option maxHeartbeats 4000000 in
/-- Every execution ends, with the arrays at the computed contents and every counter at zero. -/
theorem run_quiet (hp : Holds T0 T1 m) : θ_run (defs (F := Bits)) (onTc (τ := τ) (main (F := Bits))) (s₀ m ρ) (fun r => Done T0 T1 g m ρ r ∧ r.2.sem = fun _ => 0) :=
  Pipeline.θ_run_region_noSem_pf_quiescent pcfgs (fun _ => adm T0 T1 g) (dats T0 T1 g m ρ) () ((launch0 (F := Bits)).cellOf_inj fun _ => adm T0 T1 g) (0 : Fin 1)
    (launch0 (F := Bits)).win.to₀ (launch0 (F := Bits)).pre EM defs₀ Variants.none m ρ main
    (hbody := fun c => (body_obligation T0 T1 g m ρ c).loose) (hne := (launch0 (F := Bits)).block_pos)
    (harr := (launch0 (F := Bits)).arr_whole) (hstage := (launch0 (F := Bits)).stage_whole) (howed := fun _ _ => rfl)
    (u₀ := u₀ T0 T1 g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 g) (dats T0 T1 g m ρ) 0 (launch0 (F := Bits)).win.arr_inj c (launch0 (F := Bits)).arr_whole
      (share_eq T0 T1 g m ρ c) _ _ fun _ => rfl)
    (hpf := tabs_at T0 T1 g m hp)
    (X := fun _ => iprop(emp)) (Y := fun _ => iprop(emp)) (Z := fun _ => iprop(emp))
    (hX := fun c => by rw [unscopedRestP0_eq]; iintro -; isplitr <;> iempintro)
    (hin := phi_in T0 T1 g m ρ)
    (hout := phi_out T0 T1 g m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds T0 T1 m) : θ_run (defs (F := Bits)) (onTc (τ := τ) (main (F := Bits))) (s₀ m ρ) (Done T0 T1 g m ρ) :=
  (θ_run defs _ _).mono (fun _ h => h.1) (run_quiet T0 T1 g m ρ hp)

/-- The arguments end unchanged. -/
theorem unchanged (g : Good T0 T1) (hp : Holds T0 T1 m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp.1 c).symm, ((h c).2 1).trans (hp.2 c).symm, ((h c).1 (0 : Fin 7)).trans ((dats T0 T1 g m ρ 0 c).arrAt_in (0 : Fin 7) rfl _), ((h c).1 (1 : Fin 7)).trans ((dats T0 T1 g m ρ 0 c).arrAt_in (1 : Fin 7) rfl _), ((h c).1 (2 : Fin 7)).trans ((dats T0 T1 g m ρ 0 c).arrAt_in (2 : Fin 7) rfl _), ((h c).1 (3 : Fin 7)).trans ((dats T0 T1 g m ρ 0 c).arrAt_in (3 : Fin 7) rfl _), ((h c).1 (4 : Fin 7)).trans ((dats T0 T1 g m ρ 0 c).arrAt_in (4 : Fin 7) rfl _), ((h c).1 (5 : Fin 7)).trans ((dats T0 T1 g m ρ 0 c).arrAt_in (5 : Fin 7) rfl _)⟩) (run T0 T1 g m ρ hp)

/-- And every counter at zero. -/
theorem frame (g : Good T0 T1) (hp : Holds T0 T1 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged T0 T1 m ρ g hp) ((θ_run defs _ _).mono (fun _ h => h.2) (run_quiet T0 T1 g m ρ hp))

end Cert.Proof.MoeRun

end
-- ==== Proof.MoeIdealRun.lean ====
/- The experts' run on values: from tables whose words lie in their ranges the launch ends, with the arguments unchanged. -/
module

public import proofs.«01_k».proof.Proof.Gen.MoeIdeal.Flash.Runs
public import Idealize.ShloMosaic.Lib.Pipeline.Quiescent
public import Idealize.ShloMosaic.Lib.Claim

@[expose] public section

set_option maxRecDepth 16384
set_option Elab.async false

noncomputable section

namespace Cert.Proof.MoeIdealRun

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions' model. -/
abbrev MM := MT nD τ sig Unit (Elt Ideal) ℕ (UR sig nD τ) ℕ

/-- The rounds library's algebra, for the staging cells. -/
abbrev EM : Emb (UR sig nD τ) MM := emb₁

/-! ## The tables -/

/-- The tables' words are in range: a block's expert is one of the 32, the count of blocks in use is in 1 .. 168. -/
def Good (T0 : S168.Idx → BitVec 32) (T1 : S1.Idx → BitVec 32) : Prop :=
  (∀ x, (T0 x).toNat < 32) ∧ ∀ x, 1 ≤ (T1 x).toNat ∧ (T1 x).toNat ≤ 168

/-- The two tables as the launch's contents. -/
def tabs (T0 : S168.Idx → BitVec 32) (T1 : S1.Idx → BitVec 32) : pre0.Contents (Elt Ideal) :=
  fun | ⟨0, _⟩ => T0 | ⟨1, _⟩ => T1 | ⟨_ + 2, h⟩ => absurd h (by simp)

/-- The block of rows a point reads: its own, or the last one in use. -/
theorem rows_lt (i : grid0.Coords) (n : BitVec 32) (h : 1 ≤ n.toNat ∧ n.toNat ≤ 168) :
    (Scalar.minsi (BitVec.ofNat 32 (i 0).val) (Scalar.subi n 1#32)).toNat < 168 := by
  have hi : (i 0).val < 168 := (i 0).isLt
  unfold Scalar.minsi IntOp.minsi
  split
  · rw [BitVec.toNat_ofNat]; omega
  · show (n - 1#32).toNat < 168
    rw [BitVec.toNat_sub]; simp only [BitVec.toNat_ofNat]; omega

/-- Tables in range are admissible: every block read lies in its array. -/
theorem ok_of (T0 : S168.Idx → BitVec 32) (T1 : S1.Idx → BitVec 32) (h : Good T0 T1) : ok0 (F := Ideal) (tabs T0 T1) := by
  refine ⟨fun i => ⟨fun a => ?_, .inr (Affine.block_words_dvd (s := S43008x2048) (p := EltTy.packing .bf16) (by decide) (by decide))⟩,
    fun i => ⟨fun a => ?_, .inl rfl⟩,
    fun i => ⟨fun a => ?_, .inr (Affine.block_words_dvd (s := S32x2048x1536) (p := EltTy.packing .bf16) (by decide) (by decide))⟩,
    fun i => ⟨fun a => ?_, .inl rfl⟩,
    fun i => ⟨fun a => ?_, .inr (Affine.block_words_dvd (s := S32x768x2048) (p := EltTy.packing .bf16) (by decide) (by decide))⟩,
    fun i => ⟨fun a => ?_, .inl rfl⟩⟩
  · match a with
    | 0 => have := rows_lt i _ (h.2 ((Rect.unit (s := S1) ![0] S1.size inb_S1_S1_0).emb (Shape.Idx.first (numel1_S1.symm ▸ Nat.one_pos))))
           exact (show (_ + 1) * 256 ≤ 43008 from Nat.mul_le_mul_right 256 this)
    | 1 => exact (by decide : ((0#32).toNat + 1) * 2048 ≤ 2048)
  · match a with
    | 0 => have := rows_lt i _ (h.2 ((Rect.unit (s := S1) ![0] S1.size inb_S1_S1_0).emb (Shape.Idx.first (numel1_S1.symm ▸ Nat.one_pos))))
           exact (show (_ + 1) * 256 ≤ 43008 from Nat.mul_le_mul_right 256 this)
    | 1 => exact (by decide : ((0#32).toNat + 1) * 1 ≤ 1)
  · match a with
    | 0 => exact (show (_ + 1) * 1 ≤ 32 from Nat.mul_le_mul_right 1 (h.1 _))
    | 1 => exact (by decide : ((0#32).toNat + 1) * 2048 ≤ 2048)
    | 2 => exact (by decide : ((0#32).toNat + 1) * 1536 ≤ 1536)
  · match a with
    | 0 => exact (show (_ + 1) * 1 ≤ 32 from Nat.mul_le_mul_right 1 (h.1 _))
    | 1 => exact (by decide : ((0#32).toNat + 1) * 1 ≤ 1)
    | 2 => exact (by decide : ((0#32).toNat + 1) * 1536 ≤ 1536)
  · match a with
    | 0 => exact (show (_ + 1) * 1 ≤ 32 from Nat.mul_le_mul_right 1 (h.1 _))
    | 1 => exact (by decide : ((0#32).toNat + 1) * 768 ≤ 768)
    | 2 => exact (by decide : ((0#32).toNat + 1) * 2048 ≤ 2048)
  · match a with
    | 0 => exact (show (_ + 1) * 1 ≤ 32 from Nat.mul_le_mul_right 1 (h.1 _))
    | 1 => exact (by decide : ((0#32).toNat + 1) * 1 ≤ 1)
    | 2 => exact (by decide : ((0#32).toNat + 1) * 2048 ≤ 2048)

/-- One of the body's two branches runs, and not both. -/
theorem conds (i : grid0.Coords) (v : BitVec 32) :
    (k0_cond1 i v = 1#1 → ¬ k0_cond2 i v = 1#1) ∧ (¬ k0_cond1 i v = 1#1 → k0_cond2 i v = 1#1) := by
  have key : ∀ b : Bool, ((BitVec.ofBool ((BitVec.ofBool b).setWidth 32 != 0#32)) = 1#1 ↔ b = true) := by decide
  have h1 : k0_cond1 i v = 1#1 ↔ (BitVec.ofNat 32 (i 0).val).slt v = true := key _
  have h2 : k0_cond2 i v = 1#1 ↔ v.sle (BitVec.ofNat 32 (i 0).val) = true := key _
  rw [h1, h2]
  have e : v.sle (BitVec.ofNat 32 (i 0).val) = !(BitVec.ofNat 32 (i 0).val).slt v := by
    simp only [BitVec.sle, BitVec.slt]; rw [← decide_not]; simp only [not_lt]
  rw [e]; cases (BitVec.ofNat 32 (i 0).val).slt v <;> decide

variable (T0 : S168.Idx → BitVec 32) (T1 : S1.Idx → BitVec 32) (g : Good T0 T1)

/-- The pipeline at the tables. -/
def adm : (pcfg0 (F := Ideal)).Adm := ⟨tabs T0 T1, ok_of T0 T1 g⟩
abbrev cfgA : Pipeline.Cfg sig Λ₀ := cfg0 (F := Ideal) (adm T0 T1 g)
abbrev pcs : Fin 1 → Pipeline.Cfg sig Λ₀ := Pipeline.pin (pcfgs (F := Ideal)) fun _ => adm T0 T1 g

variable (m : (ℓ : Loc nD τ sig) → Buf (Elt Ideal) ℓ) (ρ : Dev nD → PrngReg)

/-- A point's coordinates. -/
abbrev crd (t : Fin (cfgA T0 T1 g).N) : (cfgA T0 T1 g).grid.Coords := (cfgA T0 T1 g).grid.coords t

/-- Each window's staging buffer at a point, and that it is whole. -/
abbrev ms0_0 (t : Fin (cfgA T0 T1 g).N) : Memref sig .tc .vmem S256x2048 .bf16 := spec0_0.stage ((cfgA T0 T1 g).slots t (0 : Fin 7))
abbrev hs0_0 (t : Fin (cfgA T0 T1 g).N) : (ms0_0 T0 T1 g t).IsWhole := hstage0_0 (((cfgA T0 T1 g).slots t (0 : Fin 7)).cast nbuf0_0)
abbrev ms0_1 (t : Fin (cfgA T0 T1 g).N) : Memref sig .tc .vmem S256x1 .f32 := spec0_1.stage ((cfgA T0 T1 g).slots t (1 : Fin 7))
abbrev hs0_1 (t : Fin (cfgA T0 T1 g).N) : (ms0_1 T0 T1 g t).IsWhole := hstage0_1 (((cfgA T0 T1 g).slots t (1 : Fin 7)).cast nbuf0_1)
abbrev ms0_2 (t : Fin (cfgA T0 T1 g).N) : Memref sig .tc .vmem S1x2048x1536 .bf16 := spec0_2.stage ((cfgA T0 T1 g).slots t (2 : Fin 7))
abbrev hs0_2 (t : Fin (cfgA T0 T1 g).N) : (ms0_2 T0 T1 g t).IsWhole := hstage0_2 (((cfgA T0 T1 g).slots t (2 : Fin 7)).cast nbuf0_2)
abbrev ms0_3 (t : Fin (cfgA T0 T1 g).N) : Memref sig .tc .vmem S1x1x1536 .f32 := spec0_3.stage ((cfgA T0 T1 g).slots t (3 : Fin 7))
abbrev hs0_3 (t : Fin (cfgA T0 T1 g).N) : (ms0_3 T0 T1 g t).IsWhole := hstage0_3 (((cfgA T0 T1 g).slots t (3 : Fin 7)).cast nbuf0_3)
abbrev ms0_4 (t : Fin (cfgA T0 T1 g).N) : Memref sig .tc .vmem S1x768x2048 .bf16 := spec0_4.stage ((cfgA T0 T1 g).slots t (4 : Fin 7))
abbrev hs0_4 (t : Fin (cfgA T0 T1 g).N) : (ms0_4 T0 T1 g t).IsWhole := hstage0_4 (((cfgA T0 T1 g).slots t (4 : Fin 7)).cast nbuf0_4)
abbrev ms0_5 (t : Fin (cfgA T0 T1 g).N) : Memref sig .tc .vmem S1x1x2048 .f32 := spec0_5.stage ((cfgA T0 T1 g).slots t (5 : Fin 7))
abbrev hs0_5 (t : Fin (cfgA T0 T1 g).N) : (ms0_5 T0 T1 g t).IsWhole := hstage0_5 (((cfgA T0 T1 g).slots t (5 : Fin 7)).cast nbuf0_5)
abbrev ms0_6 (t : Fin (cfgA T0 T1 g).N) : Memref sig .tc .vmem S256x2048 .f32 := spec0_6.stage ((cfgA T0 T1 g).slots t (6 : Fin 7))
abbrev hs0_6 (t : Fin (cfgA T0 T1 g).N) : (ms0_6 T0 T1 g t).IsWhole := hstage0_6 (((cfgA T0 T1 g).slots t (6 : Fin 7)).cast nbuf0_6)

/-- A window's block at a point, read off its array at launch. -/
def iblk (c : Dev nD) (w : Fin (cfgA T0 T1 g).W) (t : Fin (cfgA T0 T1 g).N) : (((cfgA T0 T1 g).win w).xblock (crd T0 T1 g t)).Idx → Elt Ideal ((cfgA T0 T1 g).win w).elt :=
  (((cfgA T0 T1 g).win w).blk t).view.read (Elt Ideal) ((s₀ m ρ).mem (((cfgA T0 T1 g).win w).arr.view.loc (c : Thread nD τ)))

/-- The count of blocks in use, as the body reads it. -/
abbrev used (T1 : S1.Idx → BitVec 32) : BitVec 32 :=
  View.readAt (Elt Ideal) (tbM0_1).view (Rect.unit (s := S1) ![0] S1.size inb_S1_S1_0).toLoadRect T1 (Shape.Idx.first (numel1_S1.symm ▸ Nat.one_pos))

/-- The point's block is in use. -/
abbrev InUse (t : Fin (cfgA T0 T1 g).N) : Prop := k0_cond1 (crd T0 T1 g t) (used T1) = 1#1

/-! ## The output's schedule: stored at every point, and written back after every point -/

theorem idle6 (t : Fin (cfgA T0 T1 g).N) : (cfgA T0 T1 g).idle (6 : Fin 7) ((cfgA T0 T1 g).grid.coords t) = false := by
  show idle0 (F := Ideal) (tabs T0 T1) 6 _ = false
  have h := conds ((cfgA T0 T1 g).grid.coords t) ((tabs T0 T1).atD 1 ![0])
  show (!(k0_cond1 _ _ == 1#1) && !(k0_cond2 _ _ == 1#1)) = false
  by_cases q : k0_cond1 ((cfgA T0 T1 g).grid.coords t) ((tabs T0 T1).atD 1 ![0]) = 1#1
  · rw [beq_iff_eq.2 q]; rfl
  · rw [beq_iff_eq.2 (h.2 q), Bool.not_true, Bool.and_false]

theorem flush6 (t : Fin (cfgA T0 T1 g).N) : ((cfgA T0 T1 g).win (6 : Fin 7)).flush t = true :=
  (by decide +kernel : ∀ t : Fin grid0.N, Pipeline.Window.flushOf grid0 true cc0_transform_6 t = true) t

theorem fresh6 (t : Fin (cfgA T0 T1 g).N) : (cfgA T0 T1 g).fresh (6 : Fin 7) t.val = true :=
  Pipeline.Cfg.fresh_tab (cfgA T0 T1 g) (6 : Fin 7) (fun _ => true) rfl
    (fun t => by rw [flush6]; rfl) t.val (Nat.le_of_lt t.isLt)

/-! ## The proof data -/

/-- What a point leaves in the output's buffer. -/
def left (c : Dev nD) (t : Fin (cfgA T0 T1 g).N) : S256x2048.Idx → Elt Ideal .f32 :=
  if q : InUse T0 T1 g t then
    out0_A_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q)
  else
    out0_B_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q)

theorem left_A (c : Dev nD) (t : Fin (cfgA T0 T1 g).N) (q : InUse T0 T1 g t) :
    left T0 T1 g m ρ c t = out0_A_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q) := by
  unfold left; rw [dif_pos q]

theorem left_B (c : Dev nD) (t : Fin (cfgA T0 T1 g).N) (q : ¬ InUse T0 T1 g t) :
    left T0 T1 g m ρ c t = out0_B_6 c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q) := by
  unfold left; rw [dif_neg q]

/-- Between points: the body's halves of the tables. -/
def Phi (c : Dev nD) : sProp MM :=
  iprop((tbM0_0.view.loc (c : Thread nD τ) ↦{fullShare.right} T0) ∗ (tbM0_1.view.loc (c : Thread nD τ) ↦{fullShare.right} T1))

/-- The proof data on a core. -/
def dats (_ : Fin 1) (c : Dev nD) : Dat τ (Elt Ideal) Unit ℕ (UR sig nD τ) ℕ (cfgA T0 T1 g) c where
  A w := (s₀ m ρ).mem (((cfgA T0 T1 g).win w).arr.view.loc (c : Thread nD τ))
  after w t := match w with
    | ⟨0, _⟩ => iblk T0 T1 g m ρ c (0 : Fin 7) t
    | ⟨1, _⟩ => iblk T0 T1 g m ρ c (1 : Fin 7) t
    | ⟨2, _⟩ => iblk T0 T1 g m ρ c (2 : Fin 7) t
    | ⟨3, _⟩ => iblk T0 T1 g m ρ c (3 : Fin 7) t
    | ⟨4, _⟩ => iblk T0 T1 g m ρ c (4 : Fin 7) t
    | ⟨5, _⟩ => iblk T0 T1 g m ρ c (5 : Fin 7) t
    | ⟨6, _⟩ => left T0 T1 g m ρ c t
  Φ t := Phi T0 T1 c
  q _ := fullShare
  owed _ := 0

theorem after0_0 (c : Dev nD) (t : Fin (cfgA T0 T1 g).N) : (dats T0 T1 g m ρ 0 c).after (0 : Fin 7) t = iblk T0 T1 g m ρ c (0 : Fin 7) t := rfl
theorem after0_1 (c : Dev nD) (t : Fin (cfgA T0 T1 g).N) : (dats T0 T1 g m ρ 0 c).after (1 : Fin 7) t = iblk T0 T1 g m ρ c (1 : Fin 7) t := rfl
theorem after0_2 (c : Dev nD) (t : Fin (cfgA T0 T1 g).N) : (dats T0 T1 g m ρ 0 c).after (2 : Fin 7) t = iblk T0 T1 g m ρ c (2 : Fin 7) t := rfl
theorem after0_3 (c : Dev nD) (t : Fin (cfgA T0 T1 g).N) : (dats T0 T1 g m ρ 0 c).after (3 : Fin 7) t = iblk T0 T1 g m ρ c (3 : Fin 7) t := rfl
theorem after0_4 (c : Dev nD) (t : Fin (cfgA T0 T1 g).N) : (dats T0 T1 g m ρ 0 c).after (4 : Fin 7) t = iblk T0 T1 g m ρ c (4 : Fin 7) t := rfl
theorem after0_5 (c : Dev nD) (t : Fin (cfgA T0 T1 g).N) : (dats T0 T1 g m ρ 0 c).after (5 : Fin 7) t = iblk T0 T1 g m ρ c (5 : Fin 7) t := rfl
theorem after0_6 (c : Dev nD) (t : Fin (cfgA T0 T1 g).N) : (dats T0 T1 g m ρ 0 c).after (6 : Fin 7) t = left T0 T1 g m ρ c t := rfl

/-- What each staging buffer holds when the body runs: an input its block, -/
theorem before0_0 (c : Dev nD) (t : Fin (cfgA T0 T1 g).N) (d) : (dats T0 T1 g m ρ 0 c).before (0 : Fin 7) t d = iblk T0 T1 g m ρ c (0 : Fin 7) t :=
  ((dats T0 T1 g m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA T0 T1 g).N) (d) : (dats T0 T1 g m ρ 0 c).before (1 : Fin 7) t d = iblk T0 T1 g m ρ c (1 : Fin 7) t :=
  ((dats T0 T1 g m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA T0 T1 g).N) (d) : (dats T0 T1 g m ρ 0 c).before (2 : Fin 7) t d = iblk T0 T1 g m ρ c (2 : Fin 7) t :=
  ((dats T0 T1 g m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA T0 T1 g).N) (d) : (dats T0 T1 g m ρ 0 c).before (3 : Fin 7) t d = iblk T0 T1 g m ρ c (3 : Fin 7) t :=
  ((dats T0 T1 g m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA T0 T1 g).N) (d) : (dats T0 T1 g m ρ 0 c).before (4 : Fin 7) t d = iblk T0 T1 g m ρ c (4 : Fin 7) t :=
  ((dats T0 T1 g m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA T0 T1 g).N) (d) : (dats T0 T1 g m ρ 0 c).before (5 : Fin 7) t d = iblk T0 T1 g m ρ c (5 : Fin 7) t :=
  ((dats T0 T1 g m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)
/-- and the output anything. -/
theorem before0_6 (c : Dev nD) (t : Fin (cfgA T0 T1 g).N) (d) : (dats T0 T1 g m ρ 0 c).before (6 : Fin 7) t d = d := by
  rw [(dats T0 T1 g m ρ 0 c).before_out_traj (6 : Fin 7) rfl (fun _ _ => rfl)
    (fun t _ hi _ => absurd hi (by rw [idle6]; decide)) t.val t rfl d, fresh6 T0 T1 g t]
  rfl

/-! ## The body at a point -/

/-- The body on its staging buffers. -/
abbrev bodyAt0 (t : Fin (cfgA T0 T1 g).N) : Prog (TpuEff nD τ sig (Elt Ideal) Λ₀ .tc) PUnit :=
  cc0_moe_experts (crd T0 T1 g t) (Memref.whole main_arg0) (Memref.isWhole_whole _) (Memref.whole main_arg1) (Memref.isWhole_whole _) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t)

set_option maxHeartbeats 4000000 in
/-- From the blocks and the tables the body runs, and leaves what the data says: one branch's run, or the other's. -/
theorem sound_body (c : Dev nD) (t : Fin (cfgA T0 T1 g).N) :
    iprop((dats T0 T1 g m ρ 0 c).Φ t.castSucc ∗ (dats T0 T1 g m ρ 0 c).owesAt () t.castSucc
        ∗ (∃ d, owns (c : Thread nD τ) (ms0_0 T0 T1 g t) fullShare ((dats T0 T1 g m ρ 0 c).before (0 : Fin 7) t d))
        ∗ (∃ d, owns (c : Thread nD τ) (ms0_1 T0 T1 g t) fullShare ((dats T0 T1 g m ρ 0 c).before (1 : Fin 7) t d))
        ∗ (∃ d, owns (c : Thread nD τ) (ms0_2 T0 T1 g t) fullShare ((dats T0 T1 g m ρ 0 c).before (2 : Fin 7) t d))
        ∗ (∃ d, owns (c : Thread nD τ) (ms0_3 T0 T1 g t) fullShare ((dats T0 T1 g m ρ 0 c).before (3 : Fin 7) t d))
        ∗ (∃ d, owns (c : Thread nD τ) (ms0_4 T0 T1 g t) fullShare ((dats T0 T1 g m ρ 0 c).before (4 : Fin 7) t d))
        ∗ (∃ d, owns (c : Thread nD τ) (ms0_5 T0 T1 g t) fullShare ((dats T0 T1 g m ρ 0 c).before (5 : Fin 7) t d))
        ∗ (∃ d, owns (c : Thread nD τ) (ms0_6 T0 T1 g t) fullShare ((dats T0 T1 g m ρ 0 c).before (6 : Fin 7) t d)))
      ⊢ wp frame (wpE (defs₀ (F := Ideal)) Variants.none c none) Set.univ (bodyAt0 T0 T1 g t) fun _ =>
          iprop((dats T0 T1 g m ρ 0 c).Φ t.succ ∗ (dats T0 T1 g m ρ 0 c).owesAt () t.succ
            ∗ bigSep Finset.univ fun w : Fin (cfgA T0 T1 g).W =>
                match (cfgA T0 T1 g).idle w ((cfgA T0 T1 g).grid.coords t) with
                | true =>
                  match ((cfgA T0 T1 g).win w).flush t with
                  | false => iprop(∃ d, owns (c : Thread nD τ) (((cfgA T0 T1 g).win w).stage ((cfgA T0 T1 g).slots t w)) fullShare ((dats T0 T1 g m ρ 0 c).before w t d))
                  | true => owns (c : Thread nD τ) (((cfgA T0 T1 g).win w).stage ((cfgA T0 T1 g).slots t w)) fullShare ((dats T0 T1 g m ρ 0 c).after w t)
                | false => owns (c : Thread nD τ) (((cfgA T0 T1 g).win w).stage ((cfgA T0 T1 g).slots t w)) fullShare ((dats T0 T1 g m ρ 0 c).after w t)) := by
  rw [bigSep_W0]
  have i6 := idle6 T0 T1 g t
  rewrite [i6]
  simp only [before0_0, before0_1, before0_2, before0_3, before0_4, before0_5, before0_6, after0_0, after0_1, after0_2, after0_3, after0_4, after0_5, after0_6]
  rewrite [show (dats T0 T1 g m ρ 0 c).Φ t.succ = Phi T0 T1 c from rfl, show (dats T0 T1 g m ρ 0 c).Φ t.castSucc = Phi T0 T1 c from rfl,
    show (dats T0 T1 g m ρ 0 c).owesAt () t.succ = (dats T0 T1 g m ρ 0 c).owesAt () t.castSucc from rfl]
  unfold Phi
  by_cases q : InUse T0 T1 g t
  · simp only [left_A T0 T1 g m ρ c t q]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).1 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _ _ _)
  · simp only [left_B T0 T1 g m ρ c t q]
    iintro ⟨⟨HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (crd T0 T1 g t) (ms0_0 T0 T1 g t) (hs0_0 T0 T1 g t) (ms0_1 T0 T1 g t) (hs0_1 T0 T1 g t) (ms0_2 T0 T1 g t) (hs0_2 T0 T1 g t) (ms0_3 T0 T1 g t) (hs0_3 T0 T1 g t) (ms0_4 T0 T1 g t) (hs0_4 T0 T1 g t) (ms0_5 T0 T1 g t) (hs0_5 T0 T1 g t) (ms0_6 T0 T1 g t) (hs0_6 T0 T1 g t) T0 T1 (iblk T0 T1 g m ρ c (0 : Fin 7) t) (iblk T0 T1 g m ρ c (1 : Fin 7) t) (iblk T0 T1 g m ρ c (2 : Fin 7) t) (iblk T0 T1 g m ρ c (3 : Fin 7) t) (iblk T0 T1 g m ρ c (4 : Fin 7) t) (iblk T0 T1 g m ρ c (5 : Fin 7) t) q ((conds _ _).2 q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    iintro ⟨H0, H1, H2, H3, H4, H5, HT0, HT1, ⟨%e6, H6⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    unfold owns; iexists _; isplitr; swap
    · iexact H6
    · ipureintro; exact View.read_writes_of_cover _ _ _ _ _ (cover0_B_6 c _ _ _ _ _ _ _ _ _ _ _ _ _ _ _ _ _ _ _ _ _ _ _ _ _)

theorem body_obligation (c : Dev nD) : BodyObligation (dats T0 T1 g m ρ 0 c) (defs₀ (F := Ideal)) Variants.none () Set.univ := fun t => by
  rw [bigSep_W0]
  exact sound_body T0 T1 g m ρ c t

/-! ## The launch -/

/-- The rounds library's launch element. -/
def u₀ : UR sig nD τ :=
  initOf (Pipeline.cells (pcs T0 T1 g) ((launch0 (F := Ideal)).cellOf_inj fun _ => adm T0 T1 g))
    (Pipeline.launchToks (pcs T0 T1 g) ((launch0 (F := Ideal)).cellOf_inj fun _ => adm T0 T1 g))

theorem share_eq (c : Dev nD) (w : Fin (cfgA T0 T1 g).W) : (dats T0 T1 g m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp MM)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(BI.emp ∗ Pipeline.prefHeld pre0 c (fun _ => fullShare.right) (adm T0 T1 g).1 ∗ Pipeline.scopedRest spec0 c) ⊢ (dats T0 T1 g m ρ 0 c).Φ 0 := by
  rw [prefHeld_eq, scopedRest0_eq, show (dats T0 T1 g m ρ 0 c).Φ 0 = Phi T0 T1 c from rfl]
  unfold Phi
  iintro ⟨-, ⟨HT0, HT1⟩, -⟩
  isplitl [HT0]
  · iexact HT0
  iexact HT1

theorem phi_out (c : Dev nD) : (dats T0 T1 g m ρ 0 c).Φ (Fin.last (cfgA T0 T1 g).N) ⊢ iprop(BI.emp ∗ Pipeline.scopedRest spec0 c) := by
  rw [scopedRest0_eq, show (dats T0 T1 g m ρ 0 c).Φ (Fin.last (cfgA T0 T1 g).N) = Phi T0 T1 c from rfl]
  unfold Phi
  iintro ⟨-, -⟩
  isplitr; · iempintro
  iempintro

/-- The memory holds the tables. -/
def Holds : Prop :=
  (∀ c : Dev nD, m ((c : Thread nD τ).loc main_arg0) = T0) ∧ (∀ c : Dev nD, m ((c : Thread nD τ).loc main_arg1) = T1)

/-- At the end: every array at the computed contents, every table as it was. -/
def Done : PUnit × MemSt nD τ sig (Elt Ideal) → Prop := fun r =>
  ∀ c : Dev nD, (∀ w : Fin (cfgA T0 T1 g).W, r.2.mem (((cfgA T0 T1 g).win w).arr.view.loc (c : Thread nD τ)) = (dats T0 T1 g m ρ 0 c).arrAt w (cfgA T0 T1 g).N)
    ∧ ∀ j, r.2.mem ((c : Thread nD τ).loc (pre0.ref j)) = (adm T0 T1 g).1 j

theorem tabs_at (hp : Holds T0 T1 m) (c : Dev nD) (j : Fin 2) : m ((c : Thread nD τ).loc (pre0.ref j)) = (adm T0 T1 g).1 j := by
  fin_cases j
  · exact hp.1 c
  · exact hp.2 c

set_option backward.isDefEq.respectTransparency.types false in
set_option maxHeartbeats 4000000 in
/-- Every execution ends, with the arrays at the computed contents and every counter at zero. -/
theorem run_quiet (hp : Holds T0 T1 m) : θ_run (defs (F := Ideal)) (onTc (τ := τ) (main (F := Ideal))) (s₀ m ρ) (fun r => Done T0 T1 g m ρ r ∧ r.2.sem = fun _ => 0) :=
  Pipeline.θ_run_region_noSem_pf_quiescent pcfgs (fun _ => adm T0 T1 g) (dats T0 T1 g m ρ) () ((launch0 (F := Ideal)).cellOf_inj fun _ => adm T0 T1 g) (0 : Fin 1)
    (launch0 (F := Ideal)).win.to₀ (launch0 (F := Ideal)).pre EM defs₀ Variants.none m ρ main
    (hbody := fun c => (body_obligation T0 T1 g m ρ c).loose) (hne := (launch0 (F := Ideal)).block_pos)
    (harr := (launch0 (F := Ideal)).arr_whole) (hstage := (launch0 (F := Ideal)).stage_whole) (howed := fun _ _ => rfl)
    (u₀ := u₀ T0 T1 g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 g) (dats T0 T1 g m ρ) 0 (launch0 (F := Ideal)).win.arr_inj c (launch0 (F := Ideal)).arr_whole
      (share_eq T0 T1 g m ρ c) _ _ fun _ => rfl)
    (hpf := tabs_at T0 T1 g m hp)
    (X := fun _ => iprop(emp)) (Y := fun _ => iprop(emp)) (Z := fun _ => iprop(emp))
    (hX := fun c => by rw [unscopedRestP0_eq]; iintro -; isplitr <;> iempintro)
    (hin := phi_in T0 T1 g m ρ)
    (hout := phi_out T0 T1 g m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds T0 T1 m) : θ_run (defs (F := Ideal)) (onTc (τ := τ) (main (F := Ideal))) (s₀ m ρ) (Done T0 T1 g m ρ) :=
  (θ_run defs _ _).mono (fun _ h => h.1) (run_quiet T0 T1 g m ρ hp)

/-- The arguments end unchanged. -/
theorem unchanged (g : Good T0 T1) (hp : Holds T0 T1 m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp.1 c).symm, ((h c).2 1).trans (hp.2 c).symm, ((h c).1 (0 : Fin 7)).trans ((dats T0 T1 g m ρ 0 c).arrAt_in (0 : Fin 7) rfl _), ((h c).1 (1 : Fin 7)).trans ((dats T0 T1 g m ρ 0 c).arrAt_in (1 : Fin 7) rfl _), ((h c).1 (2 : Fin 7)).trans ((dats T0 T1 g m ρ 0 c).arrAt_in (2 : Fin 7) rfl _), ((h c).1 (3 : Fin 7)).trans ((dats T0 T1 g m ρ 0 c).arrAt_in (3 : Fin 7) rfl _), ((h c).1 (4 : Fin 7)).trans ((dats T0 T1 g m ρ 0 c).arrAt_in (4 : Fin 7) rfl _), ((h c).1 (5 : Fin 7)).trans ((dats T0 T1 g m ρ 0 c).arrAt_in (5 : Fin 7) rfl _)⟩) (run T0 T1 g m ρ hp)

/-- And every counter at zero. -/
theorem frame (g : Good T0 T1) (hp : Holds T0 T1 m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged T0 T1 m ρ g hp) ((θ_run defs _ _).mono (fun _ h => h.2) (run_quiet T0 T1 g m ρ hp))

end Cert.Proof.MoeIdealRun

end
-- ==== Proof.MoeAt.lean ====
/- The experts at an index: a block's product, and the reference's. -/
module

public import proofs.«01_k».proof.Proof.MoeIdealRun
public import proofs.«01_k».proof.Proof.Gen.MoeRefIdeal.Run
public import Idealize.ShloMosaic.Lib.Pipeline.ValueKit
public import Idealize.ShloMosaic.Lib.ValueIdxCore

@[expose] public section

set_option maxRecDepth 16384

noncomputable section

open Idealize.ShloMosaic Idealize.ShloMosaic.TcCoe Idealize.SL.Sem
open Idealize.ShloMosaic.Pipeline (Dat)

namespace Cert.Proof.Moe

/-- A gather of whole slabs, one per start index. -/
abbrev slabDims (E P Q B : Nat) (wf : GatherDims.WF ⟨3, ![E, P, Q]⟩ ⟨2, ![B, 1]⟩ ⟨3, ![B, P, Q]⟩ [1, 2] [0] [] [0] [] 1 ![1, P, Q]) :
    GatherDims ⟨3, ![E, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

/-- Its element: the slab is the start index, read signed and kept in range. -/
theorem gather_slab {α : Type} {E P Q B : Nat} (hE : 0 < E)
    (wf : GatherDims.WF ⟨3, ![E, P, Q]⟩ ⟨2, ![B, 1]⟩ ⟨3, ![B, P, Q]⟩ [1, 2] [0] [] [0] [] 1 ![1, P, Q])
    (x : (⟨3, ![E, P, Q]⟩ : Shape).Idx → α) (idx : IVec ⟨2, ![B, 1]⟩ 32) (b : Fin B) (p : Fin P) (q : Fin Q) :
    Host.gather (slabDims E P Q B wf) x idx (ix3 b p q) = x (ix3 ⟨min (idx (ix2 b 0)).toInt.toNat (E - 1), by omega⟩ p q) := by
  unfold Host.gather
  congr 1
  funext a
  refine Fin.ext ?_
  show (slabDims E P Q B wf).start (ix3 b p q) idx a + (slabDims E P Q B wf).batchCoord (ix3 b p q) a
      + (slabDims E P Q B wf).offCoord (ix3 b p q) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.start
  rcases h3 with rfl | rfl | rfl
  · rw [GatherDims.offCoord_eq_zero _ _ _ (fun h => ((GatherDims.mem_sKept _ _).mp h).1 (List.mem_singleton.mpr rfl)),
      dif_pos (show (0 : Fin 3) ∈ (slabDims E P Q B wf).startIndexMap from List.mem_singleton.mpr rfl)]
    have hsi : (slabDims E P Q B wf).siIdx (ix3 b p q) ⟨List.idxOf (0 : Fin 3) (slabDims E P Q B wf).startIndexMap,
        List.idxOf_lt_length_iff.2 (List.mem_singleton.mpr rfl)⟩ = ix2 b 0 := by
      funext k; refine Fin.ext ?_
      match k with
      | ⟨0, _⟩ => rfl
      | ⟨1, _⟩ => rfl
    exact congrArg (fun k => min (idx k).toInt.toNat (E - 1)) hsi
  · rw [dif_neg (show ¬ (1 : Fin 3) ∈ (slabDims E P Q B wf).startIndexMap from fun h => absurd (congrArg Fin.val (List.mem_singleton.mp h)) (show ¬ (1 : Nat) = 0 from by decide))]
    exact Nat.zero_add _
  · rw [dif_neg (show ¬ (2 : Fin 3) ∈ (slabDims E P Q B wf).startIndexMap from fun h => absurd (congrArg Fin.val (List.mem_singleton.mp h)) (show ¬ (2 : Nat) = 0 from by decide))]
    exact Nat.zero_add _

end Cert.Proof.Moe

namespace Cert.Proof.Moe

open Cert.MoeIdeal Cert.MoeIdeal.Gen

/-- The gated unit of two numbers: both clipped, the gate through the logistic. -/
def unit (a b : EReal) : EReal :=
  min a (Ideal.ofBits .f32 0x40E00000#32) * Ideal.logistic (Ideal.ofBits .f32 0x3FD9DB23#32 * min a (Ideal.ofBits .f32 0x40E00000#32))
    * (min (Ideal.ofBits .f32 0x40E00000#32) (max (Ideal.ofBits .f32 0xC0E00000#32) b) + 1)

/-- A block's product: the first product's columns in two halves, gates and the rest; the units through the second. -/
theorem pay (x : FVec Ideal S256x2048 .bf16) (wg : FVec Ideal S1x2048x1536 .bf16) (bg : FVec Ideal S1x1x1536 .f32)
    (wd : FVec Ideal S1x768x2048 .bf16) (bd : FVec Ideal S1x1x2048 .f32) (sw : FVec Ideal S256x1 .f32) (r : Fin 256) (j : Fin 2048) :
    k0_pay2 (F := Ideal) x wg bg wd bd sw (ix2 r j : S256x2048.Idx)
      = (∑ k : Fin 768, unit (∑ l : Fin 2048, x (ix2 r l) * wg (ix3 0 l ⟨k.val, by omega⟩) + bg (ix3 0 0 ⟨k.val, by omega⟩))
          (∑ l : Fin 2048, x (ix2 r l) * wg (ix3 0 l ⟨768 + k.val, by omega⟩) + bg (ix3 0 0 ⟨768 + k.val, by omega⟩)) * wd (ix3 0 k j)
        + bd (ix3 0 0 j)) * sw (ix2 r 0) := by
  pointwise [k0_pay2, unit]

theorem zeros (i : S256x2048.Idx) : k0_pay1 (F := Ideal) i = 0 := by
  pointwise [k0_pay1]

end Cert.Proof.Moe

namespace Cert.Proof.Moe

open Cert.MoeRefIdeal Cert.MoeRefIdeal.Gen

/-- A block's expert, as a gather's start index. -/
def Pick (T0 : IVec S168 32) : IVec S168x1 32 :=
  broadcastInDim S168x1 ![0] bcast_S168_S168x1_0 (select (cmpi .slt T0 (broadcastInDim S168 ![] bcast_S_S168 (constantI S_ 32 0#32)))
    (addi T0 (broadcastInDim S168 ![] bcast_S_S168 (constantI S_ 32 32#32))) T0)

/-- The first product with its offset. -/
def Hid (T0 : IVec S168 32) (X : FVec Ideal S43008x2048 .bf16) (Wg : FVec Ideal S32x2048x1536 .bf16) (bg : FVec Ideal S32x1x1536 .f32) :
    FVec Ideal S168x256x1536 .f32 :=
  addf (Host.dotGeneral dot_S168x256x2048_S168x2048x1536_S168x256x1536_2_1_1_2_0_0 none
      (extf .f32 (shapeCast _ X shapeCasts_S43008x2048_S168x256x2048) bitsLt_bf16_f32)
      (extf .f32 (Host.gather gather_S32x2048x1536_S168x1_S168x2048x1536_12_0_n_n_0_1_120481536 Wg (Pick T0)) bitsLt_bf16_f32))
    (broadcastInDim S168x256x1536 ![0, 1, 2] bcast_S168x1x1536_S168x256x1536_0_1_2
      (Host.gather gather_S32x1x1536_S168x1_S168x1x1536_12_0_n_n_0_1_111536 bg (Pick T0)))

/-- The units. -/
def Mid (H : FVec Ideal S168x256x1536 .f32) : FVec Ideal S168x256x768 .f32 :=
  mulf (mulf (minimumf (extractStridedSlice S168x256x768 ![0, 0, 0] H slices_S168x256x1536_S168x256x768_0_0_0)
        (broadcastInDim S168x256x768 ![] bcast_S_S168x256x768 (constant S_ .f32 0x40E00000#32)))
      (Host.divf (broadcastInDim S168x256x768 ![] bcast_S_S168x256x768 (constant S_ .f32 0x3F800000#32))
        (addf (broadcastInDim S168x256x768 ![] bcast_S_S168x256x768 (constant S_ .f32 0x3F800000#32))
          (Host.exp (Host.negf (mulf (broadcastInDim S168x256x768 ![] bcast_S_S168x256x768 (constant S_ .f32 0x3FD9DB23#32))
            (minimumf (extractStridedSlice S168x256x768 ![0, 0, 0] H slices_S168x256x1536_S168x256x768_0_0_0)
              (broadcastInDim S168x256x768 ![] bcast_S_S168x256x768 (constant S_ .f32 0x40E00000#32)))))))))
    (addf (minimumf (broadcastInDim S168x256x768 ![] bcast_S_S168x256x768 (id (constant S_ .f32 0x40E00000#32)))
        (maximumf (broadcastInDim S168x256x768 ![] bcast_S_S168x256x768 (id (constant S_ .f32 0xC0E00000#32)))
          (extractStridedSlice S168x256x768 ![0, 0, 768] H slices_S168x256x1536_S168x256x768_0_0_768)))
      (broadcastInDim S168x256x768 ![] bcast_S_S168x256x768 (constant S_ .f32 0x3F800000#32)))

/-- The second product with its offset, times the rows' weights. -/
def Out (T0 : IVec S168 32) (G : FVec Ideal S168x256x768 .f32) (sw : FVec Ideal S43008x1 .f32) (Wd : FVec Ideal S32x768x2048 .bf16)
    (bd : FVec Ideal S32x1x2048 .f32) : FVec Ideal S168x256x2048 .f32 :=
  mulf (addf (Host.dotGeneral dot_S168x256x768_S168x768x2048_S168x256x2048_2_1_1_2_0_0 none G
        (extf .f32 (Host.gather gather_S32x768x2048_S168x1_S168x768x2048_12_0_n_n_0_1_17682048 Wd (Pick T0)) bitsLt_bf16_f32))
      (broadcastInDim S168x256x2048 ![0, 1, 2] bcast_S168x1x2048_S168x256x2048_0_1_2
        (Host.gather gather_S32x1x2048_S168x1_S168x1x2048_12_0_n_n_0_1_112048 bd (Pick T0))))
    (broadcastInDim S168x256x2048 ![0, 1, 2] bcast_S168x256x1_S168x256x2048_0_1_2 (shapeCast _ sw shapeCasts_S43008x1_S168x256x1))

/-- The blocks in use, the others zero. -/
def Keep (T1 : IVec S1 32) (Y : FVec Ideal S168x256x2048 .f32) : FVec Ideal S43008x2048 .f32 :=
  shapeCast _ (select (broadcastInDim S168x256x2048 ![0, 1, 2] bcast_S168x1x1_S168x256x2048_0_1_2
      (broadcastInDim S168x1x1 ![0] bcast_S168_S168x1x1_0 (cmpi .slt (iotaInDim S168 32 0) (broadcastInDim S168 ![0] bcast_S1_S168_0 T1))))
    Y (broadcastInDim S168x256x2048 ![] bcast_S_S168x256x2048 (id (constant S_ .f32 0x00000000#32)))) shapeCasts_S168x256x2048_S43008x2048

/-- The reference. -/
def Ref (T0 : IVec S168 32) (T1 : IVec S1 32) (X : FVec Ideal S43008x2048 .bf16) (sw : FVec Ideal S43008x1 .f32)
    (Wg : FVec Ideal S32x2048x1536 .bf16) (bg : FVec Ideal S32x1x1536 .f32) (Wd : FVec Ideal S32x768x2048 .bf16)
    (bd : FVec Ideal S32x1x2048 .f32) : FVec Ideal S43008x2048 .f32 :=
  Keep T1 (Out T0 (Mid (Hid T0 X Wg bg)) sw Wd bd)

variable (T0 : IVec S168 32) (T1 : IVec S1 32)

/-- In range, the start index is the table's word. -/
theorem Pick_at (h : ∀ x, (T0 x).toNat < 32) (b : Fin 168) : (Pick T0 (ix2 b 0 : S168x1.Idx)).toInt.toNat = (T0 (ix1 b)).toNat := by
  have hb := h (ix1 b)
  have e : Pick T0 (ix2 b 0 : S168x1.Idx) = T0 (ix1 b) := by
    have hs : (T0 (ix1 b)).slt 0#32 = false := by
      rw [BitVec.slt, BitVec.toInt_eq_toNat_of_lt (by omega)]
      exact decide_eq_false (by simp)
    have hc : IntOp.cmpi .slt (T0 (ix1 b)) 0#32 = 0#1 := congrArg BitVec.ofBool hs
    pointwise [Pick]
    rw [hc]
    rfl
  rw [e, BitVec.toInt_eq_toNat_of_lt (by omega), Int.toNat_natCast]

/-- A gather by the experts takes each block's expert's slab. -/
theorem slab (h : ∀ x, (T0 x).toNat < 32) {P Q : Nat} (wf : GatherDims.WF ⟨3, ![32, P, Q]⟩ ⟨2, ![168, 1]⟩ ⟨3, ![168, P, Q]⟩ [1, 2] [0] [] [0] [] 1 ![1, P, Q])
    {α : Type} (x : (⟨3, ![32, P, Q]⟩ : Shape).Idx → α) (b : Fin 168) (p : Fin P) (q : Fin Q) :
    Host.gather (slabDims 32 P Q 168 wf) x (Pick T0) (ix3 b p q) = x (ix3 ⟨(T0 (ix1 b)).toNat, h _⟩ p q) := by
  rw [gather_slab (by decide)]
  refine congrArg x (congrArg (fun e => ix3 e p q) (Fin.ext ?_))
  have := h (ix1 b)
  show min (Pick T0 (ix2 b 0)).toInt.toNat 31 = _
  rw [Pick_at T0 h]
  exact Nat.min_eq_left (by omega)

theorem Mid_at (H : FVec Ideal S168x256x1536 .f32) (b : Fin 168) (r : Fin 256) (k : Fin 768) :
    Mid H (ix3 b r k : S168x256x768.Idx) = unit (H (ix3 b r ⟨k.val, by omega⟩)) (H (ix3 b r ⟨768 + k.val, by omega⟩)) := by
  pointwise [Mid, unit, Ideal.logistic, id_eq]

theorem Hid_at (h : ∀ x, (T0 x).toNat < 32) (X : FVec Ideal S43008x2048 .bf16) (Wg : FVec Ideal S32x2048x1536 .bf16) (bg : FVec Ideal S32x1x1536 .f32)
    (b : Fin 168) (r : Fin 256) (k : Fin 1536) :
    Hid T0 X Wg bg (ix3 b r k : S168x256x1536.Idx) = ∑ l : Fin 2048, X (ix2 ⟨b.val * 256 + r.val, by omega⟩ l) * Wg (ix3 ⟨(T0 (ix1 b)).toNat, h _⟩ l k)
      + bg (ix3 ⟨(T0 (ix1 b)).toNat, h _⟩ 0 k) := by
  have g : ∀ l, Host.gather gather_S32x2048x1536_S168x1_S168x2048x1536_12_0_n_n_0_1_120481536 Wg (Pick T0) (ix3 b l k) = Wg (ix3 ⟨(T0 (ix1 b)).toNat, h _⟩ l k) :=
    fun l => slab T0 h _ Wg b l k
  have g' : Host.gather gather_S32x1x1536_S168x1_S168x1x1536_12_0_n_n_0_1_111536 bg (Pick T0) (ix3 b 0 k) = bg (ix3 ⟨(T0 (ix1 b)).toNat, h _⟩ 0 k) :=
    slab T0 h _ bg b 0 k
  pointwise [Hid, g, g']

theorem Out_at (h : ∀ x, (T0 x).toNat < 32) (G : FVec Ideal S168x256x768 .f32) (sw : FVec Ideal S43008x1 .f32) (Wd : FVec Ideal S32x768x2048 .bf16)
    (bd : FVec Ideal S32x1x2048 .f32) (b : Fin 168) (r : Fin 256) (j : Fin 2048) :
    Out T0 G sw Wd bd (ix3 b r j : S168x256x2048.Idx) = (∑ k : Fin 768, G (ix3 b r k) * Wd (ix3 ⟨(T0 (ix1 b)).toNat, h _⟩ k j)
      + bd (ix3 ⟨(T0 (ix1 b)).toNat, h _⟩ 0 j)) * sw (ix2 ⟨b.val * 256 + r.val, by omega⟩ 0) := by
  have g : ∀ l, Host.gather gather_S32x768x2048_S168x1_S168x768x2048_12_0_n_n_0_1_17682048 Wd (Pick T0) (ix3 b l j) = Wd (ix3 ⟨(T0 (ix1 b)).toNat, h _⟩ l j) :=
    fun l => slab T0 h _ Wd b l j
  have g' : Host.gather gather_S32x1x2048_S168x1_S168x1x2048_12_0_n_n_0_1_112048 bd (Pick T0) (ix3 b 0 j) = bd (ix3 ⟨(T0 (ix1 b)).toNat, h _⟩ 0 j) :=
    slab T0 h _ bd b 0 j
  pointwise [Out, g, g']

theorem Keep_at (Y : FVec Ideal S168x256x2048 .f32) (b : Fin 168) (r : Fin 256) (j : Fin 2048) :
    Keep T1 Y (ix2 ⟨b.val * 256 + r.val, by omega⟩ j : S43008x2048.Idx)
      = Scalar.select (IntOp.cmpi .slt (BitVec.ofNat 32 b.val) (T1 (ix1 0))) (Y (ix3 b r j)) 0 := by
  pointwise [Keep, id_eq]

theorem res_eq (m : (ℓ : Loc nD τ sig) → Buf (Elt Ideal) ℓ) (c : Dev nD) :
    Value.res_main_v63 m c = Ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  (with_unfolding_all rfl)

end Cert.Proof.Moe

end
-- ==== Proof.MoeValue.lean ====
/- The experts: the launch's result array is the reference's. -/
module

public import proofs.«01_k».proof.Proof.MoeAt

@[expose] public section

set_option maxRecDepth 16384

noncomputable section

open Idealize.ShloMosaic Idealize.ShloMosaic.TcCoe Idealize.SL.Sem
open Idealize.ShloMosaic.Pipeline (Dat)

namespace Cert.Proof.Moe

open Cert.MoeIdeal Cert.MoeIdeal.Gen MoeIdealRun

/-- A block in use: its number is under the count. -/
theorem cond_iff (i : grid0.Coords) (v : BitVec 32) : k0_cond1 i v = 1#1 ↔ (BitVec.ofNat 32 (i 0).val).slt v = true := by
  have key : ∀ b : Bool, ((BitVec.ofBool ((BitVec.ofBool b).setWidth 32 != 0#32)) = 1#1 ↔ b = true) := by decide
  exact key _

/-- A number under the count is under the last one in use, or is it. -/
theorem own (i : Nat) (hi : i < 168) (n : BitVec 32) (h : 1 ≤ n.toNat ∧ n.toNat ≤ 168) (hs : (BitVec.ofNat 32 i).slt n = true) :
    (Scalar.minsi (BitVec.ofNat 32 i) (Scalar.subi n 1#32)).toNat = i := by
  have hn : (BitVec.ofNat 32 i).toNat = i := by rw [BitVec.toNat_ofNat]; omega
  have e1 : (Scalar.subi n 1#32).toNat = n.toNat - 1 := by
    show (n - 1#32).toNat = _
    rw [BitVec.toNat_sub]; simp only [BitVec.toNat_ofNat]; omega
  rw [BitVec.slt_iff_toInt_lt, BitVec.toInt_eq_toNat_of_lt (by omega), BitVec.toInt_eq_toNat_of_lt (by omega), hn] at hs
  unfold Scalar.minsi IntOp.minsi
  split
  · exact hn
  · rename_i hc
    rw [BitVec.slt_iff_toInt_lt, BitVec.toInt_eq_toNat_of_lt (by omega), BitVec.toInt_eq_toNat_of_lt (by omega), hn, e1] at hc
    omega

/-- One branch stores the block's product of what it loads, -/
theorem out_in (c : Dev nD) (i : grid0.Coords) (arg3 : Memref sig .tc .vmem S256x2048 .bf16) (harg3 : arg3.IsWhole) (arg4 : Memref sig .tc .vmem S256x1 .f32) (harg4 : arg4.IsWhole) (arg5 : Memref sig .tc .vmem S1x2048x1536 .bf16) (harg5 : arg5.IsWhole) (arg6 : Memref sig .tc .vmem S1x1x1536 .f32) (harg6 : arg6.IsWhole) (arg7 : Memref sig .tc .vmem S1x768x2048 .bf16) (harg7 : arg7.IsWhole) (arg8 : Memref sig .tc .vmem S1x1x2048 .f32) (harg8 : arg8.IsWhole) (arg9 : Memref sig .tc .vmem S256x2048 .f32) (harg9 : arg9.IsWhole) (T0 : (S168.Idx → Elt Ideal .i32)) (T1 : (S1.Idx → Elt Ideal .i32))
     (x0 : (S256x2048.Idx → Elt Ideal .bf16)) (x1 : (S256x1.Idx → Elt Ideal .f32)) (x2 : (S1x2048x1536.Idx → Elt Ideal .bf16)) (x3 : (S1x1x1536.Idx → Elt Ideal .f32)) (x4 : (S1x768x2048.Idx → Elt Ideal .bf16)) (x5 : (S1x1x2048.Idx → Elt Ideal .f32)) (k0_h1 : k0_cond1 i (View.readAt (Elt Ideal) (tbM0_1).view (Rect.unit (s := S1) ![0] S1.size inb_S1_S1_0).toLoadRect T1 (Shape.Idx.first (numel1_S1.symm ▸ Nat.one_pos))) = 1#1) (k0_h2 : ¬(k0_cond2 i (View.readAt (Elt Ideal) (tbM0_1).view (Rect.unit (s := S1) ![0] S1.size inb_S1_S1_0).toLoadRect T1 (Shape.Idx.first (numel1_S1.symm ▸ Nat.one_pos))) = 1#1)) :
    out0_A_6 c i arg3 harg3 arg4 harg4 arg5 harg5 arg6 harg6 arg7 harg7 arg8 harg8 arg9 harg9 T0 T1 x0 x1 x2 x3 x4 x5 k0_h1 k0_h2 = k0_pay2 (F := Ideal) x0 x2 x3 x4 x5 x1 := by
  frame_out
  simp only [View.read_rep]

/-- the other zeros. -/
theorem out_rest (c : Dev nD) (i : grid0.Coords) (arg3 : Memref sig .tc .vmem S256x2048 .bf16) (harg3 : arg3.IsWhole) (arg4 : Memref sig .tc .vmem S256x1 .f32) (harg4 : arg4.IsWhole) (arg5 : Memref sig .tc .vmem S1x2048x1536 .bf16) (harg5 : arg5.IsWhole) (arg6 : Memref sig .tc .vmem S1x1x1536 .f32) (harg6 : arg6.IsWhole) (arg7 : Memref sig .tc .vmem S1x768x2048 .bf16) (harg7 : arg7.IsWhole) (arg8 : Memref sig .tc .vmem S1x1x2048 .f32) (harg8 : arg8.IsWhole) (arg9 : Memref sig .tc .vmem S256x2048 .f32) (harg9 : arg9.IsWhole) (T0 : (S168.Idx → Elt Ideal .i32)) (T1 : (S1.Idx → Elt Ideal .i32))
     (x0 : (S256x2048.Idx → Elt Ideal .bf16)) (x1 : (S256x1.Idx → Elt Ideal .f32)) (x2 : (S1x2048x1536.Idx → Elt Ideal .bf16)) (x3 : (S1x1x1536.Idx → Elt Ideal .f32)) (x4 : (S1x768x2048.Idx → Elt Ideal .bf16)) (x5 : (S1x1x2048.Idx → Elt Ideal .f32)) (k0_h1 : ¬(k0_cond1 i (View.readAt (Elt Ideal) (tbM0_1).view (Rect.unit (s := S1) ![0] S1.size inb_S1_S1_0).toLoadRect T1 (Shape.Idx.first (numel1_S1.symm ▸ Nat.one_pos))) = 1#1)) (k0_h2 : k0_cond2 i (View.readAt (Elt Ideal) (tbM0_1).view (Rect.unit (s := S1) ![0] S1.size inb_S1_S1_0).toLoadRect T1 (Shape.Idx.first (numel1_S1.symm ▸ Nat.one_pos))) = 1#1) :
    out0_B_6 c i arg3 harg3 arg4 harg4 arg5 harg5 arg6 harg6 arg7 harg7 arg8 harg8 arg9 harg9 T0 T1 x0 x1 x2 x3 x4 x5 k0_h1 k0_h2 = k0_pay1 (F := Ideal) := by
  frame_out

variable (T0 : S168.Idx → BitVec 32) (T1 : S1.Idx → BitVec 32) (g : Good T0 T1)
variable (m : (ℓ : Loc nD τ sig) → Buf (Elt Ideal) ℓ) (ρ : Dev nD → PrngReg) (c : Dev nD)

/-- A point's number. -/
def blk (t : Fin (cfgA T0 T1 g).N) : Fin 168 := ⟨t.val, lt_of_lt_of_eq t.isLt N_0⟩

theorem crd_val (t : Fin (cfgA T0 T1 g).N) : ((crd T0 T1 g t) 0).val = t.val :=
  (by decide +kernel : ∀ t : Fin grid0.N, ((grid0.coords t) 0).val = t.val) t

theorem word (x : S1.Idx) : T1 x = T1 (ix1 0 : S1.Idx) := by
  congr 1; funext a
  match a with
  | 0 => exact Subsingleton.elim (α := Fin 1) _ _

theorem inUse_iff (t : Fin (cfgA T0 T1 g).N) :
    InUse T0 T1 g t ↔ (BitVec.ofNat 32 t.val).slt (T1 (ix1 0 : S1.Idx)) = true := by
  unfold InUse
  rw [cond_iff, crd_val, show used T1 = T1 (ix1 0 : S1.Idx) from word T1 _]

/-- A unit rectangle's only place. -/
theorem emb_unit (x : S1.Idx) (v : Fin 1 → Nat) (b : Fin 168) (hv : v 0 = b.val) (h : ∀ a, v a + S1.size a ≤ S168.size a) :
    (Rect.unit (s := S168) v S1.size h).emb x = ix1 b := by
  funext a
  refine Fin.ext ?_
  match a with
  | 0 =>
    have hz : (x 0).val = 0 := by have : (x 0).val < 1 := (x 0).isLt; omega
    show v 0 + 1 * (x 0).val = b.val
    omega

/-- The word a point's expert is read from. -/
theorem at0 (t : Fin (cfgA T0 T1 g).N) :
    (tabs T0 T1).at 0 (Rect.unit (s := S168) ![(Scalar.indexCast (BitVec.ofNat 32 ((crd T0 T1 g t) 0).val)).toNat] S1.size (k0_off1_inb (crd T0 T1 g t))) numel1_S1
      = T0 (ix1 (blk T0 T1 g t)) := by
  refine congrArg T0 (emb_unit _ _ _ ?_ _)
  have h1 : t.val < 168 := lt_of_lt_of_eq t.isLt N_0
  show (BitVec.ofNat 32 ((crd T0 T1 g t) 0).val).toNat = t.val
  rw [crd_val, BitVec.toNat_ofNat]
  omega

/-- Where the blocks lie. -/
theorem idx0 (t : Fin (cfgA T0 T1 g).N) (q : InUse T0 T1 g t) : ((cfgA T0 T1 g).win (0 : Fin 7)).index t = ![t.val, 0] := by
  have h := own t.val (lt_of_lt_of_eq t.isLt N_0) (T1 (ix1 0 : S1.Idx)) (g.2 _) ((inUse_iff T0 T1 g t).1 q)
  show ![(Scalar.minsi (BitVec.ofNat 32 ((crd T0 T1 g t) 0).val) (Scalar.subi (T1 _) 1#32)).toNat, (0#32).toNat] = _
  rw [crd_val]
  refine Eq.trans ?_ (congrArg (fun n => ![n, (0#32).toNat]) h)
  exact congrArg (fun w => ![(Scalar.minsi (BitVec.ofNat 32 t.val) (Scalar.subi w 1#32)).toNat, (0#32).toNat]) (word T1 _)
theorem idx1 (t : Fin (cfgA T0 T1 g).N) (q : InUse T0 T1 g t) : ((cfgA T0 T1 g).win (1 : Fin 7)).index t = ![t.val, 0] := idx0 T0 T1 g t q
theorem idx2 (t : Fin (cfgA T0 T1 g).N) : ((cfgA T0 T1 g).win (2 : Fin 7)).index t = ![(T0 (ix1 (blk T0 T1 g t))).toNat, 0, 0] :=
  congrArg (fun e : BitVec 32 => ![e.toNat, 0, 0]) (at0 T0 T1 g t)
theorem idx3 (t : Fin (cfgA T0 T1 g).N) : ((cfgA T0 T1 g).win (3 : Fin 7)).index t = ![(T0 (ix1 (blk T0 T1 g t))).toNat, 0, 0] :=
  congrArg (fun e : BitVec 32 => ![e.toNat, 0, 0]) (at0 T0 T1 g t)
theorem idx4 (t : Fin (cfgA T0 T1 g).N) : ((cfgA T0 T1 g).win (4 : Fin 7)).index t = ![(T0 (ix1 (blk T0 T1 g t))).toNat, 0, 0] :=
  congrArg (fun e : BitVec 32 => ![e.toNat, 0, 0]) (at0 T0 T1 g t)
theorem idx5 (t : Fin (cfgA T0 T1 g).N) : ((cfgA T0 T1 g).win (5 : Fin 7)).index t = ![(T0 (ix1 (blk T0 T1 g t))).toNat, 0, 0] :=
  congrArg (fun e : BitVec 32 => ![e.toNat, 0, 0]) (at0 T0 T1 g t)
theorem idx6 (t : Fin (cfgA T0 T1 g).N) : ((cfgA T0 T1 g).win (6 : Fin 7)).index t = ![t.val, 0] :=
  (by decide +kernel : ∀ t : Fin grid0.N, cc0_transform_6 (grid0.coords t) = ![t.val, 0]) t

/-- The arguments. -/
abbrev Ax : FVec Ideal S43008x2048 .bf16 := m ((c.tc : Thread nD τ).loc main_arg2)
abbrev Asw : FVec Ideal S43008x1 .f32 := m ((c.tc : Thread nD τ).loc main_arg3)
abbrev Awg : FVec Ideal S32x2048x1536 .bf16 := m ((c.tc : Thread nD τ).loc main_arg4)
abbrev Abg : FVec Ideal S32x1x1536 .f32 := m ((c.tc : Thread nD τ).loc main_arg5)
abbrev Awd : FVec Ideal S32x768x2048 .bf16 := m ((c.tc : Thread nD τ).loc main_arg6)
abbrev Abd : FVec Ideal S32x1x2048 .f32 := m ((c.tc : Thread nD τ).loc main_arg7)

/-- The point's blocks. -/
abbrev B0 (t : Fin (cfgA T0 T1 g).N) : FVec Ideal S256x2048 .bf16 := iblk T0 T1 g m ρ c (0 : Fin 7) t
abbrev B1 (t : Fin (cfgA T0 T1 g).N) : FVec Ideal S256x1 .f32 := iblk T0 T1 g m ρ c (1 : Fin 7) t
abbrev B2 (t : Fin (cfgA T0 T1 g).N) : FVec Ideal S1x2048x1536 .bf16 := iblk T0 T1 g m ρ c (2 : Fin 7) t
abbrev B3 (t : Fin (cfgA T0 T1 g).N) : FVec Ideal S1x1x1536 .f32 := iblk T0 T1 g m ρ c (3 : Fin 7) t
abbrev B4 (t : Fin (cfgA T0 T1 g).N) : FVec Ideal S1x768x2048 .bf16 := iblk T0 T1 g m ρ c (4 : Fin 7) t
abbrev B5 (t : Fin (cfgA T0 T1 g).N) : FVec Ideal S1x1x2048 .f32 := iblk T0 T1 g m ρ c (5 : Fin 7) t

def row (t : Fin (cfgA T0 T1 g).N) (r : Fin 256) : Fin 43008 :=
  ⟨(blk T0 T1 g t).val * 256 + r.val, by have := (blk T0 T1 g t).isLt; omega⟩
def ex (t : Fin (cfgA T0 T1 g).N) : Fin 32 := ⟨(T0 (ix1 (blk T0 T1 g t))).toNat, g.1 _⟩

theorem B0_at (t : Fin (cfgA T0 T1 g).N) (q : InUse T0 T1 g t) (r : Fin 256) (l : Fin 2048) :
    B0 T0 T1 g m ρ c t (ix2 r l) = Ax m c (ix2 (row T0 T1 g t r) l) := by
  blk_point [iblk, idx0 T0 T1 g t q]
  all_goals rfl

theorem B1_at (t : Fin (cfgA T0 T1 g).N) (q : InUse T0 T1 g t) (r : Fin 256) :
    B1 T0 T1 g m ρ c t (ix2 r 0) = Asw m c (ix2 (row T0 T1 g t r) 0) := by
  blk_point [iblk, idx1 T0 T1 g t q]
  all_goals rfl

theorem B2_at (t : Fin (cfgA T0 T1 g).N) (l : Fin 2048) (k : Fin 1536) :
    B2 T0 T1 g m ρ c t (ix3 0 l k) = Awg m c (ix3 (ex T0 T1 g t) l k) := by
  blk_point [iblk, idx2 T0 T1 g t]
  all_goals rfl

theorem B3_at (t : Fin (cfgA T0 T1 g).N) (k : Fin 1536) :
    B3 T0 T1 g m ρ c t (ix3 0 0 k) = Abg m c (ix3 (ex T0 T1 g t) 0 k) := by
  blk_point [iblk, idx3 T0 T1 g t]
  all_goals rfl

theorem B4_at (t : Fin (cfgA T0 T1 g).N) (k : Fin 768) (j : Fin 2048) :
    B4 T0 T1 g m ρ c t (ix3 0 k j) = Awd m c (ix3 (ex T0 T1 g t) k j) := by
  blk_point [iblk, idx4 T0 T1 g t]
  all_goals rfl

theorem B5_at (t : Fin (cfgA T0 T1 g).N) (j : Fin 2048) :
    B5 T0 T1 g m ρ c t (ix3 0 0 j) = Abd m c (ix3 (ex T0 T1 g t) 0 j) := by
  blk_point [iblk, idx5 T0 T1 g t]
  all_goals rfl

/-- What a point in use leaves: the block's product. -/
theorem left_in (t : Fin (cfgA T0 T1 g).N) (q : InUse T0 T1 g t) :
    left T0 T1 g m ρ c t = k0_pay2 (F := Ideal) (B0 T0 T1 g m ρ c t) (B2 T0 T1 g m ρ c t) (B3 T0 T1 g m ρ c t) (B4 T0 T1 g m ρ c t)
      (B5 T0 T1 g m ρ c t) (B1 T0 T1 g m ρ c t) := by
  exact (left_A T0 T1 g m ρ c t q).trans (out_in _ _ _ _ _ _ _ _ _ _ _ _ _ _ _ _ _ _ _ _ _ _ _ _ _ _)

/-- What the others leave: zeros. -/
theorem left_out (t : Fin (cfgA T0 T1 g).N) (q : ¬ InUse T0 T1 g t) : left T0 T1 g m ρ c t = k0_pay1 (F := Ideal) := by
  exact (left_B T0 T1 g m ρ c t q).trans (out_rest _ _ _ _ _ _ _ _ _ _ _ _ _ _ _ _ _ _ _ _ _ _ _ _ _ _)

/-- The reference at a row of a block and a column. -/
theorem Ref_at (b : Fin 168) (r : Fin 256) (j : Fin 2048) :
    Ref T0 T1 (Ax m c) (Asw m c) (Awg m c) (Abg m c) (Awd m c) (Abd m c) (ix2 ⟨b.val * 256 + r.val, by omega⟩ j : S43008x2048.Idx)
      = Scalar.select (IntOp.cmpi .slt (BitVec.ofNat 32 b.val) (T1 (ix1 0)))
        (Out T0 (Mid (Hid T0 (Ax m c) (Awg m c) (Abg m c))) (Asw m c) (Awd m c) (Abd m c) (ix3 b r j)) 0 :=
  Keep_at T1 _ b r j

/-- In use, the reference's block is the point's. -/
theorem value_in (t : Fin (cfgA T0 T1 g).N) (q : InUse T0 T1 g t) (r : Fin 256) (j : Fin 2048) :
    k0_pay2 (F := Ideal) (B0 T0 T1 g m ρ c t) (B2 T0 T1 g m ρ c t) (B3 T0 T1 g m ρ c t) (B4 T0 T1 g m ρ c t)
      (B5 T0 T1 g m ρ c t) (B1 T0 T1 g m ρ c t) (ix2 r j : S256x2048.Idx)
      = Out T0 (Mid (Hid T0 (Ax m c) (Awg m c) (Abg m c))) (Asw m c) (Awd m c) (Abd m c) (ix3 (blk T0 T1 g t) r j) := by
  refine (pay _ _ _ _ _ _ r j).trans (Eq.trans ?_ (Out_at T0 g.1 _ _ _ _ _ r j).symm)
  have hid : ∀ k : Fin 1536, (∑ l : Fin 2048, B0 T0 T1 g m ρ c t (ix2 r l) * B2 T0 T1 g m ρ c t (ix3 0 l k) + B3 T0 T1 g m ρ c t (ix3 0 0 k))
      = Hid T0 (Ax m c) (Awg m c) (Abg m c) (ix3 (blk T0 T1 g t) r k) := fun k => by
    refine Eq.trans ?_ (Hid_at T0 g.1 _ _ _ _ r k).symm
    refine congrArg₂ (· + ·) (Finset.sum_congr rfl fun l _ => congrArg₂ (· * ·) (B0_at T0 T1 g m ρ c t q r l) (B2_at T0 T1 g m ρ c t l k)) (B3_at T0 T1 g m ρ c t k)
  refine congrArg₂ (· * ·) (congrArg₂ (· + ·) (Finset.sum_congr rfl fun k _ => congrArg₂ (· * ·) ?_ (B4_at T0 T1 g m ρ c t k j))
    (B5_at T0 T1 g m ρ c t j)) (B1_at T0 T1 g m ρ c t q r)
  rw [hid, hid]
  exact (Mid_at _ _ r k).symm

/-- The launch's result array is the reference's. -/
theorem final : (dats T0 T1 g m ρ 0 c).arrAt (6 : Fin 7) (cfgA T0 T1 g).N
    = Ref T0 T1 (Ax m c) (Asw m c) (Awg m c) (Abg m c) (Awd m c) (Abd m c) := by
  refine (dats T0 T1 g m ρ 0 c).arrAt_eq_of_covers (6 : Fin 7) _ ?_ fun t hf y => ?_
  · refine ⟨fun a => ?_, fun β => ?_⟩
    · match a with
      | 0 => exact (by decide : 0 < 256)
      | 1 => exact (by decide : 0 < 2048)
    · have hb : (β 0).val < 168 :=
        lt_of_lt_of_eq (β 0).isLt (show (43008 + 256 - 1) / 256 = 168 from by decide)
      have h1 : (β 1).val < 1 :=
        lt_of_lt_of_eq (β 1).isLt (show (2048 + 2048 - 1) / 2048 = 1 from by decide)
      refine ⟨⟨(β 0).val, lt_of_lt_of_eq hb N_0.symm⟩, flush6 T0 T1 g _, fun a => ⟨?_, .inl ?_⟩⟩
      · rw [idx6]
        match a with
        | 0 => rfl
        | 1 => exact (show 0 = (β 1).val by omega)
      · match a with
        | 0 => rfl
        | 1 => rfl
  rw [after0_6]
  blk_simp
  idx_vars y
  have e : ((((cfgA T0 T1 g).win (6 : Fin 7)).blk t).view.emb (ix2 y0 y1) : S43008x2048.Idx) = ix2 (row T0 T1 g t y0) y1 := by
    blk_ext [idx6 T0 T1 g t]
    all_goals rfl
  refine Eq.trans ?_ (congrArg (Ref T0 T1 (Ax m c) (Asw m c) (Awg m c) (Abg m c) (Awd m c) (Abd m c)) e.symm)
  refine Eq.trans ?_ (Ref_at T0 T1 m c (blk T0 T1 g t) y0 y1).symm
  have hs := inUse_iff T0 T1 g t
  by_cases q : InUse T0 T1 g t
  · have hc : IntOp.cmpi .slt (BitVec.ofNat 32 (blk T0 T1 g t).val) (T1 (ix1 0)) = 1#1 := congrArg BitVec.ofBool (hs.1 q)
    rw [left_in T0 T1 g m ρ c t q, value_in T0 T1 g m ρ c t q, hc]
    rfl
  · have hc : IntOp.cmpi .slt (BitVec.ofNat 32 (blk T0 T1 g t).val) (T1 (ix1 0)) = 0#1 :=
      congrArg BitVec.ofBool (Bool.eq_false_iff.2 fun h => q (hs.2 h))
    rw [left_out T0 T1 g m ρ c t q, zeros, hc]
    rfl

end Cert.Proof.Moe

end
-- ==== Proof.MoeClaims.lean ====
/- The claims about the experts. -/
module

public import proofs.«01_k».proof.Defs
public import proofs.«01_k».proof.Proof.Finite
public import proofs.«01_k».proof.Proof.MoeRun
public import proofs.«01_k».proof.Proof.MoeValue
public import proofs.«01_k».proof.Proof.Gen.Pre_tables
public import Idealize.ShloMosaic.Lib.Quiescent

@[expose] public section

noncomputable section

open Idealize.ShloMosaic Idealize.ShloMosaic.TcCoe Idealize.SL.Sem

namespace Cert.Proof.MoeClaims

/-! The precondition read. -/

/-- A signed word at least zero and under 32 is under 32. -/
theorem low {w : BitVec 32} (h : IntOp.andi (IntOp.cmpi .sge w 0#32) (IntOp.cmpi .slt w 32#32) = 1#1) : w.toNat < 32 := by
  have key : ∀ b : Bool, BitVec.ofBool b = 1#1 → b = true := by decide
  obtain ⟨h0, h1⟩ := Finite.both_set _ _ h
  have a0 : (0#32).sle w = true := key _ h0
  have a1 : w.slt 32#32 = true := key _ h1
  rw [BitVec.sle_iff_toInt_le] at a0
  rw [BitVec.slt_iff_toInt_lt] at a1
  have e0 : (0#32).toInt = 0 := by decide
  have e1 : (32#32).toInt = 32 := by decide
  rw [e0] at a0
  rw [e1] at a1
  have := BitVec.toInt_eq_toNat_cond w
  split at this <;> omega

/-- A signed word from one to 168 is from one to 168. -/
theorem count {w : BitVec 32} (h : IntOp.andi (IntOp.cmpi .sge w 1#32) (IntOp.cmpi .sle w 168#32) = 1#1) : 1 ≤ w.toNat ∧ w.toNat ≤ 168 := by
  have key : ∀ b : Bool, BitVec.ofBool b = 1#1 → b = true := by decide
  obtain ⟨h0, h1⟩ := Finite.both_set _ _ h
  have a0 : (1#32).sle w = true := key _ h0
  have a1 : w.sle 168#32 = true := key _ h1
  rw [BitVec.sle_iff_toInt_le] at a0 a1
  have e0 : (1#32).toInt = 1 := by decide
  have e1 : (168#32).toInt = 168 := by decide
  rw [e0] at a0
  rw [e1] at a1
  have := BitVec.toInt_eq_toNat_cond w
  split at this <;> omega

/-- The precondition of the experts: both tables lie in their ranges. -/
theorem of_tables {F : FTy → Type} [FloatOps F] {a0 : IVec Cert.Pre_tables.S168 32} {a1 : IVec Cert.Pre_tables.S1 32}
    {a2 : FVec F Cert.Pre_tables.S43008x2048 .bf16} {a3 : FVec F Cert.Pre_tables.S43008x1 .f32}
    {a4 : FVec F Cert.Pre_tables.S32x2048x1536 .bf16} {a5 : FVec F Cert.Pre_tables.S32x1x1536 .f32}
    {a6 : FVec F Cert.Pre_tables.S32x768x2048 .bf16} {a7 : FVec F Cert.Pre_tables.S32x1x2048 .f32}
    (h : Cert.Pre_tables.fn (F := F) a0 a1 a2 a3 a4 a5 a6 a7 = fun _ => 1#1) :
    (∀ x, (a0 x).toNat < 32) ∧ ∀ x, 1 ≤ (a1 x).toNat ∧ (a1 x).toNat ≤ 168 := by
  have j : Cert.Pre_tables.S_.Idx := fun a => a.elim0
  obtain ⟨h0, h1⟩ := Finite.both_set _ _ (congrFun h j)
  exact ⟨fun x => low (Host.reduce_andi_all _ _ _ _ j h0 x), fun x => count (Host.reduce_andi_all _ _ _ _ j h1 x)⟩

/-! The claims. -/

theorem frame_p : Cert.quiescent_Moe := fun m ρ hp =>
  MoeRun.frame _ _ m ρ (of_tables (hp 0)) ⟨fun c => by rw [Subsingleton.elim c 0], fun c => by rw [Subsingleton.elim c 0]⟩

section
open Cert.MoeIdeal

variable (m : (ℓ : Loc nD τ sig) → Buf (Elt Ideal) ℓ)

/-- The tables the memory holds: there is one device. -/
abbrev Be : S168.Idx → BitVec 32 := m (((0 : Dev nD).tc : Thread nD τ).loc main_arg0)
abbrev Nu : S1.Idx → BitVec 32 := m (((0 : Dev nD).tc : Thread nD τ).loc main_arg1)

theorem holds : MoeIdealRun.Holds (Be m) (Nu m) m :=
  ⟨fun c => by rw [Subsingleton.elim c 0], fun c => by rw [Subsingleton.elim c 0]⟩

end

theorem frame_pi : Cert.quiescent_MoeIdeal := fun m ρ hp => MoeIdealRun.frame _ _ m ρ (of_tables (hp 0)) (holds m)

/-- The reference runs, its arguments end unchanged, and it has no semaphores. -/
theorem frame_ri : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem preserves : Cert.preserves_Moe_MoeIdeal := trivial

/-- The two results are equal. -/
theorem algebraic : Cert.algebraic_MoeIdeal_MoeRefIdeal := by
  intro m g m' g' hp hag
  have hg : MoeIdealRun.Good (Be m) (Nu m) := of_tables (hp 0)
  refine ⟨fun c => Moe.Ref (Be m) (Nu m) (Moe.Ax m c) (Moe.Asw m c) (Moe.Awg m c) (Moe.Abg m c) (Moe.Awd m c) (Moe.Abd m c), ?_, ?_⟩
  · exact (θ_run Cert.MoeIdeal.defs _ _).mono (fun _ h c => ⟨((h.2 c).1 (6 : Fin 7)).trans (Moe.final _ _ hg m g c), h.1 c⟩)
      (θ_run_and (MoeIdealRun.unchanged _ _ m g hg (holds m)) (MoeIdealRun.run _ _ hg m g (holds m)))
  · refine (θ_run Cert.MoeRefIdeal.defs _ _).mono (fun _ h c => ⟨(h c).1.trans ?_, (h c).2⟩)
      (Cert.MoeRefIdeal.Value.run (F := Ideal) m' g')
    obtain ⟨e0, e1, e2, e3, e4, e5, e6, e7⟩ := hag c
    rw [Moe.res_eq, e0, e1, e2, e3, e4, e5, e6, e7, Subsingleton.elim c 0]

end Cert.Proof.MoeClaims

end
-- ==== Proof.lean ====
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_finite
public import proofs.«01_k».proof.Proof.Gen.MlaRefIdeal.Run
public import proofs.«01_k».proof.Proof.Gen.MlaIdeal.Value
public import proofs.«01_k».proof.Proof.Gen.InProjRefIdeal.Run
public import proofs.«01_k».proof.Proof.Gen.InProjIdeal.Value
public import proofs.«01_k».proof.Proof.Gen.OutProjRefIdeal.Run
public import proofs.«01_k».proof.Proof.Gen.OutProjIdeal.Value
public import proofs.«01_k».proof.Proof.Gen.BranchRefIdeal.Run
public import proofs.«01_k».proof.Proof.Gen.BranchIdeal.Value
public import proofs.«01_k».proof.Proof.Gen.NsaBranchRefIdeal.Run
public import proofs.«01_k».proof.Proof.Gen.NsaBranchIdeal.Value
public import proofs.«01_k».proof.Proof.Gen.MlaUqRefIdeal.Run
public import proofs.«01_k».proof.Proof.Gen.MlaUqIdeal.Value
public import proofs.«01_k».proof.Proof.Gen.InProj.Frame
public import proofs.«01_k».proof.Proof.Gen.OutProj.Frame
public import proofs.«01_k».proof.Proof.Gen.Branch.Frame
public import proofs.«01_k».proof.Proof.Gen.NsaBranch.Frame
public import proofs.«01_k».proof.Proof.Gen.MlaUq.Frame
public import proofs.«01_k».proof.Proof.Gen.Moe.Flash
public import proofs.«01_k».proof.Proof.Gen.MoeIdeal.Flash
public import proofs.«01_k».proof.Proof.Gen.MoeRefIdeal.Run
public import proofs.«01_k».proof.Proof.Gen.Pre_tables
public import proofs.«01_k».proof.Proof.MlaClaims
public import proofs.«01_k».proof.Proof.Projections
public import proofs.«01_k».proof.Proof.MlaUk
public import proofs.«01_k».proof.Proof.MlaUv
public import proofs.«01_k».proof.Proof.WinClaims
public import proofs.«01_k».proof.Proof.SelClaims
public import proofs.«01_k».proof.Proof.RouterClaims
public import proofs.«01_k».proof.Proof.PhiOneClaims
public import proofs.«01_k».proof.Proof.PhiTwoClaims
public import proofs.«01_k».proof.Proof.NsaCmpClaims
public import proofs.«01_k».proof.Proof.MoeClaims
public import Idealize.ShloMosaic.Adequacy
public import Idealize.ShloMosaic.Init

@[expose] public section

noncomputable section

namespace Cert.Proof

open Idealize.ShloMosaic Idealize.SL.Sem Cert.Mla

theorem claim : Cert.Claim :=
  ⟨Cert.Mla.Gen.facts,
    Cert.MlaIdeal.Gen.facts,
    Cert.MlaRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.Branch.Gen.facts,
    Cert.BranchIdeal.Gen.facts,
    Cert.BranchRefIdeal.Gen.facts,
    Cert.NsaBranch.Gen.facts,
    Cert.NsaBranchIdeal.Gen.facts,
    Cert.NsaBranchRefIdeal.Gen.facts,
    Cert.MlaUq.Gen.facts,
    Cert.MlaUqIdeal.Gen.facts,
    Cert.MlaUqRefIdeal.Gen.facts,
    Cert.MlaUk.Gen.facts,
    Cert.MlaUkIdeal.Gen.facts,
    Cert.MlaUkRefIdeal.Gen.facts,
    Cert.MlaUv.Gen.facts,
    Cert.MlaUvIdeal.Gen.facts,
    Cert.MlaUvRefIdeal.Gen.facts,
    Cert.NsaWin.Gen.facts,
    Cert.NsaWinIdeal.Gen.facts,
    Cert.NsaWinRefIdeal.Gen.facts,
    Cert.NsaSel.Gen.facts,
    Cert.NsaSelIdeal.Gen.facts,
    Cert.NsaSelRefIdeal.Gen.facts,
    Cert.Router.Gen.facts,
    Cert.RouterIdeal.Gen.facts,
    Cert.RouterRefIdeal.Gen.facts,
    Cert.PhiOne.Gen.facts,
    Cert.PhiOneIdeal.Gen.facts,
    Cert.PhiOneRefIdeal.Gen.facts,
    Cert.PhiTwo.Gen.facts,
    Cert.PhiTwoIdeal.Gen.facts,
    Cert.PhiTwoRefIdeal.Gen.facts,
    Cert.NsaCmp.Gen.facts,
    Cert.NsaCmpIdeal.Gen.facts,
    Cert.NsaCmpRefIdeal.Gen.facts,
    Cert.Moe.Gen.facts,
    Cert.MoeIdeal.Gen.facts,
    Cert.MoeRefIdeal.Gen.facts,
    Cert.Pre_finite.Gen.facts,
    Cert.Pre_numbers.Gen.facts,
    Cert.Pre_chosen.Gen.facts,
    Cert.Pre_known.Gen.facts,
    Cert.Pre_tables.Gen.facts,
    MlaClaims.frame_p, MlaClaims.frame_pi, MlaClaims.frame_pi_finite, MlaClaims.frame_ri, MlaClaims.frame_ri_finite,
    InProj.frame_p, InProj.frame_pi, InProj.frame_ri,
    OutProj.frame_p, OutProj.frame_pi, OutProj.frame_ri,
    Branch.frame_p, Branch.frame_pi, Branch.frame_ri,
    NsaBranch.frame_p, NsaBranch.frame_pi, NsaBranch.frame_ri,
    MlaUq.frame_p, MlaUq.frame_pi, MlaUq.frame_ri,
    MlaUk.frame_p, MlaUk.frame_pi, MlaUk.frame_ri,
    MlaUv.frame_p, MlaUv.frame_pi, MlaUv.frame_ri,
    NsaWinClaims.frame_p, NsaWinClaims.frame_pi, NsaWinClaims.frame_pi_numbers, NsaWinClaims.frame_ri, NsaWinClaims.frame_ri_numbers,
    NsaSelClaims.frame_p, NsaSelClaims.frame_pi, NsaSelClaims.frame_pi_chosen, NsaSelClaims.frame_ri, NsaSelClaims.frame_ri_chosen,
    Router.frame_p, Router.frame_pi, Router.frame_ri,
    PhiOne.frame_p, PhiOne.frame_pi, PhiOne.frame_ri,
    PhiTwo.frame_p, PhiTwo.frame_pi, PhiTwo.frame_ri,
    NsaCmpClaims.frame_p, NsaCmpClaims.frame_pi, NsaCmpClaims.frame_pi_known, NsaCmpClaims.frame_ri, NsaCmpClaims.frame_ri_known,
    MoeClaims.frame_p, MoeClaims.frame_pi, MoeClaims.frame_ri,
    MlaClaims.preserves, MlaClaims.algebraic,
    InProj.preserves, InProj.algebraic,
    OutProj.preserves, OutProj.algebraic,
    Branch.preserves, Branch.algebraic,
    NsaBranch.preserves, NsaBranch.algebraic,
    MlaUq.preserves, MlaUq.algebraic,
    MlaUk.preserves, MlaUk.algebraic,
    MlaUv.preserves, MlaUv.algebraic,
    NsaWinClaims.preserves, NsaWinClaims.algebraic,
    NsaSelClaims.preserves, NsaSelClaims.algebraic,
    Router.preserves, Router.algebraic,
    PhiOne.preserves, PhiOne.algebraic,
    PhiTwo.preserves, PhiTwo.algebraic,
    NsaCmpClaims.preserves, NsaCmpClaims.algebraic,
    MoeClaims.preserves, MoeClaims.algebraic⟩

end Cert.Proof

end
